-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Classify (m : (ℓ : Loc Cert.Classify.nD Cert.Classify.τ Cert.Classify.sig) → Buf (Elt Bits) ℓ) : Prop :=
  True

def Pre_ClassifyIdeal (m : (ℓ : Loc Cert.ClassifyIdeal.nD Cert.ClassifyIdeal.τ Cert.ClassifyIdeal.sig) → Buf (Elt Ideal) ℓ) : Prop :=
  True

def Pre_ClassifyRefIdeal (m : (ℓ : Loc Cert.ClassifyRefIdeal.nD Cert.ClassifyRefIdeal.τ Cert.ClassifyRefIdeal.sig) → Buf (Elt Ideal) ℓ) : Prop :=
  True

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal [hPre_routed : Cert.Pre_routed.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Classify [hClassify : Cert.Classify.Facts] : Prop :=
  ∀ (m : (ℓ : Loc Cert.Classify.nD Cert.Classify.τ Cert.Classify.sig) → Buf (Elt Bits) ℓ) (g : Dev Cert.Classify.nD → PrngReg), Pre_Classify m →
    θ_run (Cert.Classify.defs (F := Bits)) (onTc (τ := Cert.Classify.τ) (Cert.Classify.main (F := Bits))) ⟨m, fun _ => 0, g⟩ (fun r => (∀ c : Dev Cert.Classify.nD,
      r.2.mem ((c.tc : Thread Cert.Classify.nD Cert.Classify.τ).loc Cert.Classify.main_arg0) = m ((c.tc : Thread Cert.Classify.nD Cert.Classify.τ).loc Cert.Classify.main_arg0)
      ∧ r.2.mem ((c.tc : Thread Cert.Classify.nD Cert.Classify.τ).loc Cert.Classify.main_arg1) = m ((c.tc : Thread Cert.Classify.nD Cert.Classify.τ).loc Cert.Classify.main_arg1)
      ∧ r.2.mem ((c.tc : Thread Cert.Classify.nD Cert.Classify.τ).loc Cert.Classify.main_arg2) = m ((c.tc : Thread Cert.Classify.nD Cert.Classify.τ).loc Cert.Classify.main_arg2))
      ∧ r.2.sem = fun _ => 0)

def quiescent_ClassifyIdeal [hClassifyIdeal : Cert.ClassifyIdeal.Facts] : Prop :=
  ∀ (m : (ℓ : Loc Cert.ClassifyIdeal.nD Cert.ClassifyIdeal.τ Cert.ClassifyIdeal.sig) → Buf (Elt Ideal) ℓ) (g : Dev Cert.ClassifyIdeal.nD → PrngReg), Pre_ClassifyIdeal m →
    θ_run (Cert.ClassifyIdeal.defs (F := Ideal)) (onTc (τ := Cert.ClassifyIdeal.τ) (Cert.ClassifyIdeal.main (F := Ideal))) ⟨m, fun _ => 0, g⟩ (fun r => (∀ c : Dev Cert.ClassifyIdeal.nD,
      r.2.mem ((c.tc : Thread Cert.ClassifyIdeal.nD Cert.ClassifyIdeal.τ).loc Cert.ClassifyIdeal.main_arg0) = m ((c.tc : Thread Cert.ClassifyIdeal.nD Cert.ClassifyIdeal.τ).loc Cert.ClassifyIdeal.main_arg0)
      ∧ r.2.mem ((c.tc : Thread Cert.ClassifyIdeal.nD Cert.ClassifyIdeal.τ).loc Cert.ClassifyIdeal.main_arg1) = m ((c.tc : Thread Cert.ClassifyIdeal.nD Cert.ClassifyIdeal.τ).loc Cert.ClassifyIdeal.main_arg1)
      ∧ r.2.mem ((c.tc : Thread Cert.ClassifyIdeal.nD Cert.ClassifyIdeal.τ).loc Cert.ClassifyIdeal.main_arg2) = m ((c.tc : Thread Cert.ClassifyIdeal.nD Cert.ClassifyIdeal.τ).loc Cert.ClassifyIdeal.main_arg2))
      ∧ r.2.sem = fun _ => 0)

def quiescent_ClassifyRefIdeal [hClassifyRefIdeal : Cert.ClassifyRefIdeal.Facts] : Prop :=
  ∀ (m : (ℓ : Loc Cert.ClassifyRefIdeal.nD Cert.ClassifyRefIdeal.τ Cert.ClassifyRefIdeal.sig) → Buf (Elt Ideal) ℓ) (g : Dev Cert.ClassifyRefIdeal.nD → PrngReg), Pre_ClassifyRefIdeal m →
    θ_run (Cert.ClassifyRefIdeal.defs (F := Ideal)) (onTc (τ := Cert.ClassifyRefIdeal.τ) (Cert.ClassifyRefIdeal.main (F := Ideal))) ⟨m, fun _ => 0, g⟩ (fun r => (∀ c : Dev Cert.ClassifyRefIdeal.nD,
      r.2.mem ((c.tc : Thread Cert.ClassifyRefIdeal.nD Cert.ClassifyRefIdeal.τ).loc Cert.ClassifyRefIdeal.main_arg0) = m ((c.tc : Thread Cert.ClassifyRefIdeal.nD Cert.ClassifyRefIdeal.τ).loc Cert.ClassifyRefIdeal.main_arg0)
      ∧ r.2.mem ((c.tc : Thread Cert.ClassifyRefIdeal.nD Cert.ClassifyRefIdeal.τ).loc Cert.ClassifyRefIdeal.main_arg1) = m ((c.tc : Thread Cert.ClassifyRefIdeal.nD Cert.ClassifyRefIdeal.τ).loc Cert.ClassifyRefIdeal.main_arg1)
      ∧ r.2.mem ((c.tc : Thread Cert.ClassifyRefIdeal.nD Cert.ClassifyRefIdeal.τ).loc Cert.ClassifyRefIdeal.main_arg2) = m ((c.tc : Thread Cert.ClassifyRefIdeal.nD Cert.ClassifyRefIdeal.τ).loc Cert.ClassifyRefIdeal.main_arg2))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (Cert.Experts.threads (F := Bits)) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (Cert.ExpertsIdeal.threads (F := Ideal)) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] [hPre_routed : Cert.Pre_routed.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Classify_ClassifyIdeal : Prop :=
  True

def algebraic_ClassifyIdeal_ClassifyRefIdeal [hClassifyIdeal : Cert.ClassifyIdeal.Facts] [hClassifyRefIdeal : Cert.ClassifyRefIdeal.Facts] : Prop :=
  ∀ (m : (ℓ : Loc Cert.ClassifyIdeal.nD Cert.ClassifyIdeal.τ Cert.ClassifyIdeal.sig) → Buf (Elt Ideal) ℓ) (g : Dev Cert.ClassifyIdeal.nD → PrngReg)
    (m' : (ℓ : Loc Cert.ClassifyRefIdeal.nD Cert.ClassifyRefIdeal.τ Cert.ClassifyRefIdeal.sig) → Buf (Elt Ideal) ℓ) (g' : Dev Cert.ClassifyRefIdeal.nD → PrngReg), Pre_ClassifyIdeal m →
    (∀ c : Dev Cert.ClassifyIdeal.nD,
      m' ((c.tc : Thread Cert.ClassifyRefIdeal.nD Cert.ClassifyRefIdeal.τ).loc Cert.ClassifyRefIdeal.main_arg0) = m ((c.tc : Thread Cert.ClassifyIdeal.nD Cert.ClassifyIdeal.τ).loc Cert.ClassifyIdeal.main_arg0)
      ∧ m' ((c.tc : Thread Cert.ClassifyRefIdeal.nD Cert.ClassifyRefIdeal.τ).loc Cert.ClassifyRefIdeal.main_arg1) = m ((c.tc : Thread Cert.ClassifyIdeal.nD Cert.ClassifyIdeal.τ).loc Cert.ClassifyIdeal.main_arg1)
      ∧ m' ((c.tc : Thread Cert.ClassifyRefIdeal.nD Cert.ClassifyRefIdeal.τ).loc Cert.ClassifyRefIdeal.main_arg2) = m ((c.tc : Thread Cert.ClassifyIdeal.nD Cert.ClassifyIdeal.τ).loc Cert.ClassifyIdeal.main_arg2)) →
    ∃ (v0 : (c : Dev Cert.ClassifyIdeal.nD) → Buf (Elt Ideal) ((c.tc : Thread Cert.ClassifyIdeal.nD Cert.ClassifyIdeal.τ).loc Cert.ClassifyIdeal.main_v1_0)),
      θ_run (Cert.ClassifyIdeal.defs (F := Ideal)) (onTc (τ := Cert.ClassifyIdeal.τ) (Cert.ClassifyIdeal.main (F := Ideal))) ⟨m, fun _ => 0, g⟩ (fun r => ∀ c : Dev Cert.ClassifyIdeal.nD,
          r.2.mem ((c.tc : Thread Cert.ClassifyIdeal.nD Cert.ClassifyIdeal.τ).loc Cert.ClassifyIdeal.main_v1_0) = v0 c
          ∧ r.2.mem ((c.tc : Thread Cert.ClassifyIdeal.nD Cert.ClassifyIdeal.τ).loc Cert.ClassifyIdeal.main_arg0) = m ((c.tc : Thread Cert.ClassifyIdeal.nD Cert.ClassifyIdeal.τ).loc Cert.ClassifyIdeal.main_arg0)
          ∧ r.2.mem ((c.tc : Thread Cert.ClassifyIdeal.nD Cert.ClassifyIdeal.τ).loc Cert.ClassifyIdeal.main_arg1) = m ((c.tc : Thread Cert.ClassifyIdeal.nD Cert.ClassifyIdeal.τ).loc Cert.ClassifyIdeal.main_arg1)
          ∧ r.2.mem ((c.tc : Thread Cert.ClassifyIdeal.nD Cert.ClassifyIdeal.τ).loc Cert.ClassifyIdeal.main_arg2) = m ((c.tc : Thread Cert.ClassifyIdeal.nD Cert.ClassifyIdeal.τ).loc Cert.ClassifyIdeal.main_arg2))
      ∧ θ_run (Cert.ClassifyRefIdeal.defs (F := Ideal)) (onTc (τ := Cert.ClassifyRefIdeal.τ) (Cert.ClassifyRefIdeal.main (F := Ideal))) ⟨m', fun _ => 0, g'⟩ (fun r => ∀ c : Dev Cert.ClassifyRefIdeal.nD,
          r.2.mem ((c.tc : Thread Cert.ClassifyRefIdeal.nD Cert.ClassifyRefIdeal.τ).loc Cert.ClassifyRefIdeal.main_v3) = v0 c
          ∧ r.2.mem ((c.tc : Thread Cert.ClassifyRefIdeal.nD Cert.ClassifyRefIdeal.τ).loc Cert.ClassifyRefIdeal.main_arg0) = m' ((c.tc : Thread Cert.ClassifyRefIdeal.nD Cert.ClassifyRefIdeal.τ).loc Cert.ClassifyRefIdeal.main_arg0)
          ∧ r.2.mem ((c.tc : Thread Cert.ClassifyRefIdeal.nD Cert.ClassifyRefIdeal.τ).loc Cert.ClassifyRefIdeal.main_arg1) = m' ((c.tc : Thread Cert.ClassifyRefIdeal.nD Cert.ClassifyRefIdeal.τ).loc Cert.ClassifyRefIdeal.main_arg1)
          ∧ r.2.mem ((c.tc : Thread Cert.ClassifyRefIdeal.nD Cert.ClassifyRefIdeal.τ).loc Cert.ClassifyRefIdeal.main_arg2) = m' ((c.tc : Thread Cert.ClassifyRefIdeal.nD Cert.ClassifyRefIdeal.τ).loc Cert.ClassifyRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v19)),
      θ_run (Cert.ExpertsIdeal.defs (F := Ideal)) (Cert.ExpertsIdeal.threads (F := Ideal)) ⟨m, fun _ => 0, g⟩ (fun r => ∀ c : Dev Cert.ExpertsIdeal.nD,
          r.2.mem ((c.tc : Thread Cert.ExpertsIdeal.nD Cert.ExpertsIdeal.τ).loc Cert.ExpertsIdeal.main_v19) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v16) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def Claim : Prop :=
  ∃ (hKernelIdeal : Cert.KernelIdeal.Facts) (hReferenceIdeal : Cert.ReferenceIdeal.Facts) (hClassify : Cert.Classify.Facts) (hClassifyIdeal : Cert.ClassifyIdeal.Facts) (hClassifyRefIdeal : Cert.ClassifyRefIdeal.Facts) (hExperts : Cert.Experts.Facts) (hExpertsIdeal : Cert.ExpertsIdeal.Facts) (hExpertsRefIdeal : Cert.ExpertsRefIdeal.Facts) (hPre_routed : Cert.Pre_routed.Facts),
    quiescent_KernelIdeal (hKernelIdeal := hKernelIdeal)
    ∧ quiescent_ReferenceIdeal (hReferenceIdeal := hReferenceIdeal)
    ∧ quiescent_Classify (hClassify := hClassify)
    ∧ quiescent_ClassifyIdeal (hClassifyIdeal := hClassifyIdeal)
    ∧ quiescent_ClassifyRefIdeal (hClassifyRefIdeal := hClassifyRefIdeal)
    ∧ quiescent_Experts (hExperts := hExperts) (hPre_routed := hPre_routed)
    ∧ quiescent_ExpertsIdeal (hExpertsIdeal := hExpertsIdeal) (hPre_routed := hPre_routed)
    ∧ quiescent_ExpertsRefIdeal (hExpertsRefIdeal := hExpertsRefIdeal) (hPre_routed := hPre_routed)
    ∧ algebraic_KernelIdeal_ReferenceIdeal (hKernelIdeal := hKernelIdeal) (hReferenceIdeal := hReferenceIdeal)
    ∧ preserves_Classify_ClassifyIdeal
    ∧ algebraic_ClassifyIdeal_ClassifyRefIdeal (hClassifyIdeal := hClassifyIdeal) (hClassifyRefIdeal := hClassifyRefIdeal)
    ∧ preserves_Experts_ExpertsIdeal
    ∧ algebraic_ExpertsIdeal_ExpertsRefIdeal (hExpertsIdeal := hExpertsIdeal) (hExpertsRefIdeal := hExpertsRefIdeal) (hPre_routed := hPre_routed)
-- ==== Pre_routed.lean ====
abbrev S4096x1024 : Shape := ⟨2, ![4096, 1024]⟩
abbrev S32x2x64 : Shape := ⟨3, ![32, 2, 64]⟩
abbrev S32 : Shape := ⟨1, ![32]⟩
abbrev S8x1024x256 : Shape := ⟨3, ![8, 1024, 256]⟩
abbrev S8x256 : Shape := ⟨2, ![8, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩

class Facts : Prop where
  shapeCasts_S32x2x64_S4096 : S32x2x64.ShapeCasts S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096 : S_.BroadcastsInDim S4096 (![] : Fin 0 → Fin S4096.rank)
  bcast_S_S32 : S_.BroadcastsInDim S32 (![] : Fin 0 → Fin S32.rank)
  reducesTo_S32_S_d0 : S32.ReducesTo [0] S_
  h_S_ : 0 < S_.numel
  reducesTo_S4096x4096_S4096_d1 : S4096x4096.ReducesTo [1] S4096
  gather_S32_S4096x1_S4096_n_0_n_n_0_1_1_wf : GatherDims.WF S32 S4096x1 S4096 [] [0] [] [0] [] 1 ![1]

variable [Facts]

def gather_S32_S4096x1_S4096_n_0_n_n_0_1_1 : GatherDims S32 S4096x1 S4096 where
  offsetDims := []
  collapsedSliceDims := [0]
  operandBatchingDims := []
  startIndicesBatchingDims := []
  startIndexMap := [0]
  indexVectorDim := 1
  sliceSizes := ![1]
  wf := gather_S32_S4096x1_S4096_n_0_n_n_0_1_1_wf
def fn_take {F : FTy → Type} [FloatOps F] (arg0 : IVec S32 32) (arg1 : IVec S4096 32) : IVec S4096 32 :=
  let v0 : IVec S4096x1 32 := broadcastInDim S4096x1 ![0] bcast_S4096_S4096x1_0 arg1
  let v1 : IVec S4096 32 := (fun x i => Host.gather gather_S32_S4096x1_S4096_n_0_n_n_0_1_1 x i) arg0 v0
  v1

def fn_part1 {F : FTy → Type} [FloatOps F] (main_arg2 : IVec S32 32) (main_v12 : IVec S4096x4096 1) (main_v14 : IVec S4096 32) (main_v19 : IVec S4096 1) (main_c_2 : IVec S_ 32) : IVec S4096 1 :=
  let main_v20 : IVec S32 32 := broadcastInDim S32 ![] bcast_S_S32 main_c_2
  let main_v21 : IVec S32 1 := cmpi .sge main_arg2 main_v20
  let main_c_3 : IVec S_ 1 := constantI S_ 1 1#1
  let main_v22 : IVec S_ 1 := (fun x v => Host.reduce IntOp.andi x v reducesTo_S32_S_d0 h_S_) main_v21 main_c_3
  let main_v23 : IVec S4096 1 := broadcastInDim S4096 ![] bcast_S_S4096 main_v22
  let main_v24 : IVec S4096 1 := andi main_v19 main_v23
  let main_v25 : IVec S4096 32 := fn_take (F := F) main_arg2 main_v14
  let main_c_4 : IVec S_ 32 := constantI S_ 32 8#32
  let main_v26 : IVec S4096 32 := broadcastInDim S4096 ![] bcast_S_S4096 main_c_4
  let main_v27 : IVec S4096 1 := cmpi .slt main_v25 main_v26
  let main_v28 : IVec S4096 1 := andi main_v24 main_v27
  let main_c_5 : IVec S_ 1 := constantI S_ 1 1#1
  let main_v29 : IVec S4096 1 := (fun x v => Host.reduce IntOp.andi x v reducesTo_S4096x4096_S4096_d1 h_S_) main_v12 main_c_5
  let main_v30 : IVec S4096 1 := andi main_v28 main_v29
  main_v30

def fn {F : FTy → Type} [FloatOps F] (main_arg0 : FVec F S4096x1024 .f32) (main_arg1 : IVec S32x2x64 32) (main_arg2 : IVec S32 32) (main_arg3 : FVec F S8x1024x256 .f32) (main_arg4 : FVec F S8x256 .f32) : IVec S4096 1 :=
  let main_v0 : IVec S4096 32 := shapeCast S4096 main_arg1 shapeCasts_S32x2x64_S4096
  let main_v1 : IVec S4096 32 := iotaInDim S4096 32 0
  let main_v2 : IVec S4096x1 32 := broadcastInDim S4096x1 ![0] bcast_S4096_S4096x1_0 main_v0
  let main_v3 : IVec S1x4096 32 := broadcastInDim S1x4096 ![1] bcast_S4096_S1x4096_1 main_v0
  let main_v4 : IVec S4096x4096 32 := broadcastInDim S4096x4096 ![0, 1] bcast_S4096x1_S4096x4096_0_1 main_v2
  let main_v5 : IVec S4096x4096 32 := broadcastInDim S4096x4096 ![0, 1] bcast_S1x4096_S4096x4096_0_1 main_v3
  let main_v6 : IVec S4096x4096 1 := cmpi .ne main_v4 main_v5
  let main_v7 : IVec S4096x1 32 := broadcastInDim S4096x1 ![0] bcast_S4096_S4096x1_0 main_v1
  let main_v8 : IVec S1x4096 32 := broadcastInDim S1x4096 ![1] bcast_S4096_S1x4096_1 main_v1
  let main_v9 : IVec S4096x4096 32 := broadcastInDim S4096x4096 ![0, 1] bcast_S4096x1_S4096x4096_0_1 main_v7
  let main_v10 : IVec S4096x4096 32 := broadcastInDim S4096x4096 ![0, 1] bcast_S1x4096_S4096x4096_0_1 main_v8
  let main_v11 : IVec S4096x4096 1 := cmpi .eq main_v9 main_v10
  let main_v12 : IVec S4096x4096 1 := ori main_v6 main_v11
  let main_c : IVec S_ 32 := constantI S_ 32 256#32
  let main_v13 : IVec S4096 32 := broadcastInDim S4096 ![] bcast_S_S4096 main_c
  let main_v14 : IVec S4096 32 := Host.divsi main_v0 main_v13
  let main_c_0 : IVec S_ 32 := constantI S_ 32 0#32
  let main_v15 : IVec S4096 32 := broadcastInDim S4096 ![] bcast_S_S4096 main_c_0
  let main_v16 : IVec S4096 1 := cmpi .sge main_v0 main_v15
  let main_c_1 : IVec S_ 32 := constantI S_ 32 6144#32
  let main_v17 : IVec S4096 32 := broadcastInDim S4096 ![] bcast_S_S4096 main_c_1
  let main_v18 : IVec S4096 1 := cmpi .slt main_v0 main_v17
  let main_v19 : IVec S4096 1 := andi main_v16 main_v18
  let main_c_2 : IVec S_ 32 := constantI S_ 32 0#32
  fn_part1 (F := F) main_arg2 main_v12 main_v14 main_v19 main_c_2
-- ==== KernelIdeal.lean ====
abbrev S4096x1024 : Shape := ⟨2, ![4096, 1024]⟩
abbrev S1024x8 : Shape := ⟨2, ![1024, 8]⟩
abbrev S8 : Shape := ⟨1, ![8]⟩
abbrev S8x1024x256 : Shape := ⟨3, ![8, 1024, 256]⟩
abbrev S8x256 : Shape := ⟨2, ![8, 256]⟩
abbrev S1x8 : Shape := ⟨2, ![1, 8]⟩
abbrev S4096x8 : Shape := ⟨2, ![4096, 8]⟩
abbrev S4096x1 : Shape := ⟨2, ![4096, 1]⟩
abbrev S32x1 : Shape := ⟨2, ![32, 1]⟩
abbrev S512x1024 : Shape := ⟨2, ![512, 1024]⟩
abbrev S512x8 : Shape := ⟨2, ![512, 8]⟩
abbrev S512 : Shape := ⟨1, ![512]⟩
abbrev S512x1 : Shape := ⟨2, ![512, 1]⟩
abbrev S4095x8 : Shape := ⟨2, ![4095, 8]⟩
abbrev S2x8 : Shape := ⟨2, ![2, 8]⟩
abbrev S4094x8 : Shape := ⟨2, ![4094, 8]⟩
abbrev S4x8 : Shape := ⟨2, ![4, 8]⟩
abbrev S4092x8 : Shape := ⟨2, ![4092, 8]⟩
abbrev S8x8 : Shape := ⟨2, ![8, 8]⟩
abbrev S4088x8 : Shape := ⟨2, ![4088, 8]⟩
abbrev S16x8 : Shape := ⟨2, ![16, 8]⟩
abbrev S4080x8 : Shape := ⟨2, ![4080, 8]⟩
abbrev S32x8 : Shape := ⟨2, ![32, 8]⟩
abbrev S4064x8 : Shape := ⟨2, ![4064, 8]⟩
abbrev S64x8 : Shape := ⟨2, ![64, 8]⟩
abbrev S4032x8 : Shape := ⟨2, ![4032, 8]⟩
abbrev S32x4096 : Shape := ⟨2, ![32, 4096]⟩
abbrev S32x32 : Shape := ⟨2, ![32, 32]⟩
abbrev S4096x32 : Shape := ⟨2, ![4096, 32]⟩
abbrev S1x1 : Shape := ⟨2, ![1, 1]⟩
abbrev S1x7 : Shape := ⟨2, ![1, 7]⟩
abbrev S1x2 : Shape := ⟨2, ![1, 2]⟩
abbrev S1x6 : Shape := ⟨2, ![1, 6]⟩
abbrev S1x4 : Shape := ⟨2, ![1, 4]⟩
abbrev S4096 : Shape := ⟨1, ![4096]⟩
abbrev S32 : Shape := ⟨1, ![32]⟩
abbrev S32x2x64 : Shape := ⟨3, ![32, 2, 64]⟩
abbrev S4096x256 : Shape := ⟨2, ![4096, 256]⟩
abbrev S4096x2x128 : Shape := ⟨3, ![4096, 2, 128]⟩
abbrev S6144x2x128 : Shape := ⟨3, ![6144, 2, 128]⟩
abbrev S2x64 : Shape := ⟨2, ![2, 64]⟩
abbrev S64x2x128 : Shape := ⟨3, ![64, 2, 128]⟩
abbrev S_ : Shape := ⟨0, ![]⟩
abbrev S1x64 : Shape := ⟨2, ![1, 64]⟩
abbrev S64 : Shape := ⟨1, ![64]⟩
abbrev S1x1x64 : Shape := ⟨3, ![1, 1, 64]⟩
abbrev S6144x256 : Shape := ⟨2, ![6144, 256]⟩
abbrev S6144x1024 : Shape := ⟨2, ![6144, 1024]⟩
abbrev S24 : Shape := ⟨1, ![24]⟩
abbrev S8x1x256 : Shape := ⟨3, ![8, 1, 256]⟩
abbrev S256x1024 : Shape := ⟨2, ![256, 1024]⟩
abbrev S1x1024x256 : Shape := ⟨3, ![1, 1024, 256]⟩
abbrev S1 : Shape := ⟨1, ![1]⟩
abbrev S1x1x256 : Shape := ⟨3, ![1, 1, 256]⟩
abbrev S256x256 : Shape := ⟨2, ![256, 256]⟩
abbrev S1024x256 : Shape := ⟨2, ![1024, 256]⟩
abbrev S1x256 : Shape := ⟨2, ![1, 256]⟩

abbrev nBuf : Table → Nat
  | .hbm => 33
  | .local .tc .vmem => 17
  | .local .tc .smem => 1
  | .local .scVector .vmem => 4
  | _ => 0

abbrev bufTy : (tb : Table) → Fin (nBuf tb) → BufTy
  | .hbm, ⟨0, _⟩ => ⟨S4096x1024, .f32⟩
  | .hbm, ⟨1, _⟩ => ⟨S1024x8, .f32⟩
  | .hbm, ⟨2, _⟩ => ⟨S8, .f32⟩
  | .hbm, ⟨3, _⟩ => ⟨S8x1024x256, .f32⟩
  | .hbm, ⟨4, _⟩ => ⟨S8x256, .f32⟩
  | .hbm, ⟨5, _⟩ => ⟨S1x8, .f32⟩
  | .hbm, ⟨6, _⟩ => ⟨S4096x8, .f32⟩
  | .hbm, ⟨7, _⟩ => ⟨S4096x1, .i32⟩
  | .hbm, ⟨8, _⟩ => ⟨S32x1, .i32⟩
  | .hbm, ⟨9, _⟩ => ⟨S32x2x64, .i32⟩
  | .hbm, ⟨10, _⟩ => ⟨S32, .i32⟩
  | .hbm, ⟨11, _⟩ => ⟨S4096x256, .f32⟩
  | .hbm, ⟨12, _⟩ => ⟨S4096x2x128, .f32⟩
  | .hbm, ⟨13, _⟩ => ⟨S4096x256, .f32⟩
  | .hbm, ⟨14, _⟩ => ⟨S4096x2x128, .f32⟩
  | .hbm, ⟨15, _⟩ => ⟨S4096x256, .f32⟩
  | .hbm, ⟨16, _⟩ => ⟨S4096x2x128, .f32⟩
  | .hbm, ⟨17, _⟩ => ⟨S4096x256, .f32⟩
  | .hbm, ⟨18, _⟩ => ⟨S4096x2x128, .f32⟩
  | .hbm, ⟨19, _⟩ => ⟨S6144x2x128, .f32⟩
  | .hbm, ⟨20, _⟩ => ⟨S6144x2x128, .f32⟩
  | .hbm, ⟨21, _⟩ => ⟨S6144x2x128, .f32⟩
  | .hbm, ⟨22, _⟩ => ⟨S6144x2x128, .f32⟩
  | .hbm, ⟨23, _⟩ => ⟨S6144x256, .f32⟩
  | .hbm, ⟨24, _⟩ => ⟨S6144x256, .f32⟩
  | .hbm, ⟨25, _⟩ => ⟨S6144x256, .f32⟩
  | .hbm, ⟨26, _⟩ => ⟨S6144x256, .f32⟩
  | .hbm, ⟨27, _⟩ => ⟨S6144x1024, .f32⟩
  | .hbm, ⟨28, _⟩ => ⟨S8x1x256, .f32⟩
  | .hbm, ⟨29, _⟩ => ⟨S6144x256, .f32⟩
  | .hbm, ⟨30, _⟩ => ⟨S6144x2x128, .f32⟩
  | .hbm, ⟨31, _⟩ => ⟨S4096x2x128, .f32⟩
  | .hbm, ⟨32, _⟩ => ⟨S4096x256, .f32⟩
  | .local .tc .vmem, ⟨0, _⟩ => ⟨S512x1024, .f32⟩
  | .local .tc .vmem, ⟨1, _⟩ => ⟨S512x1024, .f32⟩
  | .local .tc .vmem, ⟨2, _⟩ => ⟨S1024x8, .f32⟩
  | .local .tc .vmem, ⟨3, _⟩ => ⟨S1x8, .f32⟩
  | .local .tc .vmem, ⟨4, _⟩ => ⟨S512x8, .f32⟩
  | .local .tc .vmem, ⟨5, _⟩ => ⟨S512x8, .f32⟩
  | .local .tc .vmem, ⟨6, _⟩ => ⟨S4096x1, .i32⟩
  | .local .tc .vmem, ⟨7, _⟩ => ⟨S32x1, .i32⟩
  | .local .tc .vmem, ⟨8, _⟩ => ⟨S4096x8, .f32⟩
  | .local .tc .vmem, ⟨9, _⟩ => ⟨S256x1024, .f32⟩
  | .local .tc .vmem, ⟨10, _⟩ => ⟨S256x1024, .f32⟩
  | .local .tc .vmem, ⟨11, _⟩ => ⟨S1x1024x256, .f32⟩
  | .local .tc .vmem, ⟨12, _⟩ => ⟨S1x1024x256, .f32⟩
  | .local .tc .vmem, ⟨13, _⟩ => ⟨S1x1x256, .f32⟩
  | .local .tc .vmem, ⟨14, _⟩ => ⟨S1x1x256, .f32⟩
  | .local .tc .vmem, ⟨15, _⟩ => ⟨S256x256, .f32⟩
  | .local .tc .vmem, ⟨16, _⟩ => ⟨S256x256, .f32⟩
  | .local .tc .smem, ⟨0, _⟩ => ⟨S24, .i32⟩
  | .local .scVector .vmem, ⟨0, _⟩ => ⟨S2x64, .i32⟩
  | .local .scVector .vmem, ⟨1, _⟩ => ⟨S64x2x128, .f32⟩
  | .local .scVector .vmem, ⟨2, _⟩ => ⟨S2x64, .i32⟩
  | .local .scVector .vmem, ⟨3, _⟩ => ⟨S64x2x128, .f32⟩
  | _, _ => ⟨S4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => false
  | ⟨28, _⟩ => false
  | ⟨29, _⟩ => false
  | ⟨30, _⟩ => false
  | ⟨31, _⟩ => false
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v18 : Ref sig .tc := ⟨.smem, 0, rfl⟩
abbrev main_v2_scv : Ref sig .scVector := ⟨.hbm, 9, rfl⟩
abbrev main_v5_scv : Ref sig .scVector := ⟨.hbm, 12, rfl⟩
abbrev main_v7_scv : Ref sig .scVector := ⟨.hbm, 14, rfl⟩
abbrev main_v9_scv : Ref sig .scVector := ⟨.hbm, 16, rfl⟩
abbrev main_v11_scv : Ref sig .scVector := ⟨.hbm, 18, rfl⟩
abbrev main_v12_0_scv : Ref sig .scVector := ⟨.hbm, 19, rfl⟩
abbrev main_v12_1_scv : Ref sig .scVector := ⟨.hbm, 20, rfl⟩
abbrev main_v12_2_scv : Ref sig .scVector := ⟨.hbm, 21, rfl⟩
abbrev main_v12_3_scv : Ref sig .scVector := ⟨.hbm, 22, rfl⟩
abbrev main_v21_scv : Ref sig .scVector := ⟨.hbm, 30, rfl⟩
abbrev main_v22_scv : Ref sig .scVector := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v21 : BitVec 32 := Scalar.muli arg0 c512_i32
  let v22 : Index := Scalar.indexCast v21
  let c0_9 : Index := 0#32
  ![v22.toNat, 0]
def k0_cond1 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32 : BitVec 32 := 0#32
  let v28 : BitVec 1 := Scalar.cmpi .ne v27 c0_i32
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_97_r0 : BitVec 32 := 0#32
  ![v1.toNat, 0, 0]
def k1_off2 (i : grid1.Coords) (c0_i32_1 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32_1
  let c0_i32_96_r1 : BitVec 32 := 0#32
  let c0_i32_97_r1 : BitVec 32 := 0#32
  ![v3.toNat, 0, 0]
def k1_off3 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let c0_i32_97_r5 : BitVec 32 := 0#32
  ![v1.toNat, 1, 0]
abbrev grid2 : Pipeline.Grid := ⟨1, ![24], ![false]⟩

abbrev pre2 : Pipeline.Prefetch sig := ⟨1, ![main_v18.idx], fun | 0 => main_v18.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_cond1 (v1 : BitVec 32) : BitVec 1 :=
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (k2_off1_inb : ∀ i : grid2.Coords, ∀ a, (k2_off1 i) a + S1.size a ≤ S24.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S24) ![v0.toNat] S1.size (k2_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc2_transform_2 (k2_off1_inb : ∀ i : grid2.Coords, ∀ a, (k2_off1 i) a + S1.size a ≤ S24.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S24) ![v0.toNat] S1.size (k2_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_25_r0 : BitVec 32 := 0#32
  ![v1.toNat, 0, 0]
def k3_off2 (i : grid3.Coords) (c0_i32_11 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v8 : BitVec 32 := Scalar.muli v1 c128_i32
  let v9 : BitVec 32 := Scalar.addi v8 c0_i32_11
  let c0_i32_24_r1 : BitVec 32 := 0#32
  let c0_i32_25_r1 : BitVec 32 := 0#32
  ![v9.toNat, 0, 0]
def k3_off3 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let c0_i32_25_r2 : BitVec 32 := 0#32
  ![v1.toNat, 1, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096x1024 : Shape := ⟨2, ![4096, 1024]⟩
abbrev S1024x8 : Shape := ⟨2, ![1024, 8]⟩
abbrev S8 : Shape := ⟨1, ![8]⟩
abbrev S8x1024x256 : Shape := ⟨3, ![8, 1024, 256]⟩
abbrev S8x256 : Shape := ⟨2, ![8, 256]⟩
abbrev S4096x8 : Shape := ⟨2, ![4096, 8]⟩
abbrev S1x8 : Shape := ⟨2, ![1, 8]⟩
abbrev S_ : Shape := ⟨0, ![]⟩
abbrev S4096 : Shape := ⟨1, ![4096]⟩
abbrev S4096x1 : Shape := ⟨2, ![4096, 1]⟩
abbrev S8x256x4096 : Shape := ⟨3, ![8, 256, 4096]⟩
abbrev S8x4096x256 : Shape := ⟨3, ![8, 4096, 256]⟩
abbrev S8x1x256 : Shape := ⟨3, ![8, 1, 256]⟩
abbrev S4096x256 : Shape := ⟨2, ![4096, 256]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8, .f32⟩
  | .hbm, ⟨2, _⟩ => ⟨S8, .f32⟩
  | .hbm, ⟨3, _⟩ => ⟨S8x1024x256, .f32⟩
  | .hbm, ⟨4, _⟩ => ⟨S8x256, .f32⟩
  | .hbm, ⟨5, _⟩ => ⟨S4096x8, .f32⟩
  | .hbm, ⟨6, _⟩ => ⟨S1x8, .f32⟩
  | .hbm, ⟨7, _⟩ => ⟨S4096x8, .f32⟩
  | .hbm, ⟨8, _⟩ => ⟨S4096x8, .f32⟩
  | .hbm, ⟨9, _⟩ => ⟨S4096x8, .i32⟩
  | .hbm, ⟨10, _⟩ => ⟨S_, .f32⟩
  | .hbm, ⟨11, _⟩ => ⟨S_, .i32⟩
  | .hbm, ⟨12, _⟩ => ⟨S4096, .f32⟩
  | .hbm, ⟨13, _⟩ => ⟨S4096, .i32⟩
  | .hbm, ⟨14, _⟩ => ⟨S4096x1, .i32⟩
  | .hbm, ⟨15, _⟩ => ⟨S1x8, .i32⟩
  | .hbm, ⟨16, _⟩ => ⟨S4096x8, .i32⟩
  | .hbm, ⟨17, _⟩ => ⟨S4096x8, .i32⟩
  | .hbm, ⟨18, _⟩ => ⟨S4096x8, .i1⟩
  | .hbm, ⟨19, _⟩ => ⟨S4096x8, .f32⟩
  | .hbm, ⟨20, _⟩ => ⟨S8x256x4096, .f32⟩
  | .hbm, ⟨21, _⟩ => ⟨S8x4096x256, .f32⟩
  | .hbm, ⟨22, _⟩ => ⟨S8x1x256, .f32⟩
  | .hbm, ⟨23, _⟩ => ⟨S8x4096x256, .f32⟩
  | .hbm, ⟨24, _⟩ => ⟨S8x4096x256, .f32⟩
  | .hbm, ⟨25, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_c : Ref sig .tc := ⟨.hbm, 11, rfl⟩
abbrev main_call0_v1_0 : Ref sig .tc := ⟨.hbm, 12, rfl⟩
abbrev main_v4 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩

abbrev nD : Nat := 1
abbrev τ : Topo := Topo.v7x

variable {F : FTy → Type} [FloatOps F]
-- ==== Classify.lean ====
abbrev S4096x1024 : Shape := ⟨2, ![4096, 1024]⟩
abbrev S1024x8 : Shape := ⟨2, ![1024, 8]⟩
abbrev S8 : Shape := ⟨1, ![8]⟩
abbrev S1x8 : Shape := ⟨2, ![1, 8]⟩
abbrev S4096x8 : Shape := ⟨2, ![4096, 8]⟩
abbrev S4096x1 : Shape := ⟨2, ![4096, 1]⟩
abbrev S32x1 : Shape := ⟨2, ![32, 1]⟩
abbrev S512x1024 : Shape := ⟨2, ![512, 1024]⟩
abbrev S512x8 : Shape := ⟨2, ![512, 8]⟩
abbrev S512 : Shape := ⟨1, ![512]⟩
abbrev S512x1 : Shape := ⟨2, ![512, 1]⟩
abbrev S4095x8 : Shape := ⟨2, ![4095, 8]⟩
abbrev S2x8 : Shape := ⟨2, ![2, 8]⟩
abbrev S4094x8 : Shape := ⟨2, ![4094, 8]⟩
abbrev S4x8 : Shape := ⟨2, ![4, 8]⟩
abbrev S4092x8 : Shape := ⟨2, ![4092, 8]⟩
abbrev S8x8 : Shape := ⟨2, ![8, 8]⟩
abbrev S4088x8 : Shape := ⟨2, ![4088, 8]⟩
abbrev S16x8 : Shape := ⟨2, ![16, 8]⟩
abbrev S4080x8 : Shape := ⟨2, ![4080, 8]⟩
abbrev S32x8 : Shape := ⟨2, ![32, 8]⟩
abbrev S4064x8 : Shape := ⟨2, ![4064, 8]⟩
abbrev S64x8 : Shape := ⟨2, ![64, 8]⟩
abbrev S4032x8 : Shape := ⟨2, ![4032, 8]⟩
abbrev S32x4096 : Shape := ⟨2, ![32, 4096]⟩
abbrev S32x32 : Shape := ⟨2, ![32, 32]⟩
abbrev S4096x32 : Shape := ⟨2, ![4096, 32]⟩
abbrev S1x1 : Shape := ⟨2, ![1, 1]⟩
abbrev S1x7 : Shape := ⟨2, ![1, 7]⟩
abbrev S1x2 : Shape := ⟨2, ![1, 2]⟩
abbrev S1x6 : Shape := ⟨2, ![1, 6]⟩
abbrev S1x4 : Shape := ⟨2, ![1, 4]⟩
abbrev S4096 : Shape := ⟨1, ![4096]⟩
abbrev S32 : Shape := ⟨1, ![32]⟩
abbrev S32x2x64 : Shape := ⟨3, ![32, 2, 64]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x8, .f32⟩
  | .hbm, ⟨2, _⟩ => ⟨S8, .f32⟩
  | .hbm, ⟨3, _⟩ => ⟨S1x8, .f32⟩
  | .hbm, ⟨4, _⟩ => ⟨S4096x8, .f32⟩
  | .hbm, ⟨5, _⟩ => ⟨S4096x1, .i32⟩
  | .hbm, ⟨6, _⟩ => ⟨S32x1, .i32⟩
  | .hbm, ⟨7, _⟩ => ⟨S32x2x64, .i32⟩
  | .hbm, ⟨8, _⟩ => ⟨S32, .i32⟩
  | .local _ .vmem, ⟨0, _⟩ => ⟨S512x1024, .f32⟩
  | .local _ .vmem, ⟨1, _⟩ => ⟨S512x1024, .f32⟩
  | .local _ .vmem, ⟨2, _⟩ => ⟨S1024x8, .f32⟩
  | .local _ .vmem, ⟨3, _⟩ => ⟨S1x8, .f32⟩
  | .local _ .vmem, ⟨4, _⟩ => ⟨S512x8, .f32⟩
  | .local _ .vmem, ⟨5, _⟩ => ⟨S512x8, .f32⟩
  | .local _ .vmem, ⟨6, _⟩ => ⟨S4096x1, .i32⟩
  | .local _ .vmem, ⟨7, _⟩ => ⟨S32x1, .i32⟩
  | .local _ .vmem, ⟨8, _⟩ => ⟨S4096x8, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v21 : BitVec 32 := Scalar.muli arg0 c512_i32
  let v22 : Index := Scalar.indexCast v21
  let c0_9 : Index := 0#32
  ![v22.toNat, 0]
def k0_cond1 (i : grid0.Coords) : BitVec 1 :=
  let arg0 : BitVec 32 := BitVec.ofNat 32 (i 0).val
  let c7_i32 : BitVec 32 := 7#32
  let v26 : BitVec 1 := Scalar.cmpi .eq arg0 c7_i32
  let v27 : BitVec 32 := Scalar.extui v26
  let c0_i32 : BitVec 32 := 0#32
  let v28 : BitVec 1 := Scalar.cmpi .ne v27 c0_i32
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ClassifyRefIdeal.lean ====
abbrev S4096x1024 : Shape := ⟨2, ![4096, 1024]⟩
abbrev S1024x8 : Shape := ⟨2, ![1024, 8]⟩
abbrev S8 : Shape := ⟨1, ![8]⟩
abbrev S4096x8 : Shape := ⟨2, ![4096, 8]⟩
abbrev S1x8 : Shape := ⟨2, ![1, 8]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x8, .f32⟩
  | .hbm, ⟨2, _⟩ => ⟨S8, .f32⟩
  | .hbm, ⟨3, _⟩ => ⟨S4096x8, .f32⟩
  | .hbm, ⟨4, _⟩ => ⟨S1x8, .f32⟩
  | .hbm, ⟨5, _⟩ => ⟨S4096x8, .f32⟩
  | .hbm, ⟨6, _⟩ => ⟨S4096x8, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Experts.lean ====
abbrev S4096x1024 : Shape := ⟨2, ![4096, 1024]⟩
abbrev S32x2x64 : Shape := ⟨3, ![32, 2, 64]⟩
abbrev S32 : Shape := ⟨1, ![32]⟩
abbrev S8x1024x256 : Shape := ⟨3, ![8, 1024, 256]⟩
abbrev S8x256 : Shape := ⟨2, ![8, 256]⟩
abbrev S4096x256 : Shape := ⟨2, ![4096, 256]⟩
abbrev S4096x2x128 : Shape := ⟨3, ![4096, 2, 128]⟩
abbrev S6144x2x128 : Shape := ⟨3, ![6144, 2, 128]⟩
abbrev S2x64 : Shape := ⟨2, ![2, 64]⟩
abbrev S64x2x128 : Shape := ⟨3, ![64, 2, 128]⟩
abbrev S_ : Shape := ⟨0, ![]⟩
abbrev S1x64 : Shape := ⟨2, ![1, 64]⟩
abbrev S64 : Shape := ⟨1, ![64]⟩
abbrev S1x1x64 : Shape := ⟨3, ![1, 1, 64]⟩
abbrev S6144x256 : Shape := ⟨2, ![6144, 256]⟩
abbrev S6144x1024 : Shape := ⟨2, ![6144, 1024]⟩
abbrev S24 : Shape := ⟨1, ![24]⟩
abbrev S8x1x256 : Shape := ⟨3, ![8, 1, 256]⟩
abbrev S256x1024 : Shape := ⟨2, ![256, 1024]⟩
abbrev S1x1024x256 : Shape := ⟨3, ![1, 1024, 256]⟩
abbrev S1 : Shape := ⟨1, ![1]⟩
abbrev S1x1x256 : Shape := ⟨3, ![1, 1, 256]⟩
abbrev S256x256 : Shape := ⟨2, ![256, 256]⟩
abbrev S1024x256 : Shape := ⟨2, ![1024, 256]⟩
abbrev S1x256 : Shape := ⟨2, ![1, 256]⟩

abbrev nBuf : Table → Nat
  | .hbm => 27
  | .local .tc .vmem => 8
  | .local .tc .smem => 1
  | .local .scVector .vmem => 4
  | _ => 0

abbrev bufTy : (tb : Table) → Fin (nBuf tb) → BufTy
  | .hbm, ⟨0, _⟩ => ⟨S4096x1024, .f32⟩
  | .hbm, ⟨1, _⟩ => ⟨S32x2x64, .i32⟩
  | .hbm, ⟨2, _⟩ => ⟨S32, .i32⟩
  | .hbm, ⟨3, _⟩ => ⟨S8x1024x256, .f32⟩
  | .hbm, ⟨4, _⟩ => ⟨S8x256, .f32⟩
  | .hbm, ⟨5, _⟩ => ⟨S4096x256, .f32⟩
  | .hbm, ⟨6, _⟩ => ⟨S4096x2x128, .f32⟩
  | .hbm, ⟨7, _⟩ => ⟨S4096x256, .f32⟩
  | .hbm, ⟨8, _⟩ => ⟨S4096x2x128, .f32⟩
  | .hbm, ⟨9, _⟩ => ⟨S4096x256, .f32⟩
  | .hbm, ⟨10, _⟩ => ⟨S4096x2x128, .f32⟩
  | .hbm, ⟨11, _⟩ => ⟨S4096x256, .f32⟩
  | .hbm, ⟨12, _⟩ => ⟨S4096x2x128, .f32⟩
  | .hbm, ⟨13, _⟩ => ⟨S6144x2x128, .f32⟩
  | .hbm, ⟨14, _⟩ => ⟨S6144x2x128, .f32⟩
  | .hbm, ⟨15, _⟩ => ⟨S6144x2x128, .f32⟩
  | .hbm, ⟨16, _⟩ => ⟨S6144x2x128, .f32⟩
  | .hbm, ⟨17, _⟩ => ⟨S6144x256, .f32⟩
  | .hbm, ⟨18, _⟩ => ⟨S6144x256, .f32⟩
  | .hbm, ⟨19, _⟩ => ⟨S6144x256, .f32⟩
  | .hbm, ⟨20, _⟩ => ⟨S6144x256, .f32⟩
  | .hbm, ⟨21, _⟩ => ⟨S6144x1024, .f32⟩
  | .hbm, ⟨22, _⟩ => ⟨S8x1x256, .f32⟩
  | .hbm, ⟨23, _⟩ => ⟨S6144x256, .f32⟩
  | .hbm, ⟨24, _⟩ => ⟨S6144x2x128, .f32⟩
  | .hbm, ⟨25, _⟩ => ⟨S4096x2x128, .f32⟩
  | .hbm, ⟨26, _⟩ => ⟨S4096x256, .f32⟩
  | .local .tc .vmem, ⟨0, _⟩ => ⟨S256x1024, .f32⟩
  | .local .tc .vmem, ⟨1, _⟩ => ⟨S256x1024, .f32⟩
  | .local .tc .vmem, ⟨2, _⟩ => ⟨S1x1024x256, .f32⟩
  | .local .tc .vmem, ⟨3, _⟩ => ⟨S1x1024x256, .f32⟩
  | .local .tc .vmem, ⟨4, _⟩ => ⟨S1x1x256, .f32⟩
  | .local .tc .vmem, ⟨5, _⟩ => ⟨S1x1x256, .f32⟩
  | .local .tc .vmem, ⟨6, _⟩ => ⟨S256x256, .f32⟩
  | .local .tc .vmem, ⟨7, _⟩ => ⟨S256x256, .f32⟩
  | .local .tc .smem, ⟨0, _⟩ => ⟨S24, .i32⟩
  | .local .scVector .vmem, ⟨0, _⟩ => ⟨S2x64, .i32⟩
  | .local .scVector .vmem, ⟨1, _⟩ => ⟨S64x2x128, .f32⟩
  | .local .scVector .vmem, ⟨2, _⟩ => ⟨S2x64, .i32⟩
  | .local .scVector .vmem, ⟨3, _⟩ => ⟨S64x2x128, .f32⟩
  | _, _ => ⟨S4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v14 : Ref sig .tc := ⟨.smem, 0, rfl⟩
abbrev main_arg1_scv : Ref sig .scVector := ⟨.hbm, 1, rfl⟩
abbrev main_v1_scv : Ref sig .scVector := ⟨.hbm, 6, rfl⟩
abbrev main_v3_scv : Ref sig .scVector := ⟨.hbm, 8, rfl⟩
abbrev main_v5_scv : Ref sig .scVector := ⟨.hbm, 10, rfl⟩
abbrev main_v7_scv : Ref sig .scVector := ⟨.hbm, 12, rfl⟩
abbrev main_v8_0_scv : Ref sig .scVector := ⟨.hbm, 13, rfl⟩
abbrev main_v8_1_scv : Ref sig .scVector := ⟨.hbm, 14, rfl⟩
abbrev main_v8_2_scv : Ref sig .scVector := ⟨.hbm, 15, rfl⟩
abbrev main_v8_3_scv : Ref sig .scVector := ⟨.hbm, 16, rfl⟩
abbrev main_v17_scv : Ref sig .scVector := ⟨.hbm, 24, rfl⟩
abbrev main_v18_scv : Ref sig .scVector := ⟨.hbm, 25, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_97_r0 : BitVec 32 := 0#32
  ![v1.toNat, 0, 0]
def k0_off2 (i : grid0.Coords) (c0_i32_1 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32_1
  let c0_i32_96_r1 : BitVec 32 := 0#32
  let c0_i32_97_r1 : BitVec 32 := 0#32
  ![v3.toNat, 0, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let c0_i32_97_r5 : BitVec 32 := 0#32
  ![v1.toNat, 1, 0]
abbrev grid1 : Pipeline.Grid := ⟨1, ![24], ![false]⟩

abbrev pre1 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (v1 : BitVec 32) : BitVec 1 :=
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc1_transform_2 (k1_off1_inb : ∀ i : grid1.Coords, ∀ a, (k1_off1 i) a + S1.size a ≤ S24.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S24) ![v0.toNat] S1.size (k1_off1_inb i)) numel1_S1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_25_r0 : BitVec 32 := 0#32
  ![v1.toNat, 0, 0]
def k2_off2 (i : grid2.Coords) (c0_i32_11 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v8 : BitVec 32 := Scalar.muli v1 c128_i32
  let v9 : BitVec 32 := Scalar.addi v8 c0_i32_11
  let c0_i32_24_r1 : BitVec 32 := 0#32
  let c0_i32_25_r1 : BitVec 32 := 0#32
  ![v9.toNat, 0, 0]
def k2_off3 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let c0_i32_25_r2 : BitVec 32 := 0#32
  ![v1.toNat, 1, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ExpertsRefIdeal.lean ====
abbrev S4096x1024 : Shape := ⟨2, ![4096, 1024]⟩
abbrev S32x2x64 : Shape := ⟨3, ![32, 2, 64]⟩
abbrev S32 : Shape := ⟨1, ![32]⟩
abbrev S8x1024x256 : Shape := ⟨3, ![8, 1024, 256]⟩
abbrev S8x256 : Shape := ⟨2, ![8, 256]⟩
abbrev S4096 : Shape := ⟨1, ![4096]⟩
abbrev S_ : Shape := ⟨0, ![]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S8x256x4096 : Shape := ⟨3, ![8, 256, 4096]⟩
abbrev S8x4096x256 : Shape := ⟨3, ![8, 4096, 256]⟩
abbrev S8x1x256 : Shape := ⟨3, ![8, 1, 256]⟩
abbrev S4096x256 : Shape := ⟨2, ![4096, 256]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S32x2x64, .i32⟩
  | .hbm, ⟨2, _⟩ => ⟨S32, .i32⟩
  | .hbm, ⟨3, _⟩ => ⟨S8x1024x256, .f32⟩
  | .hbm, ⟨4, _⟩ => ⟨S8x256, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096, .i32⟩
  | .hbm, ⟨11, _⟩ => ⟨S4096x1, .i32⟩
  | .hbm, ⟨12, _⟩ => ⟨S8, .i32⟩
  | .hbm, ⟨13, _⟩ => ⟨S1x8, .i32⟩
  | .hbm, ⟨14, _⟩ => ⟨S4096x8, .i32⟩
  | .hbm, ⟨15, _⟩ => ⟨S4096x8, .i32⟩
  | .hbm, ⟨16, _⟩ => ⟨S4096x8, .i1⟩
  | .hbm, ⟨17, _⟩ => ⟨S4096x8, .f32⟩
  | .hbm, ⟨18, _⟩ => ⟨S8x256x4096, .f32⟩
  | .hbm, ⟨19, _⟩ => ⟨S8x4096x256, .f32⟩
  | .hbm, ⟨20, _⟩ => ⟨S8x1x256, .f32⟩
  | .hbm, ⟨21, _⟩ => ⟨S8x4096x256, .f32⟩
  | .hbm, ⟨22, _⟩ => ⟨S8x4096x256, .f32⟩
  | .hbm, ⟨23, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.ClassifyRun.lean ====
/- The classifier call at any float values `F`: the body's run at the first seven points and at the last, with window 3's
   contents named (the two other results and the scratch are left unnamed), the proof data, and the run of @main. -/
module

public import proofs.«01_k».proof.Proof.Gen.ClassifyIdeal.Frame
public import proofs.«01_k».proof.Proof.Gen.ClassifyIdeal.Skeleton
public import Idealize.ShloMosaic.Lib.Pipeline.Value

@[expose] public section

set_option maxRecDepth 16384

noncomputable section

namespace Cert.ClassifyIdeal.Region

open Cert.ClassifyIdeal Cert.ClassifyIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v2, main_v3}
/-- The host code after the call writes no argument. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x8 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1 .i32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S4096x8 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The zero offset of a matrix. -/
theorem hz2 : (![0, 0] : Fin 2 → Nat) = fun _ => 0 := funext fun a => by fin_cases a <;> rfl

-- (the run's proof term is large: checking it walks past the default budget)
set_option maxHeartbeats 1000000 in
/-- The body's triple IN CASE A (`scf.if` 0 not taken: points 0, 1, … 6: 7 of 8): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S512x1024 .f32) (harg1 : arg1.IsWhole) (arg2 : Memref sig .tc .vmem S1024x8 .f32) (harg2 : arg2.IsWhole) (arg3 : Memref sig .tc .vmem S1x8 .f32) (harg3 : arg3.IsWhole) (arg4 : Memref sig .tc .vmem S512x8 .f32) (harg4 : arg4.IsWhole) (arg5 : Memref sig .tc .vmem S4096x1 .i32) (harg5 : arg5.IsWhole) (arg6 : Memref sig .tc .vmem S32x1 .i32) (harg6 : arg6.IsWhole) (arg7 : Memref sig .tc .vmem S4096x8 .f32) (harg7 : arg7.IsWhole) (hc0 : ¬cond0_0 i)
    (x0 : Vec F S512x1024 .f32) (x1 : Vec F S1024x8 .f32) (x2 : Vec F S1x8 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare (k0_pay1 x0 x1 x2) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__classify_route_body i arg1 harg1 arg2 harg2 arg3 harg3 arg4 harg4 arg5 harg5 arg6 harg6 arg7 harg7) K := by
    intro E K
    simp only [cc0__classify_route_body_eq_skeleton]; unfold cc0__classify_route_body_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [View.read_writes_eq_canon _ _ _ (fun y => ⟨_, List.mem_singleton.mpr rfl, View.mem_set_unit_zero hz2 inb_S512x8_S512x8_0_0 y⟩), View.canon_unit_zero hz2]
      simp only [View.readAt_eq_ld, harg1.read_unread, harg2.read_unread, harg3.read_unread, View.ld_unit_zero (S := S512x1024) hz2, View.ld_unit_zero (S := S1024x8) hz2, View.ld_unit_zero (S := S1x8) hz2]
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl
-- (the run's proof term is large: checking it walks past the default budget)
set_option maxHeartbeats 1000000 in
/-- The body's triple IN CASE B (`scf.if` 0 taken: points 7): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S512x1024 .f32) (harg1 : arg1.IsWhole) (arg2 : Memref sig .tc .vmem S1024x8 .f32) (harg2 : arg2.IsWhole) (arg3 : Memref sig .tc .vmem S1x8 .f32) (harg3 : arg3.IsWhole) (arg4 : Memref sig .tc .vmem S512x8 .f32) (harg4 : arg4.IsWhole) (arg5 : Memref sig .tc .vmem S4096x1 .i32) (harg5 : arg5.IsWhole) (arg6 : Memref sig .tc .vmem S32x1 .i32) (harg6 : arg6.IsWhole) (arg7 : Memref sig .tc .vmem S4096x8 .f32) (harg7 : arg7.IsWhole) (hc0 : cond0_0 i)
    (x0 : Vec F S512x1024 .f32) (x1 : Vec F S1024x8 .f32) (x2 : Vec F S1x8 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare (k0_pay1 x0 x1 x2) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__classify_route_body i arg1 harg1 arg2 harg2 arg3 harg3 arg4 harg4 arg5 harg5 arg6 harg6 arg7 harg7) K := by
    intro E K
    simp only [cc0__classify_route_body_eq_skeleton]; unfold cc0__classify_route_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [View.read_writes_eq_canon _ _ _ (fun y => ⟨_, List.mem_singleton.mpr rfl, View.mem_set_unit_zero hz2 inb_S512x8_S512x8_0_0 y⟩), View.canon_unit_zero hz2]
      simp only [View.readAt_eq_ld, harg1.read_unread, harg2.read_unread, harg3.read_unread, View.ld_unit_zero (S := S512x1024) hz2, View.ld_unit_zero (S := S1024x8) hz2, View.ld_unit_zero (S := S1x8) hz2]
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl
/-! ## The pipeline's proof data -/

/-- The output windows this certificate FORGETS (4, 5): nothing reads what the kernel leaves in them, so nothing
    of it is named (Lib/Pipeline/Dat.lean `Dat.toRForget`). -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (iblk m c 0 t) (iblk m c 1 t) (iblk m c 2 t)
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The routing's matrix is left as found. -/
theorem after0_1 (c : Dev nD) (t : Fin cfg0.N) : (dats m 0 c).after 1 t = iblk m c 1 t := by dsimp only [dats]
/-- The bias is left as found. -/
theorem after0_2 (c : Dev nD) (t : Fin cfg0.N) : (dats m 0 c).after 2 t = iblk m c 2 t := by dsimp only [dats]

/-- The block of scores that a step leaves. -/
theorem after0_3 (c : Dev nD) (t : Fin cfg0.N) : (dats m 0 c).after 3 t = k0_pay1 (iblk m c 0 t) (iblk m c 1 t) (iblk m c 2 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- A step finds the routing's matrix. -/
theorem before0_1 (c : Dev nD) (t : Fin cfg0.N) (d) : (dats m 0 c).before 1 t d = iblk m c 1 t :=
  before0_1_of m (dats m 0 c) (A_eq m c 1) (after0_1 m c) t d
/-- A step finds the bias. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 8 := lt_of_lt_of_eq t.isLt (show cfg0.N = 8 from N_0)
  by_cases h0 : t.val % 8 = 7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [show cfg0.idle 3 (grid0.coords t) = false from rfl], after0_3]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [show cfg0.idle 3 (grid0.coords t) = false from rfl], after0_3]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The arguments end unchanged and every counter at zero, at any float values. -/
theorem run_frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun _ h => ⟨fun c =>
      ⟨(Pipeline.RDat.FramePostR.arr_in h.1 c 0 rfl).trans ((A_eq m c 0).trans (V_main_arg0 m c)),
      (Pipeline.RDat.FramePostR.arr_in h.1 c 1 rfl).trans ((A_eq m c 1).trans (V_main_arg1 m c)),
      ((h.1 c).2 main_arg2 (Finset.mem_sdiff.mpr ⟨Pipeline.mem_restRefs_of main_arg2 (by decide) (by decide), by decide⟩)).trans (V_main_arg2 m c)⟩, h.2⟩)
    (run_main_quiescent m ρ)

end Cert.ClassifyIdeal.Region

end
-- ==== Proof.ClassifyValue.lean ====
/- The classifier call's first result at `Ideal`: after the run it holds `x @ Wc + bc`, and so does the plain reference. -/
module

public import proofs.«01_k».proof.Proof.ClassifyRun
public import proofs.«01_k».proof.Proof.Gen.ClassifyRefIdeal.Run
public import Idealize.ShloMosaic.Lib.Pipeline.Cells
public import Idealize.ShloMosaic.Lib.StableHlo.ReadAt
public import Idealize.ShloMosaic.Lib.Pointwise.Contract
public import Idealize.ShloMosaic.Lib.Pointwise

@[expose] public section

set_option maxRecDepth 16384

noncomputable section

namespace Cert.ClassifyIdeal.Logits

open Cert.ClassifyIdeal Cert.ClassifyIdeal.Gen Cert.ClassifyIdeal.Region
open Idealize.ShloMosaic Idealize.ShloMosaic.TcCoe Idealize.SL.Sem
open Idealize.ShloMosaic.Pipeline (Dat)

/-- The class scores: row `i` of `x` times column `j` of `Wc`, plus `bc` at `j`. -/
def logits (x : S4096x1024.Idx → Ideal .f32) (w : S1024x8.Idx → Ideal .f32) (b : S8.Idx → Ideal .f32) : S4096x8.Idx → Ideal .f32 :=
  fun i => (∑ k : Fin 1024, x (ix2 (i 0) k) * w (ix2 k (i 1))) + b (ix1 (i 1))

/-- One block of the scores, read at an index: the payload of the store. -/
theorem pay1_apply (v0 : Vec Ideal S512x1024 .f32) (v1 : Vec Ideal S1024x8 .f32) (v3 : Vec Ideal S1x8 .f32) (j : S512x8.Idx) :
    k0_pay1 v0 v1 v3 j = (∑ k : Fin 1024, v0 (ix2 (j 0) k) * v1 (ix2 k (j 1))) + v3 (ix2 (0 : Fin 1) (j 1)) := by
  unfold k0_pay1
  pointwise

variable (m : (ℓ : Loc nD τ sig) → Buf (Elt Ideal) ℓ) (ρ : Dev nD → PrngReg)

/-- The scores of device `c`'s arguments. -/
abbrev G (c : Dev nD) : Buf (Elt Ideal) ((c : Thread nD τ).loc main_v1_0) :=
  logits (m ((c : Thread nD τ).loc main_arg0)) (m ((c : Thread nD τ).loc main_arg1)) (m ((c : Thread nD τ).loc main_arg2))

/-- The reshaped bias at the region's entry. -/
theorem V_v0 (c : Dev nD) (j : Fin 8) : V m c main_v0 (ix2 (0 : Fin 1) j) = m ((c : Thread nD τ).loc main_arg2) (ix1 j) := by
  after_reads_at

/-- Where the blocks of the windows lie, point by point. -/
theorem index0 : ∀ t : Fin cfg0.N, win0_0.index t (0 : Fin 2) = t.val ∧ win0_0.index t (1 : Fin 2) = 0 :=
  (by decide +kernel : ∀ t : Fin grid0.N, _)
/-- The matrix's window stays at the origin. -/
theorem index1 : ∀ t : Fin cfg0.N, win0_1.index t (0 : Fin 2) = 0 ∧ win0_1.index t (1 : Fin 2) = 0 :=
  (by decide +kernel : ∀ t : Fin grid0.N, _)
/-- The bias's window stays at the origin. -/
theorem index2 : ∀ t : Fin cfg0.N, win0_2.index t (0 : Fin 2) = 0 ∧ win0_2.index t (1 : Fin 2) = 0 :=
  (by decide +kernel : ∀ t : Fin grid0.N, _)
/-- The scores' window moves down a block each step. -/
theorem index3 : ∀ t : Fin cfg0.N, win0_3.index t (0 : Fin 2) = t.val ∧ win0_3.index t (1 : Fin 2) = 0 :=
  (by decide +kernel : ∀ t : Fin grid0.N, _)

/-- A block's row is a row of the array. -/
theorem row_lt (t : Fin cfg0.N) (r : Fin 512) : t.val * 512 + r.val < 4096 := by
  have := t.isLt; have : cfg0.N = 8 := N_0; omega

/-- A place of a block of tokens, in the array. -/
theorem emb0 (t : Fin cfg0.N) (r : Fin 512) (k : Fin 1024) :
    ((cfg0.win 0).blk t).view.emb (ix2 r k) = ix2 (⟨t.val * 512 + r.val, row_lt t r⟩ : Fin 4096) k := by
  obtain ⟨e0, e1⟩ := index0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega
/-- A place of the matrix's block is the array's own. -/
theorem emb1 (t : Fin cfg0.N) (k : Fin 1024) (j : Fin 8) : ((cfg0.win 1).blk t).view.emb (ix2 k j) = ix2 k j := by
  obtain ⟨e0, e1⟩ := index1 t
  funext a; apply Fin.ext
  match a with
  | ⟨0, _⟩ => show win0_1.index t (0 : Fin 2) * 1024 + 1 * k.val = k.val; omega
  | ⟨1, _⟩ => show win0_1.index t (1 : Fin 2) * 8 + 1 * j.val = j.val; omega
/-- A place of the bias's block is the array's own. -/
theorem emb2 (t : Fin cfg0.N) (j : Fin 8) : ((cfg0.win 2).blk t).view.emb (ix2 (0 : Fin 1) j) = ix2 (0 : Fin 1) j := by
  obtain ⟨e0, e1⟩ := index2 t
  funext a; apply Fin.ext
  match a with
  | ⟨0, _⟩ => show win0_2.index t (0 : Fin 2) * 1 + 1 * 0 = 0; omega
  | ⟨1, _⟩ => show win0_2.index t (1 : Fin 2) * 8 + 1 * j.val = j.val; omega
/-- A place of a block of scores, in the array. -/
theorem emb3 (t : Fin cfg0.N) (r : Fin 512) (j : Fin 8) :
    ((cfg0.win 3).blk t).view.emb (ix2 r j) = ix2 (⟨t.val * 512 + r.val, row_lt t r⟩ : Fin 4096) j := by
  obtain ⟨e0, e1⟩ := index3 t
  funext a; apply Fin.ext
  match a with
  | ⟨0, _⟩ => show win0_3.index t (0 : Fin 2) * 512 + 1 * r.val = t.val * 512 + r.val; omega
  | ⟨1, _⟩ => show win0_3.index t (1 : Fin 2) * 8 + 1 * j.val = j.val; omega

/-- What point `t` writes back is its block of the scores. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  funext y
  obtain ⟨r, j, rfl⟩ : ∃ (r : Fin 512) (j : Fin 8), y = ix2 r j := ⟨y 0, y 1, by funext a; match a with | ⟨0, _⟩ => rfl | ⟨1, _⟩ => rfl⟩
  show k0_pay1 (iblk m c 0 t) (iblk m c 1 t) (iblk m c 2 t) (ix2 r j) = G m c (((cfg0.win 3).blk t).view.emb (ix2 r j))
  rw [pay1_apply, emb3]
  have h0 : ∀ k : Fin 1024, iblk m c 0 t (ix2 r k) = m ((c : Thread nD τ).loc main_arg0) (ix2 (⟨t.val * 512 + r.val, row_lt t r⟩ : Fin 4096) k) := fun k => by
    show V m c main_arg0 (((cfg0.win 0).blk t).view.emb (ix2 r k)) = _
    rw [emb0, V_main_arg0]
  have h1 : ∀ k : Fin 1024, iblk m c 1 t (ix2 k j) = m ((c : Thread nD τ).loc main_arg1) (ix2 k j) := fun k => by
    show V m c main_arg1 (((cfg0.win 1).blk t).view.emb (ix2 k j)) = _
    rw [emb1, V_main_arg1]
  have h2 : iblk m c 2 t (ix2 (0 : Fin 1) j) = m ((c : Thread nD τ).loc main_arg2) (ix1 j) := by
    show V m c main_v0 (((cfg0.win 2).blk t).view.emb (ix2 (0 : Fin 1) j)) = _
    rw [emb2, V_v0]
  exact congrArg₂ (· + ·) (Finset.sum_congr rfl fun k _ => congrArg₂ (· * ·) (h0 k) (h1 k)) h2

/-- Every element of the scores' array lies in a block that is written back. -/
theorem cover (i : S4096x8.Idx) : ∃ t : Fin cfg0.N, (cfg0.win 3).flush t = true ∧ i ∈ ((cfg0.win 3).blk t).view.set := by
  have h0 : (i 0 : Nat) < 4096 := (i 0).isLt
  have hN : cfg0.N = 8 := N_0
  have ht : (i 0 : Nat) / 512 < cfg0.N := by omega
  refine ⟨⟨(i 0).val / 512, ht⟩, flush0_3 _, ?_⟩
  have e : ((cfg0.win 3).blk ⟨(i 0).val / 512, ht⟩).view.emb (ix2 (⟨(i 0).val % 512, Nat.mod_lt _ (by decide)⟩ : Fin 512) (i 1 : Fin 8)) = i := by
    refine (emb3 _ _ _).trans ?_; funext a; apply Fin.ext
    match a with
    | ⟨0, _⟩ => show (i 0).val / 512 * 512 + (i 0).val % 512 = (i 0).val; omega
    | ⟨1, _⟩ => rfl
  have := ((cfg0.win 3).blk ⟨(i 0).val / 512, ht⟩).view.emb_mem_set (ix2 (⟨(i 0).val % 512, Nat.mod_lt _ (by decide)⟩ : Fin 512) (i 1 : Fin 8))
  rwa [e] at this

/-- So the array ends holding the scores. -/
theorem final3 (c : Dev nD) : (dats m 0 c).arrAt 3 cfg0.N = G m c :=
  (dats m 0 c).arrAt_eq_of_cover 3 (G m c) (fun t _ => flushed_eq m c t) cover

/-- The whole run: the scores, the arguments unchanged, every counter at zero. -/
theorem run : θ_run defs (onTc (τ := τ) (main (F := Ideal))) ⟨m, fun _ => 0, ρ⟩ fun r => (∀ c : Dev nD,
      r.2.mem ((c.tc : Thread nD τ).loc main_v1_0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun _ h => ⟨fun c =>
      ⟨(((dats m 0 c).toRForget_arrAt_iff (fgt := forgets0) (w := 3) rfl cfg0.N _).mp ((h.1 c).1 3)).trans (final3 m c),
      (Pipeline.RDat.FramePostR.arr_in h.1 c 0 rfl).trans ((A_eq m c 0).trans (V_main_arg0 m c)),
      (Pipeline.RDat.FramePostR.arr_in h.1 c 1 rfl).trans ((A_eq m c 1).trans (V_main_arg1 m c)),
      ((h.1 c).2 main_arg2 (Finset.mem_sdiff.mpr ⟨Pipeline.mem_restRefs_of main_arg2 (by decide) (by decide), by decide⟩)).trans (V_main_arg2 m c)⟩, h.2⟩)
    (run_main_quiescent m ρ)

end Cert.ClassifyIdeal.Logits

namespace Cert.ClassifyRefIdeal.Logits

open Cert.ClassifyRefIdeal Cert.ClassifyRefIdeal.Gen
open Idealize.ShloMosaic Idealize.ShloMosaic.TcCoe Idealize.SL.Sem

/-- The reference's composed term is the same scores. -/
theorem ref_eq (x : S4096x1024.Idx → Ideal .f32) (w : S1024x8.Idx → Ideal .f32) (b : S8.Idx → Ideal .f32) :
    (addf (Host.dotGeneral dot_S4096x1024_S1024x8_S4096x8_1_0_0_1_n_n none x w)
      (broadcastInDim S4096x8 ![0, 1] bcast_S1x8_S4096x8_0_1 (broadcastInDim S1x8 ![1] bcast_S8_S1x8_1 b)) : FVec Ideal S4096x8 .f32)
      = Cert.ClassifyIdeal.Logits.logits x w b := by
  funext i
  unfold Cert.ClassifyIdeal.Logits.logits
  pointwise

variable (m : (ℓ : Loc nD τ sig) → Buf (Elt Ideal) ℓ) (ρ : Dev nD → PrngReg)

/-- The reference's whole run: its result is the scores, the arguments unchanged. -/
theorem run : θ_run defs (onTc (τ := τ) (main (F := Ideal))) ⟨m, fun _ => 0, ρ⟩ fun r => ∀ c : Dev nD,
      r.2.mem ((c.tc : Thread nD τ).loc main_v3) = Cert.ClassifyIdeal.Logits.logits (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq _ _ _), (h c).2⟩) (Cert.ClassifyRefIdeal.Value.run m ρ)

end Cert.ClassifyRefIdeal.Logits

end
-- ==== Proof.ClassifyClaims.lean ====
/- The five claims about the classifier call. -/
module

public import proofs.«01_k».proof.Defs
public import proofs.«01_k».proof.Proof.Gen.Classify
public import proofs.«01_k».proof.Proof.Gen.ClassifyIdeal
public import proofs.«01_k».proof.Proof.ClassifyValue
public import Idealize.ShloMosaic.Lib.Claim

@[expose] public section

noncomputable section

namespace Cert.Proof.Classify

open Idealize.ShloMosaic Idealize.ShloMosaic.TcCoe Idealize.SL.Sem

/-- The program and its idealization have the same kernel bodies, -/
theorem defs₀_eq : @Cert.Classify.defs₀ Bits _ _ = @Cert.ClassifyIdeal.defs₀ Bits _ _ := by
  unfold Cert.Classify.defs₀ Cert.ClassifyIdeal.defs₀
  congr 1
  funext a b
  match a, b with
  | 0, (t, s) => rfl

/-- and the same table of functions. -/
theorem defs_eq : @Cert.Classify.defs Bits _ _ = @Cert.ClassifyIdeal.defs Bits _ _ := by
  unfold Cert.Classify.defs Cert.ClassifyIdeal.defs
  rw [defs₀_eq]
  rfl

/-- The program runs at the bit-exact floats, its arguments unchanged and every counter at zero. -/
theorem frame_kernel : Cert.quiescent_Classify := fun m ρ _ => by
  rw [defs_eq]
  exact Cert.ClassifyIdeal.Region.run_frame (F := Bits) m ρ

/-- So does its idealization. -/
theorem frame_ideal : Cert.quiescent_ClassifyIdeal := fun m ρ _ =>
  (θ_run Cert.ClassifyIdeal.defs _ _).mono (fun _ h => ⟨fun c => (h.1 c).2, h.2⟩) (Cert.ClassifyIdeal.Logits.run m ρ)

/-- And the reference. -/
theorem frame_ref : Cert.quiescent_ClassifyRefIdeal := fun m ρ _ =>
  (θ_run Cert.ClassifyRefIdeal.defs _ _).mono (fun r h => ⟨fun c => (h c).2, Idealize.ShloMosaic.sem_eq_zero_of_no_sems (by decide) r.2⟩) (Cert.ClassifyRefIdeal.Logits.run m ρ)

/-- The class scores of the kernel and of the reference are equal. -/
theorem value : Cert.algebraic_ClassifyIdeal_ClassifyRefIdeal := by
  intro m ρ m' ρ' _ hagree
  refine ⟨fun c => Cert.ClassifyIdeal.Logits.G m c, ?_, ?_⟩
  · exact (θ_run Cert.ClassifyIdeal.defs _ _).mono (fun _ h c => h.1 c) (Cert.ClassifyIdeal.Logits.run m ρ)
  refine (θ_run Cert.ClassifyRefIdeal.defs _ _).mono (fun _ h c => ⟨(h c).1.trans ?_, (h c).2⟩) (Cert.ClassifyRefIdeal.Logits.run m' ρ')
  rw [(hagree c).1, (hagree c).2.1, (hagree c).2.2]

end Cert.Proof.Classify

end
-- ==== Proof.ExpertsBase.lean ====
/-
  The ground of the proof about the Experts program: the launch's configuration, the arrays by name, the list of
  row numbers as a function of the worker and the entry, and the resource algebra that the proof's parts share.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import proofs.«01_k».proof.Proof.Gen.ExpertsIdeal
public import proofs.«01_k».proof.Proof.Gen.ExpertsIdeal.Skeleton
public import proofs.«01_k».proof.Proof.Gen.ExpertsIdeal.Launch

@[expose] public section

noncomputable section

namespace Cert.ExpertsIdeal.Run

open Cert.ExpertsIdeal Cert.ExpertsIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The labels of the program below its SparseCore calls. -/
abbrev ΛP : Labels := Pipeline.Sig Λ₀ (Fin 1) fun p => (pcfgs (F := F) p).Adm
/-- The program's SparseCore calls. -/
abbrev K : SparseCore.Cfg τ sig (ΛP (F := F)) 2 := sc (F := F)
/-- The kernels' bodies and the pipeline's. -/
abbrev D : Defs nD τ sig (Elt F) (ΛP (F := F)) := Pipeline.defs pcfgs defs₀
/-- No variants: nothing in the program recurses. -/
abbrev 𝒱₀ : Variants := Variants.none
/-- The variants of the lifted program. -/
abbrev 𝒱 : Variants := 𝒱₀.lift
/-- The bottom variant. -/
abbrev v₀ : 𝒱.V := Sum.inl none

/-- The handshakes' ghost state. -/
abbrev UH : Type := URounds (GSem nD τ sig) ℕ
/-- The pipeline's staging cells' ghost state. -/
abbrev UP : Type := URounds (GSem nD τ sig) Unit
/-- The handshakes' ghost state, the pipeline's and the transfers' counters. -/
abbrev UU : Type := UH × (UP × Counters)

/-- Worker `2 s + c` runs on vector subcore `s` of SparseCore `c`. -/
def wid (c : Fin 2) (s : Fin 16) : Fin 32 := ⟨2 * s.val + c.val, by omega⟩

/-- Entry `k` of half `h` of worker `w`'s list: the index into the table of row numbers. -/
def pIx (w : Fin 32) (h : Fin 2) (k : Fin 64) : S32x2x64.Idx := fun | 0 => w | 1 => h | 2 => k

/-- Token `n`'s entry in the table of row numbers. -/
def ent (n : Fin 4096) : S32x2x64.Idx :=
  pIx ⟨n.val / 128, by omega⟩ ⟨n.val % 128 / 64, by omega⟩ ⟨n.val % 64, by omega⟩

/-- Entry `k` of half `h` of worker `w`'s list is token `128 w + 64 h + k`'s. -/
theorem ent_of (n : Fin 4096) (w : Fin 32) (h : Fin 2) (k : Fin 64) (e : n.val = 128 * w.val + 64 * h.val + k.val) : ent n = pIx w h k := by
  have h1 : n.val / 128 = w.val := by omega
  have h2 : n.val % 128 / 64 = h.val := by omega
  have h3 : n.val % 64 = k.val := by omega
  funext a
  match a with
  | 0 => exact Fin.ext h1
  | 1 => exact Fin.ext h2
  | 2 => exact Fin.ext h3

/-- The row that token `n`'s entry names, kept in range by a remainder. -/
def slotOf (fp : S32x2x64.Idx → Elt F .i32) (n : Fin 4096) : Fin 6144 :=
  ⟨(fp (ent n) : BitVec 32).toNat % 6144, Nat.mod_lt _ (by decide)⟩

/-- The gathered array: token `n`'s row is the row of `fy` that the token's entry names. -/
def gathered (fp : S32x2x64.Idx → Elt F .i32) (fy : S6144x2x128.Idx → Elt F .f32) : S4096x2x128.Idx → Elt F .f32 :=
  fun y => fy (fun | 0 => slotOf fp (y 0) | 1 => y 1 | 2 => y 2)

open scoped Classical in
/-- The scattered array: a row that some token's entry names is that token's row of `f`; the others are as they were. -/
def scattered (fp : S32x2x64.Idx → Elt F .i32) (f : S4096x2x128.Idx → Elt F .f32) (t : S6144x2x128.Idx → Elt F .f32) : S6144x2x128.Idx → Elt F .f32 :=
  fun y => if h : ∃ n : Fin 4096, (fp (ent n) : BitVec 32).toNat = (y 0).val then f (fun | 0 => h.choose | 1 => y 1 | 2 => y 2) else t y

/-- Distinct tokens have distinct entries. -/
theorem ent_inj {n n' : Fin 4096} (h : ent n = ent n') : n = n' := by
  have h0 : n.val / 128 = n'.val / 128 := congrArg Fin.val (congrFun h 0)
  have h1 : n.val % 128 / 64 = n'.val % 128 / 64 := congrArg Fin.val (congrFun h 1)
  have h2 : n.val % 64 = n'.val % 64 := congrArg Fin.val (congrFun h 2)
  apply Fin.ext; omega

/-- At a row that token `n`'s entry names the scattered array holds that token's row. -/
theorem scattered_of (fp : S32x2x64.Idx → Elt F .i32) (hdis : Function.Injective fun j => (fp j : BitVec 32).toNat)
    (f : S4096x2x128.Idx → Elt F .f32) (t : S6144x2x128.Idx → Elt F .f32) (y : S6144x2x128.Idx) (n : Fin 4096)
    (e : (fp (ent n) : BitVec 32).toNat = (y 0).val) : scattered fp f t y = f (fun | 0 => n | 1 => y 1 | 2 => y 2) := by
  have h : ∃ n : Fin 4096, (fp (ent n) : BitVec 32).toNat = (y 0).val := ⟨n, e⟩
  unfold scattered
  rw [dif_pos h]
  have : h.choose = n := ent_inj (hdis (h.choose_spec.trans e.symm))
  rw [this]

/-- Half `h` of a worker's row of the table of row numbers, as a transfer reads it. -/
abbrev gSrc (off : Fin 3 → ℕ) (h : ∀ a, off a + S1x1x64.size a ≤ S32x2x64.size a) : Memref sig .scVector .hbm S64 .i32 :=
  ((Memref.whole main_arg1_scv).slice (Rect.unit (s := S32x2x64) off S1x1x64.size h) (fun _ => rfl)).squeeze S64 squeezes_S1x1x64_S64

/-- Squeezing the two unit axes keeps the lane. -/
theorem sq_S64 (x : S64.Idx) : Shape.reshapeEquiv (s := S1x1x64) squeezes_S1x1x64_S64.numel_eq x
    = (fun | 0 => (⟨0, by decide⟩ : Fin 1) | 1 => (⟨0, by decide⟩ : Fin 1) | 2 => x 0 : S1x1x64.Idx) := by
  refine Shape.reshapeEquiv_eq_of_rowMajor _ ?_
  rw [Shape.rowMajor_val_three, Shape.rowMajor_val_one]
  show (0 * 1 + 0) * 64 + (x 0).val = (x 0).val
  omega

/-- Lane `k` of the half's view is the table's entry `(w, h, k)`. -/
theorem gSrc_emb (w : Fin 32) (hf : Fin 2) (off : Fin 3 → ℕ) (h : ∀ a, off a + S1x1x64.size a ≤ S32x2x64.size a)
    (e : off = ![w.val, hf.val, 0]) (x : S64.Idx) : (gSrc off h).view.emb x = pIx w hf (x 0) := by
  subst e
  show (Rect.unit (s := S32x2x64) ![w.val, hf.val, 0] S1x1x64.size h).emb (Shape.reshapeEquiv (s := S1x1x64) squeezes_S1x1x64_S64.numel_eq x) = _
  rw [sq_S64]
  funext a
  match a with
  | 0 => exact Fin.ext (show w.val + 1 * 0 = w.val by omega)
  | 1 => exact Fin.ext (show hf.val + 1 * 0 = hf.val by omega)
  | 2 => exact Fin.ext (show 0 + 1 * (x 0).val = (x 0).val by omega)

/-- The list of a half, read from the table, is the table's entries of that half. -/
theorem gSrc_read (w : Fin 32) (hf : Fin 2) (off : Fin 3 → ℕ) (h : ∀ a, off a + S1x1x64.size a ≤ S32x2x64.size a)
    (e : off = ![w.val, hf.val, 0]) (fp : S32x2x64.Idx → Elt F .i32) (x : S64.Idx) :
    (gSrc off h).view.read (Elt F) fp x = fp (pIx w hf (x 0)) := by
  show fp ((gSrc off h).view.emb x) = _
  rw [gSrc_emb w hf off h e]

/-- Entry `k` of a list of 64, in row-major order, is lane `k`. -/
theorem S64_symm (hn : S64.numel = 64) (k : Fin 64) : (S64.rowMajor.symm (k.cast hn.symm)) 0 = k := by
  apply Fin.ext
  rw [← Shape.rowMajor_val_one (S64.rowMajor.symm (k.cast hn.symm)), Equiv.apply_symm_apply]
  rfl

end Cert.ExpertsIdeal.Run

end
-- ==== Proof.ExpertsGather.lean ====
module

public import proofs.«01_k».proof.Proof.ExpertsBase

@[expose] public section

noncomputable section

namespace Cert.ExpertsIdeal.Run

open Cert.ExpertsIdeal Cert.ExpertsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Gather

variable (d : Dev nD) (L : grid2.Coords)

abbrev GT : Thread nD τ := V d ((L 0).castLE hcore2) ((L 1).castLE hsub2)

abbrev gOut (h : Fin 2) (o : BitVec 32) (ho : ∀ a, k2_off2 L o a + S64x2x128.size a ≤ S4096x2x128.size a) : Memref sig .scVector .hbm S64x2x128 .f32 :=
  (Memref.whole main_v18_scv).slice (Rect.unit (s := S4096x2x128) (k2_off2 L o) S64x2x128.size ho) (fun _ => rfl)

/-- The list of row numbers that the worker reads for half `h`. -/
abbrev gList (off : Fin 2 → ℕ) (h : ∀ a, off a + S1x64.size a ≤ S2x64.size a) : Memref sig .scVector .vmem S64 .i32 :=
  ((Memref.whole cc2_scratch0).slice (Rect.unit (s := S2x64) off S1x64.size h) (fun _ => rfl)).squeeze S64 squeezes_S1x64_S64

/-- The worker that runs at grid point `L`. -/
def LW : Fin 32 := ⟨2 * (L 1).val + (L 0).val, by
  have h0 : (L 0).val < 2 := (L 0).isLt
  have h1 : (L 1).val < 16 := (L 1).isLt
  omega⟩

/-- Where a tile reads its first half of slots. -/
theorem off1_LW : k2_off1 L = ![(LW L).val, (0 : Fin 2).val, 0] := k2_off1_eq L
/-- Where a tile reads its second half of slots. -/
theorem off3_LW : k2_off3 L = ![(LW L).val, (1 : Fin 2).val, 0] := k2_off3_eq L
/-- Where a tile writes a half of its rows. -/
theorem off2_LW (h : Fin 2) : k2_off2 L (BitVec.ofNat 32 (64 * h.val)) = ![128 * (LW L).val + 64 * h.val, 0, 0] := by
  rw [k2_off2_eq]
  have e : 256 * (L 1).val + 128 * (L 0).val + 64 * h.val = 128 * (LW L).val + 64 * h.val := by unfold LW; show _ = 128 * (2 * (L 1).val + (L 0).val) + _; omega
  rw [e]

/-- A whole write over any earlier writes reads back as itself. -/
theorem read_writes_whole_cons {κ : Kind} {sp : Space} {s : Shape} {e : EltTy} (v : View sig κ sp s e) (f : v.ty.Contents (Elt F)) (x : s.Idx → Elt F e)
    (l : List (View.Piece (Elt F) s e)) : v.read (Elt F) (v.writes (Elt F) f (⟨Rect.whole s, x⟩ :: l)) = x := by
  funext y
  have h := View.read_writes_cons_emb v f (Rect.whole s) x l y
  rwa [Rect.emb_whole_apply] at h

/-- What a gather of half `h` brings: row by row the rows of the table that the half's entries name. -/
theorem gather_value (w : Fin 32) (hf : Fin 2) (off : Fin 3 → ℕ) (h : ∀ a, off a + S1x1x64.size a ≤ S32x2x64.size a)
    (e : off = ![w.val, hf.val, 0]) (fp : S32x2x64.Idx → Elt F .i32) (fy : S6144x2x128.Idx → Elt F .f32)
    (hin : ∀ j, (fp j : BitVec 32).toNat < 6144) (lst : S64.Idx → Elt F .i32) (hl : lst = (gSrc off h).view.read (Elt F) fp)
    (hlt : ∀ x, (lst x).toNat < S6144x2x128.size gathers_S6144x2x128_S64x2x128.axis) (hn : S64.numel = 64)
    (o : BitVec 32) (ho : ∀ a, k2_off2 L o a + S64x2x128.size a ≤ S4096x2x128.size a)
    (eo : k2_off2 L o = ![128 * w.val + 64 * hf.val, 0, 0]) (inb) (y : S64x2x128.Idx) :
    SparseCore.gatherPayload gathers_S6144x2x128_S64x2x128
        (View.read (Elt F) ((Memref.whole main_v17_scv).slice (Rect.unit (s := S6144x2x128) ![0, 0, 0] S6144x2x128.size inb) (fun _ => rfl)).view fy)
        (SparseCore.rows (o := 64) lst hn hlt) y
      = gathered fp fy ((gOut L hf o ho).view.emb y) := by
  subst hl
  have hk : ((gOut L hf o ho).view.emb y 0).val = 128 * w.val + 64 * hf.val + (y 0).val := by
    show k2_off2 L o 0 + 1 * (y 0).val = _
    rw [eo]; show (128 * w.val + 64 * hf.val) + 1 * (y 0).val = _; omega
  show fy ((Rect.unit (s := S6144x2x128) ![0, 0, 0] S6144x2x128.size inb).emb (gathers_S6144x2x128_S64x2x128.idx _ y)) = fy _
  congr 1
  funext a
  match a with
  | 0 =>
    apply Fin.ext
    show 0 + 1 * ((gSrc off h).view.read (Elt F) fp (S64.rowMajor.symm ((y 0).cast hn.symm)) : BitVec 32).toNat = _
    rw [gSrc_read w hf off h e, S64_symm hn (y 0)]
    show _ = (fp (ent _) : BitVec 32).toNat % 6144
    rw [ent_of _ w hf (y 0) hk, Nat.mod_eq_of_lt (hin _)]
    omega
  | 1 =>
    apply Fin.ext
    show 0 + 1 * (y 1).val = k2_off2 L o 1 + 1 * (y 1).val
    rw [eo]; rfl
  | 2 =>
    apply Fin.ext
    show 0 + 1 * (y 2).val = k2_off2 L o 2 + 1 * (y 2).val
    rw [eo]; rfl

/-- A window written whole with the gathered rows holds the gathered array's rows. -/
theorem gOut_value (hf : Fin 2) (o : BitVec 32) (ho : ∀ a, k2_off2 L o a + S64x2x128.size a ≤ S4096x2x128.size a)
    (fo : S4096x2x128.Idx → Elt F .f32) (pay : S64x2x128.Idx → Elt F .f32) (G : S4096x2x128.Idx → Elt F .f32)
    (hp : ∀ y, pay y = G ((gOut L hf o ho).view.emb y)) :
    ∀ i ∈ (gOut L hf o ho).view.set, (gOut L hf o ho).view.writes (Elt F) fo [⟨Rect.whole S64x2x128, pay⟩] i = G i := by
  intro i hi
  obtain ⟨y, -, rfl⟩ := Finset.mem_map.mp hi
  rw [← hp]
  exact congrFun (View.read_writes_whole (gOut L hf o ho).view fo pay) y

/-- The list that a gather reads has slots in range. -/
theorem gList_lt (fp : Buf (Elt F) ((Memref.whole main_arg1_scv).view.loc (GT d L))) (hin : ∀ j, (fp j).toNat < 6144)
    (off : Fin 2 → ℕ) (h : ∀ a, off a + S1x64.size a ≤ S2x64.size a) (off' : Fin 3 → ℕ) (h' : ∀ a, off' a + S1x1x64.size a ≤ S32x2x64.size a)
    (pay : S64.Idx → Elt F .i32) (hpay : pay = (gSrc off' h').view.read (Elt F) fp)
    (g : Buf (Elt F) ((Memref.whole cc2_scratch0).view.loc (GT d L))) :
    ∀ x, ((gList off h).view.read (Elt F) (View.write (Elt F) (gList off h).view g pay Finset.univ) x).toNat < S6144x2x128.size gathers_S6144x2x128_S64x2x128.axis := by
  intro x
  rw [View.read_write_univ, hpay]
  exact hin _

set_option maxHeartbeats 4000000 in
theorem gather_run (O : CellTallies nD τ sig (HIx 2)) (W : Waits sig (HIx 2)) (q : PosShare TreeShare)
    (fp : Buf (Elt F) ((Memref.whole main_arg1_scv).view.loc (GT d L)))
    (fy : Buf (Elt F) ((Memref.whole main_v17_scv).view.loc (GT d L)))
    (fo : Buf (Elt F) ((Memref.whole main_v18_scv).view.loc (GT d L)))
    (g0 : Buf (Elt F) ((Memref.whole cc2_scratch0).view.loc (GT d L)))
    (t0 : Buf (Elt F) ((Memref.whole cc2_scratch1).view.loc (GT d L)))
    (hin : ∀ j, (fp j).toNat < 6144) :
    (iprop(Transfers.MayWaits (GT d L) (default : HIx 2) O
        ∗ ((Memref.whole main_arg1_scv).view.loc (GT d L) ↦{q} fp)
        ∗ ((Memref.whole main_v17_scv).view.loc (GT d L) ↦{q} fy)
        ∗ ((gOut L 0 0#32 (k2_off2_inb L 0)).view.loc (GT d L) ↦[(gOut L 0 0#32 (k2_off2_inb L 0)).view.set]{fullShare} fo)
        ∗ ((gOut L 1 64#32 (k2_off2_inb L 1)).view.loc (GT d L) ↦[(gOut L 1 64#32 (k2_off2_inb L 1)).view.set]{fullShare} fo)
        ∗ ((Memref.whole cc2_scratch0).view.loc (GT d L) ↦{fullShare} g0)
        ∗ ((Memref.whole cc2_scratch1).view.loc (GT d L) ↦{fullShare} t0)
        ∗ semVal (GT d L, SemLoc.dma cc2_scratch2.sem) 0
        ∗ semVal (GT d L, SemLoc.dma cc2_scoped0.sem) 0
        ∗ semVal (GT d L, SemLoc.dma cc2_scoped1.sem) 0
        ∗ semVal (GT d L, SemLoc.dma cc2_scoped2.sem) 0
        ∗ semVal (GT d L, SemLoc.dma cc2_scoped3.sem) 0
        ∗ owes (GT d L) O W) : sProp 𝕄)
      ⊢ wp frame (wpE (defs₀ (F := F)) 𝒱₀ (GT d L) none) Set.univ
          (cc2_gather_out L (Memref.whole main_arg1_scv) (Memref.isWhole_whole _) (Memref.whole main_v17_scv) (Memref.isWhole_whole _)
            (Memref.whole main_v18_scv) (Memref.isWhole_whole _) (Memref.whole cc2_scratch0) (Memref.isWhole_whole _)
            (Memref.whole cc2_scratch1) (Memref.isWhole_whole _) cc2_scratch2 cc2_scoped0 cc2_scoped1 cc2_scoped2 cc2_scoped3)
          fun _ => iprop(
            ((Memref.whole main_arg1_scv).view.loc (GT d L) ↦{q} fp)
            ∗ ((Memref.whole main_v17_scv).view.loc (GT d L) ↦{q} fy)
            ∗ ((gOut L 0 0#32 (k2_off2_inb L 0)).view.loc (GT d L) ↦[(gOut L 0 0#32 (k2_off2_inb L 0)).view.set]{fullShare} gathered fp fy)
            ∗ ((gOut L 1 64#32 (k2_off2_inb L 1)).view.loc (GT d L) ↦[(gOut L 1 64#32 (k2_off2_inb L 1)).view.set]{fullShare} gathered fp fy)
            ∗ (∃ g, (Memref.whole cc2_scratch0).view.loc (GT d L) ↦{fullShare} g)
            ∗ (∃ t, (Memref.whole cc2_scratch1).view.loc (GT d L) ↦{fullShare} t)
            ∗ semVal (GT d L, SemLoc.dma cc2_scratch2.sem) 0
            ∗ semVal (GT d L, SemLoc.dma cc2_scoped0.sem) 0
            ∗ semVal (GT d L, SemLoc.dma cc2_scoped1.sem) 0
            ∗ semVal (GT d L, SemLoc.dma cc2_scoped2.sem) 0
            ∗ semVal (GT d L, SemLoc.dma cc2_scoped3.sem) 0
            ∗ ∃ W', ⌜∀ p ∈ W', p ∈ W ∨ p.2 = none⌝ ∗ owes (GT d L) O W') := by
  iintro ⟨#Hmw, HI, HX, HO0, HO1, HG, HT, Hc0, Hc1, Hc2, Hc3, Hc4, HO⟩
  sl_unfold [cc2_gather_out]
  sl_exec
  have h0 := gList_lt d L fp hin ![0, 0] inb_S2x64_S1x64_0_0 _ (k2_off1_inb L) (gather_run.sl.dma0 d L fp) rfl g0
  sl_exec
  have h1 := gList_lt d L fp hin ![1, 0] inb_S2x64_S1x64_1_0 _ (k2_off3_inb L) (gather_run.sl.dma0_2 d L fp) rfl
    (View.write (Elt F) (gList ![0, 0] inb_S2x64_S1x64_0_0).view g0 (gather_run.sl.dma0 d L fp) Finset.univ)
  sl_exec
  sl_step
  have e0 : ∀ i ∈ (gOut L 0 0#32 (k2_off2_inb L 0)).view.set, (gOut L 0 0#32 (k2_off2_inb L 0)).view.writes (Elt F) fo
      [⟨Rect.whole S64x2x128, gather_run.sl.dma0_1 d L fp fy g0 t0 h0⟩] i = gathered fp fy i := by
    refine gOut_value L 0 _ _ fo _ _ fun y => ?_
    unfold gather_run.sl.dma0_1
    show View.read (Elt F) (Memref.whole cc2_scratch1).view _ y = _
    rw [View.read_writes_whole]
    exact gather_value L (LW L) 0 _ (k2_off1_inb L) (off1_LW L) fp fy hin _ (View.read_write_univ _ _) h0 _ _ _ (off2_LW L 0) _ y
  have e1 : ∀ i ∈ (gOut L 1 64#32 (k2_off2_inb L 1)).view.set, (gOut L 1 64#32 (k2_off2_inb L 1)).view.writes (Elt F) fo
      [⟨Rect.whole S64x2x128, gather_run.sl.dma0_3 d L fp fy g0 t0 h0 h1⟩] i = gathered fp fy i := by
    refine gOut_value L 1 _ _ fo _ _ fun y => ?_
    unfold gather_run.sl.dma0_3
    show View.read (Elt F) (Memref.whole cc2_scratch1).view _ y = _
    rw [read_writes_whole_cons]
    exact gather_value L (LW L) 1 _ (k2_off3_inb L) (off3_LW L) fp fy hin _ (View.read_write_univ _ _) h1 _ _ _ (off2_LW L 1) _ y
  ihave HO0 := (Entails.of_eq (pointsTo_congr e0)) $$ HO0
  ihave HO1 := (Entails.of_eq (pointsTo_congr e1)) $$ HO1
  isplitl [HI]
  · iexact HI
  isplitl [HX]
  · iexact HX
  isplitl [HO0]
  · iexact HO0
  isplitl [HO1]
  · iexact HO1
  isplitl [HG]
  · iexists _; iexact HG
  isplitl [HT]
  · iexists _; iexact HT
  isplitl [Hc0]
  · iexact Hc0
  isplitl [Hc1]
  · iexact Hc1
  isplitl [Hc2]
  · iexact Hc2
  isplitl [Hc3]
  · iexact Hc3
  isplitl [Hc4]
  · iexact Hc4
  iexists _
  isplitr
  rotate_left
  · iexact HO
  · ipureintro
    intro p hp
    simp only [Finset.mem_insert] at hp
    rcases hp with h | h | h | h | h | h | h
    all_goals first | exact Or.inl h | exact Or.inr (by rw [h]; rfl)

end Gather

end Cert.ExpertsIdeal.Run

end
-- ==== Proof.ExpertsScatter.lean ====
module

public import proofs.«01_k».proof.Proof.ExpertsBase

@[expose] public section

noncomputable section

namespace Cert.ExpertsIdeal.Run

open Cert.ExpertsIdeal Cert.ExpertsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Scatter

variable (d : Dev nD) (L : grid0.Coords)

abbrev ST : Thread nD τ := V d ((L 0).castLE hcore0) ((L 1).castLE hsub0)

/-- The list of row numbers that the worker reads for half `h`. -/
abbrev sList (off : Fin 2 → ℕ) (h : ∀ a, off a + S1x64.size a ≤ S2x64.size a) : Memref sig .scVector .vmem S64 .i32 :=
  ((Memref.whole cc0_scratch0).slice (Rect.unit (s := S2x64) off S1x64.size h) (fun _ => rfl)).squeeze S64 squeezes_S1x64_S64

/-- The worker that runs at grid point `L`. -/
def LS : Fin 32 := ⟨2 * (L 1).val + (L 0).val, by
  have h0 : (L 0).val < 2 := (L 0).isLt
  have h1 : (L 1).val < 16 := (L 1).isLt
  omega⟩

/-- Where a tile reads its first half of slots. -/
theorem soff1_LS : k0_off1 L = ![(LS L).val, (0 : Fin 2).val, 0] := k0_off1_eq L
/-- Where a tile reads its second half of slots. -/
theorem soff3_LS : k0_off3 L = ![(LS L).val, (1 : Fin 2).val, 0] := k0_off3_eq L
/-- Where a tile reads a half of its rows. -/
theorem soff2_LS (h : Fin 2) : k0_off2 L (BitVec.ofNat 32 (64 * h.val)) = ![128 * (LS L).val + 64 * h.val, 0, 0] := by
  rw [k0_off2_eq]
  have e : 256 * (L 1).val + 128 * (L 0).val + 64 * h.val = 128 * (LS L).val + 64 * h.val := by unfold LS; show _ = 128 * (2 * (L 1).val + (L 0).val) + _; omega
  rw [e]

/-- Row `r` is one that worker `w`'s list names. -/
def own (fp : S32x2x64.Idx → Elt F .i32) (w : Fin 32) (r : ℕ) : Prop := ∃ (h : Fin 2) (k : Fin 64), (fp (pIx w h k) : BitVec 32).toNat = r

/-- The list that a scatter reads is the tile's half of the slots. -/
theorem sList_read (w : Fin 32) (hf : Fin 2) (fp : S32x2x64.Idx → Elt F .i32)
    (off : Fin 2 → ℕ) (h : ∀ a, off a + S1x64.size a ≤ S2x64.size a) (off' : Fin 3 → ℕ) (h' : ∀ a, off' a + S1x1x64.size a ≤ S32x2x64.size a)
    (e : off' = ![w.val, hf.val, 0]) (pay : S64.Idx → Elt F .i32) (hpay : pay = (gSrc off' h').view.read (Elt F) fp)
    (g : S2x64.Idx → Elt F .i32) (x : S64.Idx) :
    (sList off h).view.read (Elt F) (View.write (Elt F) (sList off h).view g pay Finset.univ) x = fp (pIx w hf (x 0)) := by
  rw [View.read_write_univ, hpay, gSrc_read w hf off' h' e]

/-- The three facts about a list that a scatter along it asks for: its words are rows of the target, they are pairwise
    distinct, and each is one that the worker owns. -/
theorem sList_facts (w : Fin 32) (hf : Fin 2) (fp : S32x2x64.Idx → Elt F .i32)
    (hin : ∀ j, (fp j : BitVec 32).toNat < 6144) (hdis : Function.Injective fun j => (fp j : BitVec 32).toNat)
    (off : Fin 2 → ℕ) (h : ∀ a, off a + S1x64.size a ≤ S2x64.size a) (off' : Fin 3 → ℕ) (h' : ∀ a, off' a + S1x1x64.size a ≤ S32x2x64.size a)
    (e : off' = ![w.val, hf.val, 0]) (pay : S64.Idx → Elt F .i32) (hpay : pay = (gSrc off' h').view.read (Elt F) fp)
    (g : S2x64.Idx → Elt F .i32) :
    (∀ x, ((sList off h).view.read (Elt F) (View.write (Elt F) (sList off h).view g pay Finset.univ) x).toNat < S6144x2x128.size gathers_S6144x2x128_S64x2x128.axis)
    ∧ (Function.Injective fun x => ((sList off h).view.read (Elt F) (View.write (Elt F) (sList off h).view g pay Finset.univ) x).toNat)
    ∧ (∀ x, own fp w ((sList off h).view.read (Elt F) (View.write (Elt F) (sList off h).view g pay Finset.univ) x).toNat) := by
  have hr := sList_read w hf fp off h off' h' e pay hpay g
  refine ⟨fun x => ?_, fun x y hxy => ?_, fun x => ?_⟩
  · rw [hr]; exact hin _
  · dsimp only at hxy
    rw [hr, hr] at hxy
    have := congrFun (hdis hxy) 2
    funext a
    match a with
    | 0 => exact this
  · rw [hr]; exact ⟨hf, x 0, rfl⟩

/-- A target as the scatters address it: its buffer by the window of all of it. -/
abbrev sTgt (m : Memref sig .scVector .hbm S6144x2x128 .f32) : Memref sig .scVector .hbm S6144x2x128 .f32 :=
  m.slice (Rect.unit (s := S6144x2x128) ![0, 0, 0] S6144x2x128.size inb_S6144x2x128_S6144x2x128_0_0_0) (fun _ => rfl)

/-- A target read after a scatter, at a row that entry `k` names: the entry's payload. -/
theorem scat_read_mem (v : View sig .scVector .hbm S6144x2x128 .f32) (ax : Fin S6144x2x128.rank) (r : Fin 64 → Fin (S6144x2x128.size ax))
    (hinj : Function.Injective r) (w : Fin 64 → (S6144x2x128.rowShape ax).Idx → Elt F .f32) (fd : Buf (Elt F) (v.loc (ST d L)))
    (k : Fin 64) (y : S6144x2x128.Idx) (e : r k = y ax) :
    v.read (Elt F) (SparseCore.scatterBuf (ST d L) v ax r w fd) y = w k (S6144x2x128.rowProj ax y) := by
  have ey : (S6144x2x128.rowRect ax (r k)).emb (S6144x2x128.rowProj ax y) = y := by rw [e]; exact Shape.rowRect_emb_rowProj ax y
  have hm : v.emb y ∈ (v.slice (S6144x2x128.rowRect ax (r k))).set := by
    have hj : (v.slice (S6144x2x128.rowRect ax (r k))).emb (S6144x2x128.rowProj ax y) = v.emb y := congrArg v.emb ey
    have hs := View.emb_mem_set (v.slice (S6144x2x128.rowRect ax (r k))) (S6144x2x128.rowProj ax y)
    rw [hj] at hs; exact hs
  have h1 := SparseCore.scatterBuf_of_mem (ST d L) v ax r hinj w fd hm
  have h2 : v.read (Elt F) (SparseCore.scatterBuf (ST d L) v ax r w fd) y
      = v.read (Elt F) ((v.slice (S6144x2x128.rowRect ax (r k))).write (Elt F) fd (w k) Finset.univ) y := by
    rw [View.read_apply, View.read_apply, h1]
  rw [h2]
  have h3 := congrFun (View.read_write_univ (v := v.slice (S6144x2x128.rowRect ax (r k))) fd (w k)) (S6144x2x128.rowProj ax y)
  refine Eq.trans ?_ h3
  exact (congrArg (v.read (Elt F) ((v.slice (S6144x2x128.rowRect ax (r k))).write (Elt F) fd (w k) Finset.univ)) ey).symm

/-- A target read after a scatter, at a row that no entry names: as it was. -/
theorem scat_read_not (v : View sig .scVector .hbm S6144x2x128 .f32) (ax : Fin S6144x2x128.rank) (r : Fin 64 → Fin (S6144x2x128.size ax))
    (w : Fin 64 → (S6144x2x128.rowShape ax).Idx → Elt F .f32) (fd : Buf (Elt F) (v.loc (ST d L)))
    (y : S6144x2x128.Idx) (e : ∀ k, r k ≠ y ax) :
    v.read (Elt F) (SparseCore.scatterBuf (ST d L) v ax r w fd) y = v.read (Elt F) fd y := by
  rw [View.read_apply, View.read_apply, SparseCore.scatterBuf_of_not_mem]
  intro hm
  rw [SparseCore.namedRows_eq] at hm
  obtain ⟨k, -, hk⟩ := Finset.mem_biUnion.mp hm
  obtain ⟨j, -, hj⟩ := Finset.mem_map.mp hk
  have hy : (S6144x2x128.rowRect ax (r k)).emb j = y := v.emb.injective hj
  exact e k ((Shape.rowRect_emb_axis ax (r k) j).symm.trans (congrArg (fun z : S6144x2x128.Idx => z ax) hy))

/-- The window of the tokens' rows that half `h` of the worker sends. -/
abbrev sWin (m : Memref sig .scVector .hbm S4096x2x128 .f32) (o : BitVec 32) (ho : ∀ a, k0_off2 L o a + S64x2x128.size a ≤ S4096x2x128.size a) :
    Memref sig .scVector .hbm S64x2x128 .f32 := m.slice (Rect.unit (s := S4096x2x128) (k0_off2 L o) S64x2x128.size ho) (fun _ => rfl)

/-- What entry `k` of half `hf` sends, at the element of its row that `y` names: the token's row of `f` there. -/
theorem scat_payload (w : Fin 32) (hf : Fin 2) (o : BitVec 32) (ho : ∀ a, k0_off2 L o a + S64x2x128.size a ≤ S4096x2x128.size a)
    (eo : k0_off2 L o = ![128 * w.val + 64 * hf.val, 0, 0]) (f : S4096x2x128.Idx → Elt F .f32) (pay : S64x2x128.Idx → Elt F .f32)
    (hp : ∀ z, pay z = f ((Rect.unit (s := S4096x2x128) (k0_off2 L o) S64x2x128.size ho).emb z)) (g : S64x2x128.Idx → Elt F .f32)
    (k : Fin 64) (y : S6144x2x128.Idx) (n : Fin 4096) (en : n.val = 128 * w.val + 64 * hf.val + k.val) :
    SparseCore.scatterRowPayload (ST d L) (Memref.whole cc0_scratch1) gathers_S6144x2x128_S64x2x128
      (View.write (Elt F) (Memref.whole cc0_scratch1).view g pay Finset.univ) k (S6144x2x128.rowProj gathers_S6144x2x128_S64x2x128.axis y)
      = f (fun | 0 => n | 1 => y 1 | 2 => y 2) := by
  rw [View.write_whole_univ]
  have h0 : SparseCore.scatterRowPayload (ST d L) (Memref.whole cc0_scratch1) gathers_S6144x2x128_S64x2x128 pay k
        (S6144x2x128.rowProj gathers_S6144x2x128_S64x2x128.axis y)
      = pay ((S64x2x128.rowRect gathers_S6144x2x128_S64x2x128.axis' k).emb ((Shape.idxEquiv gathers_S6144x2x128_S64x2x128.rowShape_eq).symm
          (S6144x2x128.rowProj gathers_S6144x2x128_S64x2x128.axis y))) := rfl
  refine h0.trans ?_
  rw [hp]
  congr 1
  funext a
  apply Fin.ext
  have hz := Shape.rowRect_emb_val (s := S64x2x128) gathers_S6144x2x128_S64x2x128.axis' k ((Shape.idxEquiv gathers_S6144x2x128_S64x2x128.rowShape_eq).symm
          (S6144x2x128.rowProj gathers_S6144x2x128_S64x2x128.axis y)) a
  show k0_off2 L o a + 1 * ((S64x2x128.rowRect gathers_S6144x2x128_S64x2x128.axis' k).emb _ a).val = _
  rw [hz, eo]
  match a with
  | 0 =>
    rw [if_pos (by rfl)]
    show (128 * w.val + 64 * hf.val) + 1 * k.val = n.val
    omega
  | 1 =>
    rw [if_neg (by decide)]
    have hv := Shape.idxEquiv_symm_apply_val gathers_S6144x2x128_S64x2x128.rowShape_eq (S6144x2x128.rowProj gathers_S6144x2x128_S64x2x128.axis y) ⟨1, by change 1 < 3; decide⟩
    exact (congrArg (fun n => 0 + 1 * n) hv).trans (by show 0 + 1 * (y 1).val = (y 1).val; omega)
  | 2 =>
    rw [if_neg (by decide)]
    have hv := Shape.idxEquiv_symm_apply_val gathers_S6144x2x128_S64x2x128.rowShape_eq (S6144x2x128.rowProj gathers_S6144x2x128_S64x2x128.axis y) ⟨2, by change 2 < 3; decide⟩
    exact (congrArg (fun n => 0 + 1 * n) hv).trans (by show 0 + 1 * (y 2).val = (y 2).val; omega)

/-- The target after both halves' scatters holds the scattered array on the rows that the worker owns. -/
theorem scat_value (w : Fin 32) (v : View sig .scVector .hbm S6144x2x128 .f32) (fp : S32x2x64.Idx → Elt F .i32)
    (hdis : Function.Injective fun j => (fp j : BitVec 32).toNat) (f : S4096x2x128.Idx → Elt F .f32)
    (fd : Buf (Elt F) (v.loc (ST d L))) (t : S6144x2x128.Idx → Elt F .f32)
    (ho0 : ∀ a, k0_off2 L 0#32 a + S64x2x128.size a ≤ S4096x2x128.size a) (eo0 : k0_off2 L 0#32 = ![128 * w.val + 64 * (0 : Fin 2).val, 0, 0])
    (ho1 : ∀ a, k0_off2 L 64#32 a + S64x2x128.size a ≤ S4096x2x128.size a) (eo1 : k0_off2 L 64#32 = ![128 * w.val + 64 * (1 : Fin 2).val, 0, 0])
    (l0 l1 : S64.Idx → Elt F .i32) (e0 : ∀ x, l0 x = fp (pIx w 0 (x 0))) (e1 : ∀ x, l1 x = fp (pIx w 1 (x 0)))
    (hn : S64.numel = 64)
    (h0 : ∀ x, (l0 x : BitVec 32).toNat < S6144x2x128.size gathers_S6144x2x128_S64x2x128.axis)
    (h1 : ∀ x, (l1 x : BitVec 32).toNat < S6144x2x128.size gathers_S6144x2x128_S64x2x128.axis)
    (p0 p1 : S64x2x128.Idx → Elt F .f32) (g0 g1 : S64x2x128.Idx → Elt F .f32)
    (hp0 : ∀ z, p0 z = f ((Rect.unit (s := S4096x2x128) (k0_off2 L 0#32) S64x2x128.size ho0).emb z))
    (hp1 : ∀ z, p1 z = f ((Rect.unit (s := S4096x2x128) (k0_off2 L 64#32) S64x2x128.size ho1).emb z))
    (y : S6144x2x128.Idx) (hy : own fp w (y 0).val) :
    v.read (Elt F) (SparseCore.scatterBuf (ST d L) v gathers_S6144x2x128_S64x2x128.axis (SparseCore.rows l1 hn h1)
      (SparseCore.scatterRowPayload (ST d L) (Memref.whole cc0_scratch1) gathers_S6144x2x128_S64x2x128
        (View.write (Elt F) (Memref.whole cc0_scratch1).view g1 p1 Finset.univ))
      (SparseCore.scatterBuf (ST d L) v gathers_S6144x2x128_S64x2x128.axis (SparseCore.rows l0 hn h0)
        (SparseCore.scatterRowPayload (ST d L) (Memref.whole cc0_scratch1) gathers_S6144x2x128_S64x2x128
          (View.write (Elt F) (Memref.whole cc0_scratch1).view g0 p0 Finset.univ)) fd)) y = scattered fp f t y := by
  have r0 : ∀ k, (SparseCore.rows (o := 64) l0 hn h0 k).val = (fp (pIx w 0 k) : BitVec 32).toNat := fun k => by
    show (l0 (S64.rowMajor.symm (k.cast hn.symm)) : BitVec 32).toNat = _
    rw [e0, S64_symm hn]
  have r1 : ∀ k, (SparseCore.rows (o := 64) l1 hn h1 k).val = (fp (pIx w 1 k) : BitVec 32).toNat := fun k => by
    show (l1 (S64.rowMajor.symm (k.cast hn.symm)) : BitVec 32).toNat = _
    rw [e1, S64_symm hn]
  have i0 : Function.Injective (SparseCore.rows (o := 64) l0 hn h0) := fun k k' h => by
    have := congrArg Fin.val h
    rw [r0, r0] at this
    exact congrFun (hdis this) 2
  have i1 : Function.Injective (SparseCore.rows (o := 64) l1 hn h1) := fun k k' h => by
    have := congrArg Fin.val h
    rw [r1, r1] at this
    exact congrFun (hdis this) 2
  obtain ⟨hf, k, hk⟩ := hy
  have hn' : 128 * w.val + 64 * hf.val + k.val < 4096 := by omega
  have hent := ent_of ⟨_, hn'⟩ w hf k rfl
  rw [scattered_of fp hdis f t y ⟨_, hn'⟩ (by rw [hent]; exact hk)]
  match hf with
  | 0 =>
    refine (scat_read_not d L v _ (SparseCore.rows (o := 64) l1 hn h1) _ _ y ?_).trans
      ((scat_read_mem d L v _ (SparseCore.rows (o := 64) l0 hn h0) i0 _ _ k y (Fin.ext ((r0 k).trans hk))).trans
        (scat_payload d L w 0 _ ho0 eo0 f p0 hp0 g0 k y _ rfl))
    intro k' e
    have := congrArg Fin.val e
    rw [r1] at this
    exact absurd (congrFun (hdis (this.trans hk.symm)) 1) (show (1 : Fin 2) ≠ 0 by decide)
  | 1 =>
    exact (scat_read_mem d L v _ (SparseCore.rows (o := 64) l1 hn h1) i1 _ _ k y (Fin.ext ((r1 k).trans hk))).trans
      (scat_payload d L w 1 _ ho1 eo1 f p1 hp1 g1 k y _ rfl)

/-- A target read at one of its rows that satisfy a predicate: its elements there are the view's. -/
theorem rowsWhere_cases (v : View sig .scVector .hbm S6144x2x128 .f32) (ax : Fin S6144x2x128.rank) (p : ℕ → Prop) (i : v.ty.Idx)
    (hi : i ∈ SparseCore.rowsWhere v ax p) : ∃ y : S6144x2x128.Idx, p (y ax).val ∧ v.emb y = i := by
  obtain ⟨r, hp, hm⟩ := SparseCore.mem_rowsWhere.mp hi
  obtain ⟨j, -, hj⟩ := Finset.mem_map.mp hm
  refine ⟨(S6144x2x128.rowRect ax r).emb j, ?_, hj⟩
  exact (congrArg (fun z => p z.val) (Shape.rowRect_emb_axis ax r j)).mpr hp

/-- The window of all of a target names each element by its own index. -/
theorem full_emb (y : S6144x2x128.Idx) :
    (Rect.unit (s := S6144x2x128) ![0, 0, 0] S6144x2x128.size inb_S6144x2x128_S6144x2x128_0_0_0).emb y = y := by
  funext a
  match a with
  | 0 => exact Fin.ext (show 0 + 1 * (y 0).val = (y 0).val by omega)
  | 1 => exact Fin.ext (show 0 + 1 * (y 1).val = (y 1).val by omega)
  | 2 => exact Fin.ext (show 0 + 1 * (y 2).val = (y 2).val by omega)

/-- Contents that read alike on the rows that satisfy a predicate agree on their elements. -/
theorem rows_congr (v : View sig .scVector .hbm S6144x2x128 .f32) (ax : Fin S6144x2x128.rank) (p : ℕ → Prop) (f g : v.ty.Contents (Elt F))
    (h : ∀ y : S6144x2x128.Idx, p (y ax).val → v.read (Elt F) f y = v.read (Elt F) g y) : ∀ i ∈ SparseCore.rowsWhere v ax p, f i = g i := by
  intro i hi
  obtain ⟨y, hy, rfl⟩ := rowsWhere_cases v ax p i hi
  have := h y hy
  rw [View.read_apply, View.read_apply] at this
  exact (cast_inj _).mp this

set_option maxHeartbeats 8000000 in
theorem scatter_run (O : CellTallies nD τ sig (HIx 2)) (W : Waits sig (HIx 2)) (q : PosShare TreeShare)
    (fp : Buf (Elt F) ((Memref.whole main_arg1_scv).view.loc (ST d L)))
    (f0 : Buf (Elt F) ((Memref.whole main_v1_scv).view.loc (ST d L)))
    (f1 : Buf (Elt F) ((Memref.whole main_v3_scv).view.loc (ST d L)))
    (f2 : Buf (Elt F) ((Memref.whole main_v5_scv).view.loc (ST d L)))
    (f3 : Buf (Elt F) ((Memref.whole main_v7_scv).view.loc (ST d L)))
    (t0 : Buf (Elt F) ((Memref.whole main_v8_0_scv).view.loc (ST d L)))
    (t1 : Buf (Elt F) ((Memref.whole main_v8_1_scv).view.loc (ST d L)))
    (t2 : Buf (Elt F) ((Memref.whole main_v8_2_scv).view.loc (ST d L)))
    (t3 : Buf (Elt F) ((Memref.whole main_v8_3_scv).view.loc (ST d L)))
    (g0 : Buf (Elt F) ((Memref.whole cc0_scratch0).view.loc (ST d L)))
    (g1 : Buf (Elt F) ((Memref.whole cc0_scratch1).view.loc (ST d L)))
    (hin : ∀ j, (fp j : BitVec 32).toNat < 6144) (hdis : Function.Injective fun j => (fp j : BitVec 32).toNat) :
    (iprop(Transfers.MayWaits (ST d L) (default : HIx 2) O
        ∗ ((Memref.whole main_arg1_scv).view.loc (ST d L) ↦{q} fp)
        ∗ ((Memref.whole main_v1_scv).view.loc (ST d L) ↦{q} f0)
        ∗ ((Memref.whole main_v3_scv).view.loc (ST d L) ↦{q} f1)
        ∗ ((Memref.whole main_v5_scv).view.loc (ST d L) ↦{q} f2)
        ∗ ((Memref.whole main_v7_scv).view.loc (ST d L) ↦{q} f3)
        ∗ ((sTgt (Memref.whole main_v8_0_scv)).view.loc (ST d L) ↦[SparseCore.rowsWhere (sTgt (Memref.whole main_v8_0_scv)).view gathers_S6144x2x128_S64x2x128.axis (own fp (LS L))]{fullShare} t0)
        ∗ ((sTgt (Memref.whole main_v8_1_scv)).view.loc (ST d L) ↦[SparseCore.rowsWhere (sTgt (Memref.whole main_v8_1_scv)).view gathers_S6144x2x128_S64x2x128.axis (own fp (LS L))]{fullShare} t1)
        ∗ ((sTgt (Memref.whole main_v8_2_scv)).view.loc (ST d L) ↦[SparseCore.rowsWhere (sTgt (Memref.whole main_v8_2_scv)).view gathers_S6144x2x128_S64x2x128.axis (own fp (LS L))]{fullShare} t2)
        ∗ ((sTgt (Memref.whole main_v8_3_scv)).view.loc (ST d L) ↦[SparseCore.rowsWhere (sTgt (Memref.whole main_v8_3_scv)).view gathers_S6144x2x128_S64x2x128.axis (own fp (LS L))]{fullShare} t3)
        ∗ ((Memref.whole cc0_scratch0).view.loc (ST d L) ↦{fullShare} g0)
        ∗ ((Memref.whole cc0_scratch1).view.loc (ST d L) ↦{fullShare} g1)
        ∗ semVal (ST d L, SemLoc.dma cc0_scratch2.sem) 0
        ∗ semVal (ST d L, SemLoc.dma cc0_scoped0.sem) 0
        ∗ semVal (ST d L, SemLoc.dma cc0_scoped1.sem) 0
        ∗ semVal (ST d L, SemLoc.dma cc0_scoped2.sem) 0
        ∗ semVal (ST d L, SemLoc.dma cc0_scoped3.sem) 0
        ∗ semVal (ST d L, SemLoc.dma cc0_scoped4.sem) 0
        ∗ semVal (ST d L, SemLoc.dma cc0_scoped5.sem) 0
        ∗ semVal (ST d L, SemLoc.dma cc0_scoped6.sem) 0
        ∗ semVal (ST d L, SemLoc.dma cc0_scoped7.sem) 0
        ∗ semVal (ST d L, SemLoc.dma cc0_scoped8.sem) 0
        ∗ semVal (ST d L, SemLoc.dma cc0_scoped9.sem) 0
        ∗ owes (ST d L) O W) : sProp 𝕄)
      ⊢ wp frame (wpE (defs₀ (F := F)) 𝒱₀ (ST d L) none) Set.univ
          (cc0_scatter_x L (Memref.whole main_arg1_scv) (Memref.isWhole_whole _) (Memref.whole main_v1_scv) (Memref.isWhole_whole _)
            (Memref.whole main_v3_scv) (Memref.isWhole_whole _) (Memref.whole main_v5_scv) (Memref.isWhole_whole _)
            (Memref.whole main_v7_scv) (Memref.isWhole_whole _) (Memref.whole main_v8_0_scv) (Memref.isWhole_whole _)
            (Memref.whole main_v8_1_scv) (Memref.isWhole_whole _) (Memref.whole main_v8_2_scv) (Memref.isWhole_whole _)
            (Memref.whole main_v8_3_scv) (Memref.isWhole_whole _) (Memref.whole cc0_scratch0) (Memref.isWhole_whole _)
            (Memref.whole cc0_scratch1) (Memref.isWhole_whole _) cc0_scratch2 cc0_scoped0 cc0_scoped1 cc0_scoped2 cc0_scoped3 cc0_scoped4
            cc0_scoped5 cc0_scoped6 cc0_scoped7 cc0_scoped8 cc0_scoped9)
          fun _ => iprop(
            ((Memref.whole main_arg1_scv).view.loc (ST d L) ↦{q} fp)
            ∗ ((Memref.whole main_v1_scv).view.loc (ST d L) ↦{q} f0)
            ∗ ((Memref.whole main_v3_scv).view.loc (ST d L) ↦{q} f1)
            ∗ ((Memref.whole main_v5_scv).view.loc (ST d L) ↦{q} f2)
            ∗ ((Memref.whole main_v7_scv).view.loc (ST d L) ↦{q} f3)
            ∗ ((sTgt (Memref.whole main_v8_0_scv)).view.loc (ST d L) ↦[SparseCore.rowsWhere (sTgt (Memref.whole main_v8_0_scv)).view gathers_S6144x2x128_S64x2x128.axis (own fp (LS L))]{fullShare} scattered fp f0 t0)
            ∗ ((sTgt (Memref.whole main_v8_1_scv)).view.loc (ST d L) ↦[SparseCore.rowsWhere (sTgt (Memref.whole main_v8_1_scv)).view gathers_S6144x2x128_S64x2x128.axis (own fp (LS L))]{fullShare} scattered fp f1 t1)
            ∗ ((sTgt (Memref.whole main_v8_2_scv)).view.loc (ST d L) ↦[SparseCore.rowsWhere (sTgt (Memref.whole main_v8_2_scv)).view gathers_S6144x2x128_S64x2x128.axis (own fp (LS L))]{fullShare} scattered fp f2 t2)
            ∗ ((sTgt (Memref.whole main_v8_3_scv)).view.loc (ST d L) ↦[SparseCore.rowsWhere (sTgt (Memref.whole main_v8_3_scv)).view gathers_S6144x2x128_S64x2x128.axis (own fp (LS L))]{fullShare} scattered fp f3 t3)
            ∗ (∃ g, (Memref.whole cc0_scratch0).view.loc (ST d L) ↦{fullShare} g)
            ∗ (∃ g, (Memref.whole cc0_scratch1).view.loc (ST d L) ↦{fullShare} g)
            ∗ semVal (ST d L, SemLoc.dma cc0_scratch2.sem) 0
            ∗ semVal (ST d L, SemLoc.dma cc0_scoped0.sem) 0
            ∗ semVal (ST d L, SemLoc.dma cc0_scoped1.sem) 0
            ∗ semVal (ST d L, SemLoc.dma cc0_scoped2.sem) 0
            ∗ semVal (ST d L, SemLoc.dma cc0_scoped3.sem) 0
            ∗ semVal (ST d L, SemLoc.dma cc0_scoped4.sem) 0
            ∗ semVal (ST d L, SemLoc.dma cc0_scoped5.sem) 0
            ∗ semVal (ST d L, SemLoc.dma cc0_scoped6.sem) 0
            ∗ semVal (ST d L, SemLoc.dma cc0_scoped7.sem) 0
            ∗ semVal (ST d L, SemLoc.dma cc0_scoped8.sem) 0
            ∗ semVal (ST d L, SemLoc.dma cc0_scoped9.sem) 0
            ∗ ∃ W', ⌜∀ p ∈ W', p ∈ W ∨ p.2 = none⌝ ∗ owes (ST d L) O W') := by
  iintro ⟨#Hmw, HI, HX0, HX1, HX2, HX3, HT0, HT1, HT2, HT3, HG, HB, Hc, Hs0, Hs1, Hs2, Hs3, Hs4, Hs5, Hs6, Hs7, Hs8, Hs9, HO⟩
  sl_unfold [cc0_scatter_x]
  sl_exec
  obtain ⟨h0, j0, o0⟩ := sList_facts (LS L) 0 fp hin hdis ![0, 0] inb_S2x64_S1x64_0_0 _ (k0_off1_inb L) (soff1_LS L) (scatter_run.sl.dma0 d L fp) rfl g0
  sl_exec
  obtain ⟨h1, j1, o1⟩ := sList_facts (LS L) 1 fp hin hdis ![1, 0] inb_S2x64_S1x64_1_0 _ (k0_off3_inb L) (soff3_LS L) (scatter_run.sl.dma0_5 d L fp) rfl
    (View.write (Elt F) (sList ![0, 0] inb_S2x64_S1x64_0_0).view g0 (scatter_run.sl.dma0 d L fp) Finset.univ)
  sl_exec
  sl_step
  ihave HT0 := (Entails.of_eq (pointsTo_congr (g := scattered fp f0 t0) (rows_congr _ _ _ _ _ fun y hy => by
    unfold scatter_run.sl.HT0_sc0_1 scatter_run.sl.HT0_sc0
    refine (scat_value d L (LS L) (sTgt (Memref.whole main_v8_0_scv)).view fp hdis f0 t0 t0 (k0_off2_inb L 0) (soff2_LS L 0) (k0_off2_inb L 1) (soff2_LS L 1)
      _ _ (sList_read (LS L) 0 fp _ _ _ (k0_off1_inb L) (soff1_LS L) _ rfl _) (sList_read (LS L) 1 fp _ _ _ (k0_off3_inb L) (soff3_LS L) _ rfl _)
      rfl h0 h1 _ _ _ _ (fun z => rfl) (fun z => rfl) y hy).trans ?_
    exact congrArg _ (full_emb y).symm))) $$ HT0
  ihave HT1 := (Entails.of_eq (pointsTo_congr (g := scattered fp f1 t1) (rows_congr _ _ _ _ _ fun y hy => by
    unfold scatter_run.sl.HT1_sc2_1 scatter_run.sl.HT1_sc2
    refine (scat_value d L (LS L) (sTgt (Memref.whole main_v8_1_scv)).view fp hdis f1 t1 t1 (k0_off2_inb L 0) (soff2_LS L 0) (k0_off2_inb L 1) (soff2_LS L 1)
      _ _ (sList_read (LS L) 0 fp _ _ _ (k0_off1_inb L) (soff1_LS L) _ rfl _) (sList_read (LS L) 1 fp _ _ _ (k0_off3_inb L) (soff3_LS L) _ rfl _)
      rfl h0 h1 _ _ _ _ (fun z => rfl) (fun z => rfl) y hy).trans ?_
    exact congrArg _ (full_emb y).symm))) $$ HT1
  ihave HT2 := (Entails.of_eq (pointsTo_congr (g := scattered fp f2 t2) (rows_congr _ _ _ _ _ fun y hy => by
    unfold scatter_run.sl.HT2_sc4_1 scatter_run.sl.HT2_sc4
    refine (scat_value d L (LS L) (sTgt (Memref.whole main_v8_2_scv)).view fp hdis f2 t2 t2 (k0_off2_inb L 0) (soff2_LS L 0) (k0_off2_inb L 1) (soff2_LS L 1)
      _ _ (sList_read (LS L) 0 fp _ _ _ (k0_off1_inb L) (soff1_LS L) _ rfl _) (sList_read (LS L) 1 fp _ _ _ (k0_off3_inb L) (soff3_LS L) _ rfl _)
      rfl h0 h1 _ _ _ _ (fun z => rfl) (fun z => rfl) y hy).trans ?_
    exact congrArg _ (full_emb y).symm))) $$ HT2
  ihave HT3 := (Entails.of_eq (pointsTo_congr (g := scattered fp f3 t3) (rows_congr _ _ _ _ _ fun y hy => by
    unfold scatter_run.sl.HT3_sc6_1 scatter_run.sl.HT3_sc6
    refine (scat_value d L (LS L) (sTgt (Memref.whole main_v8_3_scv)).view fp hdis f3 t3 t3 (k0_off2_inb L 0) (soff2_LS L 0) (k0_off2_inb L 1) (soff2_LS L 1)
      _ _ (sList_read (LS L) 0 fp _ _ _ (k0_off1_inb L) (soff1_LS L) _ rfl _) (sList_read (LS L) 1 fp _ _ _ (k0_off3_inb L) (soff3_LS L) _ rfl _)
      rfl h0 h1 _ _ _ _ (fun z => rfl) (fun z => rfl) y hy).trans ?_
    exact congrArg _ (full_emb y).symm))) $$ HT3
  isplitl [HI]
  · iexact HI
  isplitl [HX0]
  · iexact HX0
  isplitl [HX1]
  · iexact HX1
  isplitl [HX2]
  · iexact HX2
  isplitl [HX3]
  · iexact HX3
  isplitl [HT0]
  · iexact HT0
  isplitl [HT1]
  · iexact HT1
  isplitl [HT2]
  · iexact HT2
  isplitl [HT3]
  · iexact HT3
  isplitl [HG]
  · iexists _; iexact HG
  isplitl [HB]
  · iexists _; iexact HB
  isplitl [Hc]
  · iexact Hc
  isplitl [Hs0]
  · iexact Hs0
  isplitl [Hs1]
  · iexact Hs1
  isplitl [Hs2]
  · iexact Hs2
  isplitl [Hs3]
  · iexact Hs3
  isplitl [Hs4]
  · iexact Hs4
  isplitl [Hs5]
  · iexact Hs5
  isplitl [Hs6]
  · iexact Hs6
  isplitl [Hs7]
  · iexact Hs7
  isplitl [Hs8]
  · iexact Hs8
  isplitl [Hs9]
  · iexact Hs9
  iexists _
  isplitr
  rotate_left
  · iexact HO
  · ipureintro
    intro p hp
    simp only [Finset.mem_insert] at hp
    rcases hp with h | h | h | h | h | h | h | h | h | h | h | h | h | h | h | h | h | h | h
    all_goals first | exact Or.inl h | exact Or.inr (by rw [h]; rfl)

end Scatter

end Cert.ExpertsIdeal.Run

end
-- ==== Proof.ExpertsSplit.lean ====
/-
  How the arrays of the two SparseCore calls are dealt to the thirty-two workers and joined again: an array that every
  worker reads by equal shares, an array that the workers write by the rows that each of them owns.
-/
module

public import proofs.«01_k».proof.Proof.ExpertsGather
public import proofs.«01_k».proof.Proof.ExpertsScatter

@[expose] public section

set_option maxRecDepth 16384

noncomputable section

namespace Cert.ExpertsIdeal.Run

open Cert.ExpertsIdeal Cert.ExpertsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- A proposition for each worker, all at once: over the two SparseCores and their sixteen vector subcores. -/
abbrev each (Φ : Fin 2 → Fin 16 → sProp 𝕄) : sProp 𝕄 := bigSep Finset.univ fun c => bigSep Finset.univ fun s => Φ c s

/-- Two families over the tiles, side by side. -/
theorem each_sep (Φ Ψ : Fin 2 → Fin 16 → sProp 𝕄) : each (fun c s => iprop(Φ c s ∗ Ψ c s)) = iprop(each Φ ∗ each Ψ) := by
  unfold each
  rw [← bigSep_sep']
  exact bigSep_congr fun c _ => bigSep_sep' _ _ _

/-- Equal families over the tiles. -/
theorem each_congr {Φ Ψ : Fin 2 → Fin 16 → sProp 𝕄} (h : ∀ c s, Φ c s = Ψ c s) : each Φ = each Ψ :=
  bigSep_congr fun c _ => bigSep_congr fun s _ => h c s

/-- All that the workers own of an array. -/
abbrev allOf {ℓ : Loc nD τ sig} (Z : Fin 2 → Fin 16 → Finset (Idx ℓ)) : Finset (Idx ℓ) :=
  Finset.univ.biUnion fun c => Finset.univ.biUnion fun s => Z c s

/-- No element belongs to two workers. -/
def Apart {ℓ : Loc nD τ sig} (Z : Fin 2 → Fin 16 → Finset (Idx ℓ)) : Prop :=
  ∀ c s c' s', ¬(c = c' ∧ s = s') → Disjoint (Z c s) (Z c' s')

/-- The elements that the workers own, held at once, are each worker's. -/
theorem tiles_eq {ℓ : Loc nD τ sig} (Z : Fin 2 → Fin 16 → Finset (Idx ℓ)) (hd : Apart Z) (q : PosShare TreeShare) (f : Buf (Elt F) ℓ) :
    (ℓ ↦[allOf Z]{q} f : sProp 𝕄) = each fun c s => ℓ ↦[Z c s]{q} f := by
  unfold allOf each
  rw [pointsTo_biUnion Finset.univ (fun c => Finset.univ.biUnion fun s => Z c s)]
  · refine bigSep_congr fun c _ => pointsTo_biUnion Finset.univ (fun s => Z c s) ?_
    intro s _ s' _ h
    exact hd c s c s' fun e => h e.2
  · intro c _ c' _ h
    rw [Finset.disjoint_biUnion_left]
    intro s _
    rw [Finset.disjoint_biUnion_right]
    intro s' _
    exact hd c s c' s' fun e => h e.1

/-- An array held whole is dealt to the workers by the elements that each owns, and joined again when each gives its
    elements back at the contents `g`, which off the workers' elements are those that the array had. -/
theorem spread {ℓ : Loc nD τ sig} (Z : Fin 2 → Fin 16 → Finset (Idx ℓ)) (hd : Apart Z) (f g : Buf (Elt F) ℓ)
    (h : ∀ i, i ∉ allOf Z → f i = g i) :
    (ℓ ↦{fullShare} f : sProp 𝕄) ⊢ iprop((each fun c s => ℓ ↦[Z c s]{fullShare} f)
      ∗ ((each fun c s => ℓ ↦[Z c s]{fullShare} g) -∗ (ℓ ↦{fullShare} g))) := by
  rw [← tiles_eq Z hd, ← tiles_eq Z hd]
  have hr : (ℓ ↦[Finset.univ \ allOf Z]{fullShare} f : sProp 𝕄) = ℓ ↦[Finset.univ \ allOf Z]{fullShare} g :=
    pointsTo_congr fun i hi => h i (Finset.mem_sdiff.mp hi).2
  iintro H
  ihave H2 := (pointsTo_split_subset (q := fullShare) (f := f) (S := Finset.univ) (Finset.subset_univ (allOf Z))).1 $$ H
  icases H2 with ⟨H1, H2⟩
  isplitl [H1]; · iexact H1
  iintro H1
  ihave H2 := (Entails.of_eq hr) $$ H2
  ihave H := (pointsTo_split_subset (q := fullShare) (f := g) (S := Finset.univ) (Finset.subset_univ (allOf Z))).2 $$ [H1 H2]
  · isplitl [H1] <;> iassumption
  iexact H

/-- Worker `(c, s)`'s share of an array that all read. -/
def qs (c : Fin 2) (s : Fin 16) : PosShare TreeShare := pieceOf (pieceOf fullShare 2 (by decide) c) 16 (by decide) s

/-- An array held whole is each worker's share of it. -/
theorem shares_eq {ℓ : Loc nD τ sig} (f : Buf (Elt F) ℓ) : (ℓ ↦{fullShare} f : sProp 𝕄) = each fun c s => ℓ ↦{qs c s} f := by
  rw [pointsTo_piecesOf Finset.univ f (o := 2) (by decide) fullShare]
  exact bigSep_congr fun c _ => pointsTo_piecesOf Finset.univ f (o := 16) (by decide) _

/-- The grid point of worker `(c, s)` in the first call. -/
def cs0 (c : Fin 2) (s : Fin 16) : grid0.Coords := fun | 0 => c | 1 => s | ⟨_ + 2, h⟩ => absurd h (Nat.not_lt.2 (Nat.le_add_left _ _))
/-- The grid point of worker `(c, s)` in the last call. -/
def cs2 (c : Fin 2) (s : Fin 16) : grid2.Coords := fun | 0 => c | 1 => s | ⟨_ + 2, h⟩ => absurd h (Nat.not_lt.2 (Nat.le_add_left _ _))

/-- A scatter's tile by its core and subcore. -/
theorem LS_cs0 (c : Fin 2) (s : Fin 16) : LS (cs0 c s) = wid c s := rfl
/-- A gather's tile by its core and subcore. -/
theorem LW_cs2 (c : Fin 2) (s : Fin 16) : LW (cs2 c s) = wid c s := rfl

/-- Tiles of one number are one tile. -/
theorem wid_inj {c c' : Fin 2} {s s' : Fin 16} (h : wid c s = wid c' s') : c = c' ∧ s = s' := by
  have := congrArg Fin.val h
  unfold wid at this
  dsimp only at this
  exact ⟨Fin.ext (by omega), Fin.ext (by omega)⟩

/-- Every number is a tile's. -/
theorem wid_surj (w : Fin 32) : ∃ c s, wid c s = w :=
  ⟨⟨w.val % 2, by omega⟩, ⟨w.val / 2, by omega⟩, Fin.ext (show 2 * (w.val / 2) + w.val % 2 = w.val by omega)⟩

/-! ## The scattered arrays -/

/-- The rows of a target that worker `(c, s)` writes. -/
abbrev sRows (m : Memref sig .scVector .hbm S6144x2x128 .f32) (fp : S32x2x64.Idx → Elt F .i32) (c : Fin 2) (s : Fin 16) : Finset (sTgt m).view.ty.Idx :=
  SparseCore.rowsWhere (sTgt m).view gathers_S6144x2x128_S64x2x128.axis (own fp (LS (cs0 c s)))

/-- The rows of two tiles are disjoint. -/
theorem sRows_disj (m : Memref sig .scVector .hbm S6144x2x128 .f32) (fp : S32x2x64.Idx → Elt F .i32) (hdis : Function.Injective fun j => (fp j : BitVec 32).toNat)
    (c : Fin 2) (s : Fin 16) (c' : Fin 2) (s' : Fin 16) (h : ¬(c = c' ∧ s = s')) : Disjoint (sRows m fp c s) (sRows m fp c' s') := by
  refine SparseCore.rowsWhere_disjoint _ _ fun n ⟨hf, k, e⟩ ⟨hf', k', e'⟩ => h ?_
  have := congrFun (hdis (e.trans e'.symm)) 0
  exact wid_inj this

/-- A row that some token's entry names is a worker's. -/
theorem sRows_mem (m : Memref sig .scVector .hbm S6144x2x128 .f32) (fp : S32x2x64.Idx → Elt F .i32) (y : S6144x2x128.Idx) (n : Fin 4096)
    (e : (fp (ent n) : BitVec 32).toNat = (y 0).val) : ∃ c s, (sTgt m).view.emb y ∈ sRows m fp c s := by
  obtain ⟨c, s, hw⟩ := wid_surj ⟨n.val / 128, by omega⟩
  refine ⟨c, s, ?_⟩
  refine SparseCore.mem_rowsWhere.mpr ⟨y gathers_S6144x2x128_S64x2x128.axis, ⟨⟨n.val % 128 / 64, by omega⟩, ⟨n.val % 64, by omega⟩, ?_⟩, ?_⟩
  · rw [LS_cs0, hw]
    exact e
  · have ey : (S6144x2x128.rowRect gathers_S6144x2x128_S64x2x128.axis (y gathers_S6144x2x128_S64x2x128.axis)).emb
        (S6144x2x128.rowProj gathers_S6144x2x128_S64x2x128.axis y) = y := Shape.rowRect_emb_rowProj _ y
    have hj : ((sTgt m).view.slice (S6144x2x128.rowRect gathers_S6144x2x128_S64x2x128.axis (y gathers_S6144x2x128_S64x2x128.axis))).emb
        (S6144x2x128.rowProj gathers_S6144x2x128_S64x2x128.axis y) = (sTgt m).view.emb y := congrArg (sTgt m).view.emb ey
    have hs := View.emb_mem_set ((sTgt m).view.slice (S6144x2x128.rowRect gathers_S6144x2x128_S64x2x128.axis (y gathers_S6144x2x128_S64x2x128.axis)))
      (S6144x2x128.rowProj gathers_S6144x2x128_S64x2x128.axis y)
    rw [hj] at hs
    exact hs

/-- Off the workers' rows the scattered array is as it was. -/
theorem scattered_off (m : Memref sig .scVector .hbm S6144x2x128 .f32) (fp : S32x2x64.Idx → Elt F .i32) (f : S4096x2x128.Idx → Elt F .f32)
    (t : S6144x2x128.Idx → Elt F .f32) (y : S6144x2x128.Idx) (h : ∀ c s, (sTgt m).view.emb y ∉ sRows m fp c s) : t y = scattered fp f t y := by
  unfold scattered
  rw [dif_neg]
  rintro ⟨n, e⟩
  obtain ⟨c, s, hm⟩ := sRows_mem m fp y n e
  exact h c s hm

/-! ## The gathered array -/

/-- The two windows of the gathered array that worker `(c, s)` writes. -/
abbrev gW0 (c : Fin 2) (s : Fin 16) : Finset S4096x2x128.Idx := (gOut (cs2 c s) 0 0#32 (k2_off2_inb (cs2 c s) 0)).view.set
abbrev gW1 (c : Fin 2) (s : Fin 16) : Finset S4096x2x128.Idx := (gOut (cs2 c s) 1 64#32 (k2_off2_inb (cs2 c s) 1)).view.set

/-- A row of a gather's window belongs to its half. -/
theorem gWin_row (L : grid2.Coords) (h : Fin 2) (o : BitVec 32) (ho : ∀ a, k2_off2 L o a + S64x2x128.size a ≤ S4096x2x128.size a)
    (e : k2_off2 L o = ![128 * (LW L).val + 64 * h.val, 0, 0]) (i : S4096x2x128.Idx) (hi : i ∈ (gOut L h o ho).view.set) :
    (i 0).val / 64 = 2 * (LW L).val + h.val := by
  obtain ⟨y, -, rfl⟩ := Finset.mem_map.mp hi
  have hy : (y 0).val < 64 := (y 0).isLt
  have : ((gOut L h o ho).view.emb y 0).val = 128 * (LW L).val + 64 * h.val + (y 0).val := by
    show k2_off2 L o 0 + 1 * (y 0).val = _
    rw [e]; show (128 * (LW L).val + 64 * h.val) + 1 * (y 0).val = _; omega
  rw [this]; omega

/-- The rows of a tile's first window. -/
theorem gW0_row (c : Fin 2) (s : Fin 16) (i : S4096x2x128.Idx) (hi : i ∈ gW0 c s) : (i 0).val / 64 = 2 * (wid c s).val :=
  gWin_row (cs2 c s) 0 0#32 _ (off2_LW (cs2 c s) 0) i hi
/-- The rows of a tile's second window. -/
theorem gW1_row (c : Fin 2) (s : Fin 16) (i : S4096x2x128.Idx) (hi : i ∈ gW1 c s) : (i 0).val / 64 = 2 * (wid c s).val + 1 :=
  gWin_row (cs2 c s) 1 64#32 _ (off2_LW (cs2 c s) 1) i hi

/-- A tile's two windows are disjoint. -/
theorem gW01_disj (c : Fin 2) (s : Fin 16) : Disjoint (gW0 c s) (gW1 c s) := by
  rw [Finset.disjoint_left]
  intro i h0 h1
  have e0 := gW0_row c s i h0
  have e1 := gW1_row c s i h1
  omega

/-- The windows of two tiles are disjoint. -/
theorem gW_disj (c : Fin 2) (s : Fin 16) (c' : Fin 2) (s' : Fin 16) (h : ¬(c = c' ∧ s = s')) :
    Disjoint (gW0 c s ∪ gW1 c s) (gW0 c' s' ∪ gW1 c' s') := by
  rw [Finset.disjoint_left]
  intro i hi hi'
  refine h (wid_inj (Fin.ext ?_))
  have e : (i 0).val / 64 = 2 * (wid c s).val ∨ (i 0).val / 64 = 2 * (wid c s).val + 1 :=
    (Finset.mem_union.mp hi).imp (gW0_row c s i) (gW1_row c s i)
  have e' : (i 0).val / 64 = 2 * (wid c' s').val ∨ (i 0).val / 64 = 2 * (wid c' s').val + 1 :=
    (Finset.mem_union.mp hi').imp (gW0_row c' s' i) (gW1_row c' s' i)
  omega

/-- A row of a half is in its window. -/
theorem gWin_mem (L : grid2.Coords) (h : Fin 2) (o : BitVec 32) (ho : ∀ a, k2_off2 L o a + S64x2x128.size a ≤ S4096x2x128.size a)
    (e : k2_off2 L o = ![128 * (LW L).val + 64 * h.val, 0, 0]) (i : S4096x2x128.Idx) (hi : (i 0).val / 64 = 2 * (LW L).val + h.val) :
    i ∈ (gOut L h o ho).view.set := by
  have hk : (i 0).val % 64 < 64 := Nat.mod_lt _ (by decide)
  have : (gOut L h o ho).view.emb (fun | 0 => (⟨(i 0).val % 64, hk⟩ : Fin 64) | 1 => i 1 | 2 => i 2 : S64x2x128.Idx) = i := by
    funext a
    match a with
    | 0 =>
      apply Fin.ext
      show k2_off2 L o 0 + 1 * ((i 0).val % 64) = (i 0).val
      rw [e]; show (128 * (LW L).val + 64 * h.val) + 1 * ((i 0).val % 64) = _; omega
    | 1 =>
      apply Fin.ext
      show k2_off2 L o 1 + 1 * (i 1).val = (i 1).val
      rw [e]; show 0 + 1 * (i 1).val = _; omega
    | 2 =>
      apply Fin.ext
      show k2_off2 L o 2 + 1 * (i 2).val = (i 2).val
      rw [e]; show 0 + 1 * (i 2).val = _; omega
  rw [← this]
  exact View.emb_mem_set _ _

/-- Every element of the gathered array is in one of the windows. -/
theorem gW_cover (i : S4096x2x128.Idx) : ∃ c s, i ∈ gW0 c s ∪ gW1 c s := by
  have h0 : (i 0).val < 4096 := (i 0).isLt
  obtain ⟨c, s, hw⟩ := wid_surj ⟨(i 0).val / 128, by omega⟩
  have hw' : (LW (cs2 c s)).val = (i 0).val / 128 := by rw [LW_cs2, hw]
  refine ⟨c, s, Finset.mem_union.mpr ?_⟩
  rcases Nat.lt_or_ge ((i 0).val % 128) 64 with h | h
  · exact .inl (gWin_mem (cs2 c s) 0 0#32 _ (off2_LW (cs2 c s) 0) i (show _ = _ + 0 by rw [hw']; omega))
  · exact .inr (gWin_mem (cs2 c s) 1 64#32 _ (off2_LW (cs2 c s) 1) i (show _ = _ + 1 by rw [hw']; omega))

end Cert.ExpertsIdeal.Run

end
-- ==== Proof.ExpertsRegion.lean ====
/-
  The main matrix product of the Experts program, as the TensorCore's region between the two SparseCore calls: the
  body at a generic group, the windows' data, and what the region leaves in the products' array.
-/
module

public import proofs.«01_k».proof.Proof.ExpertsBase
public import Idealize.ShloMosaic.Lib.Pipeline.Value
public import Idealize.ShloMosaic.Lib.Pipeline.ArrRel
public import Idealize.ShloMosaic.Lib.Pipeline.FrameBody

@[expose] public section

set_option maxRecDepth 16384

noncomputable section

namespace Cert.ExpertsIdeal.Run

open Cert.ExpertsIdeal Cert.ExpertsIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 2) (Elt F) ℕ UU ℕ

/-- The expert number that the table holds for the group at `i`. -/
abbrev tw (g : S24.Idx → Elt F .i32) (i : grid1.Coords) : BitVec 32 :=
  g ((Rect.unit (s := S24) (k1_off1 i) S1.size (k1_off1_inb i)).emb (Shape.Idx.first (numel1_S1.symm ▸ Nat.one_pos)))

/-- The zero offset of a matrix. -/
theorem hz2 : (![0, 0] : Fin 2 → Nat) = fun _ => 0 := funext fun a => by fin_cases a <;> rfl
/-- The zero offset of a rank-three block. -/
theorem hz3 : (![0, 0, 0] : Fin 3 → Nat) = fun _ => 0 := funext fun a => by fin_cases a <;> rfl

set_option maxHeartbeats 1600000 in
/-- The body at a group whose expert number is below eight: the block of products is stored. -/
theorem gmm_run_on (g : S24.Idx → Elt F .i32) (c : Dev nD) (i : grid1.Coords) (arg2 : Memref sig .tc .vmem S256x1024 .f32) (harg2 : arg2.IsWhole) (arg3 : Memref sig .tc .vmem S1x1024x256 .f32) (harg3 : arg3.IsWhole) (arg4 : Memref sig .tc .vmem S1x1x256 .f32) (harg4 : arg4.IsWhole) (arg5 : Memref sig .tc .vmem S256x256 .f32) (harg5 : arg5.IsWhole)
    (hc : k1_cond1 (tw g i) = 1#1)
    (x0 : Vec F S256x1024 .f32) (x1 : Vec F S1x1024x256 .f32) (x2 : Vec F S1x1x256 .f32) (x3 : Vec F S256x256 .f32) (E : Set ℕ) (Q : PUnit → sProp 𝕄) :
    iprop((((Memref.whole main_v14 : Memref sig .tc .smem S24 .i32).view.loc (c : Thread nD τ)) ↦{fullShare} g) ∗ owns (c : Thread nD τ) arg2 fullShare x0 ∗ owns (c : Thread nD τ) arg3 fullShare x1 ∗ owns (c : Thread nD τ) arg4 fullShare x2 ∗ owns (c : Thread nD τ) arg5 fullShare x3
        ∗ (iprop((((Memref.whole main_v14 : Memref sig .tc .smem S24 .i32).view.loc (c : Thread nD τ)) ↦{fullShare} g) ∗ owns (c : Thread nD τ) arg2 fullShare x0 ∗ owns (c : Thread nD τ) arg3 fullShare x1 ∗ owns (c : Thread nD τ) arg4 fullShare x2 ∗ owns (c : Thread nD τ) arg5 fullShare (k1_pay1 x0 x1 x2)) -∗ Q ⟨⟩))
      ⊢ wp frame (wpE (defs₀ (F := F)) 𝒱₀ c none) E (cc1__group_mm_body i (Memref.whole main_v14) (Memref.isWhole_whole _) arg2 harg2 arg3 harg3 arg4 harg4 arg5 harg5) Q := by
  simp only [cc1__group_mm_body_eq_skeleton]; unfold cc1__group_mm_body_skel
  unfold owns
  iintro ⟨HT, ⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2
  unfold smemLoad smemLoadElt
  simp only [Prog.bind_op, Prog.bind_ret]
  iapply (wp_load_rect 𝒱₀ (c : Thread nD τ) none E (m := Memref.whole main_v14) (r := Rect.unit (s := S24) (k1_off1 i) S1.size (k1_off1_inb i)) (Finset.subset_univ _)) $$ HT
  iintro HT
  rw [dif_pos (show k1_cond1 (((Memref.whole main_v14 : Memref sig .tc .smem S24 .i32).access (Rect.unit (s := S24) (k1_off1 i) S1.size (k1_off1_inb i))).read (Elt F) g (Shape.Idx.first (numel1_S1.symm ▸ Nat.one_pos))) = 1#1 from hc)]
  sl_exec
  sl_step
  iapply Hk
  isplitl [HT]; · iexact HT
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H3
  ipureintro
  rw [View.read_writes_eq_canon _ _ _ (fun y => ⟨_, List.mem_singleton.mpr rfl, View.mem_set_unit_zero hz2 inb_S256x256_S256x256_0_0 y⟩), View.canon_unit_zero hz2]
  simp only [View.readAt_eq_ld, harg2.read_unread, harg3.read_unread, harg4.read_unread, View.ld_unit_zero (S := S256x1024) hz2, View.ld_unit_zero (S := S1x1024x256) hz3, View.ld_unit_zero (S := S1x1x256) hz3]

/-- The body at a group whose expert number is eight or more: nothing is stored. -/
theorem gmm_run_off (g : S24.Idx → Elt F .i32) (c : Dev nD) (i : grid1.Coords) (arg2 : Memref sig .tc .vmem S256x1024 .f32) (harg2 : arg2.IsWhole) (arg3 : Memref sig .tc .vmem S1x1024x256 .f32) (harg3 : arg3.IsWhole) (arg4 : Memref sig .tc .vmem S1x1x256 .f32) (harg4 : arg4.IsWhole) (arg5 : Memref sig .tc .vmem S256x256 .f32) (harg5 : arg5.IsWhole)
    (hc : ¬ k1_cond1 (tw g i) = 1#1) (R : sProp 𝕄) (E : Set ℕ) :
    iprop((((Memref.whole main_v14 : Memref sig .tc .smem S24 .i32).view.loc (c : Thread nD τ)) ↦{fullShare} g) ∗ R)
      ⊢ wp frame (wpE (defs₀ (F := F)) 𝒱₀ c none) E (cc1__group_mm_body i (Memref.whole main_v14) (Memref.isWhole_whole _) arg2 harg2 arg3 harg3 arg4 harg4 arg5 harg5)
        fun _ => iprop((((Memref.whole main_v14 : Memref sig .tc .smem S24 .i32).view.loc (c : Thread nD τ)) ↦{fullShare} g) ∗ R) := by
  simp only [cc1__group_mm_body_eq_skeleton]; unfold cc1__group_mm_body_skel
  iintro ⟨HT, HR⟩
  unfold smemLoad smemLoadElt
  simp only [Prog.bind_op, Prog.bind_ret]
  iapply (wp_load_rect 𝒱₀ (c : Thread nD τ) none E (m := Memref.whole main_v14) (r := Rect.unit (s := S24) (k1_off1 i) S1.size (k1_off1_inb i)) (Finset.subset_univ _)) $$ HT
  iintro HT
  rw [dif_neg (show ¬ k1_cond1 (((Memref.whole main_v14 : Memref sig .tc .smem S24 .i32).access (Rect.unit (s := S24) (k1_off1 i) S1.size (k1_off1_inb i))).read (Elt F) g (Shape.Idx.first (numel1_S1.symm ▸ Nat.one_pos))) = 1#1 from hc), wp_pure]
  imodintro
  isplitl [HT]; · iexact HT
  iexact HR

/-! ## The region's data -/

section Data
variable (a : (p : Fin 1) → (pcfgs (F := F) p).Adm)

/-- The pipeline of the matrix product at the tables `a`. -/
abbrev cfgA : Cfg sig Λ₀ := Pipeline.pin (pcfgs (F := F)) a 0
/-- The table's contents. -/
abbrev pfA : S24.Idx → Elt F .i32 := (a 0).1 0

variable (fx : S6144x1024.Idx → Elt F .f32) (fW : S8x1024x256.Idx → Elt F .f32) (fb : S8x1x256.Idx → Elt F .f32) (fy : S6144x256.Idx → Elt F .f32)

/-- The rows of the gathered tokens at point `t`. -/
abbrev bx (t : Fin (cfgA a).N) : Vec F S256x1024 .f32 := ((((cfgA a).win 0).blk t).view.read (Elt F) fx : _)
/-- The expert's matrix at point `t`. -/
abbrev bW (t : Fin (cfgA a).N) : Vec F S1x1024x256 .f32 := ((((cfgA a).win 1).blk t).view.read (Elt F) fW : _)
/-- The expert's bias at point `t`. -/
abbrev bb (t : Fin (cfgA a).N) : Vec F S1x1x256 .f32 := ((((cfgA a).win 2).blk t).view.read (Elt F) fb : _)

/-- The relational data of the region: the inputs' buffers stay; the output's buffer is the block of products at a group
    whose expert number is below eight, and at the others whatever it was. -/
def rdat (O : CellTallies nD τ sig (HIx 2)) (b : ℕ) (c : Dev nD) : RDat τ (Elt F) (HIx 2) ℕ UU ℕ (cfgA a) c where
  A := fun | 0 => fx | 1 => fW | 2 => fb | 3 => fy | ⟨_ + 4, h⟩ => absurd h (Nat.not_lt.2 (Nat.le_add_left _ _))
  after := fun
    | 0 => fun _ Y X => X = Y
    | 1 => fun _ Y X => X = Y
    | 2 => fun _ Y X => X = Y
    | 3 => fun t _ X => k1_cond1 (tw (pfA a) (grid1.coords t)) = 1#1 → X = k1_pay1 (bx a fx t) (bW a fW t) (bb a fb t)
    | ⟨_ + 4, h⟩ => absurd h (Nat.not_lt.2 (Nat.le_add_left _ _))
  Φ := fun _ => ((Memref.whole main_v14 : Memref sig .tc .smem S24 .i32).view.loc (c : Thread nD τ)) ↦{fullShare} (pfA a)
  q := fun _ => fullShare
  owed := fun _ => O
  recorded := fun _ => {p | (K (F := F)).lev ((c : Thread nD τ), p.1) p.2 ≤ b}

variable (O : CellTallies nD τ sig (HIx 2)) (b : ℕ) (c : Dev nD)

/-- What the body finds in an input's buffer is the array's block. -/
theorem finds0 (t : Fin (cfgA a).N) (Y) (h : (rdat a fx fW fb fy O b c).Finds 0 t Y) : Y = bx a fx t := by
  obtain ⟨d, rfl⟩ := RDat.finds_in_eq_fetched (rdat a fx fW fb fy O b c) 0 rfl (fun _ _ _ => rfl) (fun _ _ _ h => h) t Y h
  rfl
/-- A step finds its expert's matrix. -/
theorem finds1 (t : Fin (cfgA a).N) (Y) (h : (rdat a fx fW fb fy O b c).Finds 1 t Y) : Y = bW a fW t := by
  obtain ⟨d, rfl⟩ := RDat.finds_in_eq_fetched (rdat a fx fW fb fy O b c) 1 rfl (fun _ _ _ => rfl) (fun _ _ _ h => h) t Y h
  rfl
/-- A step finds its expert's bias. -/
theorem finds2 (t : Fin (cfgA a).N) (Y) (h : (rdat a fx fW fb fy O b c).Finds 2 t Y) : Y = bb a fb t := by
  obtain ⟨d, rfl⟩ := RDat.finds_in_eq_fetched (rdat a fx fW fb fy O b c) 2 rfl (fun _ _ _ => rfl) (fun _ _ _ h => h) t Y h
  rfl

/-- The current staging buffers. -/
abbrev ms1_0 (t : Fin (cfgA a).N) : Memref sig .tc .vmem S256x1024 .f32 := spec1_0.stage ((cfgA a).slots t 0)
abbrev ms1_1 (t : Fin (cfgA a).N) : Memref sig .tc .vmem S1x1024x256 .f32 := spec1_1.stage ((cfgA a).slots t 1)
abbrev ms1_2 (t : Fin (cfgA a).N) : Memref sig .tc .vmem S1x1x256 .f32 := spec1_2.stage ((cfgA a).slots t 2)
abbrev ms1_3 (t : Fin (cfgA a).N) : Memref sig .tc .vmem S256x256 .f32 := spec1_3.stage ((cfgA a).slots t 3)

/-- The body at point `t`, on the current staging buffers. -/
abbrev bodyAt1 (t : Fin (cfgA a).N) := cc1__group_mm_body (F := F) (grid1.coords t) (Memref.whole main_v14) (Memref.isWhole_whole _)
  (ms1_0 a t) (hstage1_0 (((cfgA a).slots t 0).cast nbuf1_0)) (ms1_1 a t) (hstage1_1 (((cfgA a).slots t 1).cast nbuf1_1))
  (ms1_2 a t) (hstage1_2 (((cfgA a).slots t 2).cast nbuf1_2)) (ms1_3 a t) (hstage1_3 (((cfgA a).slots t 3).cast nbuf1_3))

/-- The pipeline's call of the body is it. -/
theorem defs₀_row (t : Fin (cfgA a).N) : defs₀ (F := F) .tc (cfgA a).body ((cfgA a).bodyArgs t ((cfgA a).slots t)) = bodyAt1 a t := by
  rfl

/-- The body at any point, from the contents the buffers may hold to the contents they may be left with. -/
theorem gmm_body (t : Fin (cfgA a).N) (R : sProp 𝕄) (y3 : Vec F S256x256 .f32) :
    iprop((((Memref.whole main_v14 : Memref sig .tc .smem S24 .i32).view.loc (c : Thread nD τ)) ↦{fullShare} (pfA a)) ∗ R
        ∗ owns (c : Thread nD τ) (ms1_0 a t) fullShare (bx a fx t) ∗ owns (c : Thread nD τ) (ms1_1 a t) fullShare (bW a fW t)
        ∗ owns (c : Thread nD τ) (ms1_2 a t) fullShare (bb a fb t) ∗ owns (c : Thread nD τ) (ms1_3 a t) fullShare y3)
      ⊢ wp frame (wpE (defs₀ (F := F)) 𝒱₀ c none) Set.univ (bodyAt1 a t) fun _ =>
      iprop((((Memref.whole main_v14 : Memref sig .tc .smem S24 .i32).view.loc (c : Thread nD τ)) ↦{fullShare} (pfA a)) ∗ R
        ∗ (∃ X, ⌜X = bx a fx t⌝ ∗ owns (c : Thread nD τ) (ms1_0 a t) fullShare X) ∗ (∃ X, ⌜X = bW a fW t⌝ ∗ owns (c : Thread nD τ) (ms1_1 a t) fullShare X)
        ∗ (∃ X, ⌜X = bb a fb t⌝ ∗ owns (c : Thread nD τ) (ms1_2 a t) fullShare X)
        ∗ (∃ X, ⌜k1_cond1 (tw (pfA a) (grid1.coords t)) = 1#1 → X = k1_pay1 (bx a fx t) (bW a fW t) (bb a fb t)⌝ ∗ owns (c : Thread nD τ) (ms1_3 a t) fullShare X)) := by
  by_cases hc : k1_cond1 (tw (pfA a) (grid1.coords t)) = 1#1
  · iintro ⟨HT, HR, H0, H1, H2, H3⟩
    iapply (gmm_run_on (pfA a) c (grid1.coords t) _ _ _ _ _ _ _ _ hc (bx a fx t) (bW a fW t) (bb a fb t) y3 Set.univ _)
    isplitl [HT]; · iexact HT
    isplitl [H0]; · iexact H0
    isplitl [H1]; · iexact H1
    isplitl [H2]; · iexact H2
    isplitl [H3]; · iexact H3
    iintro ⟨HT, H0, H1, H2, H3⟩
    isplitl [HT]; · iexact HT
    isplitl [HR]; · iexact HR
    isplitl [H0]; · iexists _; isplitr; · ipureintro; rfl
                    iexact H0
    isplitl [H1]; · iexists _; isplitr; · ipureintro; rfl
                    iexact H1
    isplitl [H2]; · iexists _; isplitr; · ipureintro; rfl
                    iexact H2
    iexists _; isplitr; · ipureintro; exact fun _ => rfl
    iexact H3
  · refine (gmm_run_off (pfA a) c (grid1.coords t) _ _ _ _ _ _ _ _ hc _ Set.univ).trans (wp_mono frame _ _ fun _ => ?_)
    iintro ⟨HT, HR, H0, H1, H2, H3⟩
    isplitl [HT]; · iexact HT
    isplitl [HR]; · iexact HR
    isplitl [H0]; · iexists _; isplitr; · ipureintro; rfl
                    iexact H0
    isplitl [H1]; · iexists _; isplitr; · ipureintro; rfl
                    iexact H1
    isplitl [H2]; · iexists _; isplitr; · ipureintro; rfl
                    iexact H2
    iexists y3; isplitr; · ipureintro; exact fun h => absurd h hc
    iexact H3

/-- The body obligation of the region's data. -/
theorem body_obligation : (rdat a fx fW fb fy O b c).BodyObligation (defs₀ (F := F)) 𝒱₀ none Set.univ := fun t Y hY => by
  have e0 := finds0 a fx fW fb fy O b c t (Y 0) (hY 0)
  have e1 := finds1 a fx fW fb fy O b c t (Y 1) (hY 1)
  have e2 := finds2 a fx fW fb fy O b c t (Y 2) (hY 2)
  rw [bigSep_W1, bigSep_W1, defs₀_row, e0, e1, e2]
  exact triple_restated (gmm_body a fx fW fb c t ((rdat a fx fW fb fy O b c).owesAt none t.castSucc) (Y 3)) rfl .rfl fun _ => .rfl

/-- What the region leaves in the products' array `G`: at every group whose expert number is below eight the block of products. -/
def GBlocks (G : S6144x256.Idx → Elt F .f32) : Prop :=
  ∀ t : Fin (cfgA a).N, k1_cond1 (tw (pfA a) (grid1.coords t)) = 1#1 →
    ∀ y : S256x256.Idx, G ((((cfgA a).win 3).blk t).view.emb y : _) = k1_pay1 (bx a fx t) (bW a fW t) (bb a fb t) y

/-- Where the output's block at `t` lies. -/
theorem index3 : ∀ t : Fin grid1.N, cc1_transform_3 (grid1.coords t) (0 : Fin 2) = t.val ∧ cc1_transform_3 (grid1.coords t) (1 : Fin 2) = 0 := by
  decide +kernel
/-- Every step writes its block back. -/
theorem flush3 : ∀ t : Fin (cfgA a).N, ((cfgA a).win 3).flush t = true := fun t => by
  unfold Pipeline.Window.flush
  refine Bool.and_eq_true_iff.mpr ⟨rfl, Bool.or_eq_true_iff.mpr ?_⟩
  by_cases h : t.val + 1 = (cfgA a).N
  · exact Or.inl (decide_eq_true h)
  · have ht : t.val + 1 < (cfgA a).N := Nat.lt_of_le_of_ne t.isLt h
    refine Or.inr (decide_eq_true ⟨ht, fun e => ?_⟩)
    have e' : cc1_transform_3 (grid1.coords ⟨t.val + 1, ht⟩) (0 : Fin 2) = cc1_transform_3 (grid1.coords t) (0 : Fin 2) := congrFun e (0 : Fin 2)
    exact absurd (((index3 ⟨t.val + 1, ht⟩).1.symm.trans e').trans (index3 t).1) (Nat.succ_ne_self _)
/-- The row of a place of a block of products. -/
theorem emb3_0 (t : Fin (cfgA a).N) (y : S256x256.Idx) :
    ((show S6144x256.Idx from (((cfgA a).win 3).blk t).view.emb y) 0 : Nat) = 256 * t.val + (y 0 : Nat) := by
  obtain ⟨e0, e1⟩ := index3 t
  show cc1_transform_3 (grid1.coords t) (0 : Fin 2) * 256 + 1 * (y 0).val = 256 * t.val + (y 0).val; omega
/-- The column of a place of a block of products. -/
theorem emb3_1 (t : Fin (cfgA a).N) (y : S256x256.Idx) :
    ((show S6144x256.Idx from (((cfgA a).win 3).blk t).view.emb y) 1 : Nat) = (y 1 : Nat) := by
  obtain ⟨e0, e1⟩ := index3 t
  show cc1_transform_3 (grid1.coords t) (1 : Fin 2) * 256 + 1 * (y 1).val = (y 1).val; omega

/-- Blocks of different steps are disjoint. -/
theorem disj3 (t t' : Fin (cfgA a).N) (h : t ≠ t') : Disjoint (((cfgA a).win 3).blk t).view.set (((cfgA a).win 3).blk t').view.set := by
  rw [Finset.disjoint_left]
  intro i hi hi'
  obtain ⟨y, rfl⟩ := View.exists_emb_of_mem_set _ hi
  obtain ⟨y', e⟩ := View.exists_emb_of_mem_set _ hi'
  have h3 := ((emb3_0 a t' y').symm.trans (congrArg (fun i : S6144x256.Idx => (i 0 : Nat)) e)).trans (emb3_0 a t y)
  have h4 : (y (0 : Fin 2) : Nat) < 256 := (y (0 : Fin 2)).isLt
  have h5 : (y' (0 : Fin 2) : Nat) < 256 := (y' (0 : Fin 2)).isLt
  have h6 : 256 * t'.val + (y' (0 : Fin 2) : Nat) = 256 * t.val + (y (0 : Fin 2) : Nat) := h3
  refine h (Fin.ext ?_)
  generalize (y (0 : Fin 2) : Nat) = n at *
  generalize (y' (0 : Fin 2) : Nat) = n' at *
  omega

/-- The products' array, from the steps' blocks. -/
theorem GBlocks_of (G : S6144x256.Idx → Elt F .f32) (h : (rdat a fx fW fb fy O b c).ArrAt 3 (cfgA a).N G) : GBlocks a fx fW fb G := by
  obtain ⟨X, hX, hA⟩ := h.exists_exact
  intro t hc y
  obtain ⟨Y, -, hY⟩ := hX t t.isLt (flush3 a t)
  have hY' : X t = k1_pay1 (bx a fx t) (bW a fW t) (bb a fb t) := hY hc
  have e := hA (Function.update (fun _ _ _ => Classical.arbitrary _) 3 X) fun u _ _ => by rw [Function.update_self]
  rw [e]
  refine (Pipeline.Dat.arrAt_emb_eq_flushed _ 3 (fun t t' _ _ h => disj3 a t t' h) t (flush3 a t) y).trans ?_
  show (Function.update (fun _ _ _ => Classical.arbitrary _) 3 X) 3 t y = _
  rw [Function.update_self, hY']

/-- The regions' data, the one region's. -/
abbrev rdatsA : (p : Fin 1) → (c : Dev nD) → RDat τ (Elt F) (HIx 2) ℕ UU ℕ (Pipeline.pin (pcfgs (F := F)) a p) c :=
  fun | 0 => rdat a fx fW fb fy O b | ⟨_ + 1, h⟩ => absurd h (Nat.not_lt.2 (Nat.le_add_left _ _))

/-- The region's waits sit below everything that the core owes. -/
theorem hO_waits (hO : ∀ g, O g none = 0) :
    (levAts (K (F := F)).L (K (F := F)).lev : sProp 𝕄)
      ⊢ RDat.cellsWaits (Pipeline.pin (pcfgs (F := F)) a) (rdatsA a fx fW fb fy O b) none 0 c :=
  RDat.cellsWaits_intro _ _ _ 0 c fun w s t => (K (F := F)).mayWait_none (thr := (c : Thread nD τ)) _ hO

/-- The whole region's state before it: the arrays, the table and what the core owes. -/
def rPre : sProp 𝕄 :=
  iprop(((c : Thread nD τ).loc main_v13 ↦{fullShare} fx) ∗ ((c : Thread nD τ).loc main_arg3 ↦{fullShare} fW)
    ∗ ((c : Thread nD τ).loc main_v15 ↦{fullShare} fb) ∗ ((c : Thread nD τ).loc main_v16 ↦{fullShare} fy)
    ∗ ((c : Thread nD τ).loc main_v14 ↦{fullShare} (pfA a))
    ∗ ∃ W, ⌜(K (F := F)).WBelow (c : Thread nD τ) W b⌝ ∗ owes (c : Thread nD τ) O W)

/-- And after it: the products' array at some contents with the blocks of products in place. -/
def rPost : sProp 𝕄 :=
  iprop(((c : Thread nD τ).loc main_v13 ↦{fullShare} fx) ∗ ((c : Thread nD τ).loc main_arg3 ↦{fullShare} fW)
    ∗ ((c : Thread nD τ).loc main_v15 ↦{fullShare} fb) ∗ (∃ G, ⌜GBlocks a fx fW fb G⌝ ∗ ((c : Thread nD τ).loc main_v16 ↦{fullShare} G))
    ∗ ((c : Thread nD τ).loc main_v14 ↦{fullShare} (pfA a))
    ∗ ∃ W, ⌜(K (F := F)).WBelow (c : Thread nD τ) W b⌝ ∗ owes (c : Thread nD τ) O W)

/-- The table as the pipeline holds it. -/
theorem prefHeld_eq : (Pipeline.prefHeld pre1 c (fun _ => fullShare) (a 0).1 : sProp 𝕄) = ((c : Thread nD τ).loc main_v14 ↦{fullShare} (pfA a)) := by
  unfold Pipeline.prefHeld
  exact bigSep_univ_eq_bigSepL [(0 : Fin 1)] (by decide) (by decide) _

/-- The arrays as the pipeline holds them. -/
theorem arrays_eq : ((rdat a fx fW fb fy O b c).arrays (rdat a fx fW fb fy O b c).A : sProp 𝕄)
    = iprop(((c : Thread nD τ).loc main_v13 ↦{fullShare} fx) ∗ ((c : Thread nD τ).loc main_arg3 ↦{fullShare} fW)
    ∗ ((c : Thread nD τ).loc main_v15 ↦{fullShare} fb) ∗ ((c : Thread nD τ).loc main_v16 ↦{fullShare} fy)) := by
  unfold RDat.arrays
  refine (bigSep_W1 _).trans ?_
  have h : ∀ w : Fin 4, ((cfgA a).win w).arr.view.set = Finset.univ := fun w => (arr_whole1 w).set_eq_univ
  rw [h 0, h 1, h 2, h 3]
  rfl

/-- And as it gives them back. -/
theorem arraysAt_elim : ((rdat a fx fW fb fy O b c).arraysAt (cfgA a).N : sProp 𝕄)
    ⊢ iprop(((c : Thread nD τ).loc main_v13 ↦{fullShare} fx) ∗ ((c : Thread nD τ).loc main_arg3 ↦{fullShare} fW)
    ∗ ((c : Thread nD τ).loc main_v15 ↦{fullShare} fb) ∗ (∃ G, ⌜GBlocks a fx fW fb G⌝ ∗ ((c : Thread nD τ).loc main_v16 ↦{fullShare} G))) := by
  unfold RDat.arraysAt
  rw [show ∀ Φ : Fin (cfgA a).W → sProp 𝕄, bigSep Finset.univ Φ = iprop(Φ (0 : Fin 4) ∗ Φ (1 : Fin 4) ∗ Φ (2 : Fin 4) ∗ Φ (3 : Fin 4)) from fun Φ => bigSep_W1 Φ]
  have h : ∀ w : Fin 4, ((cfgA a).win w).arr.view.set = Finset.univ := fun w => (arr_whole1 w).set_eq_univ
  rw [h 0, h 1, h 2, h 3]
  iintro ⟨⟨%G0, %h0, H0⟩, ⟨%G1, %h1, H1⟩, ⟨%G2, %h2, H2⟩, ⟨%G3, %h3, H3⟩⟩
  have e0 : G0 = fx := by rw [(rdat a fx fW fb fy O b c).ArrAt_in 0 rfl] at h0; exact h0
  have e1 : G1 = fW := by rw [(rdat a fx fW fb fy O b c).ArrAt_in 1 rfl] at h1; exact h1
  have e2 : G2 = fb := by rw [(rdat a fx fW fb fy O b c).ArrAt_in 2 rfl] at h2; exact h2
  have e3 : GBlocks a fx fW fb G3 := GBlocks_of a fx fW fb fy O b c G3 h3
  clear h0 h1 h2 h3
  subst G0 G1 G2
  isplitl [H0]; · iexact H0
  isplitl [H1]; · iexact H1
  isplitl [H2]; · iexact H2
  iexists G3; isplitr; · ipureintro; exact e3
  iexact H3

/-- The region, from its state before to its state after. -/
def regionSeg (hO : ∀ g, O g none = 0) :
    RDat.RegionSeg (pcfgs (F := F)) a (rdatsA a fx fW fb fy O b) none (defs₀ (F := F)) 𝒱₀ (K (F := F)).L (K (F := F)).lev 0 where
  win := winFacts1.to₀
  block_pos := block_pos1
  stage_whole := stage_whole1
  K := PEmpty
  osem := fun k => k.elim
  ho := Pipeline.OwnSemFacts.none _
  hbody := fun c => body_obligation a fx fW fb fy O b c
  hwaits := fun c => hO_waits a fx fW fb fy O b c hO
  pre := fun c => rPre a fx fW fb fy O b c
  post := fun c => rPost a fx fW fb O b c
  X := fun _ => BI.emp
  Y := fun c => ((c : Thread nD τ).loc main_v14 ↦{fullShare} (pfA a))
  Z := fun _ => BI.emp
  hentry := fun c => by
    rw [show (Pipeline.prefHeld (pcfgs (F := F) 0).pre c (fun _ => fullShare) (a 0).1 : sProp 𝕄) = _ from prefHeld_eq a c]
    refine BIBase.Entails.trans ?_ BI.fupd_intro
    refine BIBase.Entails.trans ?_ (sep_mono (show _ ⊢ ((rdat a fx fW fb fy O b c).arrays (rdat a fx fW fb fy O b c).A : sProp 𝕄) by rw [arrays_eq a fx fW fb fy O b c]) .rfl)
    unfold rPre
    iintro ⟨⟨H0, H1, H2, H3, HT, ⟨%W, %hW, HO⟩⟩, -, -⟩
    isplitl [H0 H1 H2 H3]
    · isplitl [H0]; · iexact H0
      isplitl [H1]; · iexact H1
      isplitl [H2]; · iexact H2
      iexact H3
    isplitl [HT]; · iexact HT
    isplitl [HO]
    · iexists W; isplitr
      · ipureintro; exact fun p hp => Or.inl (hW p hp)
      iexact HO
    isplitr <;> iempintro
  hin := fun c => by
    rw [show (Pipeline.prefHeld (pcfgs (F := F) 0).pre c (fun _ => fullShare) (a 0).1 : sProp 𝕄) = _ from prefHeld_eq a c]
    show _ ⊢ ((c : Thread nD τ).loc main_v14 ↦{fullShare} (pfA a) : sProp 𝕄)
    iintro ⟨-, HT, -⟩
    iexact HT
  hout := fun c => by
    rw [Pipeline.ownSems0_none, show (Pipeline.scopedRest (Pipeline.pin (pcfgs (F := F)) a 0).spec c : sProp 𝕄) = _ from scopedRest1_eq c]
    show ((c : Thread nD τ).loc main_v14 ↦{fullShare} (pfA a) : sProp 𝕄) ⊢ _
    iintro HT
    isplitl [HT]; · iexact HT
    isplitr <;> iempintro
  hexit := fun c => by
    refine BIBase.Entails.trans (sep_mono (arraysAt_elim a fx fW fb fy O b c) .rfl) ?_
    refine BIBase.Entails.trans ?_ BI.fupd_intro
    unfold rPost
    iintro ⟨⟨H0, H1, H2, H3⟩, ⟨%W, %hW, HO⟩, HT, -⟩
    isplitl [H0]; · iexact H0
    isplitl [H1]; · iexact H1
    isplitl [H2]; · iexact H2
    isplitl [H3]; · iexact H3
    isplitl [HT]; · iexact HT
    iexists W; isplitr
    · ipureintro
      intro p hp
      rcases hW hp with h | ⟨w, s, rfl⟩
      · exact h
      · exact Nat.zero_le _
    iexact HO

/-- The region's call, written below the SparseCore calls and lifted. -/
theorem region_prog : (Prog.lift (.customCall (SparseCore.inner (Pipeline.entry 0)) ()) : Prog (TpuEff nD τ sig (Elt F) (SparseCore.Sig (ΛP (F := F)) 2) .tc) PUnit)
    = SparseCore.liftProg (Q := 2) (.op (.customCall (Pipeline.entry 0) ()) fun _ => .ret ⟨⟩ : Prog (TpuEff nD τ sig (Elt F) (ΛP (F := F)) .tc) PUnit) := rfl

/-- The region's call in the program with the SparseCore calls. -/
theorem region_wp (EP : Emb UP 𝕄) [EP.LandsIn (upEmb : UEmb _ 𝕄)] (hO : ∀ g, O g none = 0) (Q : PUnit → sProp 𝕄) :
    iprop(boundary (c.tc : Thread nD τ) ∗ rPre a fx fW fb fy O b c ∗ levAts (K (F := F)).L (K (F := F)).lev
        ∗ Pipeline.cellsGhost (Pipeline.pin (pcfgs (F := F)) a) EP 0 c ∗ Pipeline.toksInit (Pipeline.pin (pcfgs (F := F)) a) EP 0 c
        ∗ (iprop(boundary (c.tc : Thread nD τ) ∗ rPost a fx fW fb O b c) -∗ Q ⟨⟩))
      ⊢ wp frame (wpE ((K (F := F)).defs D) 𝒱 (T c) none) Set.univ (Prog.lift (.customCall (SparseCore.inner (Pipeline.entry 0)) ())) Q := by
  rw [region_prog]
  refine BIBase.Entails.trans ?_ ((K (F := F)).wp_liftProg D 𝒱 (T c) Set.univ none _ Q)
  have h := RDat.RegionSeg.wp (pcfgs (F := F)) a (rdatsA a fx fW fb fy O b) none (cellOf_inj a) EP (defs₀ (F := F)) 𝒱₀
    (K (F := F)).L (K (F := F)).lev (regionSeg a fx fW fb fy O b hO) c none (fun u hu => by cases hu) (fun _ => Prog.ret ⟨⟩) Q
  rw [show (regionSeg a fx fW fb fy O b hO).pre c = rPre a fx fW fb fy O b c from rfl, show (regionSeg a fx fW fb fy O b hO).post c = rPost a fx fW fb O b c from rfl] at h
  refine BIBase.Entails.trans ?_ h
  iintro ⟨HB, HP, Hlv, HG, HT, HQ⟩
  isplitl [HQ]
  · iintro H
    rw [wp_ret]
    imodintro
    iapply HQ; iexact H
  isplitl [HB]; · iexact HB
  isplitl [HP]; · iexact HP
  isplitl [Hlv]; · iexact Hlv
  isplitl [HG]; · iexact HG
  iexact HT

end Data

end Cert.ExpertsIdeal.Run
-- ==== Proof.ExpertsData.lean ====
/-
  The contents of the Experts program's arrays between its calls, as functions of the launch memory: the four slabs of
  the tokens' rows, the rows by slot, the table of experts, the products by slot and the result; and what the proof asks
  of the launch memory.
-/
module

public import proofs.«01_k».proof.Proof.ExpertsRegion

@[expose] public section

set_option maxRecDepth 16384

noncomputable section

namespace Cert.ExpertsIdeal.Run

open Cert.ExpertsIdeal Cert.ExpertsIdeal.Gen

open Idealize.ShloMosaic Idealize.ShloMosaic.TcCoe Idealize.ShloMosaic.Tactic
open Idealize.ShloMosaic.Pipeline (Cfg Window)

variable {F : FTy → Type} [FloatOps F]

/-! ## The host's operations, as functions of the arrays -/

/-- The first quarter of every token's row, as two lines of 128. -/
def slab0 (fx : S4096x1024.Idx → Elt F .f32) : S4096x2x128.Idx → Elt F .f32 :=
  shapeCast S4096x2x128 (extractStridedSlice S4096x256 ![0, 0] fx slices_S4096x1024_S4096x256_0_0) shapeCasts_S4096x256_S4096x2x128
/-- The second quarter. -/
def slab1 (fx : S4096x1024.Idx → Elt F .f32) : S4096x2x128.Idx → Elt F .f32 :=
  shapeCast S4096x2x128 (extractStridedSlice S4096x256 ![0, 256] fx slices_S4096x1024_S4096x256_0_256) shapeCasts_S4096x256_S4096x2x128
/-- The third quarter. -/
def slab2 (fx : S4096x1024.Idx → Elt F .f32) : S4096x2x128.Idx → Elt F .f32 :=
  shapeCast S4096x2x128 (extractStridedSlice S4096x256 ![0, 512] fx slices_S4096x1024_S4096x256_0_512) shapeCasts_S4096x256_S4096x2x128
/-- The last quarter. -/
def slab3 (fx : S4096x1024.Idx → Elt F .f32) : S4096x2x128.Idx → Elt F .f32 :=
  shapeCast S4096x2x128 (extractStridedSlice S4096x256 ![0, 768] fx slices_S4096x1024_S4096x256_0_768) shapeCasts_S4096x256_S4096x2x128

/-- Four scattered slabs side by side: the rows by slot. -/
def joinRows (t0 t1 t2 t3 : S6144x2x128.Idx → Elt F .f32) : S6144x1024.Idx → Elt F .f32 :=
  concatenate S6144x1024 1 [⟨S6144x256, shapeCast S6144x256 t0 shapeCasts_S6144x2x128_S6144x256⟩, ⟨S6144x256, shapeCast S6144x256 t1 shapeCasts_S6144x2x128_S6144x256⟩,
    ⟨S6144x256, shapeCast S6144x256 t2 shapeCasts_S6144x2x128_S6144x256⟩, ⟨S6144x256, shapeCast S6144x256 t3 shapeCasts_S6144x2x128_S6144x256⟩]
    concatenates_S6144x256_S6144x256_S6144x256_S6144x256_S6144x1024_d1

/-- The groups' experts, the first 24 of the table. -/
def tblOf (fm : S32.Idx → Elt F .i32) : S24.Idx → Elt F .i32 := extractStridedSlice S24 ![0] fm slices_S32_S24_0
/-- The biases, with an axis of one. -/
def biasOf (fb : S8x256.Idx → Elt F .f32) : S8x1x256.Idx → Elt F .f32 := shapeCast S8x1x256 fb shapeCasts_S8x256_S8x1x256
/-- The products by slot, as two lines of 128. -/
def linesOf (G : S6144x256.Idx → Elt F .f32) : S6144x2x128.Idx → Elt F .f32 := shapeCast S6144x2x128 G shapeCasts_S6144x256_S6144x2x128
/-- The gathered lines, as rows of 256. -/
def rowsOf (f : S4096x2x128.Idx → Elt F .f32) : S4096x256.Idx → Elt F .f32 := shapeCast S4096x256 f shapeCasts_S4096x2x128_S4096x256

/-! ## What the launch memory holds -/

variable (m : (ℓ : Loc nD τ sig) → Buf (Elt F) ℓ) (d : Dev nD)

/-- The tokens. -/
abbrev aX : S4096x1024.Idx → Elt F .f32 := m ((d.tc : Thread nD τ).loc main_arg0)
/-- The table of slots. -/
abbrev aP : S32x2x64.Idx → Elt F .i32 := m ((d.tc : Thread nD τ).loc main_arg1)
/-- The table of the groups' experts. -/
abbrev aM : S32.Idx → Elt F .i32 := m ((d.tc : Thread nD τ).loc main_arg2)
/-- The experts' matrices. -/
abbrev aW : S8x1024x256.Idx → Elt F .f32 := m ((d.tc : Thread nD τ).loc main_arg3)
/-- The experts' biases. -/
abbrev aB : S8x256.Idx → Elt F .f32 := m ((d.tc : Thread nD τ).loc main_arg4)

/-- The group's place in the table of experts. -/
def gIx (g : ℕ) : S32.Idx := fun | 0 => (⟨g % 32, Nat.mod_lt _ (by decide)⟩ : Fin 32)

/-- What the proof asks of the launch memory: slots in range and pairwise distinct, experts of the groups not negative,
    the expert of the group of every named slot below eight. -/
structure PreOK : Prop where
  slot : ∀ (d : Dev nD) j, (aP m d j : BitVec 32).toNat < 6144
  dist : ∀ d : Dev nD, Function.Injective fun j => (aP m d j : BitVec 32).toNat
  nneg : ∀ (d : Dev nD) j, (aM m d j : BitVec 32).toNat < 2 ^ 31
  low : ∀ (d : Dev nD) j, (aM m d (gIx ((aP m d j : BitVec 32).toNat / 256)) : BitVec 32).toNat < 8

/-! ## The table of experts as the region reads it -/

/-- The table's word for the group at `i` is the launch table's at the group's number. -/
theorem tw_tbl (fm : S32.Idx → Elt F .i32) (i : grid1.Coords) : tw (tblOf fm) i = fm (gIx (i 0).val) := by
  have hi : (i 0).val < 24 := (i 0).isLt
  show fm _ = _
  congr 1
  funext a
  match a with
  | 0 =>
    apply Fin.ext
    have e : ∀ x : S1.Idx, (x 0).val = 0 := fun x => by
      have hx : (x 0).val < 1 := (x 0).isLt
      omega
    have e1 : (k1_off1 i) 0 = (i 0).val := congrFun (k1_off1_eq i) 0
    show 0 + ((k1_off1 i) 0 + 1 * (Shape.Idx.first (s := S1) _ 0).val) = (i 0).val % 32
    rw [e, e1]
    omega

/-- A word that is not negative is below seven as a signed word when it is. -/
theorem slt7 (v : BitVec 32) (h : v.toNat < 2 ^ 31) : v.slt 7#32 = decide (v.toNat < 7) := by
  rw [BitVec.slt_eq_decide]
  refine decide_eq_decide.mpr ?_
  simp only [BitVec.toInt_eq_toNat_cond, BitVec.toNat_ofNat, Nat.reducePow, Nat.reduceMod]
  omega
/-- The lesser of a word that is not negative and seven is at most seven. -/
theorem min7_le (v : BitVec 32) (h : v.toNat < 2 ^ 31) : (Scalar.minsi v 7#32).toNat ≤ 7 := by
  unfold Scalar.minsi IntOp.minsi
  rw [slt7 v h]
  by_cases hs : v.toNat < 7
  · rw [decide_eq_true hs]; exact hs.le
  · rw [decide_eq_false hs]; exact le_rfl
/-- And below eight it is the word itself. -/
theorem min7_eq (v : BitVec 32) (h : v.toNat < 8) : (Scalar.minsi v 7#32).toNat = v.toNat := by
  unfold Scalar.minsi IntOp.minsi
  rw [slt7 v (by omega)]
  by_cases hs : v.toNat < 7
  · rw [decide_eq_true hs]; rfl
  · rw [decide_eq_false hs]; show 7 = v.toNat; omega

/-- Below eight the body's condition holds. -/
theorem cond_of_lt (v : BitVec 32) (h : v.toNat < 8) : k1_cond1 v = 1#1 := by
  have hs : v.slt 8#32 = true := by
    simp only [BitVec.slt_eq_decide, decide_eq_true_eq, BitVec.toInt_eq_toNat_cond, BitVec.toNat_ofNat, Nat.reducePow, Nat.reduceMod]
    omega
  simp only [k1_cond1, Scalar.cmpi, IntOp.cmpi, hs]
  decide

/-- The block of the matrices at a point, from the table. -/
theorem tr1 (pf : pre1.Contents (Elt F)) (i : grid1.Coords) :
    cc1_transform_1 k1_off1_inb numel1_S1 pf i = ![(Scalar.minsi (tw (pf 0) i) 7#32).toNat, 0, 0] := rfl
/-- And of the biases. -/
theorem tr2 (pf : pre1.Contents (Elt F)) (i : grid1.Coords) :
    cc1_transform_2 k1_off1_inb numel1_S1 pf i = ![(Scalar.minsi (tw (pf 0) i) 7#32).toNat, 0, 0] := rfl

/-- The table as the pipeline's contents. -/
def pfOf (fm : S32.Idx → Elt F .i32) : pre1.Contents (Elt F) := fun | 0 => tblOf fm | ⟨_ + 1, h⟩ => absurd h (Nat.not_lt.2 (Nat.le_add_left _ _))

/-- At a table without negative words every block lies in its array. -/
theorem ok_of_nneg (fm : S32.Idx → Elt F .i32) (h : ∀ j, (fm j : BitVec 32).toNat < 2 ^ 31) : ok1 (pfOf fm) := by
  have hm : ∀ i : grid1.Coords, (Scalar.minsi (tw ((pfOf fm) 0) i) 7#32).toNat ≤ 7 := fun i =>
    min7_le _ (by rw [show (pfOf fm) 0 = tblOf fm from rfl, tw_tbl]; exact h _)
  refine ⟨fun i => ⟨fun a => ?_, Or.inl rfl⟩, fun i => ⟨fun a => ?_, Or.inl rfl⟩⟩
  · rw [tr1]
    have := hm i
    generalize (Scalar.minsi (tw ((pfOf fm) 0) i) 7#32).toNat = n at this
    match a with
    | 0 => show (n + 1) * 1 ≤ 8; omega
    | 1 => show (0 + 1) * 1024 ≤ 1024; omega
    | 2 => show (0 + 1) * 256 ≤ 256; omega
  · rw [tr2]
    have := hm i
    generalize (Scalar.minsi (tw ((pfOf fm) 0) i) 7#32).toNat = n at this
    match a with
    | 0 => show (n + 1) * 1 ≤ 8; omega
    | 1 => show (0 + 1) * 1 ≤ 1; omega
    | 2 => show (0 + 1) * 256 ≤ 256; omega

/-- The table at launch, admissible. -/
def adm (h : PreOK m) : (p : Fin 1) → (pcfgs (F := F) p).Adm := fun _ => ⟨pfOf (aM m 0), ok_of_nneg _ (h.nneg 0)⟩

/-! ## The products by slot -/

section Products
variable (a : (p : Fin 1) → (pcfgs (F := F) p).Adm)
variable (fx : S6144x1024.Idx → Elt F .f32) (fW : S8x1024x256.Idx → Elt F .f32) (fb : S8x1x256.Idx → Elt F .f32)

/-- The group of a slot, as a point of the region's grid. -/
def grpOf (r : Fin 6144) : Fin (cfgA a).N := ⟨r.val / 256, by
  show r.val / 256 < grid1.N
  rw [N_1]; omega⟩

/-- The products at every slot, each group's by its expert's matrix and bias. -/
def prods : S6144x256.Idx → Elt F .f32 := fun y =>
  k1_pay1 (bx a fx (grpOf a (y 0))) (bW a fW (grpOf a (y 0))) (bb a fb (grpOf a (y 0)))
    (fun | 0 => (⟨(y 0).val % 256, Nat.mod_lt _ (by decide)⟩ : Fin 256) | 1 => y 1)

/-- What the region leaves is the products at every slot of a group whose expert is below eight. -/
theorem prods_of (G : S6144x256.Idx → Elt F .f32) (hG : GBlocks a fx fW fb G) (y : S6144x256.Idx)
    (hc : k1_cond1 (tw (pfA a) (grid1.coords (grpOf a (y 0)))) = 1#1) : G y = prods a fx fW fb y := by
  have e := hG (grpOf a (y 0)) hc (fun | 0 => (⟨(y 0).val % 256, Nat.mod_lt _ (by decide)⟩ : Fin 256) | 1 => y 1)
  refine Eq.trans (congrArg G ?_) e
  funext b
  match b with
  | 0 =>
    apply Fin.ext
    refine Eq.trans ?_ (emb3_0 a _ _).symm
    show (y 0).val = 256 * ((y 0).val / 256) + (y 0).val % 256
    omega
  | 1 =>
    apply Fin.ext
    exact (emb3_1 a (grpOf a (y 0)) (fun | 0 => (⟨(y 0).val % 256, Nat.mod_lt _ (by decide)⟩ : Fin 256) | 1 => y 1)).symm

end Products

variable (h : PreOK m)

/-- The rows by slot, after the scatter. -/
def rowsAt : S6144x1024.Idx → Elt F .f32 :=
  joinRows (scattered (aP m d) (slab0 (aX m d)) (m ((d.tc : Thread nD τ).loc main_v8_0)))
    (scattered (aP m d) (slab1 (aX m d)) (m ((d.tc : Thread nD τ).loc main_v8_1)))
    (scattered (aP m d) (slab2 (aX m d)) (m ((d.tc : Thread nD τ).loc main_v8_2)))
    (scattered (aP m d) (slab3 (aX m d)) (m ((d.tc : Thread nD τ).loc main_v8_3)))
/-- The products by slot. -/
def prodsAt : S6144x256.Idx → Elt F .f32 := prods (adm m h) (rowsAt m d) (aW m d) (biasOf (aB m d))
/-- The gathered lines. -/
def gathAt : S4096x2x128.Idx → Elt F .f32 := gathered (aP m d) (linesOf (prodsAt m d h))
/-- The result. -/
def outAt : S4096x256.Idx → Elt F .f32 := rowsOf (gathAt m d h)

/-- The coordinates of a point of the one-axis grid. -/
theorem coords1 : ∀ t : Fin grid1.N, ((grid1.coords t) 0).val = t.val := by decide +kernel

/-- A slot's lines: line `b`, lane `l` is column `128 b + l`. -/
theorem linesOf_apply (G : S6144x256.Idx → Elt F .f32) (y : S6144x2x128.Idx) :
    linesOf G y = G (fun | 0 => y 0 | 1 => (⟨128 * (y 1).val + (y 2).val, by
      have h1 : (y 1).val < 2 := (y 1).isLt
      have h2 : (y 2).val < 128 := (y 2).isLt
      show _ < 256; omega⟩ : Fin 256)) := by
  show G _ = G _
  congr 1
  refine Shape.reshapeEquiv_eq_of_rowMajor _ ?_
  rw [Shape.rowMajor_val_three, Shape.rowMajor_val_two]
  show (y 0).val * 256 + (128 * (y 1).val + (y 2).val) = ((y 0).val * 2 + (y 1).val) * 128 + (y 2).val
  omega

/-- What the second SparseCore call gathers does not depend on what the region left at the other groups. -/
theorem gathered_of (G : S6144x256.Idx → Elt F .f32) (hG : GBlocks (adm m h) (rowsAt m d) (aW m d) (biasOf (aB m d)) G) :
    gathered (aP m d) (linesOf G) = gathAt m d h := by
  funext y
  unfold gathAt gathered
  rw [linesOf_apply, linesOf_apply]
  refine prods_of _ _ _ _ G hG _ ?_
  refine cond_of_lt _ ?_
  rw [show pfA (adm m h) = tblOf (aM m 0) from rfl, tw_tbl, coords1]
  have h1 := h.low 0 (ent (y 0))
  have h2 := h.slot 0 (ent (y 0))
  have h3 : d = 0 := Subsingleton.elim _ _
  subst h3
  have h4 : (slotOf (aP m 0) (y 0)).val = (aP m 0 (ent (y 0)) : BitVec 32).toNat := Nat.mod_eq_of_lt h2
  show (aM m 0 (gIx ((slotOf (aP m 0) (y 0)).val / 256)) : BitVec 32).toNat < 8
  rw [h4]
  exact h1

end Cert.ExpertsIdeal.Run

end
-- ==== Proof.ExpertsTile.lean ====
/-
  What the two SparseCore calls' handshakes carry, and the calls' tasks proved against it: each task's run with its own
  buffers and semaphores taken from the subcore's.
-/
module

public import proofs.«01_k».proof.Proof.ExpertsSplit
public import proofs.«01_k».proof.Proof.ExpertsData

@[expose] public section

set_option maxRecDepth 16384

noncomputable section

namespace Cert.ExpertsIdeal.Run

open Cert.ExpertsIdeal Cert.ExpertsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (h : PreOK m)

/-- The launch configuration is well formed. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 2) (Elt F) ℕ UU ℕ) := embL

/-! ## What the handshakes carry -/

/-- The contents of a TensorCore's buffer at launch. -/
abbrev mT (b : Ref sig .tc) : Buf (Elt F) ((T d : Thread nD τ).loc b) := m ((T d : Thread nD τ).loc b)

/-- What a task of the first call takes: its share of the slots and of the four slabs, and its rows of the four targets. -/
def go0 (c : Fin 2) (s : Fin 16) : sProp 𝕄 := iprop(
  ((T d : Thread nD τ).loc main_arg1 ↦{qs c s} (aP m d : Buf (Elt F) ((T d : Thread nD τ).loc main_arg1)))
  ∗ ((T d : Thread nD τ).loc main_v1 ↦{qs c s} (slab0 (aX m d) : Buf (Elt F) ((T d : Thread nD τ).loc main_v1)))
  ∗ ((T d : Thread nD τ).loc main_v3 ↦{qs c s} (slab1 (aX m d) : Buf (Elt F) ((T d : Thread nD τ).loc main_v3)))
  ∗ ((T d : Thread nD τ).loc main_v5 ↦{qs c s} (slab2 (aX m d) : Buf (Elt F) ((T d : Thread nD τ).loc main_v5)))
  ∗ ((T d : Thread nD τ).loc main_v7 ↦{qs c s} (slab3 (aX m d) : Buf (Elt F) ((T d : Thread nD τ).loc main_v7)))
  ∗ ((T d : Thread nD τ).loc main_v8_0 ↦[sRows (Memref.whole main_v8_0_scv) (aP m d) c s]{fullShare} mT m d main_v8_0)
  ∗ ((T d : Thread nD τ).loc main_v8_1 ↦[sRows (Memref.whole main_v8_1_scv) (aP m d) c s]{fullShare} mT m d main_v8_1)
  ∗ ((T d : Thread nD τ).loc main_v8_2 ↦[sRows (Memref.whole main_v8_2_scv) (aP m d) c s]{fullShare} mT m d main_v8_2)
  ∗ ((T d : Thread nD τ).loc main_v8_3 ↦[sRows (Memref.whole main_v8_3_scv) (aP m d) c s]{fullShare} mT m d main_v8_3))

/-- The four scattered arrays. -/
abbrev sc0 : Buf (Elt F) ((T d : Thread nD τ).loc main_v8_0) := scattered (aP m d) (slab0 (aX m d)) (mT m d main_v8_0)
abbrev sc1 : Buf (Elt F) ((T d : Thread nD τ).loc main_v8_1) := scattered (aP m d) (slab1 (aX m d)) (mT m d main_v8_1)
abbrev sc2 : Buf (Elt F) ((T d : Thread nD τ).loc main_v8_2) := scattered (aP m d) (slab2 (aX m d)) (mT m d main_v8_2)
abbrev sc3 : Buf (Elt F) ((T d : Thread nD τ).loc main_v8_3) := scattered (aP m d) (slab3 (aX m d)) (mT m d main_v8_3)

/-- What it brings back: its share of the slots, and its rows of the targets, scattered to. -/
def td0 (c : Fin 2) (s : Fin 16) : sProp 𝕄 := iprop(
  ((T d : Thread nD τ).loc main_arg1 ↦{qs c s} (aP m d : Buf (Elt F) ((T d : Thread nD τ).loc main_arg1)))
  ∗ ((T d : Thread nD τ).loc main_v8_0 ↦[sRows (Memref.whole main_v8_0_scv) (aP m d) c s]{fullShare} sc0 m d)
  ∗ ((T d : Thread nD τ).loc main_v8_1 ↦[sRows (Memref.whole main_v8_1_scv) (aP m d) c s]{fullShare} sc1 m d)
  ∗ ((T d : Thread nD τ).loc main_v8_2 ↦[sRows (Memref.whole main_v8_2_scv) (aP m d) c s]{fullShare} sc2 m d)
  ∗ ((T d : Thread nD τ).loc main_v8_3 ↦[sRows (Memref.whole main_v8_3_scv) (aP m d) c s]{fullShare} sc3 m d))

/-- What a task of the last call takes: its share of the slots and of the products by slot, and its two windows of the result. -/
def go1 (c : Fin 2) (s : Fin 16) : sProp 𝕄 := iprop(∃ fy : Buf (Elt F) ((T d : Thread nD τ).loc main_v17), ⌜gathered (aP m d) fy = gathAt m d h⌝
  ∗ ((T d : Thread nD τ).loc main_arg1 ↦{qs c s} (aP m d : Buf (Elt F) ((T d : Thread nD τ).loc main_arg1)))
  ∗ ((T d : Thread nD τ).loc main_v17 ↦{qs c s} fy)
  ∗ ((T d : Thread nD τ).loc main_v18 ↦[gW0 c s]{fullShare} mT m d main_v18)
  ∗ ((T d : Thread nD τ).loc main_v18 ↦[gW1 c s]{fullShare} mT m d main_v18))

/-- What it brings back: its share of the slots, and its windows gathered. -/
def td1 (c : Fin 2) (s : Fin 16) : sProp 𝕄 := iprop(
  ((T d : Thread nD τ).loc main_arg1 ↦{qs c s} (aP m d : Buf (Elt F) ((T d : Thread nD τ).loc main_arg1)))
  ∗ ((T d : Thread nD τ).loc main_v18 ↦[gW0 c s]{fullShare} (gathAt m d h : Buf (Elt F) ((T d : Thread nD τ).loc main_v18)))
  ∗ ((T d : Thread nD τ).loc main_v18 ↦[gW1 c s]{fullShare} (gathAt m d h : Buf (Elt F) ((T d : Thread nD τ).loc main_v18))))

instance go0_storable (c : Fin 2) (s : Fin 16) : BI.Storable (upEmb : UEmb _ 𝕄) (go0 m d c s) := by unfold go0; infer_instance
instance td0_storable (c : Fin 2) (s : Fin 16) : BI.Storable (upEmb : UEmb _ 𝕄) (td0 m d c s) := by unfold td0; infer_instance
instance go1_storable (c : Fin 2) (s : Fin 16) : BI.Storable (upEmb : UEmb _ 𝕄) (go1 m d h c s) := by unfold go1; infer_instance
instance td1_storable (c : Fin 2) (s : Fin 16) : BI.Storable (upEmb : UEmb _ 𝕄) (td1 m d h c s) := by unfold td1; infer_instance

/-- The scatter's cores. -/
theorem nCore_0 : (K (F := F)).nCore 0 = 2 := rfl
/-- The gather's cores. -/
theorem nCore_1 : (K (F := F)).nCore 1 = 2 := rfl
/-- The scatter's subcores. -/
theorem nSub_0 : (K (F := F)).nSub 0 = 16 := rfl
/-- The gather's subcores. -/
theorem nSub_1 : (K (F := F)).nSub 1 = 16 := rfl

/-- The two calls' payloads: a SparseCore takes and brings back what its sixteen tasks do. -/
def P : (K (F := F)).Pay (nD := nD) (Val := Elt F) (Name := ℕ) (U := UU) where
  st := fun q d c => match q with
    | 0 => bigSep Finset.univ fun s : Fin 16 => go0 m d (Fin.cast nCore_0 c) s
    | 1 => bigSep Finset.univ fun s : Fin 16 => go1 m d h (Fin.cast nCore_1 c) s
  dn := fun q d c => match q with
    | 0 => bigSep Finset.univ fun s : Fin 16 => td0 m d (Fin.cast nCore_0 c) s
    | 1 => bigSep Finset.univ fun s : Fin 16 => td1 m d h (Fin.cast nCore_1 c) s
  go := fun q d c i => match q with
    | 0 => go0 m d (Fin.cast nCore_0 c) (Fin.cast nSub_0 i)
    | 1 => go1 m d h (Fin.cast nCore_1 c) (Fin.cast nSub_1 i)
  td := fun q d c i => match q with
    | 0 => td0 m d (Fin.cast nCore_0 c) (Fin.cast nSub_0 i)
    | 1 => td1 m d h (Fin.cast nCore_1 c) (Fin.cast nSub_1 i)
  x := fun _ _ => iprop(emp)

instance P_storable : (P (F := F) m h).IsStorable where
  st q d c := match q with
    | 0 => (inferInstance : BI.Storable (upEmb : UEmb _ 𝕄) (bigSep Finset.univ fun s : Fin 16 => go0 m d (Fin.cast nCore_0 c) s))
    | 1 => (inferInstance : BI.Storable (upEmb : UEmb _ 𝕄) (bigSep Finset.univ fun s : Fin 16 => go1 m d h (Fin.cast nCore_1 c) s))
  dn q d c := match q with
    | 0 => (inferInstance : BI.Storable (upEmb : UEmb _ 𝕄) (bigSep Finset.univ fun s : Fin 16 => td0 m d (Fin.cast nCore_0 c) s))
    | 1 => (inferInstance : BI.Storable (upEmb : UEmb _ 𝕄) (bigSep Finset.univ fun s : Fin 16 => td1 m d h (Fin.cast nCore_1 c) s))
  go q d c i := match q with
    | 0 => go0_storable m d (Fin.cast nCore_0 c) (Fin.cast nSub_0 i)
    | 1 => go1_storable m d h (Fin.cast nCore_1 c) (Fin.cast nSub_1 i)
  td q d c i := match q with
    | 0 => td0_storable m d (Fin.cast nCore_0 c) (Fin.cast nSub_0 i)
    | 1 => td1_storable m d h (Fin.cast nCore_1 c) (Fin.cast nSub_1 i)

/-! ## A subcore's own semaphores and buffers -/

/-- Listed semaphores of a thread's own are taken out of all of them. -/
theorem sems_peel (thr : Thread nD τ) (l : List (SemLoc sig)) (hn : l.Nodup) (hs : ∀ g ∈ l, g.isScoped thr.2.kind = true) :
    (ownSems0 thr : sProp 𝕄) = iprop(bigSepL l (fun g => semVal ((thr, g) : GSem nD τ sig) 0)
      ∗ bigSep (ownCells thr \ (l.map fun g => ((thr, g) : GSem nD τ sig)).toFinset) fun g => semVal g 0) := by
  have hn' : (l.map fun g => ((thr, g) : GSem nD τ sig)).Nodup := hn.map fun _ _ e => congrArg Prod.snd e
  unfold SparseCore.Cfg.ownSems0
  rw [SparseCore.bigSep_sdiff_split' (t := (l.map fun g => ((thr, g) : GSem nD τ sig)).toFinset), bigSep_eq_bigSepL _ hn']
  · congr 1
    clear hn hs hn'
    induction l with
    | nil => rfl
    | cons a l ih => rw [List.map_cons, bigSepL_cons, bigSepL_cons, ih]
  · intro g hg
    obtain ⟨a, ha, rfl⟩ := List.mem_map.mp (List.mem_toFinset.mp hg)
    exact mem_ownCells.mpr ⟨rfl, hs a ha⟩

/-- Two buffers of a thread's own are taken out of all of them. -/
theorem bufs_peel (c : Fin τ.nSC) (s : Fin τ.nSub) (b b' : Ref sig .scVector) (hb : ((Proc.scVector c s).devRef b).owner = .proc (Proc.scVector c s))
    (hb' : ((Proc.scVector c s).devRef b').owner = .proc (Proc.scVector c s)) (hne : b' ≠ b) :
    (ownBufs (V d c s) : sProp 𝕄)
      = iprop((∃ f, (V d c s).loc b ↦{fullShare} f) ∗ (∃ f, (V d c s).loc b' ↦{fullShare} f)
          ∗ bigSep (((ownRefs (τ := τ) (.scVector c s)).erase ((Proc.scVector c s).devRef b)).erase ((Proc.scVector c s).devRef b'))
              fun b => iprop(∃ f, ((d, b) : Loc nD τ sig) ↦{fullShare} f)) := by
  unfold SparseCore.Cfg.ownBufs
  refine (SparseCore.bigSep_erase' (SparseCore.Cfg.mem_ownRefs_of_owner (p := Proc.scVector c s) (b := (Proc.scVector c s).devRef b) hb)).trans ?_
  rw [SparseCore.bigSep_erase' (Finset.mem_erase.mpr ⟨fun e => absurd (Proc.devRef_injective _ e) hne,
    SparseCore.Cfg.mem_ownRefs_of_owner (p := Proc.scVector c s) (b := (Proc.scVector c s).devRef b') hb'⟩)]

/-- The first call's semaphores. -/
def semsS : List (SemLoc sig) := [SemLoc.dma cc0_scratch2.sem, SemLoc.dma cc0_scoped0.sem, SemLoc.dma cc0_scoped1.sem, SemLoc.dma cc0_scoped2.sem,
  SemLoc.dma cc0_scoped3.sem, SemLoc.dma cc0_scoped4.sem, SemLoc.dma cc0_scoped5.sem, SemLoc.dma cc0_scoped6.sem, SemLoc.dma cc0_scoped7.sem,
  SemLoc.dma cc0_scoped8.sem, SemLoc.dma cc0_scoped9.sem]
/-- The last call's semaphores. -/
def semsG : List (SemLoc sig) := [SemLoc.dma cc2_scratch2.sem, SemLoc.dma cc2_scoped0.sem, SemLoc.dma cc2_scoped1.sem, SemLoc.dma cc2_scoped2.sem,
  SemLoc.dma cc2_scoped3.sem]

/-- The scatter's counters, one by one. -/
theorem semsS_list (Φ : SemLoc sig → sProp 𝕄) : bigSepL semsS Φ = iprop(Φ (SemLoc.dma cc0_scratch2.sem) ∗ Φ (SemLoc.dma cc0_scoped0.sem) ∗ Φ (SemLoc.dma cc0_scoped1.sem) ∗ Φ (SemLoc.dma cc0_scoped2.sem) ∗ Φ (SemLoc.dma cc0_scoped3.sem) ∗ Φ (SemLoc.dma cc0_scoped4.sem) ∗ Φ (SemLoc.dma cc0_scoped5.sem) ∗ Φ (SemLoc.dma cc0_scoped6.sem) ∗ Φ (SemLoc.dma cc0_scoped7.sem) ∗ Φ (SemLoc.dma cc0_scoped8.sem) ∗ Φ (SemLoc.dma cc0_scoped9.sem)) := rfl
/-- The gather's counters, one by one. -/
theorem semsG_list (Φ : SemLoc sig → sProp 𝕄) : bigSepL semsG Φ = iprop(Φ (SemLoc.dma cc2_scratch2.sem) ∗ Φ (SemLoc.dma cc2_scoped0.sem) ∗ Φ (SemLoc.dma cc2_scoped1.sem) ∗ Φ (SemLoc.dma cc2_scoped2.sem) ∗ Φ (SemLoc.dma cc2_scoped3.sem)) := rfl
/-- The scatter's counters are distinct. -/
theorem semsS_nodup : semsS.Nodup := by decide
/-- The gather's counters are distinct. -/
theorem semsG_nodup : semsG.Nodup := by decide
/-- The scatter's counters are scoped. -/
theorem semsS_scoped : ∀ g ∈ semsS, g.isScoped .scVector = true := by decide
/-- The gather's counters are scoped. -/
theorem semsG_scoped : ∀ g ∈ semsG, g.isScoped .scVector = true := by decide

/-! ## The tasks -/

include h in
set_option maxHeartbeats 4000000 in
/-- A task of the first call: from its part of the operands and its own buffers and semaphores to its part of the results. -/
theorem body0 (c : Fin 2) (s : Fin 16) (O : CellTallies nD τ sig (HIx 2)) (W : Waits sig (HIx 2)) (hO : ∀ g, O g none = 0) :
    iprop(levAts (K (F := F)).L (K (F := F)).lev ∗ emp ∗ go0 m d c s
        ∗ scopedBufs (ST d (cs0 c s)) ∗ scopedSems0 (ST d (cs0 c s)) ∗ owes (ST d (cs0 c s)) O W)
      ⊢ wp frame (wpE (defs₀ (F := F)) 𝒱₀ (ST d (cs0 c s)) none) Set.univ
          (cc0_scatter_x (cs0 c s) (Memref.whole main_arg1_scv) (Memref.isWhole_whole _) (Memref.whole main_v1_scv) (Memref.isWhole_whole _)
            (Memref.whole main_v3_scv) (Memref.isWhole_whole _) (Memref.whole main_v5_scv) (Memref.isWhole_whole _)
            (Memref.whole main_v7_scv) (Memref.isWhole_whole _) (Memref.whole main_v8_0_scv) (Memref.isWhole_whole _)
            (Memref.whole main_v8_1_scv) (Memref.isWhole_whole _) (Memref.whole main_v8_2_scv) (Memref.isWhole_whole _)
            (Memref.whole main_v8_3_scv) (Memref.isWhole_whole _) (Memref.whole cc0_scratch0) (Memref.isWhole_whole _)
            (Memref.whole cc0_scratch1) (Memref.isWhole_whole _) cc0_scratch2 cc0_scoped0 cc0_scoped1 cc0_scoped2 cc0_scoped3 cc0_scoped4
            cc0_scoped5 cc0_scoped6 cc0_scoped7 cc0_scoped8 cc0_scoped9)
          fun _ => iprop(td0 m d c s ∗ scopedBufs (ST d (cs0 c s)) ∗ scopedSems0 (ST d (cs0 c s))
            ∗ ∃ W', ⌜∀ p ∈ W', p ∈ W ∨ p.2 = none⌝ ∗ owes (ST d (cs0 c s)) O W') := by
  rw [(K (F := F)).scopedBufs_V facts d _ _, SparseCore.Cfg.scopedSems0_V (Val := Elt F) d _ _,
    sems_peel (ST d (cs0 c s)) semsS semsS_nodup semsS_scoped, bufs_peel d _ _ cc0_scratch0 cc0_scratch1 rfl rfl (by decide)]
  unfold go0 td0
  rw [semsS_list]
  iintro ⟨#Hlv, -, ⟨HI, HX0, HX1, HX2, HX3, HT0, HT1, HT2, HT3⟩, ⟨⟨%g0, HG⟩, ⟨%g1, HB⟩, Hbufs⟩, ⟨⟨Hc, Hs0, Hs1, Hs2, Hs3, Hs4, Hs5, Hs6, Hs7, Hs8, Hs9⟩, Hsems⟩, HO⟩
  ihave Hmw := (show levAts (K (F := F)).L (K (F := F)).lev ⊢ Transfers.MayWaits (ST d (cs0 c s)) (default : HIx 2) O from
    (K (F := F)).mayWaits_none (thr := ST d (cs0 c s)) hO) $$ Hlv
  ihave H := (scatter_run d (cs0 c s) O W (qs c s) (aP m d) (slab0 (aX m d)) (slab1 (aX m d)) (slab2 (aX m d)) (slab3 (aX m d))
    (mT m d main_v8_0) (mT m d main_v8_1) (mT m d main_v8_2) (mT m d main_v8_3) g0 g1 (h.slot d) (h.dist d))
    $$ [Hmw HI HX0 HX1 HX2 HX3 HT0 HT1 HT2 HT3 HG HB Hc Hs0 Hs1 Hs2 Hs3 Hs4 Hs5 Hs6 Hs7 Hs8 Hs9 HO]
  · isplitl [Hmw]; · iexact Hmw
    isplitl [HI]; · iexact HI
    isplitl [HX0]; · iexact HX0
    isplitl [HX1]; · iexact HX1
    isplitl [HX2]; · iexact HX2
    isplitl [HX3]; · iexact HX3
    isplitl [HT0]; · iexact HT0
    isplitl [HT1]; · iexact HT1
    isplitl [HT2]; · iexact HT2
    isplitl [HT3]; · iexact HT3
    isplitl [HG]; · iexact HG
    isplitl [HB]; · iexact HB
    isplitl [Hc]; · iexact Hc
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact HO
  iapply (wp_wand frame _ _) $$ H
  iintro %_ ⟨HI, -, -, -, -, HT0, HT1, HT2, HT3, HG, HB, Hc, Hs0, Hs1, Hs2, Hs3, Hs4, Hs5, Hs6, Hs7, Hs8, Hs9, HO⟩
  isplitl [HI HT0 HT1 HT2 HT3]
  · isplitl [HI]; · iexact HI
    isplitl [HT0]; · iexact HT0
    isplitl [HT1]; · iexact HT1
    isplitl [HT2]; · iexact HT2
    iexact HT3
  isplitl [HG HB Hbufs]
  · isplitl [HG]; · iexact HG
    isplitl [HB]; · iexact HB
    iexact Hbufs
  isplitl [Hc Hs0 Hs1 Hs2 Hs3 Hs4 Hs5 Hs6 Hs7 Hs8 Hs9 Hsems]
  · isplitl [Hc Hs0 Hs1 Hs2 Hs3 Hs4 Hs5 Hs6 Hs7 Hs8 Hs9]
    · isplitl [Hc]; · iexact Hc
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hs9
    iexact Hsems
  iexact HO

set_option maxHeartbeats 4000000 in
/-- A task of the last call. -/
theorem body1 (c : Fin 2) (s : Fin 16) (O : CellTallies nD τ sig (HIx 2)) (W : Waits sig (HIx 2)) (hO : ∀ g, O g none = 0) :
    iprop(levAts (K (F := F)).L (K (F := F)).lev ∗ emp ∗ go1 m d h c s
        ∗ scopedBufs (GT d (cs2 c s)) ∗ scopedSems0 (GT d (cs2 c s)) ∗ owes (GT d (cs2 c s)) O W)
      ⊢ wp frame (wpE (defs₀ (F := F)) 𝒱₀ (GT d (cs2 c s)) none) Set.univ
          (cc2_gather_out (cs2 c s) (Memref.whole main_arg1_scv) (Memref.isWhole_whole _) (Memref.whole main_v17_scv) (Memref.isWhole_whole _)
            (Memref.whole main_v18_scv) (Memref.isWhole_whole _) (Memref.whole cc2_scratch0) (Memref.isWhole_whole _)
            (Memref.whole cc2_scratch1) (Memref.isWhole_whole _) cc2_scratch2 cc2_scoped0 cc2_scoped1 cc2_scoped2 cc2_scoped3)
          fun _ => iprop(td1 m d h c s ∗ scopedBufs (GT d (cs2 c s)) ∗ scopedSems0 (GT d (cs2 c s))
            ∗ ∃ W', ⌜∀ p ∈ W', p ∈ W ∨ p.2 = none⌝ ∗ owes (GT d (cs2 c s)) O W') := by
  rw [(K (F := F)).scopedBufs_V facts d _ _, SparseCore.Cfg.scopedSems0_V (Val := Elt F) d _ _,
    sems_peel (GT d (cs2 c s)) semsG semsG_nodup semsG_scoped, bufs_peel d _ _ cc2_scratch0 cc2_scratch1 rfl rfl (by decide)]
  unfold go1 td1
  rw [semsG_list]
  iintro ⟨#Hlv, -, ⟨%fy, %hfy, HI, HY, HT0, HT1⟩, ⟨⟨%g0, HG⟩, ⟨%g1, HB⟩, Hbufs⟩, ⟨⟨Hc, Hs0, Hs1, Hs2, Hs3⟩, Hsems⟩, HO⟩
  ihave Hmw := (show levAts (K (F := F)).L (K (F := F)).lev ⊢ Transfers.MayWaits (GT d (cs2 c s)) (default : HIx 2) O from
    (K (F := F)).mayWaits_none (thr := GT d (cs2 c s)) hO) $$ Hlv
  ihave H := (gather_run d (cs2 c s) O W (qs c s) (aP m d) fy (mT m d main_v18) g0 g1 (h.slot d))
    $$ [Hmw HI HY HT0 HT1 HG HB Hc Hs0 Hs1 Hs2 Hs3 HO]
  · isplitl [Hmw]; · iexact Hmw
    isplitl [HI]; · iexact HI
    isplitl [HY]; · iexact HY
    isplitl [HT0]; · iexact HT0
    isplitl [HT1]; · iexact HT1
    isplitl [HG]; · iexact HG
    isplitl [HB]; · iexact HB
    isplitl [Hc]; · iexact Hc
    isplitl [Hs0]; · iexact Hs0
    isplitl [Hs1]; · iexact Hs1
    isplitl [Hs2]; · iexact Hs2
    isplitl [Hs3]; · iexact Hs3
    iexact HO
  rw [hfy]
  iapply (wp_wand frame _ _) $$ H
  iintro %_ ⟨HI, -, HT0, HT1, HG, HB, Hc, Hs0, Hs1, Hs2, Hs3, HO⟩
  isplitl [HI HT0 HT1]
  · isplitl [HI]; · iexact HI
    isplitl [HT0]; · iexact HT0
    iexact HT1
  isplitl [HG HB Hbufs]
  · isplitl [HG]; · iexact HG
    isplitl [HB]; · iexact HB
    iexact Hbufs
  isplitl [Hc Hs0 Hs1 Hs2 Hs3 Hsems]
  · isplitl [Hc Hs0 Hs1 Hs2 Hs3]
    · isplitl [Hc]; · iexact Hc
      isplitl [Hs0]; · iexact Hs0
      isplitl [Hs1]; · iexact Hs1
      isplitl [Hs2]; · iexact Hs2
      iexact Hs3
    iexact Hsems
  iexact HO

/-! ## The obligations -/

/-- The scatter's body on a tile. -/
theorem defs₀_scatter (c : Fin τ.nSC) (s : Fin τ.nSub) :
    defs₀ (F := F) (.scVector c s) 0 ()
      = SparseCore.onTile hcore0 hsub0 (fun c s => cc0_scatter_x (cs0 c s) (Memref.whole main_arg1_scv) (Memref.isWhole_whole _) (Memref.whole main_v1_scv) (Memref.isWhole_whole _)
            (Memref.whole main_v3_scv) (Memref.isWhole_whole _) (Memref.whole main_v5_scv) (Memref.isWhole_whole _)
            (Memref.whole main_v7_scv) (Memref.isWhole_whole _) (Memref.whole main_v8_0_scv) (Memref.isWhole_whole _)
            (Memref.whole main_v8_1_scv) (Memref.isWhole_whole _) (Memref.whole main_v8_2_scv) (Memref.isWhole_whole _)
            (Memref.whole main_v8_3_scv) (Memref.isWhole_whole _) (Memref.whole cc0_scratch0) (Memref.isWhole_whole _)
            (Memref.whole cc0_scratch1) (Memref.isWhole_whole _) cc0_scratch2 cc0_scoped0 cc0_scoped1 cc0_scoped2 cc0_scoped3 cc0_scoped4
            cc0_scoped5 cc0_scoped6 cc0_scoped7 cc0_scoped8 cc0_scoped9) ⟨⟩ c s := rfl

/-- The gather's body on a tile. -/
theorem defs₀_gather (c : Fin τ.nSC) (s : Fin τ.nSub) :
    defs₀ (F := F) (.scVector c s) 2 ()
      = SparseCore.onTile hcore2 hsub2 (fun c s => cc2_gather_out (cs2 c s) (Memref.whole main_arg1_scv) (Memref.isWhole_whole _) (Memref.whole main_v17_scv) (Memref.isWhole_whole _)
            (Memref.whole main_v18_scv) (Memref.isWhole_whole _) (Memref.whole cc2_scratch0) (Memref.isWhole_whole _)
            (Memref.whole cc2_scratch1) (Memref.isWhole_whole _) cc2_scratch2 cc2_scoped0 cc2_scoped1 cc2_scoped2 cc2_scoped3) ⟨⟩ c s := rfl

/-- A task that waits for nothing outside its own transfers waits for nothing outside its call. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the scatter does its task. -/
theorem obl0 : (K (F := F)).TileObl (D (F := F)) 𝒱 (P m h) v₀ 0 := by
  intro d c i O W hO _ _
  simp only [show (P m h).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_scatter]; simp only [SparseCore.onTile, hci, and_self, ↓reduceDIte]
  exact (body0 m d h (Fin.cast nCore_0 c) (Fin.cast nSub_0 i) O W hO).trans (wp_mono frame _ _ fun _ => obl_post)

/-- Every tile of the gather does its task. -/
theorem obl1 : (K (F := F)).TileObl (D (F := F)) 𝒱 (P m h) v₀ 1 := by
  intro d c i O W hO _ _
  simp only [show (P m h).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_gather]; simp only [SparseCore.onTile, hci, and_self, ↓reduceDIte]
  exact (body1 m d h (Fin.cast nCore_1 c) (Fin.cast nSub_1 i) O W hO).trans (wp_mono frame _ _ fun _ => obl_post)

/-- What the scatter is given is its tiles' shares, and their results are its own. -/
theorem split0 : (K (F := F)).VecSplit' (P m h) 0 := by
  intro d c
  show (bigSep Finset.univ fun s : Fin 16 => go0 m d (Fin.cast nCore_0 c) s) ⊢ |={Set.univ}=> iprop(
      (bigSep Finset.univ fun s : Fin 16 => go0 m d (Fin.cast nCore_0 c) s)
      ∗ ((bigSep Finset.univ fun s : Fin 16 => td0 m d (Fin.cast nCore_0 c) s) -∗ (bigSep Finset.univ fun s : Fin 16 => td0 m d (Fin.cast nCore_0 c) s)))
  iintro H; imodintro
  isplitl [H]; · iexact H
  iintro H; iexact H

/-- What the gather is given is its tiles' shares, and their results are its own. -/
theorem split1 : (K (F := F)).VecSplit' (P m h) 1 := by
  intro d c
  show (bigSep Finset.univ fun s : Fin 16 => go1 m d h (Fin.cast nCore_1 c) s) ⊢ |={Set.univ}=> iprop(
      (bigSep Finset.univ fun s : Fin 16 => go1 m d h (Fin.cast nCore_1 c) s)
      ∗ ((bigSep Finset.univ fun s : Fin 16 => td1 m d h (Fin.cast nCore_1 c) s) -∗ (bigSep Finset.univ fun s : Fin 16 => td1 m d h (Fin.cast nCore_1 c) s)))
  iintro H; imodintro
  isplitl [H]; · iexact H
  iintro H; iexact H

end Cert.ExpertsIdeal.Run

end
-- ==== Proof.ExpertsHost.lean ====
/-
  One step of the host's program at a time: a StableHLO operation on the buffers that it reads and writes.
-/
module

public import proofs.«01_k».proof.Proof.ExpertsTile

@[expose] public section

set_option maxRecDepth 16384

noncomputable section

namespace Cert.ExpertsIdeal.Run

open Cert.ExpertsIdeal Cert.ExpertsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD)

/-- Contents at launch with those of one buffer replaced. -/
theorem upd_at (V : Valuation τ sig (Elt F)) (b : DevRef τ sig) (f : b.ty.Contents (Elt F)) : (Function.update V b f) b = f := Function.update_self _ _ _

include m in
set_option maxHeartbeats 1000000 in
/-- An operation that reads one buffer and writes another. -/
theorem wp_one {op : HloOp τ sig (Elt F)} (x y : Ref sig .tc) (hxy : x ≠ y) (hb : op.bufs = {Proc.devRef .tc x, Proc.devRef .tc y})
    (hw : op.writes = {Proc.devRef .tc y}) (hfr : op.fresh = ∅) (fx : Buf (Elt F) ((T d : Thread nD τ).loc x)) (fy gy : Buf (Elt F) ((T d : Thread nD τ).loc y))
    (hr : ∀ V : Valuation τ sig (Elt F), V (Proc.devRef .tc x) = fx → op.result V (Proc.devRef .tc y) = gy) (hp : (T d : Thread nD τ).2.kind.runsHlo = true)
    (Q : PUnit → sProp 𝕄) :
    iprop(boundary (T d : Thread nD τ) ∗ ((T d : Thread nD τ).loc x ↦{fullShare} fx) ∗ ((T d : Thread nD τ).loc y ↦{fullShare} fy))
      ⊢ iprop((iprop(boundary (T d : Thread nD τ) ∗ ((T d : Thread nD τ).loc x ↦{fullShare} fx) ∗ ((T d : Thread nD τ).loc y ↦{fullShare} gy)) -∗ Q ⟨⟩)
          -∗ wp frame (wpE ((K (F := F)).defs D) 𝒱 (T d) none) Set.univ (hlo hp op fun _ => .ret ⟨⟩) Q) := by
  have hne : Proc.devRef (τ := τ) .tc x ≠ Proc.devRef .tc y := StableHlo.devRef_ne_of_ne hxy
  let V : Valuation τ sig (Elt F) := Function.update (Function.update (fun b => m (d, b)) (Proc.devRef .tc x) fx) (Proc.devRef .tc y) fy
  have hVy : V (Proc.devRef .tc y) = fy := Function.update_self _ _ _
  have hVx : V (Proc.devRef .tc x) = fx := (Function.update_of_ne hne _ _).trans (Function.update_self _ _ _)
  have hRy : op.result V (Proc.devRef .tc y) = gy := hr V hVx
  have hRx : op.result V (Proc.devRef .tc x) = fx :=
    (op.result_of_not_mem _ (by rw [hw, Finset.mem_singleton]; exact hne)).trans hVx
  have e : ∀ W : Valuation τ sig (Elt F), (bigSep op.bufs fun b => ((d, b) : Loc nD τ sig) ↦{fullShare} W b : sProp 𝕄)
      = iprop(((T d : Thread nD τ).loc x ↦{fullShare} W (Proc.devRef .tc x)) ∗ ((T d : Thread nD τ).loc y ↦{fullShare} W (Proc.devRef .tc y))) := fun W => by
    rw [hb, SparseCore.bigSep_insert' (by rw [Finset.mem_singleton]; exact hne), bigSep_singleton]
  have h := wp_hlo (Γ := []) (defs := (K (F := F)).defs D) (Q := Q) 𝒱 (T d : Thread nD τ) none Set.univ (hp := hp) (op := op) (k := fun _ => .ret ⟨⟩) (q := fun _ => fullShare) (F := V)
    (fun _ _ => rfl) hfr
  rw [show (bigSep op.bufs fun b => (((T d : Thread nD τ).1, b) : Loc nD τ sig) ↦{fullShare} V b : sProp 𝕄) = _ from e V,
    show (bigSep op.bufs fun b => (((T d : Thread nD τ).1, b) : Loc nD τ sig) ↦{fullShare} op.result V b : sProp 𝕄) = _ from e _, hVx, hVy, hRx, hRy] at h
  iintro H HQ
  iapply h $$ H
  iintro H
  rw [wp_ret]
  imodintro
  iapply HQ; iexact H

include m in
/-- A slice, or any function of one array. -/
theorem wp_un (x y : Ref sig .tc) (hxy : x ≠ y) (f : x.ty.Contents (Elt F) → y.ty.Contents (Elt F)) (hx hy)
    (fx : Buf (Elt F) ((T d : Thread nD τ).loc x)) (fy : Buf (Elt F) ((T d : Thread nD τ).loc y)) (hp : (T d : Thread nD τ).2.kind.runsHlo = true)
    (Q : PUnit → sProp 𝕄) :
    iprop(boundary (T d : Thread nD τ) ∗ ((T d : Thread nD τ).loc x ↦{fullShare} fx) ∗ ((T d : Thread nD τ).loc y ↦{fullShare} fy))
      ⊢ iprop((iprop(boundary (T d : Thread nD τ) ∗ ((T d : Thread nD τ).loc x ↦{fullShare} fx) ∗ ((T d : Thread nD τ).loc y ↦{fullShare} (f fx : Buf (Elt F) ((T d : Thread nD τ).loc y)))) -∗ Q ⟨⟩)
          -∗ wp frame (wpE ((K (F := F)).defs D) 𝒱 (T d) none) Set.univ (hlo hp (StableHlo.unary x y f hx hy) fun _ => .ret ⟨⟩) Q) :=
  wp_one m d x y hxy rfl rfl rfl fx fy (f fx) (fun V h => (StableHlo.unary_result x y f hx hy V).trans (congrArg f h)) hp Q

include m in
/-- A reshape. -/
theorem wp_rs (x y : Ref sig .tc) (hxy : x ≠ y) (he : x.ty.elt = y.ty.elt) (hn : x.ty.shape.ShapeCasts y.ty.shape) (hx hy)
    (fx : Buf (Elt F) ((T d : Thread nD τ).loc x)) (fy gy : Buf (Elt F) ((T d : Thread nD τ).loc y))
    (hg : gy = (fun i => he ▸ shapeCast y.ty.shape (fx : x.ty.Contents (Elt F)) hn i : y.ty.Contents (Elt F))) (hp : (T d : Thread nD τ).2.kind.runsHlo = true)
    (Q : PUnit → sProp 𝕄) :
    iprop(boundary (T d : Thread nD τ) ∗ ((T d : Thread nD τ).loc x ↦{fullShare} fx) ∗ ((T d : Thread nD τ).loc y ↦{fullShare} fy))
      ⊢ iprop((iprop(boundary (T d : Thread nD τ) ∗ ((T d : Thread nD τ).loc x ↦{fullShare} fx) ∗ ((T d : Thread nD τ).loc y ↦{fullShare} gy)) -∗ Q ⟨⟩)
          -∗ wp frame (wpE ((K (F := F)).defs D) 𝒱 (T d) none) Set.univ (hlo hp (StableHlo.reshape x y he hn hx hy) fun _ => .ret ⟨⟩) Q) :=
  wp_one m d x y hxy rfl rfl rfl fx fy gy (fun V h => (StableHlo.reshape_result x y he hn hx hy V).trans (by subst hg; subst h; rfl)) hp Q

set_option maxHeartbeats 1000000 in
include m in
/-- An operation that reads the four wide slabs and writes their join. -/
theorem wp_four {op : HloOp τ sig (Elt F)} (hb : op.bufs = insert (Proc.devRef (τ := τ) .tc main_v13) (Finset.univ.image fun k : Fin 4 => Proc.devRef (τ := τ) .tc ((![main_v9, main_v10, main_v11, main_v12] : Fin 4 → Ref sig .tc) k)))
    (hfr : op.fresh = ∅) (f0 f1 f2 f3 : S6144x256.Idx → Elt F .f32) (fy gy : S6144x1024.Idx → Elt F .f32)
    (hr : ∀ V : Valuation τ sig (Elt F), V (Proc.devRef .tc main_v9) = f0 → V (Proc.devRef .tc main_v10) = f1 → V (Proc.devRef .tc main_v11) = f2
      → V (Proc.devRef .tc main_v12) = f3 → op.result V (Proc.devRef .tc main_v13) = gy) (hp : (T d : Thread nD τ).2.kind.runsHlo = true)
    (Q : PUnit → sProp 𝕄) :
    iprop(boundary (T d : Thread nD τ) ∗ ((T d : Thread nD τ).loc main_v9 ↦{fullShare} (f0 : Buf (Elt F) ((T d : Thread nD τ).loc main_v9)))
        ∗ ((T d : Thread nD τ).loc main_v10 ↦{fullShare} (f1 : Buf (Elt F) ((T d : Thread nD τ).loc main_v10)))
        ∗ ((T d : Thread nD τ).loc main_v11 ↦{fullShare} (f2 : Buf (Elt F) ((T d : Thread nD τ).loc main_v11)))
        ∗ ((T d : Thread nD τ).loc main_v12 ↦{fullShare} (f3 : Buf (Elt F) ((T d : Thread nD τ).loc main_v12)))
        ∗ ((T d : Thread nD τ).loc main_v13 ↦{fullShare} (fy : Buf (Elt F) ((T d : Thread nD τ).loc main_v13))))
      ⊢ iprop((iprop(boundary (T d : Thread nD τ) ∗ ((T d : Thread nD τ).loc main_v13 ↦{fullShare} (gy : Buf (Elt F) ((T d : Thread nD τ).loc main_v13)))) -∗ Q ⟨⟩)
          -∗ wp frame (wpE ((K (F := F)).defs D) 𝒱 (T d) none) Set.univ (hlo hp op fun _ => .ret ⟨⟩) Q) := by
  let V0 : Valuation τ sig (Elt F) := fun b => m (d, b)
  let V : Valuation τ sig (Elt F) := Function.update (Function.update (Function.update (Function.update (Function.update V0 (Proc.devRef .tc main_v13) fy)
    (Proc.devRef .tc main_v12) f3) (Proc.devRef .tc main_v11) f2) (Proc.devRef .tc main_v10) f1) (Proc.devRef .tc main_v9) f0
  have n1 : Proc.devRef (τ := τ) .tc main_v10 ≠ Proc.devRef .tc main_v9 := StableHlo.devRef_ne_of_ne (by decide)
  have n2 : Proc.devRef (τ := τ) .tc main_v11 ≠ Proc.devRef .tc main_v9 := StableHlo.devRef_ne_of_ne (by decide)
  have n2' : Proc.devRef (τ := τ) .tc main_v11 ≠ Proc.devRef .tc main_v10 := StableHlo.devRef_ne_of_ne (by decide)
  have n3 : Proc.devRef (τ := τ) .tc main_v12 ≠ Proc.devRef .tc main_v9 := StableHlo.devRef_ne_of_ne (by decide)
  have n3' : Proc.devRef (τ := τ) .tc main_v12 ≠ Proc.devRef .tc main_v10 := StableHlo.devRef_ne_of_ne (by decide)
  have n3'' : Proc.devRef (τ := τ) .tc main_v12 ≠ Proc.devRef .tc main_v11 := StableHlo.devRef_ne_of_ne (by decide)
  have n4 : Proc.devRef (τ := τ) .tc main_v13 ≠ Proc.devRef .tc main_v9 := StableHlo.devRef_ne_of_ne (by decide)
  have n4' : Proc.devRef (τ := τ) .tc main_v13 ≠ Proc.devRef .tc main_v10 := StableHlo.devRef_ne_of_ne (by decide)
  have n4'' : Proc.devRef (τ := τ) .tc main_v13 ≠ Proc.devRef .tc main_v11 := StableHlo.devRef_ne_of_ne (by decide)
  have n4''' : Proc.devRef (τ := τ) .tc main_v13 ≠ Proc.devRef .tc main_v12 := StableHlo.devRef_ne_of_ne (by decide)
  have h0 : V (Proc.devRef .tc main_v9) = f0 := Function.update_self _ _ _
  have h1 : V (Proc.devRef .tc main_v10) = f1 := (Function.update_of_ne n1 _ _).trans (Function.update_self _ _ _)
  have h2 : V (Proc.devRef .tc main_v11) = f2 := (Function.update_of_ne n2 _ _).trans ((Function.update_of_ne n2' _ _).trans (Function.update_self _ _ _))
  have h3 : V (Proc.devRef .tc main_v12) = f3 := (Function.update_of_ne n3 _ _).trans ((Function.update_of_ne n3' _ _).trans ((Function.update_of_ne n3'' _ _).trans (Function.update_self _ _ _)))
  have h4 : V (Proc.devRef .tc main_v13) = fy := (Function.update_of_ne n4 _ _).trans ((Function.update_of_ne n4' _ _).trans ((Function.update_of_ne n4'' _ _).trans
    ((Function.update_of_ne n4''' _ _).trans (Function.update_self _ _ _))))
  have e : ∀ W : Valuation τ sig (Elt F), (bigSep op.bufs
        fun b => ((d, b) : Loc nD τ sig) ↦{fullShare} W b : sProp 𝕄)
      = iprop(((T d : Thread nD τ).loc main_v13 ↦{fullShare} W (Proc.devRef .tc main_v13)) ∗ ((T d : Thread nD τ).loc main_v9 ↦{fullShare} W (Proc.devRef .tc main_v9))
        ∗ ((T d : Thread nD τ).loc main_v10 ↦{fullShare} W (Proc.devRef .tc main_v10)) ∗ ((T d : Thread nD τ).loc main_v11 ↦{fullShare} W (Proc.devRef .tc main_v11))
        ∗ ((T d : Thread nD τ).loc main_v12 ↦{fullShare} W (Proc.devRef .tc main_v12))) := fun W => by
    rw [hb, show insert (Proc.devRef (τ := τ) .tc main_v13) (Finset.univ.image fun k : Fin 4 => Proc.devRef (τ := τ) .tc ((![main_v9, main_v10, main_v11, main_v12] : Fin 4 → Ref sig .tc) k))
      = {Proc.devRef .tc main_v13, Proc.devRef .tc main_v9, Proc.devRef .tc main_v10, Proc.devRef .tc main_v11, Proc.devRef .tc main_v12} from rfl,
      SparseCore.bigSep_insert' (by decide), SparseCore.bigSep_insert' (by decide), SparseCore.bigSep_insert' (by decide), SparseCore.bigSep_insert' (by decide), bigSep_singleton]
  have h := wp_hlo (Γ := []) (defs := (K (F := F)).defs D) (Q := Q) 𝒱 (T d : Thread nD τ) none Set.univ (hp := hp) (op := op) (k := fun _ => .ret ⟨⟩) (q := fun _ => fullShare) (F := V)
    (fun _ _ => rfl) hfr
  rw [show (bigSep op.bufs fun b => (((T d : Thread nD τ).1, b) : Loc nD τ sig) ↦{fullShare} V b : sProp 𝕄) = _ from e V,
    show (bigSep op.bufs fun b => (((T d : Thread nD τ).1, b) : Loc nD τ sig) ↦{fullShare} op.result V b : sProp 𝕄) = _ from e _, h0, h1, h2, h3, h4, hr V h0 h1 h2 h3] at h
  iintro ⟨HB, H0, H1, H2, H3, H4⟩ HQ
  iapply h $$ [HB H0 H1 H2 H3 H4]
  · isplitl [HB]; · iexact HB
    isplitl [H4]; · iexact H4
    isplitl [H0]; · iexact H0
    isplitl [H1]; · iexact H1
    isplitl [H2]; · iexact H2
    iexact H3
  iintro ⟨HB, H4, -⟩
  rw [wp_ret]
  imodintro
  iapply HQ
  isplitl [HB] <;> iassumption

include m in
/-- The four scattered slabs side by side. -/
theorem wp_join (f0 f1 f2 f3 : S6144x256.Idx → Elt F .f32) (fy : S6144x1024.Idx → Elt F .f32) (f) (hxs hy) (hp : (T d : Thread nD τ).2.kind.runsHlo = true)
    (gy : S6144x1024.Idx → Elt F .f32)
    (hg : ∀ u, u 0 = f0 → u 1 = f1 → u 2 = f2 → u 3 = f3 → f u = gy)
    (Q : PUnit → sProp 𝕄) :
    iprop(boundary (T d : Thread nD τ) ∗ ((T d : Thread nD τ).loc main_v9 ↦{fullShare} (f0 : Buf (Elt F) ((T d : Thread nD τ).loc main_v9)))
        ∗ ((T d : Thread nD τ).loc main_v10 ↦{fullShare} (f1 : Buf (Elt F) ((T d : Thread nD τ).loc main_v10)))
        ∗ ((T d : Thread nD τ).loc main_v11 ↦{fullShare} (f2 : Buf (Elt F) ((T d : Thread nD τ).loc main_v11)))
        ∗ ((T d : Thread nD τ).loc main_v12 ↦{fullShare} (f3 : Buf (Elt F) ((T d : Thread nD τ).loc main_v12)))
        ∗ ((T d : Thread nD τ).loc main_v13 ↦{fullShare} (fy : Buf (Elt F) ((T d : Thread nD τ).loc main_v13))))
      ⊢ iprop((iprop(boundary (T d : Thread nD τ) ∗ ((T d : Thread nD τ).loc main_v13 ↦{fullShare} (gy : Buf (Elt F) ((T d : Thread nD τ).loc main_v13)))) -∗ Q ⟨⟩)
          -∗ wp frame (wpE ((K (F := F)).defs D) 𝒱 (T d) none) Set.univ (hlo hp (StableHlo.nary ![main_v9, main_v10, main_v11, main_v12] main_v13
              f hxs hy) fun _ => .ret ⟨⟩) Q) :=
  wp_four m d rfl rfl f0 f1 f2 f3 fy gy (fun V h0 h1 h2 h3 => (StableHlo.nary_result _ _ f hxs hy V).trans (hg _ h0 h1 h2 h3)) hp Q

end Cert.ExpertsIdeal.Run

end
-- ==== Proof.ExpertsDeal.lean ====
/-
  The two SparseCore calls' operands dealt to the workers and their results joined again.
-/
module

public import proofs.«01_k».proof.Proof.ExpertsHost

@[expose] public section

set_option maxRecDepth 16384

noncomputable section

namespace Cert.ExpertsIdeal.Run

open Cert.ExpertsIdeal Cert.ExpertsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (h : PreOK m)

/-- Rows of the first array that no tile names stay as they were. -/
theorem off0 (i : S6144x2x128.Idx) (hi : i ∉ allOf (ℓ := (T d : Thread nD τ).loc main_v8_0) fun c s => sRows (Memref.whole main_v8_0_scv) (aP m d) c s) : mT m d main_v8_0 i = sc0 m d i := by
  refine scattered_off (Memref.whole main_v8_0_scv) (aP m d) (slab0 (aX m d)) (mT m d main_v8_0) i fun c s hc => hi ?_
  have e : (sTgt (Memref.whole main_v8_0_scv)).view.emb i = i := full_emb i
  rw [e] at hc
  exact Finset.mem_biUnion.mpr ⟨c, Finset.mem_univ c, Finset.mem_biUnion.mpr ⟨s, Finset.mem_univ s, hc⟩⟩

/-- Rows of the second array that no tile names stay as they were. -/
theorem off1 (i : S6144x2x128.Idx) (hi : i ∉ allOf (ℓ := (T d : Thread nD τ).loc main_v8_1) fun c s => sRows (Memref.whole main_v8_1_scv) (aP m d) c s) : mT m d main_v8_1 i = sc1 m d i := by
  refine scattered_off (Memref.whole main_v8_1_scv) (aP m d) (slab1 (aX m d)) (mT m d main_v8_1) i fun c s hc => hi ?_
  have e : (sTgt (Memref.whole main_v8_1_scv)).view.emb i = i := full_emb i
  rw [e] at hc
  exact Finset.mem_biUnion.mpr ⟨c, Finset.mem_univ c, Finset.mem_biUnion.mpr ⟨s, Finset.mem_univ s, hc⟩⟩

/-- Rows of the third array that no tile names stay as they were. -/
theorem off2 (i : S6144x2x128.Idx) (hi : i ∉ allOf (ℓ := (T d : Thread nD τ).loc main_v8_2) fun c s => sRows (Memref.whole main_v8_2_scv) (aP m d) c s) : mT m d main_v8_2 i = sc2 m d i := by
  refine scattered_off (Memref.whole main_v8_2_scv) (aP m d) (slab2 (aX m d)) (mT m d main_v8_2) i fun c s hc => hi ?_
  have e : (sTgt (Memref.whole main_v8_2_scv)).view.emb i = i := full_emb i
  rw [e] at hc
  exact Finset.mem_biUnion.mpr ⟨c, Finset.mem_univ c, Finset.mem_biUnion.mpr ⟨s, Finset.mem_univ s, hc⟩⟩

/-- Rows of the fourth array that no tile names stay as they were. -/
theorem off3 (i : S6144x2x128.Idx) (hi : i ∉ allOf (ℓ := (T d : Thread nD τ).loc main_v8_3) fun c s => sRows (Memref.whole main_v8_3_scv) (aP m d) c s) : mT m d main_v8_3 i = sc3 m d i := by
  refine scattered_off (Memref.whole main_v8_3_scv) (aP m d) (slab3 (aX m d)) (mT m d main_v8_3) i fun c s hc => hi ?_
  have e : (sTgt (Memref.whole main_v8_3_scv)).view.emb i = i := full_emb i
  rw [e] at hc
  exact Finset.mem_biUnion.mpr ⟨c, Finset.mem_univ c, Finset.mem_biUnion.mpr ⟨s, Finset.mem_univ s, hc⟩⟩

/-- What the first call takes, array by array. -/
theorem st0_eq : (bigSep Finset.univ fun c : Fin ((K (F := F)).nCore 0) => (P m h).st 0 d c) = iprop((each fun c s => ((T d : Thread nD τ).loc main_arg1 ↦{qs c s} (aP m d : Buf (Elt F) ((T d : Thread nD τ).loc main_arg1)))) ∗ (each fun c s => ((T d : Thread nD τ).loc main_v1 ↦{qs c s} (slab0 (aX m d) : Buf (Elt F) ((T d : Thread nD τ).loc main_v1)))) ∗ (each fun c s => ((T d : Thread nD τ).loc main_v3 ↦{qs c s} (slab1 (aX m d) : Buf (Elt F) ((T d : Thread nD τ).loc main_v3)))) ∗ (each fun c s => ((T d : Thread nD τ).loc main_v5 ↦{qs c s} (slab2 (aX m d) : Buf (Elt F) ((T d : Thread nD τ).loc main_v5)))) ∗ (each fun c s => ((T d : Thread nD τ).loc main_v7 ↦{qs c s} (slab3 (aX m d) : Buf (Elt F) ((T d : Thread nD τ).loc main_v7)))) ∗ (each fun c s => ((T d : Thread nD τ).loc main_v8_0 ↦[sRows (Memref.whole main_v8_0_scv) (aP m d) c s]{fullShare} mT m d main_v8_0)) ∗ (each fun c s => ((T d : Thread nD τ).loc main_v8_1 ↦[sRows (Memref.whole main_v8_1_scv) (aP m d) c s]{fullShare} mT m d main_v8_1)) ∗ (each fun c s => ((T d : Thread nD τ).loc main_v8_2 ↦[sRows (Memref.whole main_v8_2_scv) (aP m d) c s]{fullShare} mT m d main_v8_2)) ∗ (each fun c s => ((T d : Thread nD τ).loc main_v8_3 ↦[sRows (Memref.whole main_v8_3_scv) (aP m d) c s]{fullShare} mT m d main_v8_3))) := by
  refine Eq.trans (b := each fun c s => go0 m d c s) rfl ?_
  unfold go0
  iterate 8 refine (each_sep _ _).trans (congrArg (BIBase.sep _) ?_)
  rfl

/-- And what it brings back. -/
theorem dn0_eq : (bigSep Finset.univ fun c : Fin ((K (F := F)).nCore 0) => (P m h).dn 0 d c) = iprop((each fun c s => ((T d : Thread nD τ).loc main_arg1 ↦{qs c s} (aP m d : Buf (Elt F) ((T d : Thread nD τ).loc main_arg1)))) ∗ (each fun c s => ((T d : Thread nD τ).loc main_v8_0 ↦[sRows (Memref.whole main_v8_0_scv) (aP m d) c s]{fullShare} sc0 m d)) ∗ (each fun c s => ((T d : Thread nD τ).loc main_v8_1 ↦[sRows (Memref.whole main_v8_1_scv) (aP m d) c s]{fullShare} sc1 m d)) ∗ (each fun c s => ((T d : Thread nD τ).loc main_v8_2 ↦[sRows (Memref.whole main_v8_2_scv) (aP m d) c s]{fullShare} sc2 m d)) ∗ (each fun c s => ((T d : Thread nD τ).loc main_v8_3 ↦[sRows (Memref.whole main_v8_3_scv) (aP m d) c s]{fullShare} sc3 m d))) := by
  refine Eq.trans (b := each fun c s => td0 m d c s) rfl ?_
  unfold td0
  iterate 4 refine (each_sep _ _).trans (congrArg (BIBase.sep _) ?_)
  rfl

include h in
set_option maxHeartbeats 1000000 in
/-- The first call's operands, dealt to the workers; its results, joined: the slots and the four scattered arrays. -/
theorem deal0 : iprop(((T d : Thread nD τ).loc main_arg1 ↦{fullShare} (aP m d : Buf (Elt F) ((T d : Thread nD τ).loc main_arg1))) ∗ ((T d : Thread nD τ).loc main_v1 ↦{fullShare} (slab0 (aX m d) : Buf (Elt F) ((T d : Thread nD τ).loc main_v1))) ∗ ((T d : Thread nD τ).loc main_v3 ↦{fullShare} (slab1 (aX m d) : Buf (Elt F) ((T d : Thread nD τ).loc main_v3))) ∗ ((T d : Thread nD τ).loc main_v5 ↦{fullShare} (slab2 (aX m d) : Buf (Elt F) ((T d : Thread nD τ).loc main_v5))) ∗ ((T d : Thread nD τ).loc main_v7 ↦{fullShare} (slab3 (aX m d) : Buf (Elt F) ((T d : Thread nD τ).loc main_v7))) ∗ ((T d : Thread nD τ).loc main_v8_0 ↦{fullShare} (mT m d main_v8_0 : Buf (Elt F) ((T d : Thread nD τ).loc main_v8_0))) ∗ ((T d : Thread nD τ).loc main_v8_1 ↦{fullShare} (mT m d main_v8_1 : Buf (Elt F) ((T d : Thread nD τ).loc main_v8_1))) ∗ ((T d : Thread nD τ).loc main_v8_2 ↦{fullShare} (mT m d main_v8_2 : Buf (Elt F) ((T d : Thread nD τ).loc main_v8_2))) ∗ ((T d : Thread nD τ).loc main_v8_3 ↦{fullShare} (mT m d main_v8_3 : Buf (Elt F) ((T d : Thread nD τ).loc main_v8_3))))
    ⊢ iprop((bigSep Finset.univ fun c : Fin ((K (F := F)).nCore 0) => (P m h).st 0 d c)
      ∗ ((bigSep Finset.univ fun c : Fin ((K (F := F)).nCore 0) => (P m h).dn 0 d c) -∗ iprop(((T d : Thread nD τ).loc main_arg1 ↦{fullShare} (aP m d : Buf (Elt F) ((T d : Thread nD τ).loc main_arg1))) ∗ ((T d : Thread nD τ).loc main_v8_0 ↦{fullShare} (sc0 m d : Buf (Elt F) ((T d : Thread nD τ).loc main_v8_0))) ∗ ((T d : Thread nD τ).loc main_v8_1 ↦{fullShare} (sc1 m d : Buf (Elt F) ((T d : Thread nD τ).loc main_v8_1))) ∗ ((T d : Thread nD τ).loc main_v8_2 ↦{fullShare} (sc2 m d : Buf (Elt F) ((T d : Thread nD τ).loc main_v8_2))) ∗ ((T d : Thread nD τ).loc main_v8_3 ↦{fullShare} (sc3 m d : Buf (Elt F) ((T d : Thread nD τ).loc main_v8_3)))))) := by
  rw [st0_eq, dn0_eq]
  rw [shares_eq (ℓ := (T d : Thread nD τ).loc main_arg1), shares_eq (ℓ := (T d : Thread nD τ).loc main_v1), shares_eq (ℓ := (T d : Thread nD τ).loc main_v3), shares_eq (ℓ := (T d : Thread nD τ).loc main_v5), shares_eq (ℓ := (T d : Thread nD τ).loc main_v7)]
  iintro ⟨HP, H1, H3, H5, H7, HT0, HT1, HT2, HT3⟩
  ihave HT0 := (spread (ℓ := (T d : Thread nD τ).loc main_v8_0) (fun c s => sRows (Memref.whole main_v8_0_scv) (aP m d) c s) (sRows_disj (Memref.whole main_v8_0_scv) (aP m d) (h.dist d)) _ (sc0 m d) (off0 m d)) $$ HT0
  icases HT0 with ⟨HT0, HR0⟩
  ihave HT1 := (spread (ℓ := (T d : Thread nD τ).loc main_v8_1) (fun c s => sRows (Memref.whole main_v8_1_scv) (aP m d) c s) (sRows_disj (Memref.whole main_v8_1_scv) (aP m d) (h.dist d)) _ (sc1 m d) (off1 m d)) $$ HT1
  icases HT1 with ⟨HT1, HR1⟩
  ihave HT2 := (spread (ℓ := (T d : Thread nD τ).loc main_v8_2) (fun c s => sRows (Memref.whole main_v8_2_scv) (aP m d) c s) (sRows_disj (Memref.whole main_v8_2_scv) (aP m d) (h.dist d)) _ (sc2 m d) (off2 m d)) $$ HT2
  icases HT2 with ⟨HT2, HR2⟩
  ihave HT3 := (spread (ℓ := (T d : Thread nD τ).loc main_v8_3) (fun c s => sRows (Memref.whole main_v8_3_scv) (aP m d) c s) (sRows_disj (Memref.whole main_v8_3_scv) (aP m d) (h.dist d)) _ (sc3 m d) (off3 m d)) $$ HT3
  icases HT3 with ⟨HT3, HR3⟩
  isplitl [HP H1 H3 H5 H7 HT0 HT1 HT2 HT3]
  · isplitl [HP]; · iexact HP
    isplitl [H1]; · iexact H1
    isplitl [H3]; · iexact H3
    isplitl [H5]; · iexact H5
    isplitl [H7]; · iexact H7
    isplitl [HT0]; · iexact HT0
    isplitl [HT1]; · iexact HT1
    isplitl [HT2]; · iexact HT2
    iexact HT3
  iintro ⟨HP, HT0, HT1, HT2, HT3⟩
  isplitl [HP]; · iexact HP
  isplitl [HR0 HT0]; · iapply HR0; iexact HT0
  isplitl [HR1 HT1]; · iapply HR1; iexact HT1
  isplitl [HR2 HT2]; · iapply HR2; iexact HT2
  iapply HR3; iexact HT3

/-- Worker by worker, its two windows as one. -/
theorem windows_eq (f : Buf (Elt F) ((T d : Thread nD τ).loc main_v18)) (c : Fin 2) (s : Fin 16) :
    (iprop(((T d : Thread nD τ).loc main_v18 ↦[gW0 c s]{fullShare} f) ∗ ((T d : Thread nD τ).loc main_v18 ↦[gW1 c s]{fullShare} f)) : sProp 𝕄) = ((T d : Thread nD τ).loc main_v18 ↦[gW0 c s ∪ gW1 c s]{fullShare} f) :=
  (BI.equiv_iff.mp ⟨(pointsTo_union (gW01_disj c s)).1, (pointsTo_union (gW01_disj c s)).2⟩).symm

/-- What a task of the last call takes, from products `fy` whose gathered rows are the result's. -/
theorem go1_of (fy : Buf (Elt F) ((T d : Thread nD τ).loc main_v17)) (hy : gathered (aP m d) fy = gathAt m d h) (c : Fin 2) (s : Fin 16) :
    iprop(((T d : Thread nD τ).loc main_arg1 ↦{qs c s} (aP m d : Buf (Elt F) ((T d : Thread nD τ).loc main_arg1))) ∗ ((T d : Thread nD τ).loc main_v17 ↦{qs c s} (fy : Buf (Elt F) ((T d : Thread nD τ).loc main_v17))) ∗ ((T d : Thread nD τ).loc main_v18 ↦[gW0 c s ∪ gW1 c s]{fullShare} mT m d main_v18)) ⊢ go1 m d h c s := by
  rw [← windows_eq]
  unfold go1
  iintro ⟨HP, HY, H0, H1⟩
  iexists fy
  isplitr; · ipureintro; exact hy
  isplitl [HP]; · iexact HP
  isplitl [HY]; · iexact HY
  isplitl [H0]; · iexact H0
  iexact H1

/-- What the last call takes, all of it. -/
theorem st1_of (fy : Buf (Elt F) ((T d : Thread nD τ).loc main_v17)) (hy : gathered (aP m d) fy = gathAt m d h) :
    iprop((each fun c s => ((T d : Thread nD τ).loc main_arg1 ↦{qs c s} (aP m d : Buf (Elt F) ((T d : Thread nD τ).loc main_arg1)))) ∗ (each fun c s => ((T d : Thread nD τ).loc main_v17 ↦{qs c s} (fy : Buf (Elt F) ((T d : Thread nD τ).loc main_v17)))) ∗ (each fun c s => ((T d : Thread nD τ).loc main_v18 ↦[gW0 c s ∪ gW1 c s]{fullShare} mT m d main_v18)))
      ⊢ (bigSep Finset.univ fun c : Fin ((K (F := F)).nCore 1) => (P m h).st 1 d c) := by
  rw [← each_sep, ← each_sep]
  show each _ ⊢ each fun c s => go1 m d h c s
  exact bigSep_mono fun c _ => bigSep_mono fun s _ => go1_of m d h fy hy c s

/-- And what it brings back. -/
theorem dn1_eq : (bigSep Finset.univ fun c : Fin ((K (F := F)).nCore 1) => (P m h).dn 1 d c)
    = iprop((each fun c s => ((T d : Thread nD τ).loc main_arg1 ↦{qs c s} (aP m d : Buf (Elt F) ((T d : Thread nD τ).loc main_arg1)))) ∗ (each fun c s => ((T d : Thread nD τ).loc main_v18 ↦[gW0 c s ∪ gW1 c s]{fullShare} (gathAt m d h : Buf (Elt F) ((T d : Thread nD τ).loc main_v18))))) := by
  refine Eq.trans (b := each fun c s => td1 m d h c s) rfl ?_
  unfold td1
  refine (each_sep _ _).trans (congrArg (BIBase.sep _) ?_)
  exact each_congr fun c s => windows_eq d _ c s

/-- The last call's operands, dealt to the workers; its results, joined: the slots and the gathered lines. -/
theorem deal1 (fy : Buf (Elt F) ((T d : Thread nD τ).loc main_v17)) (hy : gathered (aP m d) fy = gathAt m d h) :
    iprop(((T d : Thread nD τ).loc main_arg1 ↦{fullShare} (aP m d : Buf (Elt F) ((T d : Thread nD τ).loc main_arg1))) ∗ ((T d : Thread nD τ).loc main_v17 ↦{fullShare} (fy : Buf (Elt F) ((T d : Thread nD τ).loc main_v17))) ∗ ((T d : Thread nD τ).loc main_v18 ↦{fullShare} (mT m d main_v18 : Buf (Elt F) ((T d : Thread nD τ).loc main_v18))))
    ⊢ iprop((bigSep Finset.univ fun c : Fin ((K (F := F)).nCore 1) => (P m h).st 1 d c)
      ∗ ((bigSep Finset.univ fun c : Fin ((K (F := F)).nCore 1) => (P m h).dn 1 d c) -∗ iprop(((T d : Thread nD τ).loc main_arg1 ↦{fullShare} (aP m d : Buf (Elt F) ((T d : Thread nD τ).loc main_arg1))) ∗ ((T d : Thread nD τ).loc main_v18 ↦{fullShare} (gathAt m d h : Buf (Elt F) ((T d : Thread nD τ).loc main_v18)))))) := by
  rw [dn1_eq, shares_eq (ℓ := (T d : Thread nD τ).loc main_arg1), shares_eq (ℓ := (T d : Thread nD τ).loc main_v17)]
  iintro ⟨HP, HY, HT⟩
  ihave HT := (spread (ℓ := (T d : Thread nD τ).loc main_v18) (fun c s => gW0 c s ∪ gW1 c s) gW_disj _ (gathAt m d h) (fun i hi => absurd (by
    obtain ⟨c, s, hc⟩ := gW_cover i
    exact Finset.mem_biUnion.mpr ⟨c, Finset.mem_univ c, Finset.mem_biUnion.mpr ⟨s, Finset.mem_univ s, hc⟩⟩) hi)) $$ HT
  icases HT with ⟨HT, HR⟩
  isplitl [HP HY HT]
  · iapply (st1_of m d h fy hy)
    isplitl [HP]; · iexact HP
    isplitl [HY]; · iexact HY
    iexact HT
  iintro ⟨HP, HT⟩
  isplitl [HP]; · iexact HP
  iapply HR; iexact HT

end Cert.ExpertsIdeal.Run

end
-- ==== Proof.ExpertsMain.lean ====
/-
  The Experts program's run from its launch: the host's operations, the two SparseCore calls and the region between
  them, and what the program leaves in its arguments and its result.
-/
module

public import proofs.«01_k».proof.Proof.ExpertsDeal

@[expose] public section

set_option maxRecDepth 16384

noncomputable section

namespace Cert.ExpertsIdeal.Run

open Cert.ExpertsIdeal Cert.ExpertsIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg) (h : PreOK m)

/-! ## The ghost state at launch -/

/-- Where the staging cells' ghost state lies. -/
abbrev EP : Emb UP 𝕄 := (Emb.inl : Emb UP (UP × Counters)).trans embR

/-- The ghost state at launch: the handshakes', the staging cells' and the transfers'. -/
def u₀ : UU := (initOf (K (F := F)).hsCells (K (F := F)).hsToks,
  (initOf (Pipeline.cells (Pipeline.pin (pcfgs (F := F)) (adm m h)) (cellOf_inj (adm m h))) (Pipeline.launchToks (Pipeline.pin (pcfgs (F := F)) (adm m h)) (cellOf_inj (adm m h))), 1))

/-- What the region takes of it. -/
def GG (d : Dev nD) : sProp 𝕄 := iprop(Pipeline.cellsGhost (Pipeline.pin (pcfgs (F := F)) (adm m h)) EP 0 d
  ∗ Pipeline.toksInit (Pipeline.pin (pcfgs (F := F)) (adm m h)) EP 0 d)

/-- Many empty resources are one. -/
theorem emps {I : Type} (s : Finset I) : (bigSep s fun _ => iprop(emp)) = (iprop(emp) : sProp 𝕄) := bigSep_emp_const s

/-- The one device's one region's. -/
theorem one_one (Φ : Fin 1 → Dev nD → sProp 𝕄) : (bigSep Finset.univ fun c : Dev nD => bigSep Finset.univ fun p : Fin 1 => Φ p c) = bigSep Finset.univ fun c : Dev nD => Φ 0 c :=
  bigSep_congr fun c _ => bigSep_univ_of_subsingleton (0 : Fin 1)

/-- The region's ghost state on every device. -/
theorem GG_all : (bigSep Finset.univ fun d : Dev nD => GG m h d)
    = iprop((bigSep Finset.univ fun d : Dev nD => Pipeline.cellsGhost (Pipeline.pin (pcfgs (F := F)) (adm m h)) EP 0 d)
        ∗ bigSep Finset.univ fun d : Dev nD => Pipeline.toksInit (Pipeline.pin (pcfgs (F := F)) (adm m h)) EP 0 d) := bigSep_sep' _ _ _

/-- What the launch puts aside for the calls. -/
theorem hu₀ : (ownU (u₀ m h) : sProp 𝕄)
    ⊢ |={Set.univ}=> iprop(BI.own (EH (initOf (K (F := F)).hsCells (K (F := F)).hsToks)) ∗ (bigSep Finset.univ fun d : Dev nD => GG m h d)
        ∗ bigSep Finset.univ fun thr : Thread nD τ => bigSep Finset.univ fun q : Fin 2 => (P m h).x q thr) := by
  unfold u₀
  iintro Hu
  ihave H := (ownU_pair (initOf (K (F := F)).hsCells (K (F := F)).hsToks) _) $$ Hu
  icases H with ⟨HH, HR⟩
  ihave HR := (own_pair_emb embR _ (1 : Counters)) $$ HR
  icases HR with ⟨HR, -⟩
  imod (Pipeline.fund_ghost (Pipeline.pin (pcfgs (F := F)) (adm m h)) (EP (F := F)) (cellOf_inj (adm m h))) $$ HR with ⟨HC, HT⟩
  imodintro
  isplitl [HH]; · iexact HH
  isplitl [HC HT]
  · iapply (Entails.of_eq (GG_all m h).symm)
    isplitl [HC]
    · iapply (Entails.of_eq (one_one (Pipeline.cellsGhost (Pipeline.pin (pcfgs (F := F)) (adm m h)) EP))); iexact HC
    iapply (Entails.of_eq (one_one (Pipeline.toksInit (Pipeline.pin (pcfgs (F := F)) (adm m h)) EP))); iexact HT
  rw [show (bigSep Finset.univ fun thr : Thread nD τ => bigSep Finset.univ fun q : Fin 2 => (P m h).x q thr) = bigSep Finset.univ fun _ => iprop(emp) from
    bigSep_congr fun _ _ => emps _, emps]
  iempintro

/-! ## The host's program -/

variable (d : Dev nD)

set_option maxHeartbeats 4000000 in
/-- The TensorCore's arrays, one by one. -/
theorem unscopedBufs_eq (W : (b : Ref sig .tc) → Buf (Elt F) ((T d : Thread nD τ).loc b)) :
    (unscopedBufs d W : sProp 𝕄) = iprop(((T d : Thread nD τ).loc main_arg0 ↦{fullShare} W main_arg0) ∗ ((T d : Thread nD τ).loc main_arg1 ↦{fullShare} W main_arg1) ∗ ((T d : Thread nD τ).loc main_arg2 ↦{fullShare} W main_arg2) ∗ ((T d : Thread nD τ).loc main_arg3 ↦{fullShare} W main_arg3) ∗ ((T d : Thread nD τ).loc main_arg4 ↦{fullShare} W main_arg4) ∗ ((T d : Thread nD τ).loc main_v0 ↦{fullShare} W main_v0) ∗ ((T d : Thread nD τ).loc main_v1 ↦{fullShare} W main_v1) ∗ ((T d : Thread nD τ).loc main_v2 ↦{fullShare} W main_v2) ∗ ((T d : Thread nD τ).loc main_v3 ↦{fullShare} W main_v3) ∗ ((T d : Thread nD τ).loc main_v4 ↦{fullShare} W main_v4) ∗ ((T d : Thread nD τ).loc main_v5 ↦{fullShare} W main_v5) ∗ ((T d : Thread nD τ).loc main_v6 ↦{fullShare} W main_v6) ∗ ((T d : Thread nD τ).loc main_v7 ↦{fullShare} W main_v7) ∗ ((T d : Thread nD τ).loc main_v8_0 ↦{fullShare} W main_v8_0) ∗ ((T d : Thread nD τ).loc main_v8_1 ↦{fullShare} W main_v8_1) ∗ ((T d : Thread nD τ).loc main_v8_2 ↦{fullShare} W main_v8_2) ∗ ((T d : Thread nD τ).loc main_v8_3 ↦{fullShare} W main_v8_3) ∗ ((T d : Thread nD τ).loc main_v9 ↦{fullShare} W main_v9) ∗ ((T d : Thread nD τ).loc main_v10 ↦{fullShare} W main_v10) ∗ ((T d : Thread nD τ).loc main_v11 ↦{fullShare} W main_v11) ∗ ((T d : Thread nD τ).loc main_v12 ↦{fullShare} W main_v12) ∗ ((T d : Thread nD τ).loc main_v13 ↦{fullShare} W main_v13) ∗ ((T d : Thread nD τ).loc main_v14 ↦{fullShare} W main_v14) ∗ ((T d : Thread nD τ).loc main_v15 ↦{fullShare} W main_v15) ∗ ((T d : Thread nD τ).loc main_v16 ↦{fullShare} W main_v16) ∗ ((T d : Thread nD τ).loc main_v17 ↦{fullShare} W main_v17) ∗ ((T d : Thread nD τ).loc main_v18 ↦{fullShare} W main_v18) ∗ ((T d : Thread nD τ).loc main_v19 ↦{fullShare} W main_v19)) := by
  unfold unscopedBufs
  rw [show (Finset.univ.filter fun b : Ref sig .tc => ¬ b.isScoped) = {main_arg0, main_arg1, main_arg2, main_arg3, main_arg4, main_v0, main_v1, main_v2, main_v3, main_v4, main_v5, main_v6, main_v7, main_v8_0, main_v8_1, main_v8_2, main_v8_3, main_v9, main_v10, main_v11, main_v12, main_v13, main_v14, main_v15, main_v16, main_v17, main_v18, main_v19} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The core owes nothing of its own protocol. -/
theorem Otc_none (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun c _ => by rw [tallyAt_apply, if_neg]; rintro ⟨-, e⟩; cases e
  · rfl

/-- What the program leaves: its arguments as they were, and its result. -/
abbrev FIN : sProp 𝕄 := iprop(((T d : Thread nD τ).loc main_arg0 ↦{fullShare} (mT m d main_arg0 : Buf (Elt F) ((T d : Thread nD τ).loc main_arg0))) ∗ ((T d : Thread nD τ).loc main_arg1 ↦{fullShare} (mT m d main_arg1 : Buf (Elt F) ((T d : Thread nD τ).loc main_arg1))) ∗ ((T d : Thread nD τ).loc main_arg2 ↦{fullShare} (mT m d main_arg2 : Buf (Elt F) ((T d : Thread nD τ).loc main_arg2))) ∗ ((T d : Thread nD τ).loc main_arg3 ↦{fullShare} (mT m d main_arg3 : Buf (Elt F) ((T d : Thread nD τ).loc main_arg3))) ∗ ((T d : Thread nD τ).loc main_arg4 ↦{fullShare} (mT m d main_arg4 : Buf (Elt F) ((T d : Thread nD τ).loc main_arg4))) ∗ ((T d : Thread nD τ).loc main_v19 ↦{fullShare} (outAt m d h : Buf (Elt F) ((T d : Thread nD τ).loc main_v19))))

set_option maxHeartbeats 8000000 in
/-- The host's program from its arrays. -/
theorem hmain (κ : GSem nD τ sig → ℕ) :
    iprop((K (F := F)).ctx EH (P m h) κ ∗ (K (F := F)).tcSt EH d 0 ∗ (K (F := F)).tcRes m ρ d ∗ GG m h d)
      ⊢ wp frame (wpE ((K (F := F)).defs (D (F := F))) 𝒱 (T d) none) Set.univ (main d)
          fun _ => iprop((K (F := F)).tcSt EH d 2 ∗ FIN m h d ∗ (K (F := F)).tcEnd d) := by
  obtain rfl : d = 0 := Subsingleton.elim _ _
  unfold SparseCore.Cfg.tcRes SparseCore.Cfg.tcEnd
  rw [unscopedBufs_eq]
  simp only [main, wp_bind, wp_pure]
  iintro ⟨#Hctx, Hst, ⟨Hb, ⟨Harg0, Harg1, Harg2, Harg3, Harg4, Hv0, Hv1, Hv2, Hv3, Hv4, Hv5, Hv6, Hv7, Hv8_0, Hv8_1, Hv8_2, Hv8_3, Hv9, Hv10, Hv11, Hv12, Hv13, Hv14, Hv15, Hv16, Hv17, Hv18, Hv19⟩, Hts, -⟩, HG⟩
  iapply (wp_un m 0 main_arg0 main_v0 (by decide) _ _ _ (aX m 0) (mT m 0 main_v0) _ _) $$ [Hb Harg0 Hv0]
  · isplitl [Hb]; · iexact Hb
    isplitl [Harg0]; · iexact Harg0
    iexact Hv0
  iintro ⟨Hb, Harg0, Hv0⟩
  iapply (wp_rs m 0 main_v0 main_v1 (by decide) _ _ _ _ (_) (mT m 0 main_v1) (slab0 (aX m 0)) rfl _ _) $$ [Hb Hv0 Hv1]
  · isplitl [Hb]; · iexact Hb
    isplitl [Hv0]; · iexact Hv0
    iexact Hv1
  iintro ⟨Hb, Hv0, Hv1⟩
  iapply (wp_un m 0 main_arg0 main_v2 (by decide) _ _ _ (aX m 0) (mT m 0 main_v2) _ _) $$ [Hb Harg0 Hv2]
  · isplitl [Hb]; · iexact Hb
    isplitl [Harg0]; · iexact Harg0
    iexact Hv2
  iintro ⟨Hb, Harg0, Hv2⟩
  iapply (wp_rs m 0 main_v2 main_v3 (by decide) _ _ _ _ (_) (mT m 0 main_v3) (slab1 (aX m 0)) rfl _ _) $$ [Hb Hv2 Hv3]
  · isplitl [Hb]; · iexact Hb
    isplitl [Hv2]; · iexact Hv2
    iexact Hv3
  iintro ⟨Hb, Hv2, Hv3⟩
  iapply (wp_un m 0 main_arg0 main_v4 (by decide) _ _ _ (aX m 0) (mT m 0 main_v4) _ _) $$ [Hb Harg0 Hv4]
  · isplitl [Hb]; · iexact Hb
    isplitl [Harg0]; · iexact Harg0
    iexact Hv4
  iintro ⟨Hb, Harg0, Hv4⟩
  iapply (wp_rs m 0 main_v4 main_v5 (by decide) _ _ _ _ (_) (mT m 0 main_v5) (slab2 (aX m 0)) rfl _ _) $$ [Hb Hv4 Hv5]
  · isplitl [Hb]; · iexact Hb
    isplitl [Hv4]; · iexact Hv4
    iexact Hv5
  iintro ⟨Hb, Hv4, Hv5⟩
  iapply (wp_un m 0 main_arg0 main_v6 (by decide) _ _ _ (aX m 0) (mT m 0 main_v6) _ _) $$ [Hb Harg0 Hv6]
  · isplitl [Hb]; · iexact Hb
    isplitl [Harg0]; · iexact Harg0
    iexact Hv6
  iintro ⟨Hb, Harg0, Hv6⟩
  iapply (wp_rs m 0 main_v6 main_v7 (by decide) _ _ _ _ (_) (mT m 0 main_v7) (slab3 (aX m 0)) rfl _ _) $$ [Hb Hv6 Hv7]
  · isplitl [Hb]; · iexact Hb
    isplitl [Hv6]; · iexact Hv6
    iexact Hv7
  iintro ⟨Hb, Hv6, Hv7⟩
  ihave H := (deal0 m 0 h) $$ [Harg1 Hv1 Hv3 Hv5 Hv7 Hv8_0 Hv8_1 Hv8_2 Hv8_3]
  · skip
    isplitl [Harg1]; · iexact Harg1
    isplitl [Hv1]; · iexact Hv1
    isplitl [Hv3]; · iexact Hv3
    isplitl [Hv5]; · iexact Hv5
    isplitl [Hv7]; · iexact Hv7
    isplitl [Hv8_0]; · iexact Hv8_0
    isplitl [Hv8_1]; · iexact Hv8_1
    isplitl [Hv8_2]; · iexact Hv8_2
    iexact Hv8_3
  icases H with ⟨Hop, Hback⟩
  iapply ((K (F := F)).wp_run (D (F := F)) 𝒱 (EH := EH) (P := P m h) κ 0 0) $$ [- ]
  isplitr; · iexact Hctx
  isplitl [Hst]; · iexact Hst
  isplitl [Hop]; · iexact Hop
  iintro ⟨Hst, Hdn⟩
  ispecialize Hback $$ Hdn
  icases Hback with ⟨Harg1, Hv8_0, Hv8_1, Hv8_2, Hv8_3⟩
  iapply (wp_rs m 0 main_v8_0 main_v9 (by decide) _ _ _ _ (sc0 m 0) (mT m 0 main_v9) (shapeCast S6144x256 (sc0 m 0 : S6144x2x128.Idx → Elt F .f32) shapeCasts_S6144x2x128_S6144x256) rfl _ _) $$ [Hb Hv8_0 Hv9]
  · isplitl [Hb]; · iexact Hb
    isplitl [Hv8_0]; · iexact Hv8_0
    iexact Hv9
  iintro ⟨Hb, Hv8_0, Hv9⟩
  iapply (wp_rs m 0 main_v8_1 main_v10 (by decide) _ _ _ _ (sc1 m 0) (mT m 0 main_v10) (shapeCast S6144x256 (sc1 m 0 : S6144x2x128.Idx → Elt F .f32) shapeCasts_S6144x2x128_S6144x256) rfl _ _) $$ [Hb Hv8_1 Hv10]
  · isplitl [Hb]; · iexact Hb
    isplitl [Hv8_1]; · iexact Hv8_1
    iexact Hv10
  iintro ⟨Hb, Hv8_1, Hv10⟩
  iapply (wp_rs m 0 main_v8_2 main_v11 (by decide) _ _ _ _ (sc2 m 0) (mT m 0 main_v11) (shapeCast S6144x256 (sc2 m 0 : S6144x2x128.Idx → Elt F .f32) shapeCasts_S6144x2x128_S6144x256) rfl _ _) $$ [Hb Hv8_2 Hv11]
  · isplitl [Hb]; · iexact Hb
    isplitl [Hv8_2]; · iexact Hv8_2
    iexact Hv11
  iintro ⟨Hb, Hv8_2, Hv11⟩
  iapply (wp_rs m 0 main_v8_3 main_v12 (by decide) _ _ _ _ (sc3 m 0) (mT m 0 main_v12) (shapeCast S6144x256 (sc3 m 0 : S6144x2x128.Idx → Elt F .f32) shapeCasts_S6144x2x128_S6144x256) rfl _ _) $$ [Hb Hv8_3 Hv12]
  · isplitl [Hb]; · iexact Hb
    isplitl [Hv8_3]; · iexact Hv8_3
    iexact Hv12
  iintro ⟨Hb, Hv8_3, Hv12⟩
  iapply (wp_join m 0 _ _ _ _ (mT m 0 main_v13) _ _ _ _ (rowsAt m 0) (fun u h0 h1 h2 h3 => by rw [h0, h1, h2, h3]; rfl) _) $$ [Hb Hv9 Hv10 Hv11 Hv12 Hv13]
  · skip
    isplitl [Hb]; · iexact Hb
    isplitl [Hv9]; · iexact Hv9
    isplitl [Hv10]; · iexact Hv10
    isplitl [Hv11]; · iexact Hv11
    isplitl [Hv12]; · iexact Hv12
    iexact Hv13
  iintro ⟨Hb, Hv13⟩
  iapply (wp_un m 0 main_arg2 main_v14 (by decide) _ _ _ (aM m 0) (mT m 0 main_v14) _ _) $$ [Hb Harg2 Hv14]
  · isplitl [Hb]; · iexact Hb
    isplitl [Harg2]; · iexact Harg2
    iexact Hv14
  iintro ⟨Hb, Harg2, Hv14⟩
  iapply (wp_rs m 0 main_arg4 main_v15 (by decide) _ _ _ _ (aB m 0) (mT m 0 main_v15) (biasOf (aB m 0)) rfl _ _) $$ [Hb Harg4 Hv15]
  · isplitl [Hb]; · iexact Hb
    isplitl [Harg4]; · iexact Harg4
    iexact Hv15
  iintro ⟨Hb, Harg4, Hv15⟩
  unfold SparseCore.Cfg.tcSt GG
  icases Hst with ⟨HO, Hst⟩
  icases HG with ⟨HC, HT⟩
  iapply (region_wp (adm m h) (rowsAt m 0) (aW m 0) (biasOf (aB m 0)) (mT m 0 main_v16) ((K (F := F)).Otc 0 1) _ 0 EP (Otc_none 0 1) _) $$ [- ]
  isplitl [Hb]; · iexact Hb
  isplitl [Hv13 Harg3 Hv15 Hv16 Hv14 HO]
  · unfold rPre
    isplitl [Hv13]; · iexact Hv13
    isplitl [Harg3]; · iexact Harg3
    isplitl [Hv15]; · iexact Hv15
    isplitl [Hv16]; · iexact Hv16
    isplitl [Hv14]; · iexact Hv14
    iexact HO
  isplitr; · iapply (SparseCore.Cfg.ctx_levAts κ); iexact Hctx
  isplitl [HC]; · iexact HC
  isplitl [HT]; · iexact HT
  unfold rPost
  iintro ⟨Hb, Hv13, Harg3, Hv15, ⟨%G, %hG, Hv16⟩, Hv14, HO⟩
  iapply (wp_rs m 0 main_v16 main_v17 (by decide) _ _ _ _ (G) (mT m 0 main_v17) (linesOf G) rfl _ _) $$ [Hb Hv16 Hv17]
  · isplitl [Hb]; · iexact Hb
    isplitl [Hv16]; · iexact Hv16
    iexact Hv17
  iintro ⟨Hb, Hv16, Hv17⟩
  ihave H := (deal1 m 0 h (linesOf G) (gathered_of m 0 h G hG)) $$ [Harg1 Hv17 Hv18]
  · skip
    isplitl [Harg1]; · iexact Harg1
    isplitl [Hv17]; · iexact Hv17
    iexact Hv18
  icases H with ⟨Hop, Hback⟩
  iapply ((K (F := F)).wp_run (D (F := F)) 𝒱 (EH := EH) (P := P m h) κ 0 1) $$ [- ]
  isplitr; · iexact Hctx
  isplitl [HO Hst]
  · unfold SparseCore.Cfg.tcSt
    isplitl [HO]; · iexact HO
    iexact Hst
  isplitl [Hop]; · iexact Hop
  iintro ⟨Hst, Hdn⟩
  ispecialize Hback $$ Hdn
  icases Hback with ⟨Harg1, Hv18⟩
  iapply (wp_rs m 0 main_v18 main_v19 (by decide) _ _ _ _ (gathAt m 0 h) (mT m 0 main_v19) (outAt m 0 h) rfl _ _) $$ [Hb Hv18 Hv19]
  · isplitl [Hb]; · iexact Hb
    isplitl [Hv18]; · iexact Hv18
    iexact Hv19
  iintro ⟨Hb, Hv18, Hv19⟩
  imodintro
  isplitl [Hst]
  · unfold SparseCore.Cfg.tcSt
    iexact Hst
  isplitr [Hb Hts]
  · skip
    isplitl [Harg0]; · iexact Harg0
    isplitl [Harg1]; · iexact Harg1
    isplitl [Harg2]; · iexact Harg2
    isplitl [Harg3]; · iexact Harg3
    isplitl [Harg4]; · iexact Harg4
    iexact Hv19
  isplitl [Hb] <;> iassumption

/-! ## The run -/

/-- What a final memory holds. -/
def fq (s' : Phys nD τ sig (Elt F)) : Prop := s'.mem.mem ((T d : Thread nD τ).loc main_arg0) = (mT m d main_arg0 : Buf (Elt F) ((T d : Thread nD τ).loc main_arg0)) ∧ s'.mem.mem ((T d : Thread nD τ).loc main_arg1) = (mT m d main_arg1 : Buf (Elt F) ((T d : Thread nD τ).loc main_arg1)) ∧ s'.mem.mem ((T d : Thread nD τ).loc main_arg2) = (mT m d main_arg2 : Buf (Elt F) ((T d : Thread nD τ).loc main_arg2)) ∧ s'.mem.mem ((T d : Thread nD τ).loc main_arg3) = (mT m d main_arg3 : Buf (Elt F) ((T d : Thread nD τ).loc main_arg3)) ∧ s'.mem.mem ((T d : Thread nD τ).loc main_arg4) = (mT m d main_arg4 : Buf (Elt F) ((T d : Thread nD τ).loc main_arg4)) ∧ s'.mem.mem ((T d : Thread nD τ).loc main_v19) = (outAt m d h : Buf (Elt F) ((T d : Thread nD τ).loc main_v19))

/-- A buffer held whole is the memory's, and is kept. -/
theorem agree (b : Ref sig .tc) (f : Buf (Elt F) ((T d : Thread nD τ).loc b)) (s' : Phys nD τ sig (Elt F)) :
    iprop(SI s' ∗ ((T d : Thread nD τ).loc b ↦{fullShare} f)) ⊢ (iprop(⌜s'.mem.mem ((T d : Thread nD τ).loc b) = f⌝ ∗ SI s') : sProp 𝕄) := by
  iintro H
  ihave H := (persistent_entails_right (SI_pointsTo_agree (st := s') (ℓ := (T d : Thread nD τ).loc b) (I := Finset.univ) (q := fullShare) (f := f))) $$ H
  icases H with ⟨%h1, HSI, -⟩
  isplitr
  · ipureintro; exact funext fun i => h1 i (Finset.mem_univ i)
  iexact HSI

/-- What the final state says, from the final resources. -/
theorem hfin (s' : Phys nD τ sig (Elt F)) : iprop(FIN m h d ∗ SI s') ⊢ (⌜fq m h d s'⌝ : sProp 𝕄) := by
  iintro ⟨⟨H0, H1, H2, H3, H4, H5⟩, HS⟩
  ihave H := (agree d main_arg0 (mT m d main_arg0) s') $$ [HS H0]
  · isplitl [HS] <;> iassumption
  icases H with ⟨%h0, HS⟩
  ihave H := (agree d main_arg1 (mT m d main_arg1) s') $$ [HS H1]
  · isplitl [HS] <;> iassumption
  icases H with ⟨%h1, HS⟩
  ihave H := (agree d main_arg2 (mT m d main_arg2) s') $$ [HS H2]
  · isplitl [HS] <;> iassumption
  icases H with ⟨%h2, HS⟩
  ihave H := (agree d main_arg3 (mT m d main_arg3) s') $$ [HS H3]
  · isplitl [HS] <;> iassumption
  icases H with ⟨%h3, HS⟩
  ihave H := (agree d main_arg4 (mT m d main_arg4) s') $$ [HS H4]
  · isplitl [HS] <;> iassumption
  icases H with ⟨%h4, HS⟩
  ihave H := (agree d main_v19 (outAt m d h) s') $$ [HS H5]
  · isplitl [HS] <;> iassumption
  icases H with ⟨%h5, HS⟩
  ipureintro
  exact ⟨h0, h1, h2, h3, h4, h5⟩

/-- What a run ends with, on every device, all semaphores at zero. -/
def QC : PUnit × MemSt nD τ sig (Elt F) → Prop := fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_v19) = outAt m c h)
  ∧ r.2.sem = fun _ => 0

/-- The program runs from every memory that satisfies the precondition, and ends with the result. -/
theorem run_main [∀ e, Nonempty (Elt F e)] :
    θ_run (Cert.ExpertsIdeal.defs (F := F)) (Cert.ExpertsIdeal.threads (F := F)) ⟨m, fun _ => 0, ρ⟩ (QC m h) :=
  SparseCore.Cfg.θ_run_sc_quiescent (K := K (F := F)) (D := D (F := F)) (𝒱 := 𝒱) (EH := EH) (P := P m h) (A := ∅) facts v₀
    (fun q hq => match q with | 0 => nomatch hq | 1 => nomatch hq)
    (fun q _ => match q with | 0 => obl0 m h | 1 => obl1 m h)
    (fun q _ => match q with | 0 => SparseCore.Cfg.VecSplit.of_plain (split0 m h) | 1 => SparseCore.Cfg.VecSplit.of_plain (split1 m h))
    m ρ main (fun d => GG m h d) (fun d => FIN m h d) (u₀ m h) (sep_elim_left.trans (hu₀ m h)) (fun κ d => hmain m ρ h d κ) (fun d => fq m h d) (fun d => hfin m h d) (QC m h) (fun _ hs hz => ⟨hs, hz⟩)

end Cert.ExpertsIdeal.Run

end
-- ==== Proof.ExpertsPre.lean ====
/-
  What the precondition on the slots and the groups' experts says of the launch memory: every slot is in range, distinct
  tokens have distinct slots, no expert is negative, and the expert of the group of every named slot is below eight.
-/
module

public import proofs.«01_k».proof.Proof.ExpertsData
public import proofs.«01_k».proof.Pre_routed
public import Idealize.ShloMosaic.Lib.ReduceAll
public import Idealize.ShloMosaic.Lib.StableHlo.Predicate
public import Idealize.ShloMosaic.Lib.Routing.Words

@[expose] public section

set_option maxRecDepth 16384

noncomputable section

namespace Cert.ExpertsIdeal.Run

open Cert.ExpertsIdeal Cert.ExpertsIdeal.Gen

open Idealize.ShloMosaic Idealize.ShloMosaic.TcCoe

/-- The flat index of a token. -/
abbrev fx1 (n : Fin 4096) : (⟨1, ![4096]⟩ : Shape).Idx := Shape.Idx.ofFin n

/-- Every place of the table of slots is some token's. -/
theorem ent_surj (j : S32x2x64.Idx) : ∃ n : Fin 4096, ent n = j := by
  have h0 : (j 0).val < 32 := (j 0).isLt
  have h1 : (j 1).val < 2 := (j 1).isLt
  have h2 : (j 2).val < 64 := (j 2).isLt
  refine ⟨⟨128 * (j 0).val + 64 * (j 1).val + (j 2).val, by omega⟩, (ent_of _ (j 0) (j 1) (j 2) rfl).trans ?_⟩
  funext a
  match a with
  | 0 => rfl
  | 1 => rfl
  | 2 => rfl

/-- The table of slots flattened, at a token, is the token's slot. -/
theorem flat_apply {α : Type} (p : S32x2x64.Idx → α) (hc : (⟨3, ![32, 2, 64]⟩ : Shape).ShapeCasts ⟨1, ![4096]⟩) (n : Fin 4096) :
    shapeCast (⟨1, ![4096]⟩ : Shape) p hc (fx1 n) = p (ent n) := by
  show p _ = p _
  congr 1
  refine Shape.reshapeEquiv_eq_of_rowMajor _ ?_
  rw [Shape.rowMajor_val_three, Shape.rowMajor_val_one]
  show (n.val / 128 * 2 + n.val % 128 / 64) * 64 + n.val % 64 = n.val
  omega

/-- The group of a slot in range: the slot's number over 256. -/
theorem group_word (v : BitVec 32) (h : v.toNat < 6144) : IntOp.divsi .host v 256#32 = BitVec.ofNat 32 (v.toNat / 256) := by
  have e : v = BitVec.ofNat 32 v.toNat := BitVec.eq_of_toNat_eq (by rw [BitVec.toNat_ofNat]; omega)
  conv_lhs => rw [e]
  exact Routing.divsi_word .host (by omega) (by decide) (by decide)

/-- The table of the groups' experts at the group of a token's slot. -/
theorem take_apply (d : GatherDims ⟨1, ![32]⟩ ⟨2, ![4096, 1]⟩ ⟨1, ![4096]⟩) (h1 : d.collapsedSliceDims = [0]) (h2 : d.operandBatchingDims = [])
    (h3 : d.startIndexMap = [0]) (h4 : d.indexVectorDim = 1) (mt : IVec ⟨1, ![32]⟩ 32) (g : IVec ⟨1, ![4096]⟩ 32)
    (hb : (⟨1, ![4096]⟩ : Shape).BroadcastsInDim ⟨2, ![4096, 1]⟩ ![0]) (n : Fin 4096) (k : ℕ) (hk : k < 32) (e : g (fx1 n) = BitVec.ofNat 32 k) :
    Host.gather d mt (broadcastInDim ⟨2, ![4096, 1]⟩ ![0] hb g) (fx1 n) = mt (gIx k) := by
  rw [StableHlo.Predicate.gather_take d h1 h2 h3 h4 mt _ n (by decide)]
  congr 1
  have e' : broadcastInDim ⟨2, ![4096, 1]⟩ ![0] hb g (StableHlo.Predicate.ixP n) = BitVec.ofNat 32 k :=
    (StableHlo.Predicate.bcast_col1 hb g n).trans e
  funext a
  match a with
  | 0 =>
    apply Fin.ext
    show min (broadcastInDim ⟨2, ![4096, 1]⟩ ![0] hb g (StableHlo.Predicate.ixP n)).toInt.toNat 31 = k % 32
    rw [e', BitVec.toInt_eq_toNat_cond, BitVec.toNat_ofNat]
    omega

section Decode
variable {F : FTy → Type} [FloatOps F] [Cert.Pre_routed.Facts]
variable (x : FVec F ⟨2, ![4096, 1024]⟩ .f32) (p : IVec ⟨3, ![32, 2, 64]⟩ 32) (mt : IVec ⟨1, ![32]⟩ 32)
  (W : FVec F ⟨3, ![8, 1024, 256]⟩ .f32) (b : FVec F ⟨2, ![8, 256]⟩ .f32)

/-- The precondition read back. -/
theorem of_routed (e : Cert.Pre_routed.fn (F := F) x p mt W b = fun _ => 1#1) :
    (∀ n, (p (ent n)).toNat < 6144) ∧ (∀ n n', p (ent n) = p (ent n') → n = n') ∧ (∀ j, (mt j).toNat < 2 ^ 31)
      ∧ ∀ n, (mt (gIx ((p (ent n)).toNat / 256))).toNat < 8 := by
  have key : ∀ n : Fin 4096, (p (ent n)).toNat < 6144 ∧ (∀ n', p (ent n) = p (ent n') → n = n') ∧ (∀ j, (mt j).toNat < 2 ^ 31)
      ∧ (mt (gIx ((p (ent n)).toNat / 256))).toNat < 8 := by
    intro n
    have e0 := congrFun e (fx1 n)
    unfold Cert.Pre_routed.fn Cert.Pre_routed.fn_part1 at e0
    obtain ⟨e1, e2⟩ := IntOp.andi_eq_one.1 e0
    obtain ⟨e3, e4⟩ := IntOp.andi_eq_one.1 e1
    obtain ⟨e5, e6⟩ := IntOp.andi_eq_one.1 e3
    obtain ⟨e7, e8⟩ := IntOp.andi_eq_one.1 e5
    have hs : (p (ent n)).toNat < 6144 := by
      have a1 := IntOp.cmpi_sge.1 e7
      have a2 := IntOp.cmpi_slt.1 e8
      rw [flat_apply] at a1 a2
      have z1 : (0 : Int) ≤ (p (ent n)).toInt := a1
      have z2 : (p (ent n)).toInt < 6144 := a2
      rw [BitVec.toInt_eq_toNat_cond] at z1 z2
      split at z1 <;> omega
    have hm : ∀ j, (mt j).toNat < 2 ^ 31 := by
      intro j
      have hsub : Subsingleton Cert.Pre_routed.S_.Idx := ⟨fun a b => funext fun i => i.elim0⟩
      have a1 := IntOp.cmpi_sge.1 (Host.reduce_andi_all _ _ _ _ _ e6 j)
      have z1 : (0 : Int) ≤ (mt j).toInt := a1
      rw [BitVec.toInt_eq_toNat_cond] at z1
      split at z1 <;> omega
    refine ⟨hs, ?_, hm, ?_⟩
    · intro n' hn
      have a1 := Host.reduce_andi_eq_one _ _ _ _ _ e2 (fun | 0 => n | 1 => n') (by
        funext a
        match a with
        | 0 => rfl)
      rcases IntOp.ori_eq_one.1 a1 with a2 | a2
      · have a3 := IntOp.cmpi_ne.1 a2
        refine absurd ?_ a3
        refine (flat_apply p _ n).trans (hn.trans (flat_apply p _ n').symm)
      · have a3 : BitVec.ofNat 32 n.val = BitVec.ofNat 32 n'.val := IntOp.cmpi_eq.1 a2
        have a4 := congrArg BitVec.toNat a3
        rw [BitVec.toNat_ofNat, BitVec.toNat_ofNat] at a4
        apply Fin.ext
        omega
    · have a1 := IntOp.cmpi_slt.1 e4
      have e9 := take_apply Cert.Pre_routed.gather_S32_S4096x1_S4096_n_0_n_n_0_1_1 rfl rfl rfl rfl mt
        (Host.divsi (shapeCast Cert.Pre_routed.S4096 p Cert.Pre_routed.Facts.shapeCasts_S32x2x64_S4096)
          (broadcastInDim Cert.Pre_routed.S4096 ![] Cert.Pre_routed.Facts.bcast_S_S4096 (constantI Cert.Pre_routed.S_ 32 256#32)))
        Cert.Pre_routed.Facts.bcast_S4096_S4096x1_0 n ((p (ent n)).toNat / 256) (by omega) (by
          show IntOp.divsi .host (shapeCast Cert.Pre_routed.S4096 p _ (fx1 n)) 256#32 = _
          rw [flat_apply]
          exact group_word _ hs)
      have z1 : (mt (gIx ((p (ent n)).toNat / 256))).toInt < 8 := by
        rw [← e9]; exact a1
      have z2 := hm (gIx ((p (ent n)).toNat / 256))
      rw [BitVec.toInt_eq_toNat_cond] at z1
      split at z1 <;> omega
  exact ⟨fun n => (key n).1, fun n => (key n).2.1, (key 0).2.2.1, fun n => (key n).2.2.2⟩

end Decode

/-- So the launch memory is as the proof asks. -/
theorem ok_of {F : FTy → Type} [FloatOps F] [Cert.Pre_routed.Facts] (m : (ℓ : Loc nD τ sig) → Buf (Elt F) ℓ)
    (h : ∀ d : Dev nD, Cert.Pre_routed.fn (F := F) (aX m d) (aP m d) (aM m d) (aW m d) (aB m d) = fun _ => 1#1) : PreOK m where
  slot d j := by
    obtain ⟨n, rfl⟩ := ent_surj j
    exact (of_routed _ _ _ _ _ (h d)).1 n
  dist d j j' e := by
    obtain ⟨n, rfl⟩ := ent_surj j
    obtain ⟨n', rfl⟩ := ent_surj j'
    rw [(of_routed _ _ _ _ _ (h d)).2.1 n n' (BitVec.eq_of_toNat_eq e)]
  nneg d := (of_routed _ _ _ _ _ (h d)).2.2.1
  low d j := by
    obtain ⟨n, rfl⟩ := ent_surj j
    exact (of_routed _ _ _ _ _ (h d)).2.2.2 n

end Cert.ExpertsIdeal.Run

end
-- ==== Proof.SameDefs.lean ====
/-
  The experts' program and its idealization have the same table of bodies: no operation is rewritten, so that the two
  texts differ in their names alone.
-/
module

public import proofs.«01_k».proof.Defs
public import proofs.«01_k».proof.Proof.Gen.Experts
public import proofs.«01_k».proof.Proof.Gen.ExpertsIdeal

@[expose] public section

set_option maxRecDepth 65536
set_option maxHeartbeats 4000000

noncomputable section

namespace Cert.Same

open Idealize.ShloMosaic Idealize.ShloMosaic.TcCoe Idealize.SL.Sem

variable {F : FTy → Type} [FloatOps F]

/-- The kernels' bodies are the same, label by label. -/
theorem defs0_eq : (Cert.Experts.defs₀ (F := F)) = (Cert.ExpertsIdeal.defs₀ (F := F)) := by
  funext p l a
  match p, l, a with
  | .scVector c s, 0, a => rfl
  | .tc, 1, (t, s) => rfl
  | .scVector c s, 2, a => rfl
  | .tc, 0, a => rfl
  | .tc, 2, a => rfl
  | .scVector c s, 1, a => rfl
  | .scScalar c, 0, a => rfl
  | .scScalar c, 1, a => rfl
  | .scScalar c, 2, a => rfl

/-- So are the tables with the calls' regions and tasks in them. -/
theorem defs_eq : (Cert.Experts.defs (F := F)) = (Cert.ExpertsIdeal.defs (F := F)) :=
  (rfl : (Cert.Experts.defs (F := F)) = (Cert.ExpertsIdeal.sc (F := F)).defs (Pipeline.defs (Cert.ExpertsIdeal.pcfgs (F := F)) (Cert.Experts.defs₀ (F := F)))).trans
    (congrArg (fun t => (Cert.ExpertsIdeal.sc (F := F)).defs (Pipeline.defs (Cert.ExpertsIdeal.pcfgs (F := F)) t)) defs0_eq)

end Cert.Same

end
-- ==== Proof.SameMain.lean ====
/-
  The experts' program and its idealization have the same host code, step by step.
-/
module

public import proofs.«01_k».proof.Defs
public import proofs.«01_k».proof.Proof.Gen.Experts
public import proofs.«01_k».proof.Proof.Gen.ExpertsIdeal

@[expose] public section

set_option maxRecDepth 65536
set_option maxHeartbeats 4000000

noncomputable section

namespace Cert.Same

open Idealize.ShloMosaic Idealize.ShloMosaic.TcCoe Idealize.SL.Sem

variable {F : FTy → Type} [FloatOps F]

/-- Sequences of equal steps are equal. -/
theorem seq {X : Type → Type 1} [Monad X] {a a' : X PUnit} {f f' : PUnit → X PUnit} (h : a = a') (h' : ∀ u, f u = f' u) : (a >>= f) = (a' >>= f') := by
  rw [h, funext h']

/-- The host code of the two programs is the same. -/
theorem main_eq : (Cert.Experts.main (F := F)) = (Cert.ExpertsIdeal.main (F := F)) := by
  funext d
  unfold Cert.Experts.main Cert.ExpertsIdeal.main
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  refine seq rfl (fun _ => ?_)
  rfl

end Cert.Same

end
-- ==== Proof.ExpertsValue.lean ====
/-
  The Experts program's result at `Ideal`: row `n` of the tokens times the matrix of the expert of the group of `n`'s
  slot, plus that expert's bias; and the plain reference's one-hot product is the same.
-/
module

public import proofs.«01_k».proof.Proof.ExpertsPre
public import proofs.«01_k».proof.Proof.Gen.ExpertsRefIdeal.Run
public import Idealize.ShloMosaic.Lib.Pointwise.Contract
public import Idealize.ShloMosaic.Lib.Pointwise

@[expose] public section

set_option maxRecDepth 16384

noncomputable section

namespace Cert.ExpertsIdeal.Run

open Cert.ExpertsIdeal Cert.ExpertsIdeal.Gen

open Idealize.ShloMosaic Idealize.ShloMosaic.TcCoe

/-- The expert's product: token `n`'s row times the matrix of expert `e n`, plus its bias. -/
def hard (x : S4096x1024.Idx → Ideal .f32) (W : S8x1024x256.Idx → Ideal .f32) (b : S8x256.Idx → Ideal .f32) (e : Fin 4096 → Fin 8) :
    S4096x256.Idx → Ideal .f32 :=
  fun i => (∑ k : Fin 1024, x (ix2 (i 0) k) * W (ix3 (e (i 0)) k (i 1))) + b (ix2 (e (i 0)) (i 1))

section AnyFloat
variable {F : FTy → Type} [FloatOps F]

/-- A slab's line, from the tokens' rows. -/
theorem slab0_apply (fx : S4096x1024.Idx → Elt F .f32) (n : Fin 4096) (a : Fin 2) (l : Fin 128) :
    slab0 fx (fun | 0 => n | 1 => a | 2 => l) = fx (ix2 n (⟨128 * a.val + l.val, by omega⟩ : Fin 1024)) := by
  unfold slab0
  pointwise
  simp only [Nat.mul_comm]
/-- The second quarter of the columns at a place. -/
theorem slab1_apply (fx : S4096x1024.Idx → Elt F .f32) (n : Fin 4096) (a : Fin 2) (l : Fin 128) :
    slab1 fx (fun | 0 => n | 1 => a | 2 => l) = fx (ix2 n (⟨256 + (128 * a.val + l.val), by omega⟩ : Fin 1024)) := by
  unfold slab1
  pointwise
  simp only [Nat.mul_comm]
/-- The third quarter of the columns at a place. -/
theorem slab2_apply (fx : S4096x1024.Idx → Elt F .f32) (n : Fin 4096) (a : Fin 2) (l : Fin 128) :
    slab2 fx (fun | 0 => n | 1 => a | 2 => l) = fx (ix2 n (⟨512 + (128 * a.val + l.val), by omega⟩ : Fin 1024)) := by
  unfold slab2
  pointwise
  simp only [Nat.mul_comm]
/-- The fourth quarter of the columns at a place. -/
theorem slab3_apply (fx : S4096x1024.Idx → Elt F .f32) (n : Fin 4096) (a : Fin 2) (l : Fin 128) :
    slab3 fx (fun | 0 => n | 1 => a | 2 => l) = fx (ix2 n (⟨768 + (128 * a.val + l.val), by omega⟩ : Fin 1024)) := by
  unfold slab3
  pointwise
  simp only [Nat.mul_comm]

/-- Four scattered slabs joined, at a token's slot: the token's row. -/
theorem joined_apply (fp : S32x2x64.Idx → Elt F .i32) (hdis : Function.Injective fun j => (fp j : BitVec 32).toNat) (fx : S4096x1024.Idx → Elt F .f32)
    (g0 g1 g2 g3 : S6144x2x128.Idx → Elt F .f32) (n : Fin 4096) (r : Fin 6144) (e : (fp (ent n) : BitVec 32).toNat = r.val) (k : Fin 1024) :
    joinRows (scattered fp (slab0 fx) g0) (scattered fp (slab1 fx) g1) (scattered fp (slab2 fx) g2) (scattered fp (slab3 fx) g3) (ix2 r k)
      = fx (ix2 n k) := by
  have hk := k.isLt
  unfold joinRows
  pointwise
  by_cases c0 : k.val < 256
  · rw [dif_pos c0, scattered_of fp hdis _ _ (ix3 r _ _) n e]
    refine (slab0_apply fx n _ _).trans (congrArg fx (congrArg (ix2 n) (Fin.ext ?_)))
    show 128 * (k.val / 128) + k.val % 128 = k.val
    omega
  rw [dif_neg c0]
  by_cases c1 : k.val - 256 < 256
  · rw [dif_pos c1, scattered_of fp hdis _ _ (ix3 r _ _) n e]
    refine (slab1_apply fx n _ _).trans (congrArg fx (congrArg (ix2 n) (Fin.ext ?_)))
    show 256 + (128 * ((k.val - 256) / 128) + (k.val - 256) % 128) = k.val
    omega
  rw [dif_neg c1]
  by_cases c2 : k.val - 256 - 256 < 256
  · rw [dif_pos c2, scattered_of fp hdis _ _ (ix3 r _ _) n e]
    refine (slab2_apply fx n _ _).trans (congrArg fx (congrArg (ix2 n) (Fin.ext ?_)))
    show 512 + (128 * ((k.val - 256 - 256) / 128) + (k.val - 256 - 256) % 128) = k.val
    omega
  rw [dif_neg c2]
  rw [scattered_of fp hdis _ _ (ix3 r _ _) n e]
  refine (slab3_apply fx n _ _).trans (congrArg fx (congrArg (ix2 n) (Fin.ext ?_)))
  show 768 + (128 * ((k.val - 256 - 256 - 256) / 128) + (k.val - 256 - 256 - 256) % 128) = k.val
  omega

/-- Gathered lines as rows. -/
theorem rowsOf_apply (f : S4096x2x128.Idx → Elt F .f32) (n : Fin 4096) (o : Fin 256) :
    rowsOf f (ix2 n o) = f (ix3 n (⟨o.val / 128, by omega⟩ : Fin 2) (⟨o.val % 128, by omega⟩ : Fin 128)) := by
  unfold rowsOf
  pointwise

/-- The bias of an expert, as the call takes it. -/
theorem biasOf_apply (fb : S8x256.Idx → Elt F .f32) (e : Fin 8) (o : Fin 256) : biasOf fb (ix3 e (0 : Fin 1) o) = fb (ix2 e o) := by
  unfold biasOf
  pointwise

section Blocks
variable (a : (p : Fin 1) → (pcfgs (F := F) p).Adm)

/-- Where the rows' block lies. -/
theorem index0 : ∀ t : Fin grid1.N, cc1_transform_0 (grid1.coords t) (0 : Fin 2) = t.val ∧ cc1_transform_0 (grid1.coords t) (1 : Fin 2) = 0 := by
  decide +kernel

/-- A group's rows. -/
theorem bx_apply (fx : S6144x1024.Idx → Elt F .f32) (r : Fin 6144) (k : Fin 1024) :
    bx a fx (grpOf a r) (ix2 (⟨r.val % 256, Nat.mod_lt _ (by decide)⟩ : Fin 256) k) = fx (ix2 r k) := by
  obtain ⟨e0, e1⟩ := index0 (grpOf a r)
  show fx ((((cfgA a).win 0).blk (grpOf a r)).view.emb (ix2 (⟨r.val % 256, Nat.mod_lt _ (by decide)⟩ : Fin 256) k)) = _
  congr 1
  funext b; apply Fin.ext
  match b with
  | ⟨0, _⟩ =>
    show cc1_transform_0 (grid1.coords (grpOf a r)) (0 : Fin 2) * 256 + 1 * (r.val % 256) = r.val
    have : (grpOf a r).val = r.val / 256 := rfl
    omega
  | ⟨1, _⟩ => show cc1_transform_0 (grid1.coords (grpOf a r)) (1 : Fin 2) * 1024 + 1 * k.val = k.val; omega

/-- The matrix of the group's expert. -/
theorem bW_apply (fW : S8x1024x256.Idx → Elt F .f32) (r : Fin 6144) (e : Fin 8)
    (he : (Scalar.minsi (tw (pfA a) (grid1.coords (grpOf a r))) 7#32).toNat = e.val) (k : Fin 1024) (o : Fin 256) :
    bW a fW (grpOf a r) (ix3 (0 : Fin 1) k o) = fW (ix3 e k o) := by
  show fW ((((cfgA a).win 1).blk (grpOf a r)).view.emb (ix3 (0 : Fin 1) k o)) = _
  congr 1
  funext b; apply Fin.ext
  match b with
  | ⟨0, _⟩ =>
    show (Scalar.minsi (tw (pfA a) (grid1.coords (grpOf a r))) 7#32).toNat * 1 + 1 * 0 = e.val
    omega
  | ⟨1, _⟩ => show 0 * 1024 + 1 * k.val = k.val; omega
  | ⟨2, _⟩ => show 0 * 256 + 1 * o.val = o.val; omega

/-- The bias of the group's expert. -/
theorem bb_apply (fb : S8x1x256.Idx → Elt F .f32) (r : Fin 6144) (e : Fin 8)
    (he : (Scalar.minsi (tw (pfA a) (grid1.coords (grpOf a r))) 7#32).toNat = e.val) (o : Fin 256) :
    bb a fb (grpOf a r) (ix3 (0 : Fin 1) (0 : Fin 1) o) = fb (ix3 e (0 : Fin 1) o) := by
  show fb ((((cfgA a).win 2).blk (grpOf a r)).view.emb (ix3 (0 : Fin 1) (0 : Fin 1) o)) = _
  congr 1
  funext b; apply Fin.ext
  match b with
  | ⟨0, _⟩ =>
    show (Scalar.minsi (tw (pfA a) (grid1.coords (grpOf a r))) 7#32).toNat * 1 + 1 * 0 = e.val
    omega
  | ⟨1, _⟩ => rfl
  | ⟨2, _⟩ => show 0 * 256 + 1 * o.val = o.val; omega

end Blocks

end AnyFloat

/-- One block of the products, read at an index: the payload of the store. -/
theorem pay1_apply (v5 : Vec Ideal S256x1024 .f32) (v7 : Vec Ideal S1x1024x256 .f32) (v10 : Vec Ideal S1x1x256 .f32) (r : Fin 256) (o : Fin 256) :
    k1_pay1 v5 v7 v10 (ix2 r o) = (∑ k : Fin 1024, v5 (ix2 r k) * v7 (ix3 (0 : Fin 1) k o)) + v10 (ix3 (0 : Fin 1) (0 : Fin 1) o) := by
  unfold k1_pay1
  pointwise

/-- The products at a slot. -/
theorem prods_apply (a : (p : Fin 1) → (pcfgs (F := Ideal) p).Adm) (fx : S6144x1024.Idx → Ideal .f32) (fW : S8x1024x256.Idx → Ideal .f32)
    (fb : S8x1x256.Idx → Ideal .f32) (r : Fin 6144) (o : Fin 256) (e : Fin 8)
    (he : (Scalar.minsi (tw (pfA a) (grid1.coords (grpOf a r))) 7#32).toNat = e.val) :
    prods a fx fW fb (ix2 r o) = (∑ k : Fin 1024, fx (ix2 r k) * fW (ix3 e k o)) + fb (ix3 e (0 : Fin 1) o) := by
  have e0 : prods a fx fW fb (ix2 r o)
      = k1_pay1 (bx a fx (grpOf a r)) (bW a fW (grpOf a r)) (bb a fb (grpOf a r)) (ix2 (⟨r.val % 256, Nat.mod_lt _ (by decide)⟩ : Fin 256) o) := by
    unfold prods
    congr 1
    funext b
    match b with
    | 0 => rfl
    | 1 => rfl
  rw [e0, pay1_apply, bb_apply a fb r e he]
  refine congrArg (· + _) (Finset.sum_congr rfl fun k _ => ?_)
  rw [bx_apply, bW_apply a fW r e he]

variable (m : (ℓ : Loc nD τ sig) → Buf (Elt Ideal) ℓ) (d : Dev nD) (h : PreOK m)

/-- The expert of a token: its slot's group's. -/
def expOf (p : S32x2x64.Idx → BitVec 32) (t : S32.Idx → BitVec 32) (n : Fin 4096) : Fin 8 :=
  ⟨(t (gIx ((p (ent n)).toNat / 256))).toNat % 8, Nat.mod_lt _ (by decide)⟩

/-- The kernel's result. -/
theorem out_eq : outAt m d h = hard (aX m d) (aW m d) (aB m d) (expOf (aP m d) (aM m d)) := by
  obtain rfl : d = 0 := Subsingleton.elim _ _
  funext i
  obtain ⟨n, o, rfl⟩ : ∃ (n : Fin 4096) (o : Fin 256), i = ix2 n o := ⟨i 0, i 1, by funext a; match a with | ⟨0, _⟩ => rfl | ⟨1, _⟩ => rfl⟩
  have hs := h.slot 0 (ent n)
  have hl := h.low 0 (ent n)
  have es : (aP m 0 (ent n) : BitVec 32).toNat = (slotOf (aP m 0) n).val := (Nat.mod_eq_of_lt hs).symm
  have e0 : outAt m 0 h (ix2 n o) = prodsAt m 0 h (ix2 (slotOf (aP m 0) n) o) := by
    unfold outAt gathAt
    rw [rowsOf_apply]
    unfold gathered
    rw [linesOf_apply]
    congr 1
    funext b
    match b with
    | 0 => rfl
    | 1 => apply Fin.ext; show 128 * (o.val / 128) + o.val % 128 = o.val; omega
  have he : (Scalar.minsi (tw (pfA (adm m h)) (grid1.coords (grpOf (adm m h) (slotOf (aP m 0) n)))) 7#32).toNat = (expOf (aP m 0) (aM m 0) n).val := by
    rw [show pfA (adm m h) = tblOf (aM m 0) from rfl, tw_tbl, coords1]
    show (Scalar.minsi (aM m 0 (gIx ((slotOf (aP m 0) n).val / 256))) 7#32).toNat = (aM m 0 (gIx ((aP m 0 (ent n) : BitVec 32).toNat / 256)) : BitVec 32).toNat % 8
    rw [← es, min7_eq _ hl]
    exact (Nat.mod_eq_of_lt hl).symm
  rw [e0]
  unfold prodsAt
  rw [prods_apply _ _ _ _ _ _ _ he, biasOf_apply]
  unfold hard rowsAt
  refine congrArg (· + _) (Finset.sum_congr rfl fun k _ => ?_)
  rw [joined_apply (aP m 0) (h.dist 0) (aX m 0) _ _ _ _ n _ es k]
  rfl

end Cert.ExpertsIdeal.Run

namespace Cert.ExpertsRefIdeal.Value

open Cert.ExpertsRefIdeal Cert.ExpertsRefIdeal.Gen
open Idealize.ShloMosaic Idealize.ShloMosaic.TcCoe

/-- Every expert's products, plus the biases. -/
theorem all_apply (x : S4096x1024.Idx → Ideal .f32) (W : S8x1024x256.Idx → Ideal .f32) (b : S8x256.Idx → Ideal .f32) (e : Fin 8) (n : Fin 4096) (o : Fin 256) :
    (addf (transpose S8x4096x256 [0, 2, 1] (Host.dotGeneral dot_S8x1024x256_S4096x1024_S8x256x4096_1_1_02_0_n_n none W x) transposes_S8x256x4096_S8x4096x256_0_2_1)
      (broadcastInDim S8x4096x256 ![0, 1, 2] bcast_S8x1x256_S8x4096x256_0_1_2 (broadcastInDim S8x1x256 ![0, 2] bcast_S8x256_S8x1x256_0_2 b)) : FVec Ideal S8x4096x256 .f32) (ix3 e n o)
      = (∑ k : Fin 1024, W (ix3 e k o) * x (ix2 n k)) + b (ix2 e o) := by
  pointwise

/-- The one-hot product. -/
theorem pick_apply (h : S4096x8.Idx → Ideal .f32) (y : S8x4096x256.Idx → Ideal .f32) (n : Fin 4096) (o : Fin 256) :
    (Host.dotGeneral (φ₁ := .f32) (φ₂ := .f32) dot_S4096x8_S8x4096x256_S4096x256_1_0_n_2_0_1 none h y : FVec Ideal S4096x256 .f32) (ix2 n o) = ∑ e : Fin 8, h (ix2 n e) * y (ix3 e n o) := by
  pointwise

/-- The one-hot mark of a token at an expert. -/
theorem mark_apply (v : S4096.Idx → BitVec 32) (n : Fin 4096) (e : Fin 8) :
    (uitofp .f32 (cmpi .eq (broadcastInDim S4096x8 ![0, 1] bcast_S4096x1_S4096x8_0_1 (broadcastInDim S4096x1 ![0] bcast_S4096_S4096x1_0 v))
      (broadcastInDim S4096x8 ![0, 1] bcast_S1x8_S4096x8_0_1 (broadcastInDim S1x8 ![1] bcast_S8_S1x8_1 (iotaInDim S8 32 0)))) : FVec Ideal S4096x8 .f32) (ix2 n e)
      = if v (ix1 n) = BitVec.ofNat 32 e.val then 1 else 0 := by
  pointwise
  by_cases he : v (ix1 n) = BitVec.ofNat 32 e.val
  · rw [if_pos he, IntOp.cmpi_eq.2 he]
    show (((1#1 : BitVec 1).toNat : ℝ) : EReal) = 1
    simp
  · rw [if_neg he, (by show BitVec.ofBool (v (ix1 n) == BitVec.ofNat 32 e.val) = 0#1; rw [beq_eq_false_iff_ne.2 he]; rfl : IntOp.cmpi .eq (v (ix1 n)) (BitVec.ofNat 32 e.val) = 0#1)]
    show (((0#1 : BitVec 1).toNat : ℝ) : EReal) = 0
    simp

/-- The reference's result. -/
theorem ref_eq (x : S4096x1024.Idx → Ideal .f32) (p : S32x2x64.Idx → BitVec 32) (t : S32.Idx → BitVec 32) (W : S8x1024x256.Idx → Ideal .f32) (b : S8x256.Idx → Ideal .f32)
    (hs : ∀ n, (p (Cert.ExpertsIdeal.Run.ent n)).toNat < 6144)
    (hl : ∀ n, (t (Cert.ExpertsIdeal.Run.gIx ((p (Cert.ExpertsIdeal.Run.ent n)).toNat / 256))).toNat < 8) :
    (Host.dotGeneral dot_S4096x8_S8x4096x256_S4096x256_1_0_n_2_0_1 none (uitofp .f32 (cmpi .eq (broadcastInDim S4096x8 ![0, 1] bcast_S4096x1_S4096x8_0_1 (broadcastInDim S4096x1 ![0] bcast_S4096_S4096x1_0 (Host.gather gather_S32_S4096x1_S4096_n_0_n_n_0_1_1 t (broadcastInDim S4096x1 ![0] bcast_S4096_S4096x1_0 (Host.divsi (shapeCast _ p shapeCasts_S32x2x64_S4096) (broadcastInDim S4096 ![] bcast_S_S4096 (constantI S_ 32 256#32))))))) (broadcastInDim S4096x8 ![0, 1] bcast_S1x8_S4096x8_0_1 (broadcastInDim S1x8 ![1] bcast_S8_S1x8_1 (iotaInDim S8 32 0))))) (addf (transpose S8x4096x256 [0, 2, 1] (Host.dotGeneral dot_S8x1024x256_S4096x1024_S8x256x4096_1_1_02_0_n_n none W x) transposes_S8x256x4096_S8x4096x256_0_2_1) (broadcastInDim S8x4096x256 ![0, 1, 2] bcast_S8x1x256_S8x4096x256_0_1_2 (broadcastInDim S8x1x256 ![0, 2] bcast_S8x256_S8x1x256_0_2 b))) : FVec Ideal S4096x256 .f32)
      = Cert.ExpertsIdeal.Run.hard x W b (Cert.ExpertsIdeal.Run.expOf p t) := by
  funext i
  obtain ⟨n, o, rfl⟩ : ∃ (n : Fin 4096) (o : Fin 256), i = ix2 n o := ⟨i 0, i 1, by funext a; match a with | ⟨0, _⟩ => rfl | ⟨1, _⟩ => rfl⟩
  rw [pick_apply]
  have hn : (Host.gather gather_S32_S4096x1_S4096_n_0_n_n_0_1_1 t (broadcastInDim S4096x1 ![0] bcast_S4096_S4096x1_0 (Host.divsi (shapeCast _ p shapeCasts_S32x2x64_S4096) (broadcastInDim S4096 ![] bcast_S_S4096 (constantI S_ 32 256#32)))) : S4096.Idx → BitVec 32) (ix1 n)
      = BitVec.ofNat 32 (Cert.ExpertsIdeal.Run.expOf p t n).val := by
    have h0 := hs n
    have h1 := hl n
    have e1 : (ix1 n : S4096.Idx) = Cert.ExpertsIdeal.Run.fx1 n := by funext a; match a with | ⟨0, _⟩ => rfl
    rw [e1]
    refine (Cert.ExpertsIdeal.Run.take_apply gather_S32_S4096x1_S4096_n_0_n_n_0_1_1 rfl rfl rfl rfl t _ bcast_S4096_S4096x1_0 n
      ((p (Cert.ExpertsIdeal.Run.ent n)).toNat / 256) (by omega) ?_).trans ?_
    · show IntOp.divsi .host (shapeCast S4096 p _ (Cert.ExpertsIdeal.Run.fx1 n)) 256#32 = _
      rw [Cert.ExpertsIdeal.Run.flat_apply]
      exact Cert.ExpertsIdeal.Run.group_word _ h0
    · apply BitVec.eq_of_toNat_eq
      rw [BitVec.toNat_ofNat]
      show _ = (_ % 8) % _
      omega
  refine (Finset.sum_congr rfl fun e _ => congrArg₂ (· * ·)
    ((mark_apply _ n e).trans (by rw [hn] : _ = if BitVec.ofNat 32 (Cert.ExpertsIdeal.Run.expOf p t n).val = BitVec.ofNat 32 e.val then (1 : Ideal .f32) else 0))
    (all_apply x W b e n o)).trans ?_
  rw [Finset.sum_eq_single (Cert.ExpertsIdeal.Run.expOf p t n)]
  · rw [if_pos rfl, one_mul]
    unfold Cert.ExpertsIdeal.Run.hard
    refine congrArg (· + _) (Finset.sum_congr rfl fun k _ => mul_comm _ _)
  · intro e _ hne
    rw [if_neg ?_, zero_mul]
    intro e'
    have e2 := congrArg BitVec.toNat e'
    rw [BitVec.toNat_ofNat, BitVec.toNat_ofNat] at e2
    refine hne (Fin.ext ?_)
    have := e.isLt
    have := (Cert.ExpertsIdeal.Run.expOf p t n).isLt
    omega
  · intro hne
    exact absurd (Finset.mem_univ _) hne

end Cert.ExpertsRefIdeal.Value

end
-- ==== Proof.ExpertsClaims.lean ====
/- The five claims about the experts' calls. -/
module

public import proofs.«01_k».proof.Defs
public import proofs.«01_k».proof.Proof.Gen.Experts
public import proofs.«01_k».proof.Proof.Gen.ExpertsIdeal
public import proofs.«01_k».proof.Proof.Gen.Pre_routed
public import proofs.«01_k».proof.Proof.ExpertsMain
public import proofs.«01_k».proof.Proof.ExpertsPre
public import proofs.«01_k».proof.Proof.SameDefs
public import proofs.«01_k».proof.Proof.SameMain
public import proofs.«01_k».proof.Proof.ExpertsValue
public import Idealize.ShloMosaic.Lib.Claim

@[expose] public section

set_option maxRecDepth 65536
set_option maxHeartbeats 4000000

noncomputable section

namespace Cert.Proof.Experts

open Idealize.ShloMosaic Idealize.ShloMosaic.TcCoe Idealize.SL.Sem

/-- The threads of the two programs are the same. -/
theorem threads_eq {F : FTy → Type} [FloatOps F] : (Cert.Experts.threads (F := F)) = (Cert.ExpertsIdeal.threads (F := F)) :=
  (rfl : (Cert.Experts.threads (F := F)) = (Cert.ExpertsIdeal.sc (F := F)).threads (Cert.Experts.main (F := F))).trans
    (congrArg (fun t => (Cert.ExpertsIdeal.sc (F := F)).threads t) Cert.Same.main_eq)

/-- The program's run is its idealization's, at the bit-exact floats. -/
theorem run (m : (ℓ : Loc Cert.Experts.nD Cert.Experts.τ Cert.Experts.sig) → Buf (Elt Bits) ℓ) (ρ : Dev Cert.Experts.nD → PrngReg) (h : Cert.ExpertsIdeal.Run.PreOK (F := Bits) m) :
    θ_run (Cert.Experts.defs (F := Bits)) (Cert.Experts.threads (F := Bits)) ⟨m, fun _ => 0, ρ⟩ (Cert.ExpertsIdeal.Run.QC (F := Bits) m h) := by
  rw [Cert.Same.defs_eq, threads_eq]
  exact Cert.ExpertsIdeal.Run.run_main (F := Bits) m ρ h

/-- The program runs at the bit-exact floats, its arguments unchanged and every counter at zero. -/
theorem frame_kernel : Cert.quiescent_Experts := fun m ρ hp =>
  (θ_run Cert.Experts.defs _ _).mono
    (fun _ h => ⟨fun c => ⟨(h.1 c).1, (h.1 c).2.1, (h.1 c).2.2.1, (h.1 c).2.2.2.1, (h.1 c).2.2.2.2.1⟩, h.2⟩)
    (run m ρ (Cert.ExpertsIdeal.Run.ok_of m hp))

/-- So does its idealization. -/
theorem frame_ideal : Cert.quiescent_ExpertsIdeal := fun m ρ hp =>
  (θ_run Cert.ExpertsIdeal.defs _ _).mono
    (fun _ h => ⟨fun c => ⟨(h.1 c).1, (h.1 c).2.1, (h.1 c).2.2.1, (h.1 c).2.2.2.1, (h.1 c).2.2.2.2.1⟩, h.2⟩)
    (Cert.ExpertsIdeal.Run.run_main (F := Ideal) m ρ (Cert.ExpertsIdeal.Run.ok_of m hp))

/-- And the reference. -/
theorem frame_ref : Cert.quiescent_ExpertsRefIdeal := fun m ρ _ =>
  (θ_run Cert.ExpertsRefIdeal.defs _ _).mono (fun r h => ⟨fun c => (h c).2, Idealize.ShloMosaic.sem_eq_zero_of_no_sems (by decide) r.2⟩) (Cert.ExpertsRefIdeal.Value.run m ρ)

/-- The experts' outputs of the kernel and of the reference are equal. -/
theorem value : Cert.algebraic_ExpertsIdeal_ExpertsRefIdeal := by
  intro m ρ m' ρ' hp hagree
  have ok := Cert.ExpertsIdeal.Run.ok_of m hp
  refine ⟨fun c => Cert.ExpertsIdeal.Run.outAt m c ok, ?_, ?_⟩
  · exact (θ_run Cert.ExpertsIdeal.defs _ _).mono
      (fun _ h c => ⟨(h.1 c).2.2.2.2.2, (h.1 c).1, (h.1 c).2.1, (h.1 c).2.2.1, (h.1 c).2.2.2.1, (h.1 c).2.2.2.2.1⟩)
      (Cert.ExpertsIdeal.Run.run_main (F := Ideal) m ρ ok)
  refine (θ_run Cert.ExpertsRefIdeal.defs _ _).mono (fun _ h c => ⟨(h c).1.trans ?_, (h c).2⟩) (Cert.ExpertsRefIdeal.Value.run m' ρ')
  rw [(hagree c).1, (hagree c).2.1, (hagree c).2.2.1, (hagree c).2.2.2.1, (hagree c).2.2.2.2]
  exact (Cert.ExpertsRefIdeal.Value.ref_eq _ _ _ _ _ (fun n => ok.slot c _) (fun n => ok.low c _)).trans (Cert.ExpertsIdeal.Run.out_eq m c ok).symm

end Cert.Proof.Experts

end
-- ==== Proof.WholeBase.lean ====
/-
  The ground of the proof about the whole kernel: the launch's configuration, the arrays by name, the list of
  row numbers as a function of the worker and the entry, and the resource algebra that the proof's parts share.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The labels of the program below its SparseCore calls. -/
abbrev ΛP : Labels := Pipeline.Sig Λ₀ (Fin 2) fun p => (pcfgs (F := F) p).Adm
/-- The program's SparseCore calls. -/
abbrev K : SparseCore.Cfg τ sig (ΛP (F := F)) 2 := sc (F := F)
/-- The kernels' bodies and the pipeline's. -/
abbrev D : Defs nD τ sig (Elt F) (ΛP (F := F)) := Pipeline.defs pcfgs defs₀
/-- No variants: nothing in the program recurses. -/
abbrev 𝒱₀ : Variants := Variants.none
/-- The variants of the lifted program. -/
abbrev 𝒱 : Variants := 𝒱₀.lift
/-- The bottom variant. -/
abbrev v₀ : 𝒱.V := Sum.inl none

/-- The handshakes' ghost state. -/
abbrev UH : Type := URounds (GSem nD τ sig) ℕ
/-- The pipeline's staging cells' ghost state. -/
abbrev UP : Type := URounds (GSem nD τ sig) Unit
/-- The handshakes' ghost state, the pipeline's and the transfers' counters. -/
abbrev UU : Type := UH × (UP × Counters)

/-- Worker `2 s + c` runs on vector subcore `s` of SparseCore `c`. -/
def wid (c : Fin 2) (s : Fin 16) : Fin 32 := ⟨2 * s.val + c.val, by omega⟩

/-- Entry `k` of half `h` of worker `w`'s list: the index into the table of row numbers. -/
def pIx (w : Fin 32) (h : Fin 2) (k : Fin 64) : S32x2x64.Idx := fun | 0 => w | 1 => h | 2 => k

/-- Token `n`'s entry in the table of row numbers. -/
def ent (n : Fin 4096) : S32x2x64.Idx :=
  pIx ⟨n.val / 128, by omega⟩ ⟨n.val % 128 / 64, by omega⟩ ⟨n.val % 64, by omega⟩

/-- Entry `k` of half `h` of worker `w`'s list is token `128 w + 64 h + k`'s. -/
theorem ent_of (n : Fin 4096) (w : Fin 32) (h : Fin 2) (k : Fin 64) (e : n.val = 128 * w.val + 64 * h.val + k.val) : ent n = pIx w h k := by
  have h1 : n.val / 128 = w.val := by omega
  have h2 : n.val % 128 / 64 = h.val := by omega
  have h3 : n.val % 64 = k.val := by omega
  funext a
  match a with
  | 0 => exact Fin.ext h1
  | 1 => exact Fin.ext h2
  | 2 => exact Fin.ext h3

/-- The row that token `n`'s entry names, kept in range by a remainder. -/
def slotOf (fp : S32x2x64.Idx → Elt F .i32) (n : Fin 4096) : Fin 6144 :=
  ⟨(fp (ent n) : BitVec 32).toNat % 6144, Nat.mod_lt _ (by decide)⟩

/-- The gathered array: token `n`'s row is the row of `fy` that the token's entry names. -/
def gathered (fp : S32x2x64.Idx → Elt F .i32) (fy : S6144x2x128.Idx → Elt F .f32) : S4096x2x128.Idx → Elt F .f32 :=
  fun y => fy (fun | 0 => slotOf fp (y 0) | 1 => y 1 | 2 => y 2)

open scoped Classical in
/-- The scattered array: a row that some token's entry names is that token's row of `f`; the others are as they were. -/
def scattered (fp : S32x2x64.Idx → Elt F .i32) (f : S4096x2x128.Idx → Elt F .f32) (t : S6144x2x128.Idx → Elt F .f32) : S6144x2x128.Idx → Elt F .f32 :=
  fun y => if h : ∃ n : Fin 4096, (fp (ent n) : BitVec 32).toNat = (y 0).val then f (fun | 0 => h.choose | 1 => y 1 | 2 => y 2) else t y

/-- Distinct tokens have distinct entries. -/
theorem ent_inj {n n' : Fin 4096} (h : ent n = ent n') : n = n' := by
  have h0 : n.val / 128 = n'.val / 128 := congrArg Fin.val (congrFun h 0)
  have h1 : n.val % 128 / 64 = n'.val % 128 / 64 := congrArg Fin.val (congrFun h 1)
  have h2 : n.val % 64 = n'.val % 64 := congrArg Fin.val (congrFun h 2)
  apply Fin.ext; omega

/-- At a row that token `n`'s entry names the scattered array holds that token's row. -/
theorem scattered_of (fp : S32x2x64.Idx → Elt F .i32) (hdis : Function.Injective fun j => (fp j : BitVec 32).toNat)
    (f : S4096x2x128.Idx → Elt F .f32) (t : S6144x2x128.Idx → Elt F .f32) (y : S6144x2x128.Idx) (n : Fin 4096)
    (e : (fp (ent n) : BitVec 32).toNat = (y 0).val) : scattered fp f t y = f (fun | 0 => n | 1 => y 1 | 2 => y 2) := by
  have h : ∃ n : Fin 4096, (fp (ent n) : BitVec 32).toNat = (y 0).val := ⟨n, e⟩
  unfold scattered
  rw [dif_pos h]
  have : h.choose = n := ent_inj (hdis (h.choose_spec.trans e.symm))
  rw [this]

/-- Half `h` of a worker's row of the table of row numbers, as a transfer reads it. -/
abbrev gSrc (off : Fin 3 → ℕ) (h : ∀ a, off a + S1x1x64.size a ≤ S32x2x64.size a) : Memref sig .scVector .hbm S64 .i32 :=
  ((Memref.whole main_v2_scv).slice (Rect.unit (s := S32x2x64) off S1x1x64.size h) (fun _ => rfl)).squeeze S64 squeezes_S1x1x64_S64

/-- Squeezing the two unit axes keeps the lane. -/
theorem sq_S64 (x : S64.Idx) : Shape.reshapeEquiv (s := S1x1x64) squeezes_S1x1x64_S64.numel_eq x
    = (fun | 0 => (⟨0, by decide⟩ : Fin 1) | 1 => (⟨0, by decide⟩ : Fin 1) | 2 => x 0 : S1x1x64.Idx) := by
  refine Shape.reshapeEquiv_eq_of_rowMajor _ ?_
  rw [Shape.rowMajor_val_three, Shape.rowMajor_val_one]
  show (0 * 1 + 0) * 64 + (x 0).val = (x 0).val
  omega

/-- Lane `k` of the half's view is the table's entry `(w, h, k)`. -/
theorem gSrc_emb (w : Fin 32) (hf : Fin 2) (off : Fin 3 → ℕ) (h : ∀ a, off a + S1x1x64.size a ≤ S32x2x64.size a)
    (e : off = ![w.val, hf.val, 0]) (x : S64.Idx) : (gSrc off h).view.emb x = pIx w hf (x 0) := by
  subst e
  show (Rect.unit (s := S32x2x64) ![w.val, hf.val, 0] S1x1x64.size h).emb (Shape.reshapeEquiv (s := S1x1x64) squeezes_S1x1x64_S64.numel_eq x) = _
  rw [sq_S64]
  funext a
  match a with
  | 0 => exact Fin.ext (show w.val + 1 * 0 = w.val by omega)
  | 1 => exact Fin.ext (show hf.val + 1 * 0 = hf.val by omega)
  | 2 => exact Fin.ext (show 0 + 1 * (x 0).val = (x 0).val by omega)

/-- The list of a half, read from the table, is the table's entries of that half. -/
theorem gSrc_read (w : Fin 32) (hf : Fin 2) (off : Fin 3 → ℕ) (h : ∀ a, off a + S1x1x64.size a ≤ S32x2x64.size a)
    (e : off = ![w.val, hf.val, 0]) (fp : S32x2x64.Idx → Elt F .i32) (x : S64.Idx) :
    (gSrc off h).view.read (Elt F) fp x = fp (pIx w hf (x 0)) := by
  show fp ((gSrc off h).view.emb x) = _
  rw [gSrc_emb w hf off h e]

/-- Entry `k` of a list of 64, in row-major order, is lane `k`. -/
theorem S64_symm (hn : S64.numel = 64) (k : Fin 64) : (S64.rowMajor.symm (k.cast hn.symm)) 0 = k := by
  apply Fin.ext
  rw [← Shape.rowMajor_val_one (S64.rowMajor.symm (k.cast hn.symm)), Equiv.apply_symm_apply]
  rfl

end Cert.KernelIdeal.Run

end
-- ==== Proof.WholeGather.lean ====
module

public import proofs.«01_k».proof.Proof.WholeBase

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Gather

variable (d : Dev nD) (L : grid3.Coords)

abbrev GT : Thread nD τ := V d ((L 0).castLE hcore3) ((L 1).castLE hsub3)

abbrev gOut (h : Fin 2) (o : BitVec 32) (ho : ∀ a, k3_off2 L o a + S64x2x128.size a ≤ S4096x2x128.size a) : Memref sig .scVector .hbm S64x2x128 .f32 :=
  (Memref.whole main_v22_scv).slice (Rect.unit (s := S4096x2x128) (k3_off2 L o) S64x2x128.size ho) (fun _ => rfl)

/-- The list of row numbers that the worker reads for half `h`. -/
abbrev gList (off : Fin 2 → ℕ) (h : ∀ a, off a + S1x64.size a ≤ S2x64.size a) : Memref sig .scVector .vmem S64 .i32 :=
  ((Memref.whole cc3_scratch0).slice (Rect.unit (s := S2x64) off S1x64.size h) (fun _ => rfl)).squeeze S64 squeezes_S1x64_S64

/-- The worker that runs at grid point `L`. -/
def LW : Fin 32 := ⟨2 * (L 1).val + (L 0).val, by
  have h0 : (L 0).val < 2 := (L 0).isLt
  have h1 : (L 1).val < 16 := (L 1).isLt
  omega⟩

/-- Where a tile reads its first half of slots. -/
theorem off1_LW : k3_off1 L = ![(LW L).val, (0 : Fin 2).val, 0] := k3_off1_eq L
/-- Where a tile reads its second half of slots. -/
theorem off3_LW : k3_off3 L = ![(LW L).val, (1 : Fin 2).val, 0] := k3_off3_eq L
/-- Where a tile writes a half of its rows. -/
theorem off2_LW (h : Fin 2) : k3_off2 L (BitVec.ofNat 32 (64 * h.val)) = ![128 * (LW L).val + 64 * h.val, 0, 0] := by
  rw [k3_off2_eq]
  have e : 256 * (L 1).val + 128 * (L 0).val + 64 * h.val = 128 * (LW L).val + 64 * h.val := by unfold LW; show _ = 128 * (2 * (L 1).val + (L 0).val) + _; omega
  rw [e]

/-- A whole write over any earlier writes reads back as itself. -/
theorem read_writes_whole_cons {κ : Kind} {sp : Space} {s : Shape} {e : EltTy} (v : View sig κ sp s e) (f : v.ty.Contents (Elt F)) (x : s.Idx → Elt F e)
    (l : List (View.Piece (Elt F) s e)) : v.read (Elt F) (v.writes (Elt F) f (⟨Rect.whole s, x⟩ :: l)) = x := by
  funext y
  have h := View.read_writes_cons_emb v f (Rect.whole s) x l y
  rwa [Rect.emb_whole_apply] at h

/-- What a gather of half `h` brings: row by row the rows of the table that the half's entries name. -/
theorem gather_value (w : Fin 32) (hf : Fin 2) (off : Fin 3 → ℕ) (h : ∀ a, off a + S1x1x64.size a ≤ S32x2x64.size a)
    (e : off = ![w.val, hf.val, 0]) (fp : S32x2x64.Idx → Elt F .i32) (fy : S6144x2x128.Idx → Elt F .f32)
    (hin : ∀ j, (fp j : BitVec 32).toNat < 6144) (lst : S64.Idx → Elt F .i32) (hl : lst = (gSrc off h).view.read (Elt F) fp)
    (hlt : ∀ x, (lst x).toNat < S6144x2x128.size gathers_S6144x2x128_S64x2x128.axis) (hn : S64.numel = 64)
    (o : BitVec 32) (ho : ∀ a, k3_off2 L o a + S64x2x128.size a ≤ S4096x2x128.size a)
    (eo : k3_off2 L o = ![128 * w.val + 64 * hf.val, 0, 0]) (inb) (y : S64x2x128.Idx) :
    SparseCore.gatherPayload gathers_S6144x2x128_S64x2x128
        (View.read (Elt F) ((Memref.whole main_v21_scv).slice (Rect.unit (s := S6144x2x128) ![0, 0, 0] S6144x2x128.size inb) (fun _ => rfl)).view fy)
        (SparseCore.rows (o := 64) lst hn hlt) y
      = gathered fp fy ((gOut L hf o ho).view.emb y) := by
  subst hl
  have hk : ((gOut L hf o ho).view.emb y 0).val = 128 * w.val + 64 * hf.val + (y 0).val := by
    show k3_off2 L o 0 + 1 * (y 0).val = _
    rw [eo]; show (128 * w.val + 64 * hf.val) + 1 * (y 0).val = _; omega
  show fy ((Rect.unit (s := S6144x2x128) ![0, 0, 0] S6144x2x128.size inb).emb (gathers_S6144x2x128_S64x2x128.idx _ y)) = fy _
  congr 1
  funext a
  match a with
  | 0 =>
    apply Fin.ext
    show 0 + 1 * ((gSrc off h).view.read (Elt F) fp (S64.rowMajor.symm ((y 0).cast hn.symm)) : BitVec 32).toNat = _
    rw [gSrc_read w hf off h e, S64_symm hn (y 0)]
    show _ = (fp (ent _) : BitVec 32).toNat % 6144
    rw [ent_of _ w hf (y 0) hk, Nat.mod_eq_of_lt (hin _)]
    omega
  | 1 =>
    apply Fin.ext
    show 0 + 1 * (y 1).val = k3_off2 L o 1 + 1 * (y 1).val
    rw [eo]; rfl
  | 2 =>
    apply Fin.ext
    show 0 + 1 * (y 2).val = k3_off2 L o 2 + 1 * (y 2).val
    rw [eo]; rfl

/-- A window written whole with the gathered rows holds the gathered array's rows. -/
theorem gOut_value (hf : Fin 2) (o : BitVec 32) (ho : ∀ a, k3_off2 L o a + S64x2x128.size a ≤ S4096x2x128.size a)
    (fo : S4096x2x128.Idx → Elt F .f32) (pay : S64x2x128.Idx → Elt F .f32) (G : S4096x2x128.Idx → Elt F .f32)
    (hp : ∀ y, pay y = G ((gOut L hf o ho).view.emb y)) :
    ∀ i ∈ (gOut L hf o ho).view.set, (gOut L hf o ho).view.writes (Elt F) fo [⟨Rect.whole S64x2x128, pay⟩] i = G i := by
  intro i hi
  obtain ⟨y, -, rfl⟩ := Finset.mem_map.mp hi
  rw [← hp]
  exact congrFun (View.read_writes_whole (gOut L hf o ho).view fo pay) y

/-- The list that a gather reads has slots in range. -/
theorem gList_lt (fp : Buf (Elt F) ((Memref.whole main_v2_scv).view.loc (GT d L))) (hin : ∀ j, (fp j).toNat < 6144)
    (off : Fin 2 → ℕ) (h : ∀ a, off a + S1x64.size a ≤ S2x64.size a) (off' : Fin 3 → ℕ) (h' : ∀ a, off' a + S1x1x64.size a ≤ S32x2x64.size a)
    (pay : S64.Idx → Elt F .i32) (hpay : pay = (gSrc off' h').view.read (Elt F) fp)
    (g : Buf (Elt F) ((Memref.whole cc3_scratch0).view.loc (GT d L))) :
    ∀ x, ((gList off h).view.read (Elt F) (View.write (Elt F) (gList off h).view g pay Finset.univ) x).toNat < S6144x2x128.size gathers_S6144x2x128_S64x2x128.axis := by
  intro x
  rw [View.read_write_univ, hpay]
  exact hin _

set_option maxHeartbeats 4000000 in
theorem gather_run (O : CellTallies nD τ sig (HIx 2)) (W : Waits sig (HIx 2)) (q : PosShare TreeShare)
    (fp : Buf (Elt F) ((Memref.whole main_v2_scv).view.loc (GT d L)))
    (fy : Buf (Elt F) ((Memref.whole main_v21_scv).view.loc (GT d L)))
    (fo : Buf (Elt F) ((Memref.whole main_v22_scv).view.loc (GT d L)))
    (g0 : Buf (Elt F) ((Memref.whole cc3_scratch0).view.loc (GT d L)))
    (t0 : Buf (Elt F) ((Memref.whole cc3_scratch1).view.loc (GT d L)))
    (hin : ∀ j, (fp j).toNat < 6144) :
    (iprop(Transfers.MayWaits (GT d L) (default : HIx 2) O
        ∗ ((Memref.whole main_v2_scv).view.loc (GT d L) ↦{q} fp)
        ∗ ((Memref.whole main_v21_scv).view.loc (GT d L) ↦{q} fy)
        ∗ ((gOut L 0 0#32 (k3_off2_inb L 0)).view.loc (GT d L) ↦[(gOut L 0 0#32 (k3_off2_inb L 0)).view.set]{fullShare} fo)
        ∗ ((gOut L 1 64#32 (k3_off2_inb L 1)).view.loc (GT d L) ↦[(gOut L 1 64#32 (k3_off2_inb L 1)).view.set]{fullShare} fo)
        ∗ ((Memref.whole cc3_scratch0).view.loc (GT d L) ↦{fullShare} g0)
        ∗ ((Memref.whole cc3_scratch1).view.loc (GT d L) ↦{fullShare} t0)
        ∗ semVal (GT d L, SemLoc.dma cc3_scratch2.sem) 0
        ∗ semVal (GT d L, SemLoc.dma cc3_scoped0.sem) 0
        ∗ semVal (GT d L, SemLoc.dma cc3_scoped1.sem) 0
        ∗ semVal (GT d L, SemLoc.dma cc3_scoped2.sem) 0
        ∗ semVal (GT d L, SemLoc.dma cc3_scoped3.sem) 0
        ∗ owes (GT d L) O W) : sProp 𝕄)
      ⊢ wp frame (wpE (defs₀ (F := F)) 𝒱₀ (GT d L) none) Set.univ
          (cc3_gather_out L (Memref.whole main_v2_scv) (Memref.isWhole_whole _) (Memref.whole main_v21_scv) (Memref.isWhole_whole _)
            (Memref.whole main_v22_scv) (Memref.isWhole_whole _) (Memref.whole cc3_scratch0) (Memref.isWhole_whole _)
            (Memref.whole cc3_scratch1) (Memref.isWhole_whole _) cc3_scratch2 cc3_scoped0 cc3_scoped1 cc3_scoped2 cc3_scoped3)
          fun _ => iprop(
            ((Memref.whole main_v2_scv).view.loc (GT d L) ↦{q} fp)
            ∗ ((Memref.whole main_v21_scv).view.loc (GT d L) ↦{q} fy)
            ∗ ((gOut L 0 0#32 (k3_off2_inb L 0)).view.loc (GT d L) ↦[(gOut L 0 0#32 (k3_off2_inb L 0)).view.set]{fullShare} gathered fp fy)
            ∗ ((gOut L 1 64#32 (k3_off2_inb L 1)).view.loc (GT d L) ↦[(gOut L 1 64#32 (k3_off2_inb L 1)).view.set]{fullShare} gathered fp fy)
            ∗ (∃ g, (Memref.whole cc3_scratch0).view.loc (GT d L) ↦{fullShare} g)
            ∗ (∃ t, (Memref.whole cc3_scratch1).view.loc (GT d L) ↦{fullShare} t)
            ∗ semVal (GT d L, SemLoc.dma cc3_scratch2.sem) 0
            ∗ semVal (GT d L, SemLoc.dma cc3_scoped0.sem) 0
            ∗ semVal (GT d L, SemLoc.dma cc3_scoped1.sem) 0
            ∗ semVal (GT d L, SemLoc.dma cc3_scoped2.sem) 0
            ∗ semVal (GT d L, SemLoc.dma cc3_scoped3.sem) 0
            ∗ ∃ W', ⌜∀ p ∈ W', p ∈ W ∨ p.2 = none⌝ ∗ owes (GT d L) O W') := by
  iintro ⟨#Hmw, HI, HX, HO0, HO1, HG, HT, Hc0, Hc1, Hc2, Hc3, Hc4, HO⟩
  sl_unfold [cc3_gather_out]
  sl_exec
  have h0 := gList_lt d L fp hin ![0, 0] inb_S2x64_S1x64_0_0 _ (k3_off1_inb L) (gather_run.sl.dma0 d L fp) rfl g0
  sl_exec
  have h1 := gList_lt d L fp hin ![1, 0] inb_S2x64_S1x64_1_0 _ (k3_off3_inb L) (gather_run.sl.dma0_2 d L fp) rfl
    (View.write (Elt F) (gList ![0, 0] inb_S2x64_S1x64_0_0).view g0 (gather_run.sl.dma0 d L fp) Finset.univ)
  sl_exec
  sl_step
  have e0 : ∀ i ∈ (gOut L 0 0#32 (k3_off2_inb L 0)).view.set, (gOut L 0 0#32 (k3_off2_inb L 0)).view.writes (Elt F) fo
      [⟨Rect.whole S64x2x128, gather_run.sl.dma0_1 d L fp fy g0 t0 h0⟩] i = gathered fp fy i := by
    refine gOut_value L 0 _ _ fo _ _ fun y => ?_
    unfold gather_run.sl.dma0_1
    show View.read (Elt F) (Memref.whole cc3_scratch1).view _ y = _
    rw [View.read_writes_whole]
    exact gather_value L (LW L) 0 _ (k3_off1_inb L) (off1_LW L) fp fy hin _ (View.read_write_univ _ _) h0 _ _ _ (off2_LW L 0) _ y
  have e1 : ∀ i ∈ (gOut L 1 64#32 (k3_off2_inb L 1)).view.set, (gOut L 1 64#32 (k3_off2_inb L 1)).view.writes (Elt F) fo
      [⟨Rect.whole S64x2x128, gather_run.sl.dma0_3 d L fp fy g0 t0 h0 h1⟩] i = gathered fp fy i := by
    refine gOut_value L 1 _ _ fo _ _ fun y => ?_
    unfold gather_run.sl.dma0_3
    show View.read (Elt F) (Memref.whole cc3_scratch1).view _ y = _
    rw [read_writes_whole_cons]
    exact gather_value L (LW L) 1 _ (k3_off3_inb L) (off3_LW L) fp fy hin _ (View.read_write_univ _ _) h1 _ _ _ (off2_LW L 1) _ y
  ihave HO0 := (Entails.of_eq (pointsTo_congr e0)) $$ HO0
  ihave HO1 := (Entails.of_eq (pointsTo_congr e1)) $$ HO1
  isplitl [HI]
  · iexact HI
  isplitl [HX]
  · iexact HX
  isplitl [HO0]
  · iexact HO0
  isplitl [HO1]
  · iexact HO1
  isplitl [HG]
  · iexists _; iexact HG
  isplitl [HT]
  · iexists _; iexact HT
  isplitl [Hc0]
  · iexact Hc0
  isplitl [Hc1]
  · iexact Hc1
  isplitl [Hc2]
  · iexact Hc2
  isplitl [Hc3]
  · iexact Hc3
  isplitl [Hc4]
  · iexact Hc4
  iexists _
  isplitr
  rotate_left
  · iexact HO
  · ipureintro
    intro p hp
    simp only [Finset.mem_insert] at hp
    rcases hp with h | h | h | h | h | h | h
    all_goals first | exact Or.inl h | exact Or.inr (by rw [h]; rfl)

end Gather

end Cert.KernelIdeal.Run

end
-- ==== Proof.WholeScatter.lean ====
module

public import proofs.«01_k».proof.Proof.WholeBase

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Scatter

variable (d : Dev nD) (L : grid1.Coords)

abbrev ST : Thread nD τ := V d ((L 0).castLE hcore1) ((L 1).castLE hsub1)

/-- The list of row numbers that the worker reads for half `h`. -/
abbrev sList (off : Fin 2 → ℕ) (h : ∀ a, off a + S1x64.size a ≤ S2x64.size a) : Memref sig .scVector .vmem S64 .i32 :=
  ((Memref.whole cc1_scratch0).slice (Rect.unit (s := S2x64) off S1x64.size h) (fun _ => rfl)).squeeze S64 squeezes_S1x64_S64

/-- The worker that runs at grid point `L`. -/
def LS : Fin 32 := ⟨2 * (L 1).val + (L 0).val, by
  have h0 : (L 0).val < 2 := (L 0).isLt
  have h1 : (L 1).val < 16 := (L 1).isLt
  omega⟩

/-- Where a tile reads its first half of slots. -/
theorem soff1_LS : k1_off1 L = ![(LS L).val, (0 : Fin 2).val, 0] := k1_off1_eq L
/-- Where a tile reads its second half of slots. -/
theorem soff3_LS : k1_off3 L = ![(LS L).val, (1 : Fin 2).val, 0] := k1_off3_eq L
/-- Where a tile reads a half of its rows. -/
theorem soff2_LS (h : Fin 2) : k1_off2 L (BitVec.ofNat 32 (64 * h.val)) = ![128 * (LS L).val + 64 * h.val, 0, 0] := by
  rw [k1_off2_eq]
  have e : 256 * (L 1).val + 128 * (L 0).val + 64 * h.val = 128 * (LS L).val + 64 * h.val := by unfold LS; show _ = 128 * (2 * (L 1).val + (L 0).val) + _; omega
  rw [e]

/-- Row `r` is one that worker `w`'s list names. -/
def own (fp : S32x2x64.Idx → Elt F .i32) (w : Fin 32) (r : ℕ) : Prop := ∃ (h : Fin 2) (k : Fin 64), (fp (pIx w h k) : BitVec 32).toNat = r

/-- The list that a scatter reads is the tile's half of the slots. -/
theorem sList_read (w : Fin 32) (hf : Fin 2) (fp : S32x2x64.Idx → Elt F .i32)
    (off : Fin 2 → ℕ) (h : ∀ a, off a + S1x64.size a ≤ S2x64.size a) (off' : Fin 3 → ℕ) (h' : ∀ a, off' a + S1x1x64.size a ≤ S32x2x64.size a)
    (e : off' = ![w.val, hf.val, 0]) (pay : S64.Idx → Elt F .i32) (hpay : pay = (gSrc off' h').view.read (Elt F) fp)
    (g : S2x64.Idx → Elt F .i32) (x : S64.Idx) :
    (sList off h).view.read (Elt F) (View.write (Elt F) (sList off h).view g pay Finset.univ) x = fp (pIx w hf (x 0)) := by
  rw [View.read_write_univ, hpay, gSrc_read w hf off' h' e]

/-- The three facts about a list that a scatter along it asks for: its words are rows of the target, they are pairwise
    distinct, and each is one that the worker owns. -/
theorem sList_facts (w : Fin 32) (hf : Fin 2) (fp : S32x2x64.Idx → Elt F .i32)
    (hin : ∀ j, (fp j : BitVec 32).toNat < 6144) (hdis : Function.Injective fun j => (fp j : BitVec 32).toNat)
    (off : Fin 2 → ℕ) (h : ∀ a, off a + S1x64.size a ≤ S2x64.size a) (off' : Fin 3 → ℕ) (h' : ∀ a, off' a + S1x1x64.size a ≤ S32x2x64.size a)
    (e : off' = ![w.val, hf.val, 0]) (pay : S64.Idx → Elt F .i32) (hpay : pay = (gSrc off' h').view.read (Elt F) fp)
    (g : S2x64.Idx → Elt F .i32) :
    (∀ x, ((sList off h).view.read (Elt F) (View.write (Elt F) (sList off h).view g pay Finset.univ) x).toNat < S6144x2x128.size gathers_S6144x2x128_S64x2x128.axis)
    ∧ (Function.Injective fun x => ((sList off h).view.read (Elt F) (View.write (Elt F) (sList off h).view g pay Finset.univ) x).toNat)
    ∧ (∀ x, own fp w ((sList off h).view.read (Elt F) (View.write (Elt F) (sList off h).view g pay Finset.univ) x).toNat) := by
  have hr := sList_read w hf fp off h off' h' e pay hpay g
  refine ⟨fun x => ?_, fun x y hxy => ?_, fun x => ?_⟩
  · rw [hr]; exact hin _
  · dsimp only at hxy
    rw [hr, hr] at hxy
    have := congrFun (hdis hxy) 2
    funext a
    match a with
    | 0 => exact this
  · rw [hr]; exact ⟨hf, x 0, rfl⟩

/-- A target as the scatters address it: its buffer by the window of all of it. -/
abbrev sTgt (m : Memref sig .scVector .hbm S6144x2x128 .f32) : Memref sig .scVector .hbm S6144x2x128 .f32 :=
  m.slice (Rect.unit (s := S6144x2x128) ![0, 0, 0] S6144x2x128.size inb_S6144x2x128_S6144x2x128_0_0_0) (fun _ => rfl)

/-- A target read after a scatter, at a row that entry `k` names: the entry's payload. -/
theorem scat_read_mem (v : View sig .scVector .hbm S6144x2x128 .f32) (ax : Fin S6144x2x128.rank) (r : Fin 64 → Fin (S6144x2x128.size ax))
    (hinj : Function.Injective r) (w : Fin 64 → (S6144x2x128.rowShape ax).Idx → Elt F .f32) (fd : Buf (Elt F) (v.loc (ST d L)))
    (k : Fin 64) (y : S6144x2x128.Idx) (e : r k = y ax) :
    v.read (Elt F) (SparseCore.scatterBuf (ST d L) v ax r w fd) y = w k (S6144x2x128.rowProj ax y) := by
  have ey : (S6144x2x128.rowRect ax (r k)).emb (S6144x2x128.rowProj ax y) = y := by rw [e]; exact Shape.rowRect_emb_rowProj ax y
  have hm : v.emb y ∈ (v.slice (S6144x2x128.rowRect ax (r k))).set := by
    have hj : (v.slice (S6144x2x128.rowRect ax (r k))).emb (S6144x2x128.rowProj ax y) = v.emb y := congrArg v.emb ey
    have hs := View.emb_mem_set (v.slice (S6144x2x128.rowRect ax (r k))) (S6144x2x128.rowProj ax y)
    rw [hj] at hs; exact hs
  have h1 := SparseCore.scatterBuf_of_mem (ST d L) v ax r hinj w fd hm
  have h2 : v.read (Elt F) (SparseCore.scatterBuf (ST d L) v ax r w fd) y
      = v.read (Elt F) ((v.slice (S6144x2x128.rowRect ax (r k))).write (Elt F) fd (w k) Finset.univ) y := by
    rw [View.read_apply, View.read_apply, h1]
  rw [h2]
  have h3 := congrFun (View.read_write_univ (v := v.slice (S6144x2x128.rowRect ax (r k))) fd (w k)) (S6144x2x128.rowProj ax y)
  refine Eq.trans ?_ h3
  exact (congrArg (v.read (Elt F) ((v.slice (S6144x2x128.rowRect ax (r k))).write (Elt F) fd (w k) Finset.univ)) ey).symm

/-- A target read after a scatter, at a row that no entry names: as it was. -/
theorem scat_read_not (v : View sig .scVector .hbm S6144x2x128 .f32) (ax : Fin S6144x2x128.rank) (r : Fin 64 → Fin (S6144x2x128.size ax))
    (w : Fin 64 → (S6144x2x128.rowShape ax).Idx → Elt F .f32) (fd : Buf (Elt F) (v.loc (ST d L)))
    (y : S6144x2x128.Idx) (e : ∀ k, r k ≠ y ax) :
    v.read (Elt F) (SparseCore.scatterBuf (ST d L) v ax r w fd) y = v.read (Elt F) fd y := by
  rw [View.read_apply, View.read_apply, SparseCore.scatterBuf_of_not_mem]
  intro hm
  rw [SparseCore.namedRows_eq] at hm
  obtain ⟨k, -, hk⟩ := Finset.mem_biUnion.mp hm
  obtain ⟨j, -, hj⟩ := Finset.mem_map.mp hk
  have hy : (S6144x2x128.rowRect ax (r k)).emb j = y := v.emb.injective hj
  exact e k ((Shape.rowRect_emb_axis ax (r k) j).symm.trans (congrArg (fun z : S6144x2x128.Idx => z ax) hy))

/-- The window of the tokens' rows that half `h` of the worker sends. -/
abbrev sWin (m : Memref sig .scVector .hbm S4096x2x128 .f32) (o : BitVec 32) (ho : ∀ a, k1_off2 L o a + S64x2x128.size a ≤ S4096x2x128.size a) :
    Memref sig .scVector .hbm S64x2x128 .f32 := m.slice (Rect.unit (s := S4096x2x128) (k1_off2 L o) S64x2x128.size ho) (fun _ => rfl)

/-- What entry `k` of half `hf` sends, at the element of its row that `y` names: the token's row of `f` there. -/
theorem scat_payload (w : Fin 32) (hf : Fin 2) (o : BitVec 32) (ho : ∀ a, k1_off2 L o a + S64x2x128.size a ≤ S4096x2x128.size a)
    (eo : k1_off2 L o = ![128 * w.val + 64 * hf.val, 0, 0]) (f : S4096x2x128.Idx → Elt F .f32) (pay : S64x2x128.Idx → Elt F .f32)
    (hp : ∀ z, pay z = f ((Rect.unit (s := S4096x2x128) (k1_off2 L o) S64x2x128.size ho).emb z)) (g : S64x2x128.Idx → Elt F .f32)
    (k : Fin 64) (y : S6144x2x128.Idx) (n : Fin 4096) (en : n.val = 128 * w.val + 64 * hf.val + k.val) :
    SparseCore.scatterRowPayload (ST d L) (Memref.whole cc1_scratch1) gathers_S6144x2x128_S64x2x128
      (View.write (Elt F) (Memref.whole cc1_scratch1).view g pay Finset.univ) k (S6144x2x128.rowProj gathers_S6144x2x128_S64x2x128.axis y)
      = f (fun | 0 => n | 1 => y 1 | 2 => y 2) := by
  rw [View.write_whole_univ]
  have h0 : SparseCore.scatterRowPayload (ST d L) (Memref.whole cc1_scratch1) gathers_S6144x2x128_S64x2x128 pay k
        (S6144x2x128.rowProj gathers_S6144x2x128_S64x2x128.axis y)
      = pay ((S64x2x128.rowRect gathers_S6144x2x128_S64x2x128.axis' k).emb ((Shape.idxEquiv gathers_S6144x2x128_S64x2x128.rowShape_eq).symm
          (S6144x2x128.rowProj gathers_S6144x2x128_S64x2x128.axis y))) := rfl
  refine h0.trans ?_
  rw [hp]
  congr 1
  funext a
  apply Fin.ext
  have hz := Shape.rowRect_emb_val (s := S64x2x128) gathers_S6144x2x128_S64x2x128.axis' k ((Shape.idxEquiv gathers_S6144x2x128_S64x2x128.rowShape_eq).symm
          (S6144x2x128.rowProj gathers_S6144x2x128_S64x2x128.axis y)) a
  show k1_off2 L o a + 1 * ((S64x2x128.rowRect gathers_S6144x2x128_S64x2x128.axis' k).emb _ a).val = _
  rw [hz, eo]
  match a with
  | 0 =>
    rw [if_pos (by rfl)]
    show (128 * w.val + 64 * hf.val) + 1 * k.val = n.val
    omega
  | 1 =>
    rw [if_neg (by decide)]
    have hv := Shape.idxEquiv_symm_apply_val gathers_S6144x2x128_S64x2x128.rowShape_eq (S6144x2x128.rowProj gathers_S6144x2x128_S64x2x128.axis y) ⟨1, by change 1 < 3; decide⟩
    exact (congrArg (fun n => 0 + 1 * n) hv).trans (by show 0 + 1 * (y 1).val = (y 1).val; omega)
  | 2 =>
    rw [if_neg (by decide)]
    have hv := Shape.idxEquiv_symm_apply_val gathers_S6144x2x128_S64x2x128.rowShape_eq (S6144x2x128.rowProj gathers_S6144x2x128_S64x2x128.axis y) ⟨2, by change 2 < 3; decide⟩
    exact (congrArg (fun n => 0 + 1 * n) hv).trans (by show 0 + 1 * (y 2).val = (y 2).val; omega)

/-- The target after both halves' scatters holds the scattered array on the rows that the worker owns. -/
theorem scat_value (w : Fin 32) (v : View sig .scVector .hbm S6144x2x128 .f32) (fp : S32x2x64.Idx → Elt F .i32)
    (hdis : Function.Injective fun j => (fp j : BitVec 32).toNat) (f : S4096x2x128.Idx → Elt F .f32)
    (fd : Buf (Elt F) (v.loc (ST d L))) (t : S6144x2x128.Idx → Elt F .f32)
    (ho0 : ∀ a, k1_off2 L 0#32 a + S64x2x128.size a ≤ S4096x2x128.size a) (eo0 : k1_off2 L 0#32 = ![128 * w.val + 64 * (0 : Fin 2).val, 0, 0])
    (ho1 : ∀ a, k1_off2 L 64#32 a + S64x2x128.size a ≤ S4096x2x128.size a) (eo1 : k1_off2 L 64#32 = ![128 * w.val + 64 * (1 : Fin 2).val, 0, 0])
    (l0 l1 : S64.Idx → Elt F .i32) (e0 : ∀ x, l0 x = fp (pIx w 0 (x 0))) (e1 : ∀ x, l1 x = fp (pIx w 1 (x 0)))
    (hn : S64.numel = 64)
    (h0 : ∀ x, (l0 x : BitVec 32).toNat < S6144x2x128.size gathers_S6144x2x128_S64x2x128.axis)
    (h1 : ∀ x, (l1 x : BitVec 32).toNat < S6144x2x128.size gathers_S6144x2x128_S64x2x128.axis)
    (p0 p1 : S64x2x128.Idx → Elt F .f32) (g0 g1 : S64x2x128.Idx → Elt F .f32)
    (hp0 : ∀ z, p0 z = f ((Rect.unit (s := S4096x2x128) (k1_off2 L 0#32) S64x2x128.size ho0).emb z))
    (hp1 : ∀ z, p1 z = f ((Rect.unit (s := S4096x2x128) (k1_off2 L 64#32) S64x2x128.size ho1).emb z))
    (y : S6144x2x128.Idx) (hy : own fp w (y 0).val) :
    v.read (Elt F) (SparseCore.scatterBuf (ST d L) v gathers_S6144x2x128_S64x2x128.axis (SparseCore.rows l1 hn h1)
      (SparseCore.scatterRowPayload (ST d L) (Memref.whole cc1_scratch1) gathers_S6144x2x128_S64x2x128
        (View.write (Elt F) (Memref.whole cc1_scratch1).view g1 p1 Finset.univ))
      (SparseCore.scatterBuf (ST d L) v gathers_S6144x2x128_S64x2x128.axis (SparseCore.rows l0 hn h0)
        (SparseCore.scatterRowPayload (ST d L) (Memref.whole cc1_scratch1) gathers_S6144x2x128_S64x2x128
          (View.write (Elt F) (Memref.whole cc1_scratch1).view g0 p0 Finset.univ)) fd)) y = scattered fp f t y := by
  have r0 : ∀ k, (SparseCore.rows (o := 64) l0 hn h0 k).val = (fp (pIx w 0 k) : BitVec 32).toNat := fun k => by
    show (l0 (S64.rowMajor.symm (k.cast hn.symm)) : BitVec 32).toNat = _
    rw [e0, S64_symm hn]
  have r1 : ∀ k, (SparseCore.rows (o := 64) l1 hn h1 k).val = (fp (pIx w 1 k) : BitVec 32).toNat := fun k => by
    show (l1 (S64.rowMajor.symm (k.cast hn.symm)) : BitVec 32).toNat = _
    rw [e1, S64_symm hn]
  have i0 : Function.Injective (SparseCore.rows (o := 64) l0 hn h0) := fun k k' h => by
    have := congrArg Fin.val h
    rw [r0, r0] at this
    exact congrFun (hdis this) 2
  have i1 : Function.Injective (SparseCore.rows (o := 64) l1 hn h1) := fun k k' h => by
    have := congrArg Fin.val h
    rw [r1, r1] at this
    exact congrFun (hdis this) 2
  obtain ⟨hf, k, hk⟩ := hy
  have hn' : 128 * w.val + 64 * hf.val + k.val < 4096 := by omega
  have hent := ent_of ⟨_, hn'⟩ w hf k rfl
  rw [scattered_of fp hdis f t y ⟨_, hn'⟩ (by rw [hent]; exact hk)]
  match hf with
  | 0 =>
    refine (scat_read_not d L v _ (SparseCore.rows (o := 64) l1 hn h1) _ _ y ?_).trans
      ((scat_read_mem d L v _ (SparseCore.rows (o := 64) l0 hn h0) i0 _ _ k y (Fin.ext ((r0 k).trans hk))).trans
        (scat_payload d L w 0 _ ho0 eo0 f p0 hp0 g0 k y _ rfl))
    intro k' e
    have := congrArg Fin.val e
    rw [r1] at this
    exact absurd (congrFun (hdis (this.trans hk.symm)) 1) (show (1 : Fin 2) ≠ 0 by decide)
  | 1 =>
    exact (scat_read_mem d L v _ (SparseCore.rows (o := 64) l1 hn h1) i1 _ _ k y (Fin.ext ((r1 k).trans hk))).trans
      (scat_payload d L w 1 _ ho1 eo1 f p1 hp1 g1 k y _ rfl)

/-- A target read at one of its rows that satisfy a predicate: its elements there are the view's. -/
theorem rowsWhere_cases (v : View sig .scVector .hbm S6144x2x128 .f32) (ax : Fin S6144x2x128.rank) (p : ℕ → Prop) (i : v.ty.Idx)
    (hi : i ∈ SparseCore.rowsWhere v ax p) : ∃ y : S6144x2x128.Idx, p (y ax).val ∧ v.emb y = i := by
  obtain ⟨r, hp, hm⟩ := SparseCore.mem_rowsWhere.mp hi
  obtain ⟨j, -, hj⟩ := Finset.mem_map.mp hm
  refine ⟨(S6144x2x128.rowRect ax r).emb j, ?_, hj⟩
  exact (congrArg (fun z => p z.val) (Shape.rowRect_emb_axis ax r j)).mpr hp

/-- The window of all of a target names each element by its own index. -/
theorem full_emb (y : S6144x2x128.Idx) :
    (Rect.unit (s := S6144x2x128) ![0, 0, 0] S6144x2x128.size inb_S6144x2x128_S6144x2x128_0_0_0).emb y = y := by
  funext a
  match a with
  | 0 => exact Fin.ext (show 0 + 1 * (y 0).val = (y 0).val by omega)
  | 1 => exact Fin.ext (show 0 + 1 * (y 1).val = (y 1).val by omega)
  | 2 => exact Fin.ext (show 0 + 1 * (y 2).val = (y 2).val by omega)

/-- Contents that read alike on the rows that satisfy a predicate agree on their elements. -/
theorem rows_congr (v : View sig .scVector .hbm S6144x2x128 .f32) (ax : Fin S6144x2x128.rank) (p : ℕ → Prop) (f g : v.ty.Contents (Elt F))
    (h : ∀ y : S6144x2x128.Idx, p (y ax).val → v.read (Elt F) f y = v.read (Elt F) g y) : ∀ i ∈ SparseCore.rowsWhere v ax p, f i = g i := by
  intro i hi
  obtain ⟨y, hy, rfl⟩ := rowsWhere_cases v ax p i hi
  have := h y hy
  rw [View.read_apply, View.read_apply] at this
  exact (cast_inj _).mp this

set_option maxHeartbeats 8000000 in
theorem scatter_run (O : CellTallies nD τ sig (HIx 2)) (W : Waits sig (HIx 2)) (q : PosShare TreeShare)
    (fp : Buf (Elt F) ((Memref.whole main_v2_scv).view.loc (ST d L)))
    (f0 : Buf (Elt F) ((Memref.whole main_v5_scv).view.loc (ST d L)))
    (f1 : Buf (Elt F) ((Memref.whole main_v7_scv).view.loc (ST d L)))
    (f2 : Buf (Elt F) ((Memref.whole main_v9_scv).view.loc (ST d L)))
    (f3 : Buf (Elt F) ((Memref.whole main_v11_scv).view.loc (ST d L)))
    (t0 : Buf (Elt F) ((Memref.whole main_v12_0_scv).view.loc (ST d L)))
    (t1 : Buf (Elt F) ((Memref.whole main_v12_1_scv).view.loc (ST d L)))
    (t2 : Buf (Elt F) ((Memref.whole main_v12_2_scv).view.loc (ST d L)))
    (t3 : Buf (Elt F) ((Memref.whole main_v12_3_scv).view.loc (ST d L)))
    (g0 : Buf (Elt F) ((Memref.whole cc1_scratch0).view.loc (ST d L)))
    (g1 : Buf (Elt F) ((Memref.whole cc1_scratch1).view.loc (ST d L)))
    (hin : ∀ j, (fp j : BitVec 32).toNat < 6144) (hdis : Function.Injective fun j => (fp j : BitVec 32).toNat) :
    (iprop(Transfers.MayWaits (ST d L) (default : HIx 2) O
        ∗ ((Memref.whole main_v2_scv).view.loc (ST d L) ↦{q} fp)
        ∗ ((Memref.whole main_v5_scv).view.loc (ST d L) ↦{q} f0)
        ∗ ((Memref.whole main_v7_scv).view.loc (ST d L) ↦{q} f1)
        ∗ ((Memref.whole main_v9_scv).view.loc (ST d L) ↦{q} f2)
        ∗ ((Memref.whole main_v11_scv).view.loc (ST d L) ↦{q} f3)
        ∗ ((sTgt (Memref.whole main_v12_0_scv)).view.loc (ST d L) ↦[SparseCore.rowsWhere (sTgt (Memref.whole main_v12_0_scv)).view gathers_S6144x2x128_S64x2x128.axis (own fp (LS L))]{fullShare} t0)
        ∗ ((sTgt (Memref.whole main_v12_1_scv)).view.loc (ST d L) ↦[SparseCore.rowsWhere (sTgt (Memref.whole main_v12_1_scv)).view gathers_S6144x2x128_S64x2x128.axis (own fp (LS L))]{fullShare} t1)
        ∗ ((sTgt (Memref.whole main_v12_2_scv)).view.loc (ST d L) ↦[SparseCore.rowsWhere (sTgt (Memref.whole main_v12_2_scv)).view gathers_S6144x2x128_S64x2x128.axis (own fp (LS L))]{fullShare} t2)
        ∗ ((sTgt (Memref.whole main_v12_3_scv)).view.loc (ST d L) ↦[SparseCore.rowsWhere (sTgt (Memref.whole main_v12_3_scv)).view gathers_S6144x2x128_S64x2x128.axis (own fp (LS L))]{fullShare} t3)
        ∗ ((Memref.whole cc1_scratch0).view.loc (ST d L) ↦{fullShare} g0)
        ∗ ((Memref.whole cc1_scratch1).view.loc (ST d L) ↦{fullShare} g1)
        ∗ semVal (ST d L, SemLoc.dma cc1_scratch2.sem) 0
        ∗ semVal (ST d L, SemLoc.dma cc1_scoped0.sem) 0
        ∗ semVal (ST d L, SemLoc.dma cc1_scoped1.sem) 0
        ∗ semVal (ST d L, SemLoc.dma cc1_scoped2.sem) 0
        ∗ semVal (ST d L, SemLoc.dma cc1_scoped3.sem) 0
        ∗ semVal (ST d L, SemLoc.dma cc1_scoped4.sem) 0
        ∗ semVal (ST d L, SemLoc.dma cc1_scoped5.sem) 0
        ∗ semVal (ST d L, SemLoc.dma cc1_scoped6.sem) 0
        ∗ semVal (ST d L, SemLoc.dma cc1_scoped7.sem) 0
        ∗ semVal (ST d L, SemLoc.dma cc1_scoped8.sem) 0
        ∗ semVal (ST d L, SemLoc.dma cc1_scoped9.sem) 0
        ∗ owes (ST d L) O W) : sProp 𝕄)
      ⊢ wp frame (wpE (defs₀ (F := F)) 𝒱₀ (ST d L) none) Set.univ
          (cc1_scatter_x L (Memref.whole main_v2_scv) (Memref.isWhole_whole _) (Memref.whole main_v5_scv) (Memref.isWhole_whole _)
            (Memref.whole main_v7_scv) (Memref.isWhole_whole _) (Memref.whole main_v9_scv) (Memref.isWhole_whole _)
            (Memref.whole main_v11_scv) (Memref.isWhole_whole _) (Memref.whole main_v12_0_scv) (Memref.isWhole_whole _)
            (Memref.whole main_v12_1_scv) (Memref.isWhole_whole _) (Memref.whole main_v12_2_scv) (Memref.isWhole_whole _)
            (Memref.whole main_v12_3_scv) (Memref.isWhole_whole _) (Memref.whole cc1_scratch0) (Memref.isWhole_whole _)
            (Memref.whole cc1_scratch1) (Memref.isWhole_whole _) cc1_scratch2 cc1_scoped0 cc1_scoped1 cc1_scoped2 cc1_scoped3 cc1_scoped4
            cc1_scoped5 cc1_scoped6 cc1_scoped7 cc1_scoped8 cc1_scoped9)
          fun _ => iprop(
            ((Memref.whole main_v2_scv).view.loc (ST d L) ↦{q} fp)
            ∗ ((Memref.whole main_v5_scv).view.loc (ST d L) ↦{q} f0)
            ∗ ((Memref.whole main_v7_scv).view.loc (ST d L) ↦{q} f1)
            ∗ ((Memref.whole main_v9_scv).view.loc (ST d L) ↦{q} f2)
            ∗ ((Memref.whole main_v11_scv).view.loc (ST d L) ↦{q} f3)
            ∗ ((sTgt (Memref.whole main_v12_0_scv)).view.loc (ST d L) ↦[SparseCore.rowsWhere (sTgt (Memref.whole main_v12_0_scv)).view gathers_S6144x2x128_S64x2x128.axis (own fp (LS L))]{fullShare} scattered fp f0 t0)
            ∗ ((sTgt (Memref.whole main_v12_1_scv)).view.loc (ST d L) ↦[SparseCore.rowsWhere (sTgt (Memref.whole main_v12_1_scv)).view gathers_S6144x2x128_S64x2x128.axis (own fp (LS L))]{fullShare} scattered fp f1 t1)
            ∗ ((sTgt (Memref.whole main_v12_2_scv)).view.loc (ST d L) ↦[SparseCore.rowsWhere (sTgt (Memref.whole main_v12_2_scv)).view gathers_S6144x2x128_S64x2x128.axis (own fp (LS L))]{fullShare} scattered fp f2 t2)
            ∗ ((sTgt (Memref.whole main_v12_3_scv)).view.loc (ST d L) ↦[SparseCore.rowsWhere (sTgt (Memref.whole main_v12_3_scv)).view gathers_S6144x2x128_S64x2x128.axis (own fp (LS L))]{fullShare} scattered fp f3 t3)
            ∗ (∃ g, (Memref.whole cc1_scratch0).view.loc (ST d L) ↦{fullShare} g)
            ∗ (∃ g, (Memref.whole cc1_scratch1).view.loc (ST d L) ↦{fullShare} g)
            ∗ semVal (ST d L, SemLoc.dma cc1_scratch2.sem) 0
            ∗ semVal (ST d L, SemLoc.dma cc1_scoped0.sem) 0
            ∗ semVal (ST d L, SemLoc.dma cc1_scoped1.sem) 0
            ∗ semVal (ST d L, SemLoc.dma cc1_scoped2.sem) 0
            ∗ semVal (ST d L, SemLoc.dma cc1_scoped3.sem) 0
            ∗ semVal (ST d L, SemLoc.dma cc1_scoped4.sem) 0
            ∗ semVal (ST d L, SemLoc.dma cc1_scoped5.sem) 0
            ∗ semVal (ST d L, SemLoc.dma cc1_scoped6.sem) 0
            ∗ semVal (ST d L, SemLoc.dma cc1_scoped7.sem) 0
            ∗ semVal (ST d L, SemLoc.dma cc1_scoped8.sem) 0
            ∗ semVal (ST d L, SemLoc.dma cc1_scoped9.sem) 0
            ∗ ∃ W', ⌜∀ p ∈ W', p ∈ W ∨ p.2 = none⌝ ∗ owes (ST d L) O W') := by
  iintro ⟨#Hmw, HI, HX0, HX1, HX2, HX3, HT0, HT1, HT2, HT3, HG, HB, Hc, Hs0, Hs1, Hs2, Hs3, Hs4, Hs5, Hs6, Hs7, Hs8, Hs9, HO⟩
  sl_unfold [cc1_scatter_x]
  sl_exec
  obtain ⟨h0, j0, o0⟩ := sList_facts (LS L) 0 fp hin hdis ![0, 0] inb_S2x64_S1x64_0_0 _ (k1_off1_inb L) (soff1_LS L) (scatter_run.sl.dma0 d L fp) rfl g0
  sl_exec
  obtain ⟨h1, j1, o1⟩ := sList_facts (LS L) 1 fp hin hdis ![1, 0] inb_S2x64_S1x64_1_0 _ (k1_off3_inb L) (soff3_LS L) (scatter_run.sl.dma0_5 d L fp) rfl
    (View.write (Elt F) (sList ![0, 0] inb_S2x64_S1x64_0_0).view g0 (scatter_run.sl.dma0 d L fp) Finset.univ)
  sl_exec
  sl_step
  ihave HT0 := (Entails.of_eq (pointsTo_congr (g := scattered fp f0 t0) (rows_congr _ _ _ _ _ fun y hy => by
    unfold scatter_run.sl.HT0_sc0_1 scatter_run.sl.HT0_sc0
    refine (scat_value d L (LS L) (sTgt (Memref.whole main_v12_0_scv)).view fp hdis f0 t0 t0 (k1_off2_inb L 0) (soff2_LS L 0) (k1_off2_inb L 1) (soff2_LS L 1)
      _ _ (sList_read (LS L) 0 fp _ _ _ (k1_off1_inb L) (soff1_LS L) _ rfl _) (sList_read (LS L) 1 fp _ _ _ (k1_off3_inb L) (soff3_LS L) _ rfl _)
      rfl h0 h1 _ _ _ _ (fun z => rfl) (fun z => rfl) y hy).trans ?_
    exact congrArg _ (full_emb y).symm))) $$ HT0
  ihave HT1 := (Entails.of_eq (pointsTo_congr (g := scattered fp f1 t1) (rows_congr _ _ _ _ _ fun y hy => by
    unfold scatter_run.sl.HT1_sc2_1 scatter_run.sl.HT1_sc2
    refine (scat_value d L (LS L) (sTgt (Memref.whole main_v12_1_scv)).view fp hdis f1 t1 t1 (k1_off2_inb L 0) (soff2_LS L 0) (k1_off2_inb L 1) (soff2_LS L 1)
      _ _ (sList_read (LS L) 0 fp _ _ _ (k1_off1_inb L) (soff1_LS L) _ rfl _) (sList_read (LS L) 1 fp _ _ _ (k1_off3_inb L) (soff3_LS L) _ rfl _)
      rfl h0 h1 _ _ _ _ (fun z => rfl) (fun z => rfl) y hy).trans ?_
    exact congrArg _ (full_emb y).symm))) $$ HT1
  ihave HT2 := (Entails.of_eq (pointsTo_congr (g := scattered fp f2 t2) (rows_congr _ _ _ _ _ fun y hy => by
    unfold scatter_run.sl.HT2_sc4_1 scatter_run.sl.HT2_sc4
    refine (scat_value d L (LS L) (sTgt (Memref.whole main_v12_2_scv)).view fp hdis f2 t2 t2 (k1_off2_inb L 0) (soff2_LS L 0) (k1_off2_inb L 1) (soff2_LS L 1)
      _ _ (sList_read (LS L) 0 fp _ _ _ (k1_off1_inb L) (soff1_LS L) _ rfl _) (sList_read (LS L) 1 fp _ _ _ (k1_off3_inb L) (soff3_LS L) _ rfl _)
      rfl h0 h1 _ _ _ _ (fun z => rfl) (fun z => rfl) y hy).trans ?_
    exact congrArg _ (full_emb y).symm))) $$ HT2
  ihave HT3 := (Entails.of_eq (pointsTo_congr (g := scattered fp f3 t3) (rows_congr _ _ _ _ _ fun y hy => by
    unfold scatter_run.sl.HT3_sc6_1 scatter_run.sl.HT3_sc6
    refine (scat_value d L (LS L) (sTgt (Memref.whole main_v12_3_scv)).view fp hdis f3 t3 t3 (k1_off2_inb L 0) (soff2_LS L 0) (k1_off2_inb L 1) (soff2_LS L 1)
      _ _ (sList_read (LS L) 0 fp _ _ _ (k1_off1_inb L) (soff1_LS L) _ rfl _) (sList_read (LS L) 1 fp _ _ _ (k1_off3_inb L) (soff3_LS L) _ rfl _)
      rfl h0 h1 _ _ _ _ (fun z => rfl) (fun z => rfl) y hy).trans ?_
    exact congrArg _ (full_emb y).symm))) $$ HT3
  isplitl [HI]
  · iexact HI
  isplitl [HX0]
  · iexact HX0
  isplitl [HX1]
  · iexact HX1
  isplitl [HX2]
  · iexact HX2
  isplitl [HX3]
  · iexact HX3
  isplitl [HT0]
  · iexact HT0
  isplitl [HT1]
  · iexact HT1
  isplitl [HT2]
  · iexact HT2
  isplitl [HT3]
  · iexact HT3
  isplitl [HG]
  · iexists _; iexact HG
  isplitl [HB]
  · iexists _; iexact HB
  isplitl [Hc]
  · iexact Hc
  isplitl [Hs0]
  · iexact Hs0
  isplitl [Hs1]
  · iexact Hs1
  isplitl [Hs2]
  · iexact Hs2
  isplitl [Hs3]
  · iexact Hs3
  isplitl [Hs4]
  · iexact Hs4
  isplitl [Hs5]
  · iexact Hs5
  isplitl [Hs6]
  · iexact Hs6
  isplitl [Hs7]
  · iexact Hs7
  isplitl [Hs8]
  · iexact Hs8
  isplitl [Hs9]
  · iexact Hs9
  iexists _
  isplitr
  rotate_left
  · iexact HO
  · ipureintro
    intro p hp
    simp only [Finset.mem_insert] at hp
    rcases hp with h | h | h | h | h | h | h | h | h | h | h | h | h | h | h | h | h | h | h
    all_goals first | exact Or.inl h | exact Or.inr (by rw [h]; rfl)

end Scatter

end Cert.KernelIdeal.Run

end
-- ==== Proof.WholeSplit.lean ====
/-
  How the arrays of the two SparseCore calls are dealt to the thirty-two workers and joined again: an array that every
  worker reads by equal shares, an array that the workers write by the rows that each of them owns.
-/
module

public import proofs.«01_k».proof.Proof.WholeGather
public import proofs.«01_k».proof.Proof.WholeScatter

@[expose] public section

set_option maxRecDepth 16384

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- A proposition for each worker, all at once: over the two SparseCores and their sixteen vector subcores. -/
abbrev each (Φ : Fin 2 → Fin 16 → sProp 𝕄) : sProp 𝕄 := bigSep Finset.univ fun c => bigSep Finset.univ fun s => Φ c s

/-- Two families over the tiles, side by side. -/
theorem each_sep (Φ Ψ : Fin 2 → Fin 16 → sProp 𝕄) : each (fun c s => iprop(Φ c s ∗ Ψ c s)) = iprop(each Φ ∗ each Ψ) := by
  unfold each
  rw [← bigSep_sep']
  exact bigSep_congr fun c _ => bigSep_sep' _ _ _

/-- Equal families over the tiles. -/
theorem each_congr {Φ Ψ : Fin 2 → Fin 16 → sProp 𝕄} (h : ∀ c s, Φ c s = Ψ c s) : each Φ = each Ψ :=
  bigSep_congr fun c _ => bigSep_congr fun s _ => h c s

/-- All that the workers own of an array. -/
abbrev allOf {ℓ : Loc nD τ sig} (Z : Fin 2 → Fin 16 → Finset (Idx ℓ)) : Finset (Idx ℓ) :=
  Finset.univ.biUnion fun c => Finset.univ.biUnion fun s => Z c s

/-- No element belongs to two workers. -/
def Apart {ℓ : Loc nD τ sig} (Z : Fin 2 → Fin 16 → Finset (Idx ℓ)) : Prop :=
  ∀ c s c' s', ¬(c = c' ∧ s = s') → Disjoint (Z c s) (Z c' s')

/-- The elements that the workers own, held at once, are each worker's. -/
theorem tiles_eq {ℓ : Loc nD τ sig} (Z : Fin 2 → Fin 16 → Finset (Idx ℓ)) (hd : Apart Z) (q : PosShare TreeShare) (f : Buf (Elt F) ℓ) :
    (ℓ ↦[allOf Z]{q} f : sProp 𝕄) = each fun c s => ℓ ↦[Z c s]{q} f := by
  unfold allOf each
  rw [pointsTo_biUnion Finset.univ (fun c => Finset.univ.biUnion fun s => Z c s)]
  · refine bigSep_congr fun c _ => pointsTo_biUnion Finset.univ (fun s => Z c s) ?_
    intro s _ s' _ h
    exact hd c s c s' fun e => h e.2
  · intro c _ c' _ h
    rw [Finset.disjoint_biUnion_left]
    intro s _
    rw [Finset.disjoint_biUnion_right]
    intro s' _
    exact hd c s c' s' fun e => h e.1

/-- An array held whole is dealt to the workers by the elements that each owns, and joined again when each gives its
    elements back at the contents `g`, which off the workers' elements are those that the array had. -/
theorem spread {ℓ : Loc nD τ sig} (Z : Fin 2 → Fin 16 → Finset (Idx ℓ)) (hd : Apart Z) (f g : Buf (Elt F) ℓ)
    (h : ∀ i, i ∉ allOf Z → f i = g i) :
    (ℓ ↦{fullShare} f : sProp 𝕄) ⊢ iprop((each fun c s => ℓ ↦[Z c s]{fullShare} f)
      ∗ ((each fun c s => ℓ ↦[Z c s]{fullShare} g) -∗ (ℓ ↦{fullShare} g))) := by
  rw [← tiles_eq Z hd, ← tiles_eq Z hd]
  have hr : (ℓ ↦[Finset.univ \ allOf Z]{fullShare} f : sProp 𝕄) = ℓ ↦[Finset.univ \ allOf Z]{fullShare} g :=
    pointsTo_congr fun i hi => h i (Finset.mem_sdiff.mp hi).2
  iintro H
  ihave H2 := (pointsTo_split_subset (q := fullShare) (f := f) (S := Finset.univ) (Finset.subset_univ (allOf Z))).1 $$ H
  icases H2 with ⟨H1, H2⟩
  isplitl [H1]; · iexact H1
  iintro H1
  ihave H2 := (Entails.of_eq hr) $$ H2
  ihave H := (pointsTo_split_subset (q := fullShare) (f := g) (S := Finset.univ) (Finset.subset_univ (allOf Z))).2 $$ [H1 H2]
  · isplitl [H1] <;> iassumption
  iexact H

/-- Worker `(c, s)`'s share of an array that all read. -/
def qs (c : Fin 2) (s : Fin 16) : PosShare TreeShare := pieceOf (pieceOf fullShare 2 (by decide) c) 16 (by decide) s

/-- An array held whole is each worker's share of it. -/
theorem shares_eq {ℓ : Loc nD τ sig} (f : Buf (Elt F) ℓ) : (ℓ ↦{fullShare} f : sProp 𝕄) = each fun c s => ℓ ↦{qs c s} f := by
  rw [pointsTo_piecesOf Finset.univ f (o := 2) (by decide) fullShare]
  exact bigSep_congr fun c _ => pointsTo_piecesOf Finset.univ f (o := 16) (by decide) _

/-- The grid point of worker `(c, s)` in the first call. -/
def cs0 (c : Fin 2) (s : Fin 16) : grid1.Coords := fun | 0 => c | 1 => s | ⟨_ + 2, h⟩ => absurd h (Nat.not_lt.2 (Nat.le_add_left _ _))
/-- The grid point of worker `(c, s)` in the last call. -/
def cs2 (c : Fin 2) (s : Fin 16) : grid3.Coords := fun | 0 => c | 1 => s | ⟨_ + 2, h⟩ => absurd h (Nat.not_lt.2 (Nat.le_add_left _ _))

/-- A scatter's tile by its core and subcore. -/
theorem LS_cs0 (c : Fin 2) (s : Fin 16) : LS (cs0 c s) = wid c s := rfl
/-- A gather's tile by its core and subcore. -/
theorem LW_cs2 (c : Fin 2) (s : Fin 16) : LW (cs2 c s) = wid c s := rfl

/-- Tiles of one number are one tile. -/
theorem wid_inj {c c' : Fin 2} {s s' : Fin 16} (h : wid c s = wid c' s') : c = c' ∧ s = s' := by
  have := congrArg Fin.val h
  unfold wid at this
  dsimp only at this
  exact ⟨Fin.ext (by omega), Fin.ext (by omega)⟩

/-- Every number is a tile's. -/
theorem wid_surj (w : Fin 32) : ∃ c s, wid c s = w :=
  ⟨⟨w.val % 2, by omega⟩, ⟨w.val / 2, by omega⟩, Fin.ext (show 2 * (w.val / 2) + w.val % 2 = w.val by omega)⟩

/-! ## The scattered arrays -/

/-- The rows of a target that worker `(c, s)` writes. -/
abbrev sRows (m : Memref sig .scVector .hbm S6144x2x128 .f32) (fp : S32x2x64.Idx → Elt F .i32) (c : Fin 2) (s : Fin 16) : Finset (sTgt m).view.ty.Idx :=
  SparseCore.rowsWhere (sTgt m).view gathers_S6144x2x128_S64x2x128.axis (own fp (LS (cs0 c s)))

/-- The rows of two tiles are disjoint. -/
theorem sRows_disj (m : Memref sig .scVector .hbm S6144x2x128 .f32) (fp : S32x2x64.Idx → Elt F .i32) (hdis : Function.Injective fun j => (fp j : BitVec 32).toNat)
    (c : Fin 2) (s : Fin 16) (c' : Fin 2) (s' : Fin 16) (h : ¬(c = c' ∧ s = s')) : Disjoint (sRows m fp c s) (sRows m fp c' s') := by
  refine SparseCore.rowsWhere_disjoint _ _ fun n ⟨hf, k, e⟩ ⟨hf', k', e'⟩ => h ?_
  have := congrFun (hdis (e.trans e'.symm)) 0
  exact wid_inj this

/-- A row that some token's entry names is a worker's. -/
theorem sRows_mem (m : Memref sig .scVector .hbm S6144x2x128 .f32) (fp : S32x2x64.Idx → Elt F .i32) (y : S6144x2x128.Idx) (n : Fin 4096)
    (e : (fp (ent n) : BitVec 32).toNat = (y 0).val) : ∃ c s, (sTgt m).view.emb y ∈ sRows m fp c s := by
  obtain ⟨c, s, hw⟩ := wid_surj ⟨n.val / 128, by omega⟩
  refine ⟨c, s, ?_⟩
  refine SparseCore.mem_rowsWhere.mpr ⟨y gathers_S6144x2x128_S64x2x128.axis, ⟨⟨n.val % 128 / 64, by omega⟩, ⟨n.val % 64, by omega⟩, ?_⟩, ?_⟩
  · rw [LS_cs0, hw]
    exact e
  · have ey : (S6144x2x128.rowRect gathers_S6144x2x128_S64x2x128.axis (y gathers_S6144x2x128_S64x2x128.axis)).emb
        (S6144x2x128.rowProj gathers_S6144x2x128_S64x2x128.axis y) = y := Shape.rowRect_emb_rowProj _ y
    have hj : ((sTgt m).view.slice (S6144x2x128.rowRect gathers_S6144x2x128_S64x2x128.axis (y gathers_S6144x2x128_S64x2x128.axis))).emb
        (S6144x2x128.rowProj gathers_S6144x2x128_S64x2x128.axis y) = (sTgt m).view.emb y := congrArg (sTgt m).view.emb ey
    have hs := View.emb_mem_set ((sTgt m).view.slice (S6144x2x128.rowRect gathers_S6144x2x128_S64x2x128.axis (y gathers_S6144x2x128_S64x2x128.axis)))
      (S6144x2x128.rowProj gathers_S6144x2x128_S64x2x128.axis y)
    rw [hj] at hs
    exact hs

/-- Off the workers' rows the scattered array is as it was. -/
theorem scattered_off (m : Memref sig .scVector .hbm S6144x2x128 .f32) (fp : S32x2x64.Idx → Elt F .i32) (f : S4096x2x128.Idx → Elt F .f32)
    (t : S6144x2x128.Idx → Elt F .f32) (y : S6144x2x128.Idx) (h : ∀ c s, (sTgt m).view.emb y ∉ sRows m fp c s) : t y = scattered fp f t y := by
  unfold scattered
  rw [dif_neg]
  rintro ⟨n, e⟩
  obtain ⟨c, s, hm⟩ := sRows_mem m fp y n e
  exact h c s hm

/-! ## The gathered array -/

/-- The two windows of the gathered array that worker `(c, s)` writes. -/
abbrev gW0 (c : Fin 2) (s : Fin 16) : Finset S4096x2x128.Idx := (gOut (cs2 c s) 0 0#32 (k3_off2_inb (cs2 c s) 0)).view.set
abbrev gW1 (c : Fin 2) (s : Fin 16) : Finset S4096x2x128.Idx := (gOut (cs2 c s) 1 64#32 (k3_off2_inb (cs2 c s) 1)).view.set

/-- A row of a gather's window belongs to its half. -/
theorem gWin_row (L : grid3.Coords) (h : Fin 2) (o : BitVec 32) (ho : ∀ a, k3_off2 L o a + S64x2x128.size a ≤ S4096x2x128.size a)
    (e : k3_off2 L o = ![128 * (LW L).val + 64 * h.val, 0, 0]) (i : S4096x2x128.Idx) (hi : i ∈ (gOut L h o ho).view.set) :
    (i 0).val / 64 = 2 * (LW L).val + h.val := by
  obtain ⟨y, -, rfl⟩ := Finset.mem_map.mp hi
  have hy : (y 0).val < 64 := (y 0).isLt
  have : ((gOut L h o ho).view.emb y 0).val = 128 * (LW L).val + 64 * h.val + (y 0).val := by
    show k3_off2 L o 0 + 1 * (y 0).val = _
    rw [e]; show (128 * (LW L).val + 64 * h.val) + 1 * (y 0).val = _; omega
  rw [this]; omega

/-- The rows of a tile's first window. -/
theorem gW0_row (c : Fin 2) (s : Fin 16) (i : S4096x2x128.Idx) (hi : i ∈ gW0 c s) : (i 0).val / 64 = 2 * (wid c s).val :=
  gWin_row (cs2 c s) 0 0#32 _ (off2_LW (cs2 c s) 0) i hi
/-- The rows of a tile's second window. -/
theorem gW1_row (c : Fin 2) (s : Fin 16) (i : S4096x2x128.Idx) (hi : i ∈ gW1 c s) : (i 0).val / 64 = 2 * (wid c s).val + 1 :=
  gWin_row (cs2 c s) 1 64#32 _ (off2_LW (cs2 c s) 1) i hi

/-- A tile's two windows are disjoint. -/
theorem gW01_disj (c : Fin 2) (s : Fin 16) : Disjoint (gW0 c s) (gW1 c s) := by
  rw [Finset.disjoint_left]
  intro i h0 h1
  have e0 := gW0_row c s i h0
  have e1 := gW1_row c s i h1
  omega

/-- The windows of two tiles are disjoint. -/
theorem gW_disj (c : Fin 2) (s : Fin 16) (c' : Fin 2) (s' : Fin 16) (h : ¬(c = c' ∧ s = s')) :
    Disjoint (gW0 c s ∪ gW1 c s) (gW0 c' s' ∪ gW1 c' s') := by
  rw [Finset.disjoint_left]
  intro i hi hi'
  refine h (wid_inj (Fin.ext ?_))
  have e : (i 0).val / 64 = 2 * (wid c s).val ∨ (i 0).val / 64 = 2 * (wid c s).val + 1 :=
    (Finset.mem_union.mp hi).imp (gW0_row c s i) (gW1_row c s i)
  have e' : (i 0).val / 64 = 2 * (wid c' s').val ∨ (i 0).val / 64 = 2 * (wid c' s').val + 1 :=
    (Finset.mem_union.mp hi').imp (gW0_row c' s' i) (gW1_row c' s' i)
  omega

/-- A row of a half is in its window. -/
theorem gWin_mem (L : grid3.Coords) (h : Fin 2) (o : BitVec 32) (ho : ∀ a, k3_off2 L o a + S64x2x128.size a ≤ S4096x2x128.size a)
    (e : k3_off2 L o = ![128 * (LW L).val + 64 * h.val, 0, 0]) (i : S4096x2x128.Idx) (hi : (i 0).val / 64 = 2 * (LW L).val + h.val) :
    i ∈ (gOut L h o ho).view.set := by
  have hk : (i 0).val % 64 < 64 := Nat.mod_lt _ (by decide)
  have : (gOut L h o ho).view.emb (fun | 0 => (⟨(i 0).val % 64, hk⟩ : Fin 64) | 1 => i 1 | 2 => i 2 : S64x2x128.Idx) = i := by
    funext a
    match a with
    | 0 =>
      apply Fin.ext
      show k3_off2 L o 0 + 1 * ((i 0).val % 64) = (i 0).val
      rw [e]; show (128 * (LW L).val + 64 * h.val) + 1 * ((i 0).val % 64) = _; omega
    | 1 =>
      apply Fin.ext
      show k3_off2 L o 1 + 1 * (i 1).val = (i 1).val
      rw [e]; show 0 + 1 * (i 1).val = _; omega
    | 2 =>
      apply Fin.ext
      show k3_off2 L o 2 + 1 * (i 2).val = (i 2).val
      rw [e]; show 0 + 1 * (i 2).val = _; omega
  rw [← this]
  exact View.emb_mem_set _ _

/-- Every element of the gathered array is in one of the windows. -/
theorem gW_cover (i : S4096x2x128.Idx) : ∃ c s, i ∈ gW0 c s ∪ gW1 c s := by
  have h0 : (i 0).val < 4096 := (i 0).isLt
  obtain ⟨c, s, hw⟩ := wid_surj ⟨(i 0).val / 128, by omega⟩
  have hw' : (LW (cs2 c s)).val = (i 0).val / 128 := by rw [LW_cs2, hw]
  refine ⟨c, s, Finset.mem_union.mpr ?_⟩
  rcases Nat.lt_or_ge ((i 0).val % 128) 64 with h | h
  · exact .inl (gWin_mem (cs2 c s) 0 0#32 _ (off2_LW (cs2 c s) 0) i (show _ = _ + 0 by rw [hw']; omega))
  · exact .inr (gWin_mem (cs2 c s) 1 64#32 _ (off2_LW (cs2 c s) 1) i (show _ = _ + 1 by rw [hw']; omega))

end Cert.KernelIdeal.Run

end
-- ==== Proof.WholeRegion.lean ====
/-
  The main matrix product of the whole kernel, as the TensorCore's region between the two SparseCore calls: the
  body at a generic group, the windows' data, and what the region leaves in the products' array.
-/
module

public import proofs.«01_k».proof.Proof.WholeBase
public import Idealize.ShloMosaic.Lib.Pipeline.Value
public import Idealize.ShloMosaic.Lib.Pipeline.ArrRel
public import Idealize.ShloMosaic.Lib.Pipeline.FrameBody

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 2) (Elt F) ℕ UU ℕ

/-- The expert number that the table holds for the group at `i`. -/
abbrev tw (g : S24.Idx → Elt F .i32) (i : grid2.Coords) : BitVec 32 :=
  g ((Rect.unit (s := S24) (k2_off1 i) S1.size (k2_off1_inb i)).emb (Shape.Idx.first (numel1_S1.symm ▸ Nat.one_pos)))

/-- The zero offset of a matrix. -/
theorem hz2 : (![0, 0] : Fin 2 → Nat) = fun _ => 0 := funext fun a => by fin_cases a <;> rfl
/-- The zero offset of a rank-three block. -/
theorem hz3 : (![0, 0, 0] : Fin 3 → Nat) = fun _ => 0 := funext fun a => by fin_cases a <;> rfl

set_option maxHeartbeats 1600000 in
/-- The body at a group whose expert number is below eight: the block of products is stored. -/
theorem gmm_run_on (g : S24.Idx → Elt F .i32) (c : Dev nD) (i : grid2.Coords) (arg2 : Memref sig .tc .vmem S256x1024 .f32) (harg2 : arg2.IsWhole) (arg3 : Memref sig .tc .vmem S1x1024x256 .f32) (harg3 : arg3.IsWhole) (arg4 : Memref sig .tc .vmem S1x1x256 .f32) (harg4 : arg4.IsWhole) (arg5 : Memref sig .tc .vmem S256x256 .f32) (harg5 : arg5.IsWhole)
    (hc : k2_cond1 (tw g i) = 1#1)
    (x0 : Vec F S256x1024 .f32) (x1 : Vec F S1x1024x256 .f32) (x2 : Vec F S1x1x256 .f32) (x3 : Vec F S256x256 .f32) (E : Set ℕ) (Q : PUnit → sProp 𝕄) :
    iprop((((Memref.whole main_v18 : Memref sig .tc .smem S24 .i32).view.loc (c : Thread nD τ)) ↦{fullShare} g) ∗ owns (c : Thread nD τ) arg2 fullShare x0 ∗ owns (c : Thread nD τ) arg3 fullShare x1 ∗ owns (c : Thread nD τ) arg4 fullShare x2 ∗ owns (c : Thread nD τ) arg5 fullShare x3
        ∗ (iprop((((Memref.whole main_v18 : Memref sig .tc .smem S24 .i32).view.loc (c : Thread nD τ)) ↦{fullShare} g) ∗ owns (c : Thread nD τ) arg2 fullShare x0 ∗ owns (c : Thread nD τ) arg3 fullShare x1 ∗ owns (c : Thread nD τ) arg4 fullShare x2 ∗ owns (c : Thread nD τ) arg5 fullShare (k2_pay1 x0 x1 x2)) -∗ Q ⟨⟩))
      ⊢ wp frame (wpE (defs₀ (F := F)) 𝒱₀ c none) E (cc2__group_mm_body i (Memref.whole main_v18) (Memref.isWhole_whole _) arg2 harg2 arg3 harg3 arg4 harg4 arg5 harg5) Q := by
  simp only [cc2__group_mm_body_eq_skeleton]; unfold cc2__group_mm_body_skel
  unfold owns
  iintro ⟨HT, ⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2
  unfold smemLoad smemLoadElt
  simp only [Prog.bind_op, Prog.bind_ret]
  iapply (wp_load_rect 𝒱₀ (c : Thread nD τ) none E (m := Memref.whole main_v18) (r := Rect.unit (s := S24) (k2_off1 i) S1.size (k2_off1_inb i)) (Finset.subset_univ _)) $$ HT
  iintro HT
  rw [dif_pos (show k2_cond1 (((Memref.whole main_v18 : Memref sig .tc .smem S24 .i32).access (Rect.unit (s := S24) (k2_off1 i) S1.size (k2_off1_inb i))).read (Elt F) g (Shape.Idx.first (numel1_S1.symm ▸ Nat.one_pos))) = 1#1 from hc)]
  sl_exec
  sl_step
  iapply Hk
  isplitl [HT]; · iexact HT
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr; swap; · iexact H3
  ipureintro
  rw [View.read_writes_eq_canon _ _ _ (fun y => ⟨_, List.mem_singleton.mpr rfl, View.mem_set_unit_zero hz2 inb_S256x256_S256x256_0_0 y⟩), View.canon_unit_zero hz2]
  simp only [View.readAt_eq_ld, harg2.read_unread, harg3.read_unread, harg4.read_unread, View.ld_unit_zero (S := S256x1024) hz2, View.ld_unit_zero (S := S1x1024x256) hz3, View.ld_unit_zero (S := S1x1x256) hz3]

/-- The body at a group whose expert number is eight or more: nothing is stored. -/
theorem gmm_run_off (g : S24.Idx → Elt F .i32) (c : Dev nD) (i : grid2.Coords) (arg2 : Memref sig .tc .vmem S256x1024 .f32) (harg2 : arg2.IsWhole) (arg3 : Memref sig .tc .vmem S1x1024x256 .f32) (harg3 : arg3.IsWhole) (arg4 : Memref sig .tc .vmem S1x1x256 .f32) (harg4 : arg4.IsWhole) (arg5 : Memref sig .tc .vmem S256x256 .f32) (harg5 : arg5.IsWhole)
    (hc : ¬ k2_cond1 (tw g i) = 1#1) (R : sProp 𝕄) (E : Set ℕ) :
    iprop((((Memref.whole main_v18 : Memref sig .tc .smem S24 .i32).view.loc (c : Thread nD τ)) ↦{fullShare} g) ∗ R)
      ⊢ wp frame (wpE (defs₀ (F := F)) 𝒱₀ c none) E (cc2__group_mm_body i (Memref.whole main_v18) (Memref.isWhole_whole _) arg2 harg2 arg3 harg3 arg4 harg4 arg5 harg5)
        fun _ => iprop((((Memref.whole main_v18 : Memref sig .tc .smem S24 .i32).view.loc (c : Thread nD τ)) ↦{fullShare} g) ∗ R) := by
  simp only [cc2__group_mm_body_eq_skeleton]; unfold cc2__group_mm_body_skel
  iintro ⟨HT, HR⟩
  unfold smemLoad smemLoadElt
  simp only [Prog.bind_op, Prog.bind_ret]
  iapply (wp_load_rect 𝒱₀ (c : Thread nD τ) none E (m := Memref.whole main_v18) (r := Rect.unit (s := S24) (k2_off1 i) S1.size (k2_off1_inb i)) (Finset.subset_univ _)) $$ HT
  iintro HT
  rw [dif_neg (show ¬ k2_cond1 (((Memref.whole main_v18 : Memref sig .tc .smem S24 .i32).access (Rect.unit (s := S24) (k2_off1 i) S1.size (k2_off1_inb i))).read (Elt F) g (Shape.Idx.first (numel1_S1.symm ▸ Nat.one_pos))) = 1#1 from hc), wp_pure]
  imodintro
  isplitl [HT]; · iexact HT
  iexact HR

/-! ## The region's data -/

section Data
variable (a : (p : Fin 2) → (pcfgs (F := F) p).Adm)

/-- The pipeline of the matrix product at the tables `a`. -/
abbrev cfgA : Cfg sig Λ₀ := Pipeline.pin (pcfgs (F := F)) a 1
/-- The table's contents. -/
abbrev pfA : S24.Idx → Elt F .i32 := (a 1).1 0

variable (fx : S6144x1024.Idx → Elt F .f32) (fW : S8x1024x256.Idx → Elt F .f32) (fb : S8x1x256.Idx → Elt F .f32) (fy : S6144x256.Idx → Elt F .f32)

/-- The rows of the gathered tokens at point `t`. -/
abbrev bx (t : Fin (cfgA a).N) : Vec F S256x1024 .f32 := ((((cfgA a).win 0).blk t).view.read (Elt F) fx : _)
/-- The expert's matrix at point `t`. -/
abbrev bW (t : Fin (cfgA a).N) : Vec F S1x1024x256 .f32 := ((((cfgA a).win 1).blk t).view.read (Elt F) fW : _)
/-- The expert's bias at point `t`. -/
abbrev bb (t : Fin (cfgA a).N) : Vec F S1x1x256 .f32 := ((((cfgA a).win 2).blk t).view.read (Elt F) fb : _)

/-- The relational data of the region: the inputs' buffers stay; the output's buffer is the block of products at a group
    whose expert number is below eight, and at the others whatever it was. -/
def rdat (O : CellTallies nD τ sig (HIx 2)) (b : ℕ) (c : Dev nD) : RDat τ (Elt F) (HIx 2) ℕ UU ℕ (cfgA a) c where
  A := fun | 0 => fx | 1 => fW | 2 => fb | 3 => fy | ⟨_ + 4, h⟩ => absurd h (Nat.not_lt.2 (Nat.le_add_left _ _))
  after := fun
    | 0 => fun _ Y X => X = Y
    | 1 => fun _ Y X => X = Y
    | 2 => fun _ Y X => X = Y
    | 3 => fun t _ X => k2_cond1 (tw (pfA a) (grid2.coords t)) = 1#1 → X = k2_pay1 (bx a fx t) (bW a fW t) (bb a fb t)
    | ⟨_ + 4, h⟩ => absurd h (Nat.not_lt.2 (Nat.le_add_left _ _))
  Φ := fun _ => iprop((((Memref.whole main_v18 : Memref sig .tc .smem S24 .i32).view.loc (c : Thread nD τ)) ↦{fullShare} (pfA a)) ∗ Pipeline.scopedRest spec2 c)
  q := fun _ => fullShare
  owed := fun _ => O
  recorded := fun _ => {p | (K (F := F)).lev ((c : Thread nD τ), p.1) p.2 ≤ b}

variable (O : CellTallies nD τ sig (HIx 2)) (b : ℕ) (c : Dev nD)

/-- What the body finds in an input's buffer is the array's block. -/
theorem finds0 (t : Fin (cfgA a).N) (Y) (h : (rdat a fx fW fb fy O b c).Finds 0 t Y) : Y = bx a fx t := by
  obtain ⟨d, rfl⟩ := RDat.finds_in_eq_fetched (rdat a fx fW fb fy O b c) 0 rfl (fun _ _ _ => rfl) (fun _ _ _ h => h) t Y h
  rfl
/-- A step finds its expert's matrix. -/
theorem finds1 (t : Fin (cfgA a).N) (Y) (h : (rdat a fx fW fb fy O b c).Finds 1 t Y) : Y = bW a fW t := by
  obtain ⟨d, rfl⟩ := RDat.finds_in_eq_fetched (rdat a fx fW fb fy O b c) 1 rfl (fun _ _ _ => rfl) (fun _ _ _ h => h) t Y h
  rfl
/-- A step finds its expert's bias. -/
theorem finds2 (t : Fin (cfgA a).N) (Y) (h : (rdat a fx fW fb fy O b c).Finds 2 t Y) : Y = bb a fb t := by
  obtain ⟨d, rfl⟩ := RDat.finds_in_eq_fetched (rdat a fx fW fb fy O b c) 2 rfl (fun _ _ _ => rfl) (fun _ _ _ h => h) t Y h
  rfl

/-- The current staging buffers. -/
abbrev ms1_0 (t : Fin (cfgA a).N) : Memref sig .tc .vmem S256x1024 .f32 := spec2_0.stage ((cfgA a).slots t 0)
abbrev ms1_1 (t : Fin (cfgA a).N) : Memref sig .tc .vmem S1x1024x256 .f32 := spec2_1.stage ((cfgA a).slots t 1)
abbrev ms1_2 (t : Fin (cfgA a).N) : Memref sig .tc .vmem S1x1x256 .f32 := spec2_2.stage ((cfgA a).slots t 2)
abbrev ms1_3 (t : Fin (cfgA a).N) : Memref sig .tc .vmem S256x256 .f32 := spec2_3.stage ((cfgA a).slots t 3)

/-- The body at point `t`, on the current staging buffers. -/
abbrev bodyAt1 (t : Fin (cfgA a).N) := cc2__group_mm_body (F := F) (grid2.coords t) (Memref.whole main_v18) (Memref.isWhole_whole _)
  (ms1_0 a t) (hstage2_0 (((cfgA a).slots t 0).cast nbuf2_0)) (ms1_1 a t) (hstage2_1 (((cfgA a).slots t 1).cast nbuf2_1))
  (ms1_2 a t) (hstage2_2 (((cfgA a).slots t 2).cast nbuf2_2)) (ms1_3 a t) (hstage2_3 (((cfgA a).slots t 3).cast nbuf2_3))

/-- The pipeline's call of the body is it. -/
theorem defs₀_row (t : Fin (cfgA a).N) : defs₀ (F := F) .tc (cfgA a).body ((cfgA a).bodyArgs t ((cfgA a).slots t)) = bodyAt1 a t := by
  rfl

/-- The body at any point, from the contents the buffers may hold to the contents they may be left with. -/
theorem gmm_body (t : Fin (cfgA a).N) (SR R : sProp 𝕄) (y3 : Vec F S256x256 .f32) :
    iprop(((((Memref.whole main_v18 : Memref sig .tc .smem S24 .i32).view.loc (c : Thread nD τ)) ↦{fullShare} (pfA a)) ∗ SR) ∗ R
        ∗ owns (c : Thread nD τ) (ms1_0 a t) fullShare (bx a fx t) ∗ owns (c : Thread nD τ) (ms1_1 a t) fullShare (bW a fW t)
        ∗ owns (c : Thread nD τ) (ms1_2 a t) fullShare (bb a fb t) ∗ owns (c : Thread nD τ) (ms1_3 a t) fullShare y3)
      ⊢ wp frame (wpE (defs₀ (F := F)) 𝒱₀ c none) Set.univ (bodyAt1 a t) fun _ =>
      iprop(((((Memref.whole main_v18 : Memref sig .tc .smem S24 .i32).view.loc (c : Thread nD τ)) ↦{fullShare} (pfA a)) ∗ SR) ∗ R
        ∗ (∃ X, ⌜X = bx a fx t⌝ ∗ owns (c : Thread nD τ) (ms1_0 a t) fullShare X) ∗ (∃ X, ⌜X = bW a fW t⌝ ∗ owns (c : Thread nD τ) (ms1_1 a t) fullShare X)
        ∗ (∃ X, ⌜X = bb a fb t⌝ ∗ owns (c : Thread nD τ) (ms1_2 a t) fullShare X)
        ∗ (∃ X, ⌜k2_cond1 (tw (pfA a) (grid2.coords t)) = 1#1 → X = k2_pay1 (bx a fx t) (bW a fW t) (bb a fb t)⌝ ∗ owns (c : Thread nD τ) (ms1_3 a t) fullShare X)) := by
  by_cases hc : k2_cond1 (tw (pfA a) (grid2.coords t)) = 1#1
  · iintro ⟨⟨HT, HS⟩, HR, H0, H1, H2, H3⟩
    iapply (gmm_run_on (pfA a) c (grid2.coords t) _ _ _ _ _ _ _ _ hc (bx a fx t) (bW a fW t) (bb a fb t) y3 Set.univ _)
    isplitl [HT]; · iexact HT
    isplitl [H0]; · iexact H0
    isplitl [H1]; · iexact H1
    isplitl [H2]; · iexact H2
    isplitl [H3]; · iexact H3
    iintro ⟨HT, H0, H1, H2, H3⟩
    isplitl [HT HS]; · isplitl [HT]; · iexact HT
                       iexact HS
    isplitl [HR]; · iexact HR
    isplitl [H0]; · iexists _; isplitr; · ipureintro; rfl
                    iexact H0
    isplitl [H1]; · iexists _; isplitr; · ipureintro; rfl
                    iexact H1
    isplitl [H2]; · iexists _; isplitr; · ipureintro; rfl
                    iexact H2
    iexists _; isplitr; · ipureintro; exact fun _ => rfl
    iexact H3
  · refine BIBase.Entails.trans ?_ ((gmm_run_off (pfA a) c (grid2.coords t) _ _ _ _ _ _ _ _ hc
      iprop(SR ∗ R ∗ owns (c : Thread nD τ) (ms1_0 a t) fullShare (bx a fx t) ∗ owns (c : Thread nD τ) (ms1_1 a t) fullShare (bW a fW t)
        ∗ owns (c : Thread nD τ) (ms1_2 a t) fullShare (bb a fb t) ∗ owns (c : Thread nD τ) (ms1_3 a t) fullShare y3) Set.univ).trans (wp_mono frame _ _ fun _ => ?_))
    · iintro ⟨⟨HT, HS⟩, HR⟩
      isplitl [HT]; · iexact HT
      isplitl [HS]; · iexact HS
      iexact HR
    iintro ⟨HT, HS, HR, H0, H1, H2, H3⟩
    isplitl [HT HS]; · isplitl [HT]; · iexact HT
                       iexact HS
    isplitl [HR]; · iexact HR
    isplitl [H0]; · iexists _; isplitr; · ipureintro; rfl
                    iexact H0
    isplitl [H1]; · iexists _; isplitr; · ipureintro; rfl
                    iexact H1
    isplitl [H2]; · iexists _; isplitr; · ipureintro; rfl
                    iexact H2
    iexists y3; isplitr; · ipureintro; exact fun h => absurd h hc
    iexact H3

/-- The body obligation of the region's data. -/
theorem body_obligation : (rdat a fx fW fb fy O b c).BodyObligation (defs₀ (F := F)) 𝒱₀ none Set.univ := fun t Y hY => by
  have e0 := finds0 a fx fW fb fy O b c t (Y 0) (hY 0)
  have e1 := finds1 a fx fW fb fy O b c t (Y 1) (hY 1)
  have e2 := finds2 a fx fW fb fy O b c t (Y 2) (hY 2)
  rw [bigSep_W2, bigSep_W2, defs₀_row, e0, e1, e2]
  exact triple_restated (gmm_body a fx fW fb c t (Pipeline.scopedRest spec2 c) ((rdat a fx fW fb fy O b c).owesAt none t.castSucc) (Y 3)) rfl .rfl fun _ => .rfl

/-- What the region leaves in the products' array `G`: at every group whose expert number is below eight the block of products. -/
def GBlocks (G : S6144x256.Idx → Elt F .f32) : Prop :=
  ∀ t : Fin (cfgA a).N, k2_cond1 (tw (pfA a) (grid2.coords t)) = 1#1 →
    ∀ y : S256x256.Idx, G ((((cfgA a).win 3).blk t).view.emb y : _) = k2_pay1 (bx a fx t) (bW a fW t) (bb a fb t) y

/-- Where the output's block at `t` lies. -/
theorem index3 : ∀ t : Fin grid2.N, cc2_transform_3 (grid2.coords t) (0 : Fin 2) = t.val ∧ cc2_transform_3 (grid2.coords t) (1 : Fin 2) = 0 := by
  decide +kernel
/-- Every step writes its block back. -/
theorem flush3 : ∀ t : Fin (cfgA a).N, ((cfgA a).win 3).flush t = true := fun t => by
  unfold Pipeline.Window.flush
  refine Bool.and_eq_true_iff.mpr ⟨rfl, Bool.or_eq_true_iff.mpr ?_⟩
  by_cases h : t.val + 1 = (cfgA a).N
  · exact Or.inl (decide_eq_true h)
  · have ht : t.val + 1 < (cfgA a).N := Nat.lt_of_le_of_ne t.isLt h
    refine Or.inr (decide_eq_true ⟨ht, fun e => ?_⟩)
    have e' : cc2_transform_3 (grid2.coords ⟨t.val + 1, ht⟩) (0 : Fin 2) = cc2_transform_3 (grid2.coords t) (0 : Fin 2) := congrFun e (0 : Fin 2)
    exact absurd (((index3 ⟨t.val + 1, ht⟩).1.symm.trans e').trans (index3 t).1) (Nat.succ_ne_self _)
/-- The row of a place of a block of products. -/
theorem emb3_0 (t : Fin (cfgA a).N) (y : S256x256.Idx) :
    ((show S6144x256.Idx from (((cfgA a).win 3).blk t).view.emb y) 0 : Nat) = 256 * t.val + (y 0 : Nat) := by
  obtain ⟨e0, e1⟩ := index3 t
  show cc2_transform_3 (grid2.coords t) (0 : Fin 2) * 256 + 1 * (y 0).val = 256 * t.val + (y 0).val; omega
/-- The column of a place of a block of products. -/
theorem emb3_1 (t : Fin (cfgA a).N) (y : S256x256.Idx) :
    ((show S6144x256.Idx from (((cfgA a).win 3).blk t).view.emb y) 1 : Nat) = (y 1 : Nat) := by
  obtain ⟨e0, e1⟩ := index3 t
  show cc2_transform_3 (grid2.coords t) (1 : Fin 2) * 256 + 1 * (y 1).val = (y 1).val; omega

/-- Blocks of different steps are disjoint. -/
theorem disj3 (t t' : Fin (cfgA a).N) (h : t ≠ t') : Disjoint (((cfgA a).win 3).blk t).view.set (((cfgA a).win 3).blk t').view.set := by
  rw [Finset.disjoint_left]
  intro i hi hi'
  obtain ⟨y, rfl⟩ := View.exists_emb_of_mem_set _ hi
  obtain ⟨y', e⟩ := View.exists_emb_of_mem_set _ hi'
  have h3 := ((emb3_0 a t' y').symm.trans (congrArg (fun i : S6144x256.Idx => (i 0 : Nat)) e)).trans (emb3_0 a t y)
  have h4 : (y (0 : Fin 2) : Nat) < 256 := (y (0 : Fin 2)).isLt
  have h5 : (y' (0 : Fin 2) : Nat) < 256 := (y' (0 : Fin 2)).isLt
  have h6 : 256 * t'.val + (y' (0 : Fin 2) : Nat) = 256 * t.val + (y (0 : Fin 2) : Nat) := h3
  refine h (Fin.ext ?_)
  generalize (y (0 : Fin 2) : Nat) = n at *
  generalize (y' (0 : Fin 2) : Nat) = n' at *
  omega

/-- The products' array, from the steps' blocks. -/
theorem GBlocks_of (G : S6144x256.Idx → Elt F .f32) (h : (rdat a fx fW fb fy O b c).ArrAt 3 (cfgA a).N G) : GBlocks a fx fW fb G := by
  obtain ⟨X, hX, hA⟩ := h.exists_exact
  intro t hc y
  obtain ⟨Y, -, hY⟩ := hX t t.isLt (flush3 a t)
  have hY' : X t = k2_pay1 (bx a fx t) (bW a fW t) (bb a fb t) := hY hc
  have e := hA (Function.update (fun _ _ _ => Classical.arbitrary _) 3 X) fun u _ _ => by rw [Function.update_self]
  rw [e]
  refine (Pipeline.Dat.arrAt_emb_eq_flushed _ 3 (fun t t' _ _ h => disj3 a t t' h) t (flush3 a t) y).trans ?_
  show (Function.update (fun _ _ _ => Classical.arbitrary _) 3 X) 3 t y = _
  rw [Function.update_self, hY']

/-- The regions' data, the one region's. -/
abbrev rdatsA (r0 : (c : Dev nD) → RDat τ (Elt F) (HIx 2) ℕ UU ℕ (Pipeline.pin (pcfgs (F := F)) a 0) c) : (p : Fin 2) → (c : Dev nD) → RDat τ (Elt F) (HIx 2) ℕ UU ℕ (Pipeline.pin (pcfgs (F := F)) a p) c :=
  fun | 0 => r0 | 1 => rdat a fx fW fb fy O b | ⟨_ + 2, h⟩ => absurd h (Nat.not_lt.2 (Nat.le_add_left _ _))

variable (r0 : (c : Dev nD) → RDat τ (Elt F) (HIx 2) ℕ UU ℕ (Pipeline.pin (pcfgs (F := F)) a 0) c)

/-- The region's waits sit below everything that the core owes. -/
theorem hO_waits (hO : ∀ g, O g none = 0) :
    (levAts (K (F := F)).L (K (F := F)).lev : sProp 𝕄)
      ⊢ RDat.cellsWaits (Pipeline.pin (pcfgs (F := F)) a) (rdatsA a fx fW fb fy O b r0) none 1 c :=
  RDat.cellsWaits_intro _ _ _ 1 c fun w s t => (K (F := F)).mayWait_none (thr := (c : Thread nD τ)) _ hO

/-- The whole region's state before it: the arrays, the table and what the core owes. -/
def rPre : sProp 𝕄 :=
  iprop(((c : Thread nD τ).loc main_v17 ↦{fullShare} fx) ∗ ((c : Thread nD τ).loc main_arg3 ↦{fullShare} fW)
    ∗ ((c : Thread nD τ).loc main_v19 ↦{fullShare} fb) ∗ ((c : Thread nD τ).loc main_v20 ↦{fullShare} fy)
    ∗ ((c : Thread nD τ).loc main_v18 ↦{fullShare} (pfA a))
    ∗ ∃ W, ⌜(K (F := F)).WBelow (c : Thread nD τ) W b⌝ ∗ owes (c : Thread nD τ) O W)

/-- And after it: the products' array at some contents with the blocks of products in place. -/
def rPost : sProp 𝕄 :=
  iprop(((c : Thread nD τ).loc main_v17 ↦{fullShare} fx) ∗ ((c : Thread nD τ).loc main_arg3 ↦{fullShare} fW)
    ∗ ((c : Thread nD τ).loc main_v19 ↦{fullShare} fb) ∗ (∃ G, ⌜GBlocks a fx fW fb G⌝ ∗ ((c : Thread nD τ).loc main_v20 ↦{fullShare} G))
    ∗ ((c : Thread nD τ).loc main_v18 ↦{fullShare} (pfA a))
    ∗ ∃ W, ⌜(K (F := F)).WBelow (c : Thread nD τ) W b⌝ ∗ owes (c : Thread nD τ) O W)

/-- The table as the pipeline holds it. -/
theorem prefHeld_eq : (Pipeline.prefHeld pre2 c (fun _ => fullShare) (a 1).1 : sProp 𝕄) = ((c : Thread nD τ).loc main_v18 ↦{fullShare} (pfA a)) := by
  unfold Pipeline.prefHeld
  exact bigSep_univ_eq_bigSepL [(0 : Fin 1)] (by decide) (by decide) _

/-- The arrays as the pipeline holds them. -/
theorem arrays_eq : ((rdat a fx fW fb fy O b c).arrays (rdat a fx fW fb fy O b c).A : sProp 𝕄)
    = iprop(((c : Thread nD τ).loc main_v17 ↦{fullShare} fx) ∗ ((c : Thread nD τ).loc main_arg3 ↦{fullShare} fW)
    ∗ ((c : Thread nD τ).loc main_v19 ↦{fullShare} fb) ∗ ((c : Thread nD τ).loc main_v20 ↦{fullShare} fy)) := by
  unfold RDat.arrays
  refine (bigSep_W2 _).trans ?_
  have h : ∀ w : Fin 4, ((cfgA a).win w).arr.view.set = Finset.univ := fun w => (arr_whole2 w).set_eq_univ
  rw [h 0, h 1, h 2, h 3]
  rfl

/-- And as it gives them back. -/
theorem arraysAt_elim : ((rdat a fx fW fb fy O b c).arraysAt (cfgA a).N : sProp 𝕄)
    ⊢ iprop(((c : Thread nD τ).loc main_v17 ↦{fullShare} fx) ∗ ((c : Thread nD τ).loc main_arg3 ↦{fullShare} fW)
    ∗ ((c : Thread nD τ).loc main_v19 ↦{fullShare} fb) ∗ (∃ G, ⌜GBlocks a fx fW fb G⌝ ∗ ((c : Thread nD τ).loc main_v20 ↦{fullShare} G))) := by
  unfold RDat.arraysAt
  rw [show ∀ Φ : Fin (cfgA a).W → sProp 𝕄, bigSep Finset.univ Φ = iprop(Φ (0 : Fin 4) ∗ Φ (1 : Fin 4) ∗ Φ (2 : Fin 4) ∗ Φ (3 : Fin 4)) from fun Φ => bigSep_W2 Φ]
  have h : ∀ w : Fin 4, ((cfgA a).win w).arr.view.set = Finset.univ := fun w => (arr_whole2 w).set_eq_univ
  rw [h 0, h 1, h 2, h 3]
  iintro ⟨⟨%G0, %h0, H0⟩, ⟨%G1, %h1, H1⟩, ⟨%G2, %h2, H2⟩, ⟨%G3, %h3, H3⟩⟩
  have e0 : G0 = fx := by rw [(rdat a fx fW fb fy O b c).ArrAt_in 0 rfl] at h0; exact h0
  have e1 : G1 = fW := by rw [(rdat a fx fW fb fy O b c).ArrAt_in 1 rfl] at h1; exact h1
  have e2 : G2 = fb := by rw [(rdat a fx fW fb fy O b c).ArrAt_in 2 rfl] at h2; exact h2
  have e3 : GBlocks a fx fW fb G3 := GBlocks_of a fx fW fb fy O b c G3 h3
  clear h0 h1 h2 h3
  subst G0 G1 G2
  isplitl [H0]; · iexact H0
  isplitl [H1]; · iexact H1
  isplitl [H2]; · iexact H2
  iexists G3; isplitr; · ipureintro; exact e3
  iexact H3

/-- The region, from its state before to its state after. -/
def regionSeg (hO : ∀ g, O g none = 0) :
    RDat.RegionSeg (pcfgs (F := F)) a (rdatsA a fx fW fb fy O b r0) none (defs₀ (F := F)) 𝒱₀ (K (F := F)).L (K (F := F)).lev 1 where
  win := winFacts2.to₀
  block_pos := block_pos2
  stage_whole := stage_whole2
  K := PEmpty
  osem := fun k => k.elim
  ho := Pipeline.OwnSemFacts.none _
  hbody := fun c => body_obligation a fx fW fb fy O b c
  hwaits := fun c => hO_waits a fx fW fb fy O b c r0 hO
  pre := fun c => rPre a fx fW fb fy O b c
  post := fun c => rPost a fx fW fb O b c
  X := fun _ => BI.emp
  Y := fun c => ((c : Thread nD τ).loc main_v18 ↦{fullShare} (pfA a))
  Z := fun _ => BI.emp
  hentry := fun c => by
    rw [show (Pipeline.prefHeld (pcfgs (F := F) 1).pre c (fun _ => fullShare) (a 1).1 : sProp 𝕄) = _ from prefHeld_eq a c]
    refine BIBase.Entails.trans ?_ BI.fupd_intro
    refine BIBase.Entails.trans ?_ (sep_mono (show _ ⊢ ((rdat a fx fW fb fy O b c).arrays (rdat a fx fW fb fy O b c).A : sProp 𝕄) by rw [arrays_eq a fx fW fb fy O b c]) .rfl)
    unfold rPre
    iintro ⟨⟨H0, H1, H2, H3, HT, ⟨%W, %hW, HO⟩⟩, -, -⟩
    isplitl [H0 H1 H2 H3]
    · isplitl [H0]; · iexact H0
      isplitl [H1]; · iexact H1
      isplitl [H2]; · iexact H2
      iexact H3
    isplitl [HT]; · iexact HT
    isplitl [HO]
    · iexists W; isplitr
      · ipureintro; exact fun p hp => Or.inl (hW p hp)
      iexact HO
    isplitr <;> iempintro
  hin := fun c => by
    rw [show (Pipeline.prefHeld (pcfgs (F := F) 1).pre c (fun _ => fullShare) (a 1).1 : sProp 𝕄) = _ from prefHeld_eq a c]
    show _ ⊢ (iprop(((c : Thread nD τ).loc main_v18 ↦{fullShare} (pfA a)) ∗ Pipeline.scopedRest spec2 c) : sProp 𝕄)
    iintro ⟨-, HT, HS⟩
    isplitl [HT]; · iexact HT
    iexact HS
  hout := fun c => by
    rw [Pipeline.ownSems0_none]
    show (iprop(((c : Thread nD τ).loc main_v18 ↦{fullShare} (pfA a)) ∗ Pipeline.scopedRest spec2 c) : sProp 𝕄) ⊢ _
    iintro ⟨HT, HS⟩
    isplitl [HT]; · iexact HT
    isplitr; · iempintro
    iexact HS
  hexit := fun c => by
    refine BIBase.Entails.trans (sep_mono (arraysAt_elim a fx fW fb fy O b c) .rfl) ?_
    refine BIBase.Entails.trans ?_ BI.fupd_intro
    unfold rPost
    iintro ⟨⟨H0, H1, H2, H3⟩, ⟨%W, %hW, HO⟩, HT, -⟩
    isplitl [H0]; · iexact H0
    isplitl [H1]; · iexact H1
    isplitl [H2]; · iexact H2
    isplitl [H3]; · iexact H3
    isplitl [HT]; · iexact HT
    iexists W; isplitr
    · ipureintro
      intro p hp
      rcases hW hp with h | ⟨w, s, rfl⟩
      · exact h
      · exact Nat.zero_le _
    iexact HO

/-- The region's call, written below the SparseCore calls and lifted. -/
theorem region_prog : (Prog.lift (.customCall (SparseCore.inner (Pipeline.entry 1)) ()) : Prog (TpuEff nD τ sig (Elt F) (SparseCore.Sig (ΛP (F := F)) 2) .tc) PUnit)
    = SparseCore.liftProg (Q := 2) (.op (.customCall (Pipeline.entry 1) ()) fun _ => .ret ⟨⟩ : Prog (TpuEff nD τ sig (Elt F) (ΛP (F := F)) .tc) PUnit) := rfl

include r0 in
/-- The region's call in the program with the SparseCore calls. -/
theorem region_wp (EP : Emb UP 𝕄) [EP.LandsIn (upEmb : UEmb _ 𝕄)] (hO : ∀ g, O g none = 0) (Q : PUnit → sProp 𝕄) :
    iprop(boundary (c.tc : Thread nD τ) ∗ rPre a fx fW fb fy O b c ∗ levAts (K (F := F)).L (K (F := F)).lev
        ∗ Pipeline.cellsGhost (Pipeline.pin (pcfgs (F := F)) a) EP 1 c ∗ Pipeline.toksInit (Pipeline.pin (pcfgs (F := F)) a) EP 1 c
        ∗ (iprop(boundary (c.tc : Thread nD τ) ∗ rPost a fx fW fb O b c) -∗ Q ⟨⟩))
      ⊢ wp frame (wpE ((K (F := F)).defs D) 𝒱 (T c) none) Set.univ (Prog.lift (.customCall (SparseCore.inner (Pipeline.entry 1)) ())) Q := by
  rw [region_prog]
  refine BIBase.Entails.trans ?_ ((K (F := F)).wp_liftProg D 𝒱 (T c) Set.univ none _ Q)
  have h := RDat.RegionSeg.wp (pcfgs (F := F)) a (rdatsA a fx fW fb fy O b r0) none (cellOf_inj a) EP (defs₀ (F := F)) 𝒱₀
    (K (F := F)).L (K (F := F)).lev (regionSeg a fx fW fb fy O b r0 hO) c none (fun u hu => by cases hu) (fun _ => Prog.ret ⟨⟩) Q
  rw [show (regionSeg a fx fW fb fy O b r0 hO).pre c = rPre a fx fW fb fy O b c from rfl, show (regionSeg a fx fW fb fy O b r0 hO).post c = rPost a fx fW fb O b c from rfl] at h
  refine BIBase.Entails.trans ?_ h
  iintro ⟨HB, HP, Hlv, HG, HT, HQ⟩
  isplitl [HQ]
  · iintro H
    rw [wp_ret]
    imodintro
    iapply HQ; iexact H
  isplitl [HB]; · iexact HB
  isplitl [HP]; · iexact HP
  isplitl [Hlv]; · iexact Hlv
  isplitl [HG]; · iexact HG
  iexact HT

end Data

end Cert.KernelIdeal.Run
-- ==== Proof.WholeRoute.lean ====
/-
  The routing call of the whole kernel, as the TensorCore's first region: the scores, block by block; the one-hot rows
  of every block, gathered in the scratch; and at the last point the slots and the groups' experts that the full
  one-hot array gives.
-/
module

public import proofs.«01_k».proof.Proof.WholeRegion
public import Idealize.ShloMosaic.Lib.WritesUnit
public import Idealize.ShloMosaic.Lib.Pipeline.ValueKit.Geometry

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 2) (Elt F) ℕ UU ℕ

/-! ## The call's results, as functions of its arguments -/

/-- The inclusive count, token by token, of the tokens of each expert up to and with it. -/
def cumOf (oh : S4096x8.Idx → Elt F .f32) : IVec S4096x8 32 :=
  k0_pay16 (k0_pay11 k0_pay7 (k0_pay8 oh) (k0_pay9 oh) k0_pay10 (Scalar.ofBits .f32 0x00000000#32))
    (k0_pay13 oh (iota .tc S32x4096 32 [1] iota_S32x4096_d1_w32) 128#32 k0_pay12) (iota .tc S4096x32 32 [0] iota_S4096x32_d0_w32) 128#32
    k0_pay14 k0_pay15 1#32 0#1
/-- The number of groups that each expert's tokens take. -/
def grpsOf (oh : S4096x8.Idx → Elt F .f32) : IVec S1x8 32 :=
  k0_pay17 (k0_pay11 k0_pay7 (k0_pay8 oh) (k0_pay9 oh) k0_pay10 (Scalar.ofBits .f32 0x00000000#32))
    (k0_pay13 oh (iota .tc S32x4096 32 [1] iota_S32x4096_d1_w32) 128#32 k0_pay12) (iota .tc S4096x32 32 [0] iota_S4096x32_d0_w32) 128#32
    k0_pay14 k0_pay15 1#32 0#1
/-- Every token's slot. -/
def posOf (oh : S4096x8.Idx → Elt F .f32) : IVec S4096x1 32 := k0_pay5 oh (cumOf oh) (grpsOf oh)
/-- Every group's expert. -/
def metaOf (oh : S4096x8.Idx → Elt F .f32) : IVec S32x1 32 := k0_pay6 (grpsOf oh)

/-- The block of 512 tokens at `t`. -/
def xblk (fx : S4096x1024.Idx → Elt F .f32) (t : Fin 8) : Vec F S512x1024 .f32 :=
  fun y => fx (fun | 0 => (⟨512 * t.val + (y 0).val, by have := t.isLt; have h : (y 0).val < 512 := (y 0).isLt; show _ < 4096; omega⟩ : Fin 4096) | 1 => y 1)
/-- A token's block, -/
def tokBlk (n : Fin 4096) : Fin 8 := ⟨n.val / 512, by omega⟩
/-- and its place in it. -/
def tokIx (y : S4096x8.Idx) : S512x8.Idx := fun | 0 => (⟨(y 0).val % 512, Nat.mod_lt _ (by decide)⟩ : Fin 512) | 1 => y 1
/-- The scores. -/
def scoresOf (fx : S4096x1024.Idx → Elt F .f32) (fw : S1024x8.Idx → Elt F .f32) (fb : S1x8.Idx → Elt F .f32) : S4096x8.Idx → Elt F .f32 :=
  fun y => k0_pay1 (xblk fx (tokBlk (y 0))) fw fb (tokIx y)
/-- The one-hot rows. -/
def ohOf (fx : S4096x1024.Idx → Elt F .f32) (fw : S1024x8.Idx → Elt F .f32) (fb : S1x8.Idx → Elt F .f32) : S4096x8.Idx → Elt F .f32 :=
  fun y => k0_pay2 (xblk fx (tokBlk (y 0))) fw fb (tokIx y)

/-! ## The body -/

/-- The row at which point `i` stores its block of the scratch. -/
theorem k0_off1_eq : ∀ t : Fin grid0.N, k0_off1 (grid0.coords t) = ![512 * t.val, 0] := by decide +kernel
/-- The last point's condition. -/
theorem k0_cond_iff : ∀ t : Fin grid0.N, k0_cond1 (grid0.coords t) = 1#1 ↔ t.val = 7 := by decide +kernel

set_option maxHeartbeats 2000000 in
/-- The body at a point before the last: the scores' block is stored, and the scratch's rows of the block are the one-hot rows. -/
theorem route_run_A (c : Dev nD) (t : Fin grid0.N) (arg1 : Memref sig .tc .vmem S512x1024 .f32) (harg1 : arg1.IsWhole) (arg2 : Memref sig .tc .vmem S1024x8 .f32) (harg2 : arg2.IsWhole) (arg3 : Memref sig .tc .vmem S1x8 .f32) (harg3 : arg3.IsWhole) (arg4 : Memref sig .tc .vmem S512x8 .f32) (harg4 : arg4.IsWhole) (arg5 : Memref sig .tc .vmem S4096x1 .i32) (harg5 : arg5.IsWhole) (arg6 : Memref sig .tc .vmem S32x1 .i32) (harg6 : arg6.IsWhole) (arg7 : Memref sig .tc .vmem S4096x8 .f32) (harg7 : arg7.IsWhole)
    (hc : ¬ k0_cond1 (grid0.coords t) = 1#1)
    (x0 : Vec F S512x1024 .f32) (x1 : Vec F S1024x8 .f32) (x2 : Vec F S1x8 .f32) (x3 : Vec F S512x8 .f32) (d : Vec F S4096x8 .f32)
    (oh : S4096x8.Idx → Elt F .f32) (hd : ∀ y : S4096x8.Idx, (y 0).val < 512 * t.val → d y = oh y)
    (ho : ∀ y : S4096x8.Idx, (y 0).val / 512 = t.val → k0_pay2 x0 x1 x2 (tokIx y) = oh y) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg7 fullShare d
        ∗ (iprop(owns (c : Thread nD τ) arg1 fullShare x0 ∗ owns (c : Thread nD τ) arg2 fullShare x1 ∗ owns (c : Thread nD τ) arg3 fullShare x2 ∗ owns (c : Thread nD τ) arg4 fullShare (k0_pay1 x0 x1 x2)
            ∗ (∃ d', ⌜∀ y : S4096x8.Idx, (y 0).val < 512 * (t.val + 1) → d' y = oh y⌝ ∗ owns (c : Thread nD τ) arg7 fullShare d')) -∗ Q ⟨⟩))
      ⊢ wp frame (wpE (defs₀ (F := F)) 𝒱₀ c none) E (cc0__classify_route_body (grid0.coords t) arg1 harg1 arg2 harg2 arg3 harg3 arg4 harg4 arg5 harg5 arg6 harg6 arg7 harg7) Q := by
  simp only [cc0__classify_route_body_eq_skeleton]; unfold cc0__classify_route_body_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    rw [View.read_writes_eq_canon _ _ _ (fun y => ⟨_, List.mem_singleton.mpr rfl, View.mem_set_unit_zero hz2 inb_S512x8_S512x8_0_0 y⟩), View.canon_unit_zero hz2]
    simp only [View.readAt_eq_ld, harg1.read_unread, harg2.read_unread, harg3.read_unread, View.ld_unit_zero (S := S512x1024) hz2, View.ld_unit_zero (S := S1024x8) hz2, View.ld_unit_zero (S := S1x8) hz2]
  iexists _; isplitr; swap
  · iexists _; isplitr; swap; · iexact HS
    ipureintro; rfl
  ipureintro
  intro y hy
  simp only [View.readAt_eq_ld, harg1.read_unread, harg2.read_unread, harg3.read_unread, View.ld_unit_zero (S := S512x1024) hz2, View.ld_unit_zero (S := S1024x8) hz2, View.ld_unit_zero (S := S1x8) hz2]
  by_cases h : (y 0).val / 512 = t.val
  · refine (View.read_writes_cons_unit_of_mem _ _ _ _ _ y (tokIx y) (k0_off1_eq t) fun a => ?_).trans (ho y h)
    match a with
    | 0 => show (y 0).val = 512 * t.val + (y 0).val % 512; omega
    | 1 => show (y 1).val = 0 + (y 1).val; omega
  · refine (View.read_writes_cons_unit_of_not_mem _ _ _ _ _ y (k0_off1_eq t) 0 (Or.inl ?_)).trans ?_
    · show (y 0).val < 512 * t.val; omega
    · rw [View.writes_nil, hfs]; exact hd y (by omega)

set_option maxHeartbeats 4000000 in
/-- The body at the last point: besides, the slots and the groups' experts that the scratch's full one-hot array gives. -/
theorem route_run_B (c : Dev nD) (t : Fin grid0.N) (arg1 : Memref sig .tc .vmem S512x1024 .f32) (harg1 : arg1.IsWhole) (arg2 : Memref sig .tc .vmem S1024x8 .f32) (harg2 : arg2.IsWhole) (arg3 : Memref sig .tc .vmem S1x8 .f32) (harg3 : arg3.IsWhole) (arg4 : Memref sig .tc .vmem S512x8 .f32) (harg4 : arg4.IsWhole) (arg5 : Memref sig .tc .vmem S4096x1 .i32) (harg5 : arg5.IsWhole) (arg6 : Memref sig .tc .vmem S32x1 .i32) (harg6 : arg6.IsWhole) (arg7 : Memref sig .tc .vmem S4096x8 .f32) (harg7 : arg7.IsWhole)
    (hc : k0_cond1 (grid0.coords t) = 1#1)
    (x0 : Vec F S512x1024 .f32) (x1 : Vec F S1024x8 .f32) (x2 : Vec F S1x8 .f32) (x3 : Vec F S512x8 .f32) (x4 : Vec F S4096x1 .i32) (x5 : Vec F S32x1 .i32) (d : Vec F S4096x8 .f32)
    (oh : S4096x8.Idx → Elt F .f32) (hd : ∀ y : S4096x8.Idx, (y 0).val < 512 * t.val → d y = oh y)
    (ho : ∀ y : S4096x8.Idx, (y 0).val / 512 = t.val → k0_pay2 x0 x1 x2 (tokIx y) = oh y) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d
        ∗ (iprop(owns (c : Thread nD τ) arg1 fullShare x0 ∗ owns (c : Thread nD τ) arg2 fullShare x1 ∗ owns (c : Thread nD τ) arg3 fullShare x2 ∗ owns (c : Thread nD τ) arg4 fullShare (k0_pay1 x0 x1 x2)
            ∗ owns (c : Thread nD τ) arg5 fullShare (posOf oh) ∗ owns (c : Thread nD τ) arg6 fullShare (metaOf oh) ∗ owns (c : Thread nD τ) arg7 fullShare oh) -∗ Q ⟨⟩))
      ⊢ wp frame (wpE (defs₀ (F := F)) 𝒱₀ c none) E (cc0__classify_route_body (grid0.coords t) arg1 harg1 arg2 harg2 arg3 harg3 arg4 harg4 arg5 harg5 arg6 harg6 arg7 harg7) Q := by
  simp only [cc0__classify_route_body_eq_skeleton]; unfold cc0__classify_route_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  have ht : t.val = 7 := (k0_cond_iff t).mp hc
  sl_exec (disch := first | sl_exact hc)
  sl_step
  have key : ∀ (G : S4096x8.Idx → Elt F .f32), (∀ y, G y = arg7.view.read (Elt F) (arg7.view.writes (Elt F) fs [⟨Rect.unit (s := S4096x8) (k0_off1 (grid0.coords t)) S512x8.size (k0_off1_inb (grid0.coords t)), k0_pay2 x0 x1 x2⟩]) y) → G = oh := by
    intro G hG
    funext y
    refine (hG y).trans ?_
    by_cases h : (y 0).val / 512 = t.val
    · refine (View.read_writes_cons_unit_of_mem _ _ _ _ _ y (tokIx y) (k0_off1_eq t) fun a => ?_).trans (ho y h)
      match a with
      | 0 => show (y 0).val = 512 * t.val + (y 0).val % 512; omega
      | 1 => show (y 1).val = 0 + (y 1).val; omega
    · have hy : (y 0).val < 4096 := (y 0).isLt
      refine (View.read_writes_cons_unit_of_not_mem _ _ _ _ _ y (k0_off1_eq t) 0 (Or.inl ?_)).trans ?_
      · show (y 0).val < 512 * t.val; omega
      · rw [View.writes_nil, hfs]; exact hd y (by omega)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    rw [View.read_writes_eq_canon _ _ _ (fun y => ⟨_, List.mem_singleton.mpr rfl, View.mem_set_unit_zero hz2 inb_S512x8_S512x8_0_0 y⟩), View.canon_unit_zero hz2]
    simp only [View.readAt_eq_ld, harg1.read_unread, harg2.read_unread, harg3.read_unread, View.ld_unit_zero (S := S512x1024) hz2, View.ld_unit_zero (S := S1024x8) hz2, View.ld_unit_zero (S := S1x8) hz2]
  isplitl [H4]
  · iexists _; isplitr; swap; · iexact H4
    ipureintro
    rw [View.read_writes_eq_canon _ _ _ (fun y => ⟨_, List.mem_singleton.mpr rfl, View.mem_set_unit_zero hz2 inb_S4096x1_S4096x1_0_0 y⟩), View.canon_unit_zero hz2]
    delta route_run_B.sl.r_6
    delta route_run_B.sl.r_5
    delta route_run_B.sl.r_4
    delta route_run_B.sl.r_3
    delta route_run_B.sl.r_2
    delta route_run_B.sl.r_1
    delta route_run_B.sl.r
    delta route_run_B.sl.HS_1
    delta route_run_B.sl.v117
    delta route_run_B.sl.v153
    delta route_run_B.sl.cst_22
    simp only [View.readAt_eq_ld, harg1.read_unread, harg2.read_unread, harg3.read_unread, View.ld_unit_zero (S := S512x1024) hz2, View.ld_unit_zero (S := S1024x8) hz2, View.ld_unit_zero (S := S1x8) hz2, View.ld_unit_zero (S := S4096x8) hz2]
    generalize hG : View.read (Elt F) arg7.view _ = G
    obtain rfl : G = oh := key G fun y => by rw [← hG]
    delta posOf cumOf grpsOf
    rfl
  isplitl [H5]
  · iexists _; isplitr; swap; · iexact H5
    ipureintro
    rw [View.read_writes_eq_canon _ _ _ (fun y => ⟨_, List.mem_singleton.mpr rfl, View.mem_set_unit_zero hz2 inb_S32x1_S32x1_0_0 y⟩), View.canon_unit_zero hz2]
    delta route_run_B.sl.r_6
    delta route_run_B.sl.r_4
    delta route_run_B.sl.r_3
    delta route_run_B.sl.r_2
    delta route_run_B.sl.r_1
    delta route_run_B.sl.r
    delta route_run_B.sl.HS_1
    delta route_run_B.sl.v117
    delta route_run_B.sl.v153
    delta route_run_B.sl.cst_22
    simp only [View.readAt_eq_ld, harg1.read_unread, harg2.read_unread, harg3.read_unread, View.ld_unit_zero (S := S512x1024) hz2, View.ld_unit_zero (S := S1024x8) hz2, View.ld_unit_zero (S := S1x8) hz2, View.ld_unit_zero (S := S4096x8) hz2]
    generalize hG : View.read (Elt F) arg7.view _ = G
    obtain rfl : G = oh := key G fun y => by rw [← hG]
    delta metaOf grpsOf
    rfl
  iexists _; isplitr; swap; · iexact HS
  ipureintro
  delta route_run_B.sl.HS_1
  simp only [View.readAt_eq_ld, harg1.read_unread, harg2.read_unread, harg3.read_unread, View.ld_unit_zero (S := S512x1024) hz2, View.ld_unit_zero (S := S1024x8) hz2, View.ld_unit_zero (S := S1x8) hz2]
  generalize hG : View.read (Elt F) arg7.view _ = G
  exact key G fun y => by rw [← hG]

end Cert.KernelIdeal.Run

end
-- ==== Proof.WholeRouteRegion.lean ====
/-
  The routing call's region in the whole kernel: the windows' data over the body's runs, and what the region leaves in
  the arrays of scores, of slots and of the groups' experts.
-/
module

public import proofs.«01_k».proof.Proof.WholeRoute
public import proofs.«01_k».proof.Proof.Gen.KernelIdeal.Points
public import Idealize.ShloMosaic.Lib.WritesUnit
public import Idealize.ShloMosaic.Lib.Pipeline.ValueKit.Geometry

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 2) (Elt F) ℕ UU ℕ

/-! ## The region's data -/

section Data0
variable (a : (p : Fin 2) → (pcfgs (F := F) p).Adm)

/-- The pipeline of the routing call. -/
abbrev cfgB : Cfg sig Λ₀ := Pipeline.pin (pcfgs (F := F)) a 0

/-- A point of the region's grid, as one of eight. -/
def pt (t : Fin (cfgB a).N) : Fin 8 := ⟨t.val, Nat.lt_of_lt_of_eq t.isLt N_0⟩

/-- The scratch that gathers the one-hot rows. -/
abbrev scM : Memref sig .tc .vmem S4096x8 .f32 := Memref.whole cc0_scratch0

/-- The other scoped buffers that this region does not stage. -/
def restB (c : Dev nD) : sProp 𝕄 := iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

variable (fx : S4096x1024.Idx → Elt F .f32) (fw : S1024x8.Idx → Elt F .f32) (fb : S1x8.Idx → Elt F .f32)
  (g3 : S4096x8.Idx → Elt F .f32) (g4 : S4096x1.Idx → Elt F .i32) (g5 : S32x1.Idx → Elt F .i32)

/-- The relational data of the region: the inputs' buffers stay; the scores' buffer is its block at every point; the two
    routing tables' buffers are the tables at the last point and anything before. The scratch holds the one-hot rows of the
    blocks already done. -/
def rdat0 (O : CellTallies nD τ sig (HIx 2)) (b : ℕ) (c : Dev nD) : RDat τ (Elt F) (HIx 2) ℕ UU ℕ (cfgB a) c where
  A := fun | 0 => fx | 1 => fw | 2 => fb | 3 => g3 | 4 => g4 | 5 => g5 | ⟨_ + 6, h⟩ => absurd h (Nat.not_lt.2 (Nat.le_add_left _ _))
  after := fun
    | 0 => fun _ Y X => X = Y
    | 1 => fun _ Y X => X = Y
    | 2 => fun _ Y X => X = Y
    | 3 => fun t _ X => X = k0_pay1 (xblk fx (pt a t)) fw fb
    | 4 => fun t _ X => t.val = 7 → X = posOf (ohOf fx fw fb)
    | 5 => fun t _ X => t.val = 7 → X = metaOf (ohOf fx fw fb)
    | ⟨_ + 6, h⟩ => absurd h (Nat.not_lt.2 (Nat.le_add_left _ _))
  Φ := fun t => iprop((∃ d, ⌜∀ y : S4096x8.Idx, (y 0).val < 512 * t.val → d y = ohOf fx fw fb y⌝ ∗ owns (c : Thread nD τ) scM fullShare d) ∗ restB c)
  q := fun _ => fullShare
  owed := fun _ => O
  recorded := fun _ => {p | (K (F := F)).lev ((c : Thread nD τ), p.1) p.2 ≤ b}

variable (O : CellTallies nD τ sig (HIx 2)) (b : ℕ) (c : Dev nD)

/-- Where the inputs' blocks lie. -/
theorem ix0_0 : ∀ t : Fin grid0.N, cc0_transform_0 (grid0.coords t) (0 : Fin 2) = t.val ∧ cc0_transform_0 (grid0.coords t) (1 : Fin 2) = 0 := by decide +kernel
/-- The matrix's window stays at the origin. -/
theorem ix0_1 : ∀ t : Fin grid0.N, cc0_transform_1 (grid0.coords t) (0 : Fin 2) = 0 ∧ cc0_transform_1 (grid0.coords t) (1 : Fin 2) = 0 := by decide +kernel
/-- The bias's window stays at the origin. -/
theorem ix0_2 : ∀ t : Fin grid0.N, cc0_transform_2 (grid0.coords t) (0 : Fin 2) = 0 ∧ cc0_transform_2 (grid0.coords t) (1 : Fin 2) = 0 := by decide +kernel
/-- Where the scores' block lies. -/
theorem ix0_3 : ∀ t : Fin grid0.N, cc0_transform_3 (grid0.coords t) (0 : Fin 2) = t.val ∧ cc0_transform_3 (grid0.coords t) (1 : Fin 2) = 0 := by decide +kernel

/-- What the body finds in an input's buffer. -/
theorem find0 (t : Fin (cfgB a).N) (Y) (h : (rdat0 a fx fw fb g3 g4 g5 O b c).Finds 0 t Y) : Y = xblk fx (pt a t) := by
  obtain ⟨d, rfl⟩ := RDat.finds_in_eq_fetched (rdat0 a fx fw fb g3 g4 g5 O b c) 0 rfl (fun _ _ _ => rfl) (fun _ _ _ h => h) t Y h
  funext y
  show fx _ = fx _
  congr 1
  obtain ⟨e0, e1⟩ := ix0_0 t
  funext i
  match i with
  | ⟨0, _⟩ => apply Fin.ext; show cc0_transform_0 (grid0.coords t) (0 : Fin 2) * 512 + 1 * (y ⟨0, show 0 < 2 from by decide⟩).val = 512 * t.val + (y ⟨0, show 0 < 2 from by decide⟩).val; omega
  | ⟨1, _⟩ => apply Fin.ext; show cc0_transform_0 (grid0.coords t) (1 : Fin 2) * 1024 + 1 * (y ⟨1, show 1 < 2 from by decide⟩).val = (y ⟨1, show 1 < 2 from by decide⟩).val; omega
/-- A step finds the routing's matrix. -/
theorem find1 (t : Fin (cfgB a).N) (Y) (h : (rdat0 a fx fw fb g3 g4 g5 O b c).Finds 1 t Y) : Y = fw := by
  obtain ⟨d, rfl⟩ := RDat.finds_in_eq_fetched (rdat0 a fx fw fb g3 g4 g5 O b c) 1 rfl (fun _ _ _ => rfl) (fun _ _ _ h => h) t Y h
  funext y
  show fw _ = fw _
  congr 1
  obtain ⟨e0, e1⟩ := ix0_1 t
  funext i
  match i with
  | ⟨0, _⟩ => apply Fin.ext; show cc0_transform_1 (grid0.coords t) (0 : Fin 2) * 1024 + 1 * (y ⟨0, show 0 < 2 from by decide⟩).val = (y ⟨0, show 0 < 2 from by decide⟩).val; omega
  | ⟨1, _⟩ => apply Fin.ext; show cc0_transform_1 (grid0.coords t) (1 : Fin 2) * 8 + 1 * (y ⟨1, show 1 < 2 from by decide⟩).val = (y ⟨1, show 1 < 2 from by decide⟩).val; omega
/-- A step finds the bias. -/
theorem find2 (t : Fin (cfgB a).N) (Y) (h : (rdat0 a fx fw fb g3 g4 g5 O b c).Finds 2 t Y) : Y = fb := by
  obtain ⟨d, rfl⟩ := RDat.finds_in_eq_fetched (rdat0 a fx fw fb g3 g4 g5 O b c) 2 rfl (fun _ _ _ => rfl) (fun _ _ _ h => h) t Y h
  funext y
  show fb _ = fb _
  congr 1
  obtain ⟨e0, e1⟩ := ix0_2 t
  funext i
  match i with
  | ⟨0, _⟩ => apply Fin.ext; show cc0_transform_2 (grid0.coords t) (0 : Fin 2) * 1 + 1 * (y ⟨0, show 0 < 2 from by decide⟩).val = (y ⟨0, show 0 < 2 from by decide⟩).val; omega
  | ⟨1, _⟩ => apply Fin.ext; show cc0_transform_2 (grid0.coords t) (1 : Fin 2) * 8 + 1 * (y ⟨1, show 1 < 2 from by decide⟩).val = (y ⟨1, show 1 < 2 from by decide⟩).val; omega

/-- The current staging buffers. -/
abbrev mr_0 (t : Fin (cfgB a).N) : Memref sig .tc .vmem S512x1024 .f32 := win0_0.stage ((cfgB a).slots t 0)
abbrev mr_1 (t : Fin (cfgB a).N) : Memref sig .tc .vmem S1024x8 .f32 := win0_1.stage ((cfgB a).slots t 1)
abbrev mr_2 (t : Fin (cfgB a).N) : Memref sig .tc .vmem S1x8 .f32 := win0_2.stage ((cfgB a).slots t 2)
abbrev mr_3 (t : Fin (cfgB a).N) : Memref sig .tc .vmem S512x8 .f32 := win0_3.stage ((cfgB a).slots t 3)
abbrev mr_4 (t : Fin (cfgB a).N) : Memref sig .tc .vmem S4096x1 .i32 := win0_4.stage ((cfgB a).slots t 4)
abbrev mr_5 (t : Fin (cfgB a).N) : Memref sig .tc .vmem S32x1 .i32 := win0_5.stage ((cfgB a).slots t 5)

/-- The body at point `t`, on the current staging buffers. -/
abbrev bodyR (t : Fin (cfgB a).N) := cc0__classify_route_body (F := F) (grid0.coords t)
  (mr_0 a t) (hstage0_0 (((cfgB a).slots t 0).cast nbuf0_0)) (mr_1 a t) (hstage0_1 (((cfgB a).slots t 1).cast nbuf0_1))
  (mr_2 a t) (hstage0_2 (((cfgB a).slots t 2).cast nbuf0_2)) (mr_3 a t) (hstage0_3 (((cfgB a).slots t 3).cast nbuf0_3))
  (mr_4 a t) (hstage0_4 (((cfgB a).slots t 4).cast nbuf0_4)) (mr_5 a t) (hstage0_5 (((cfgB a).slots t 5).cast nbuf0_5)) scM (Memref.isWhole_whole _)

/-- The pipeline's call of the body is it. -/
theorem defs₀_rowR (t : Fin (cfgB a).N) : defs₀ (F := F) .tc (cfgB a).body ((cfgB a).bodyArgs t ((cfgB a).slots t)) = bodyR a t := by
  rfl

/-- The one-hot rows of the block at `t`. -/
theorem oh_blk (t : Fin (cfgB a).N) (y : S4096x8.Idx) (h : (y 0).val / 512 = t.val) : k0_pay2 (xblk fx (pt a t)) fw fb (tokIx y) = ohOf fx fw fb y := by
  have e : pt a t = tokBlk (y 0) := Fin.ext h.symm
  rw [e]; rfl

/-- The body at any point, from the contents the buffers may hold to the contents they may be left with. -/
theorem route_body (t : Fin (cfgB a).N) (SR R : sProp 𝕄) (y3 : Vec F S512x8 .f32) (y4 : Vec F S4096x1 .i32) (y5 : Vec F S32x1 .i32) :
    iprop(((∃ d, ⌜∀ y : S4096x8.Idx, (y 0).val < 512 * t.val → d y = ohOf fx fw fb y⌝ ∗ owns (c : Thread nD τ) scM fullShare d) ∗ SR) ∗ R
        ∗ owns (c : Thread nD τ) (mr_0 a t) fullShare (xblk fx (pt a t)) ∗ owns (c : Thread nD τ) (mr_1 a t) fullShare fw
        ∗ owns (c : Thread nD τ) (mr_2 a t) fullShare fb ∗ owns (c : Thread nD τ) (mr_3 a t) fullShare y3
        ∗ owns (c : Thread nD τ) (mr_4 a t) fullShare y4 ∗ owns (c : Thread nD τ) (mr_5 a t) fullShare y5)
      ⊢ wp frame (wpE (defs₀ (F := F)) 𝒱₀ c none) Set.univ (bodyR a t) fun _ =>
      iprop(((∃ d, ⌜∀ y : S4096x8.Idx, (y 0).val < 512 * (t.val + 1) → d y = ohOf fx fw fb y⌝ ∗ owns (c : Thread nD τ) scM fullShare d) ∗ SR) ∗ R
        ∗ (∃ X, ⌜X = xblk fx (pt a t)⌝ ∗ owns (c : Thread nD τ) (mr_0 a t) fullShare X) ∗ (∃ X, ⌜X = fw⌝ ∗ owns (c : Thread nD τ) (mr_1 a t) fullShare X)
        ∗ (∃ X, ⌜X = fb⌝ ∗ owns (c : Thread nD τ) (mr_2 a t) fullShare X)
        ∗ (∃ X, ⌜X = k0_pay1 (xblk fx (pt a t)) fw fb⌝ ∗ owns (c : Thread nD τ) (mr_3 a t) fullShare X)
        ∗ (∃ X, ⌜t.val = 7 → X = posOf (ohOf fx fw fb)⌝ ∗ owns (c : Thread nD τ) (mr_4 a t) fullShare X)
        ∗ (∃ X, ⌜t.val = 7 → X = metaOf (ohOf fx fw fb)⌝ ∗ owns (c : Thread nD τ) (mr_5 a t) fullShare X)) := by
  by_cases hc : k0_cond1 (grid0.coords t) = 1#1
  · iintro ⟨⟨⟨%d, %hd, HD⟩, HS⟩, HR, H0, H1, H2, H3, H4, H5⟩
    iapply (route_run_B c t _ _ _ _ _ _ _ _ _ _ _ _ _ _ hc (xblk fx (pt a t)) fw fb y3 y4 y5 d (ohOf fx fw fb) hd (oh_blk a fx fw fb t) Set.univ _)
    isplitl [H0]; · iexact H0
    isplitl [H1]; · iexact H1
    isplitl [H2]; · iexact H2
    isplitl [H3]; · iexact H3
    isplitl [H4]; · iexact H4
    isplitl [H5]; · iexact H5
    isplitl [HD]; · iexact HD
    iintro ⟨H0, H1, H2, H3, H4, H5, HD⟩
    isplitl [HD HS]
    · isplitl [HD]
      · iexists _; isplitr; swap; · iexact HD
        ipureintro; exact fun _ _ => rfl
      iexact HS
    isplitl [HR]; · iexact HR
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; swap; · iexact H4
                    ipureintro; exact fun _ => rfl
    iexists _; isplitr; swap; · iexact H5
    ipureintro; exact fun _ => rfl
  · have ht : t.val ≠ 7 := fun h => hc ((k0_cond_iff t).mpr h)
    iintro ⟨⟨⟨%d, %hd, HD⟩, HS⟩, HR, H0, H1, H2, H3, H4, H5⟩
    iapply (route_run_A c t _ _ _ _ _ _ _ _ (mr_4 a t) (hstage0_4 (((cfgB a).slots t 4).cast nbuf0_4)) (mr_5 a t) (hstage0_5 (((cfgB a).slots t 5).cast nbuf0_5)) _ _ hc (xblk fx (pt a t)) fw fb y3 d (ohOf fx fw fb) hd (oh_blk a fx fw fb t) Set.univ _)
    isplitl [H0]; · iexact H0
    isplitl [H1]; · iexact H1
    isplitl [H2]; · iexact H2
    isplitl [H3]; · iexact H3
    isplitl [HD]; · iexact HD
    iintro ⟨H0, H1, H2, H3, HD⟩
    isplitl [HD HS]
    · isplitl [HD]; · iexact HD
      iexact HS
    isplitl [HR]; · iexact HR
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists y4; isplitr; · ipureintro; exact fun h => absurd h ht
                    iexact H4
    iexists y5; isplitr; · ipureintro; exact fun h => absurd h ht
    iexact H5

/-- The body obligation of the region's data. -/
theorem body_obligation0 : (rdat0 a fx fw fb g3 g4 g5 O b c).BodyObligation (defs₀ (F := F)) 𝒱₀ none Set.univ := fun t Y hY => by
  have e0 := find0 a fx fw fb g3 g4 g5 O b c t (Y 0) (hY 0)
  have e1 := find1 a fx fw fb g3 g4 g5 O b c t (Y 1) (hY 1)
  have e2 := find2 a fx fw fb g3 g4 g5 O b c t (Y 2) (hY 2)
  rw [bigSep_W0, bigSep_W0, defs₀_rowR, e0, e1, e2]
  exact triple_restated (route_body a fx fw fb c t (restB c) ((rdat0 a fx fw fb g3 g4 g5 O b c).owesAt none t.castSucc) (Y 3) (Y 4) (Y 5)) rfl .rfl fun _ => .rfl

/-! ## What the region leaves -/

/-- The row of a place of a block of scores. -/
theorem emb0_3_0 (t : Fin (cfgB a).N) (y : S512x8.Idx) :
    ((show S4096x8.Idx from (((cfgB a).win 3).blk t).view.emb y) 0 : Nat) = 512 * t.val + (y 0 : Nat) := by
  obtain ⟨e0, e1⟩ := ix0_3 t
  show cc0_transform_3 (grid0.coords t) (0 : Fin 2) * 512 + 1 * (y 0).val = 512 * t.val + (y 0).val; omega
/-- The column of a place of a block of scores. -/
theorem emb0_3_1 (t : Fin (cfgB a).N) (y : S512x8.Idx) :
    ((show S4096x8.Idx from (((cfgB a).win 3).blk t).view.emb y) 1 : Nat) = (y 1 : Nat) := by
  obtain ⟨e0, e1⟩ := ix0_3 t
  show cc0_transform_3 (grid0.coords t) (1 : Fin 2) * 8 + 1 * (y 1).val = (y 1).val; omega

/-- Blocks of different steps are disjoint. -/
theorem disj0_3 (t t' : Fin (cfgB a).N) (h : t ≠ t') : Disjoint (((cfgB a).win 3).blk t).view.set (((cfgB a).win 3).blk t').view.set := by
  rw [Finset.disjoint_left]
  intro i hi hi'
  obtain ⟨y, rfl⟩ := View.exists_emb_of_mem_set _ hi
  obtain ⟨y', e⟩ := View.exists_emb_of_mem_set _ hi'
  have h3 := ((emb0_3_0 a t' y').symm.trans (congrArg (fun i : S4096x8.Idx => (i 0 : Nat)) e)).trans (emb0_3_0 a t y)
  have h4 : (y (0 : Fin 2) : Nat) < 512 := (y (0 : Fin 2)).isLt
  have h5 : (y' (0 : Fin 2) : Nat) < 512 := (y' (0 : Fin 2)).isLt
  have h6 : 512 * t'.val + (y' (0 : Fin 2) : Nat) = 512 * t.val + (y (0 : Fin 2) : Nat) := h3
  refine h (Fin.ext ?_)
  generalize (y (0 : Fin 2) : Nat) = n at *
  generalize (y' (0 : Fin 2) : Nat) = n' at *
  omega

/-- The scores' array is the scores. -/
theorem scores_of (G : S4096x8.Idx → Elt F .f32) (h : (rdat0 a fx fw fb g3 g4 g5 O b c).ArrAt 3 (cfgB a).N G) : G = scoresOf fx fw fb := by
  obtain ⟨X, hX, hA⟩ := h.exists_exact
  have hG : ∀ (t : Fin (cfgB a).N) (y : S512x8.Idx), G ((((cfgB a).win 3).blk t).view.emb y : _) = k0_pay1 (xblk fx (pt a t)) fw fb y := by
    intro t y
    obtain ⟨Y, -, hY⟩ := hX t t.isLt (flush0_3 t)
    have hY' : X t = k0_pay1 (xblk fx (pt a t)) fw fb := hY
    have e := hA (Function.update (fun _ _ _ => Classical.arbitrary _) 3 X) fun u _ _ => by rw [Function.update_self]
    rw [e]
    refine (Pipeline.Dat.arrAt_emb_eq_flushed _ 3 (fun t t' _ _ h => disj0_3 a t t' h) t (flush0_3 t) y).trans ?_
    show (Function.update (fun _ _ _ => Classical.arbitrary _) 3 X) 3 t y = _
    rw [Function.update_self, hY']
  funext y
  have hy : (y 0).val < 4096 := (y 0).isLt
  have e := hG ⟨(y 0).val / 512, by show _ < grid0.N; rw [N_0]; omega⟩ (tokIx y)
  refine Eq.trans (congrArg G ?_) e
  funext i
  match i with
  | 0 =>
    apply Fin.ext
    refine Eq.trans ?_ (emb0_3_0 a _ _).symm
    show (y 0).val = 512 * ((y 0).val / 512) + (y 0).val % 512
    omega
  | 1 =>
    apply Fin.ext
    exact (emb0_3_1 a ⟨(y 0).val / 512, by show _ < grid0.N; rw [N_0]; omega⟩ (tokIx y)).symm

/-- The last point. -/
def tL : Fin (cfgB a).N := ⟨7, by show 7 < grid0.N; rw [N_0]; decide⟩
/-- The slots' window is the whole array. -/
theorem whole4 : ((cfgB a).win 4).WholeAt (tL a) :=
  ⟨(flush0_4 (tL a)).mpr rfl, fun t h => Fin.ext (by
    have h1 : t.val % 8 = 7 := (flush0_4 t).mp h
    have h2 : t.val < 8 := Nat.lt_of_lt_of_eq t.isLt N_0
    show t.val = 7; omega), fun | ⟨0, _⟩ => ⟨rfl, rfl⟩ | ⟨1, _⟩ => ⟨rfl, rfl⟩⟩
/-- The experts' window is the whole array. -/
theorem whole5 : ((cfgB a).win 5).WholeAt (tL a) :=
  ⟨(flush0_5 (tL a)).mpr rfl, fun t h => Fin.ext (by
    have h1 : t.val % 8 = 7 := (flush0_5 t).mp h
    have h2 : t.val < 8 := Nat.lt_of_lt_of_eq t.isLt N_0
    show t.val = 7; omega), fun | ⟨0, _⟩ => ⟨rfl, rfl⟩ | ⟨1, _⟩ => ⟨rfl, rfl⟩⟩

/-- The slots' array is the slots. -/
theorem slots_of (G : S4096x1.Idx → Elt F .i32) (h : (rdat0 a fx fw fb g3 g4 g5 O b c).ArrAt 4 (cfgB a).N G) : G = posOf (ohOf fx fw fb) := by
  obtain ⟨X, ⟨Y, -, hX⟩, hG⟩ := RDat.ArrAt.emb_eq_of_wholeAt h (whole4 a)
  have hX' : X = posOf (ohOf fx fw fb) := hX rfl
  have e : G = X := funext fun y => hG y
  exact e.trans hX'
/-- The groups' experts' array is the groups' experts. -/
theorem metas_of (G : S32x1.Idx → Elt F .i32) (h : (rdat0 a fx fw fb g3 g4 g5 O b c).ArrAt 5 (cfgB a).N G) : G = metaOf (ohOf fx fw fb) := by
  obtain ⟨X, ⟨Y, -, hX⟩, hG⟩ := RDat.ArrAt.emb_eq_of_wholeAt h (whole5 a)
  have hX' : X = metaOf (ohOf fx fw fb) := hX rfl
  have e : G = X := funext fun y => hG y
  exact e.trans hX'

/-- The regions' data, the routing call's and any of the other. -/
abbrev rdatsB (r1 : (c : Dev nD) → RDat τ (Elt F) (HIx 2) ℕ UU ℕ (Pipeline.pin (pcfgs (F := F)) a 1) c) : (p : Fin 2) → (c : Dev nD) → RDat τ (Elt F) (HIx 2) ℕ UU ℕ (Pipeline.pin (pcfgs (F := F)) a p) c :=
  fun | 0 => rdat0 a fx fw fb g3 g4 g5 O b | 1 => r1 | ⟨_ + 2, h⟩ => absurd h (Nat.not_lt.2 (Nat.le_add_left _ _))

variable (r1 : (c : Dev nD) → RDat τ (Elt F) (HIx 2) ℕ UU ℕ (Pipeline.pin (pcfgs (F := F)) a 1) c)

/-- The region's waits sit below everything that the core owes. -/
theorem hO_waits0 (hO : ∀ g, O g none = 0) :
    (levAts (K (F := F)).L (K (F := F)).lev : sProp 𝕄)
      ⊢ RDat.cellsWaits (Pipeline.pin (pcfgs (F := F)) a) (rdatsB a fx fw fb g3 g4 g5 O b r1) none 0 c :=
  RDat.cellsWaits_intro _ _ _ 0 c fun w s t => (K (F := F)).mayWait_none (thr := (c : Thread nD τ)) _ hO

/-- The region's state before it: the arrays and what the core owes. -/
def sPre : sProp 𝕄 :=
  iprop(((c : Thread nD τ).loc main_arg0 ↦{fullShare} fx) ∗ ((c : Thread nD τ).loc main_arg1 ↦{fullShare} fw)
    ∗ ((c : Thread nD τ).loc main_v0 ↦{fullShare} fb) ∗ ((c : Thread nD τ).loc main_v1_0 ↦{fullShare} g3)
    ∗ ((c : Thread nD τ).loc main_v1_1 ↦{fullShare} g4) ∗ ((c : Thread nD τ).loc main_v1_2 ↦{fullShare} g5)
    ∗ ∃ W, ⌜(K (F := F)).WBelow (c : Thread nD τ) W b⌝ ∗ owes (c : Thread nD τ) O W)

/-- And after it: the scores, the slots and the groups' experts in place. -/
def sPost : sProp 𝕄 :=
  iprop(((c : Thread nD τ).loc main_arg0 ↦{fullShare} fx) ∗ ((c : Thread nD τ).loc main_arg1 ↦{fullShare} fw)
    ∗ ((c : Thread nD τ).loc main_v0 ↦{fullShare} fb) ∗ ((c : Thread nD τ).loc main_v1_0 ↦{fullShare} (scoresOf fx fw fb))
    ∗ ((c : Thread nD τ).loc main_v1_1 ↦{fullShare} (posOf (ohOf fx fw fb))) ∗ ((c : Thread nD τ).loc main_v1_2 ↦{fullShare} (metaOf (ohOf fx fw fb)))
    ∗ ∃ W, ⌜(K (F := F)).WBelow (c : Thread nD τ) W b⌝ ∗ owes (c : Thread nD τ) O W)

/-- The scratch at any contents, and the other scoped buffers. -/
def scrB (c : Dev nD) : sProp 𝕄 := iprop((∃ f : Buf (Elt F) ((c : Thread nD τ).loc cc0_scratch0), ((c : Thread nD τ).loc cc0_scratch0) ↦{fullShare} f) ∗ restB c)
/-- The scoped buffers that the region does not stage: the scratch and the others. -/
theorem rest0_in : (Pipeline.scopedRest (pcfgs (F := F) 0).spec c : sProp 𝕄) ⊢ iprop((∃ f : Buf (Elt F) ((c : Thread nD τ).loc cc0_scratch0), ((c : Thread nD τ).loc cc0_scratch0) ↦{fullShare} f) ∗ restB c) := by
  rw [show (Pipeline.scopedRest (pcfgs (F := F) 0).spec c : sProp 𝕄) = _ from scopedRest0_eq c]
  exact .rfl
/-- What the region's invariant leaves of the scratch. -/
theorem scr_out (t : Fin ((cfgB a).N + 1)) : ((rdat0 a fx fw fb g3 g4 g5 O b c).Φ t : sProp 𝕄) ⊢ scrB c := by
  unfold scrB
  show (iprop((∃ d, ⌜∀ y : S4096x8.Idx, (y 0).val < 512 * t.val → d y = ohOf fx fw fb y⌝ ∗ owns (c : Thread nD τ) scM fullShare d) ∗ restB c) : sProp 𝕄) ⊢ _
  iintro ⟨⟨%f, -, HF⟩, HS⟩
  isplitl [HF]
  · iexists f
    rw [owns_whole]
    exact BIBase.Entails.rfl
  iexact HS

/-- No table is held. -/
theorem prefHeld0_eq : (Pipeline.prefHeld (pcfgs (F := F) 0).pre c (fun _ => fullShare) (a 0).1 : sProp 𝕄) = BI.emp := by
  unfold Pipeline.prefHeld
  exact bigSep_univ_eq_bigSepL ([] : List (Fin 0)) (by decide) (by decide) _

/-- The arrays as the pipeline holds them. -/
theorem arrays0_eq : ((rdat0 a fx fw fb g3 g4 g5 O b c).arrays (rdat0 a fx fw fb g3 g4 g5 O b c).A : sProp 𝕄)
    = iprop(((c : Thread nD τ).loc main_arg0 ↦{fullShare} fx) ∗ ((c : Thread nD τ).loc main_arg1 ↦{fullShare} fw)
    ∗ ((c : Thread nD τ).loc main_v0 ↦{fullShare} fb) ∗ ((c : Thread nD τ).loc main_v1_0 ↦{fullShare} g3)
    ∗ ((c : Thread nD τ).loc main_v1_1 ↦{fullShare} g4) ∗ ((c : Thread nD τ).loc main_v1_2 ↦{fullShare} g5)) := by
  unfold RDat.arrays
  refine (bigSep_W0 _).trans ?_
  have h : ∀ w : Fin 6, ((cfgB a).win w).arr.view.set = Finset.univ := fun w => (arr_whole0 w).set_eq_univ
  rw [h 0, h 1, h 2, h 3, h 4, h 5]
  rfl

/-- And as it gives them back. -/
theorem arraysAt0_elim : ((rdat0 a fx fw fb g3 g4 g5 O b c).arraysAt (cfgB a).N : sProp 𝕄)
    ⊢ iprop(((c : Thread nD τ).loc main_arg0 ↦{fullShare} fx) ∗ ((c : Thread nD τ).loc main_arg1 ↦{fullShare} fw)
    ∗ ((c : Thread nD τ).loc main_v0 ↦{fullShare} fb) ∗ ((c : Thread nD τ).loc main_v1_0 ↦{fullShare} (scoresOf fx fw fb))
    ∗ ((c : Thread nD τ).loc main_v1_1 ↦{fullShare} (posOf (ohOf fx fw fb))) ∗ ((c : Thread nD τ).loc main_v1_2 ↦{fullShare} (metaOf (ohOf fx fw fb)))) := by
  unfold RDat.arraysAt
  rw [show ∀ Φ : Fin (cfgB a).W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from fun Φ => bigSep_W0 Φ]
  have h : ∀ w : Fin 6, ((cfgB a).win w).arr.view.set = Finset.univ := fun w => (arr_whole0 w).set_eq_univ
  rw [h 0, h 1, h 2, h 3, h 4, h 5]
  iintro ⟨⟨%G0, %h0, H0⟩, ⟨%G1, %h1, H1⟩, ⟨%G2, %h2, H2⟩, ⟨%G3, %h3, H3⟩, ⟨%G4, %h4, H4⟩, ⟨%G5, %h5, H5⟩⟩
  have e0 : G0 = fx := by rw [(rdat0 a fx fw fb g3 g4 g5 O b c).ArrAt_in 0 rfl] at h0; exact h0
  have e1 : G1 = fw := by rw [(rdat0 a fx fw fb g3 g4 g5 O b c).ArrAt_in 1 rfl] at h1; exact h1
  have e2 : G2 = fb := by rw [(rdat0 a fx fw fb g3 g4 g5 O b c).ArrAt_in 2 rfl] at h2; exact h2
  have e3 : G3 = scoresOf fx fw fb := scores_of a fx fw fb g3 g4 g5 O b c G3 h3
  have e4 : G4 = posOf (ohOf fx fw fb) := slots_of a fx fw fb g3 g4 g5 O b c G4 h4
  have e5 : G5 = metaOf (ohOf fx fw fb) := metas_of a fx fw fb g3 g4 g5 O b c G5 h5
  clear h0 h1 h2 h3 h4 h5
  subst G0 G1 G2 G3 G4 G5
  isplitl [H0]; · iexact H0
  isplitl [H1]; · iexact H1
  isplitl [H2]; · iexact H2
  isplitl [H3]; · iexact H3
  isplitl [H4]; · iexact H4
  iexact H5

/-- The invariant at the last point gives back the scoped buffers. -/
theorem hout0 : ((rdat0 a fx fw fb g3 g4 g5 O b c).Φ (Fin.last (cfgB a).N) : sProp 𝕄) ⊢ iprop(BI.emp ∗ BI.emp ∗ Pipeline.scopedRest (pcfgs (F := F) 0).spec c) := by
  rw [show (Pipeline.scopedRest (pcfgs (F := F) 0).spec c : sProp 𝕄) = _ from scopedRest0_eq c]
  refine BIBase.Entails.trans (scr_out a fx fw fb g3 g4 g5 O b c (Fin.last (cfgB a).N)) ?_
  unfold scrB
  iintro H
  isplitr; · iempintro
  isplitr; · iempintro
  iexact H

set_option maxHeartbeats 2000000 in
/-- The region, from its state before to its state after. -/
def regionSeg0 (hO : ∀ g, O g none = 0) :
    RDat.RegionSeg (pcfgs (F := F)) a (rdatsB a fx fw fb g3 g4 g5 O b r1) none (defs₀ (F := F)) 𝒱₀ (K (F := F)).L (K (F := F)).lev 0 where
  win := winFacts0.to₀
  block_pos := block_pos0
  stage_whole := stage_whole0
  K := PEmpty
  osem := fun k => k.elim
  ho := Pipeline.OwnSemFacts.none _
  hbody := fun c => body_obligation0 a fx fw fb g3 g4 g5 O b c
  hwaits := fun c => hO_waits0 a fx fw fb g3 g4 g5 O b c r1 hO
  pre := fun c => sPre fx fw fb g3 g4 g5 O b c
  post := fun c => sPost fx fw fb O b c
  X := fun _ => BI.emp
  Y := fun _ => BI.emp
  Z := fun _ => BI.emp
  hentry := fun c => by
    rw [prefHeld0_eq a c]
    refine BIBase.Entails.trans ?_ BI.fupd_intro
    refine BIBase.Entails.trans ?_ (sep_mono (show _ ⊢ ((rdat0 a fx fw fb g3 g4 g5 O b c).arrays (rdat0 a fx fw fb g3 g4 g5 O b c).A : sProp 𝕄) by rw [arrays0_eq a fx fw fb g3 g4 g5 O b c]) .rfl)
    unfold sPre
    iintro ⟨⟨H0, H1, H2, H3, H4, H5, ⟨%W, %hW, HO⟩⟩, -, -⟩
    isplitl [H0 H1 H2 H3 H4 H5]
    · isplitl [H0]; · iexact H0
      isplitl [H1]; · iexact H1
      isplitl [H2]; · iexact H2
      isplitl [H3]; · iexact H3
      isplitl [H4]; · iexact H4
      iexact H5
    isplitr; · iempintro
    isplitl [HO]
    · iexists W; isplitr
      · ipureintro; exact fun p hp => Or.inl (hW p hp)
      iexact HO
    isplitr <;> iempintro
  hin := fun c => by
    rw [prefHeld0_eq a c]
    refine BIBase.Entails.trans (sep_mono .rfl (sep_mono .rfl (rest0_in c))) ?_
    show _ ⊢ (iprop((∃ d, ⌜∀ y : S4096x8.Idx, (y 0).val < 512 * 0 → d y = ohOf fx fw fb y⌝ ∗ owns (c : Thread nD τ) scM fullShare d) ∗ restB c) : sProp 𝕄)
    iintro ⟨-, -, ⟨%f, HF⟩, HS⟩
    isplitl [HF]
    · iexists f; isplitr; · ipureintro; exact fun y h => absurd h (by omega)
      rw [owns_whole]; iexact HF
    iexact HS
  hout := fun c => by
    rw [Pipeline.ownSems0_none]
    exact hout0 a fx fw fb g3 g4 g5 O b c
  hexit := fun c => by
    refine BIBase.Entails.trans (sep_mono (arraysAt0_elim a fx fw fb g3 g4 g5 O b c) .rfl) ?_
    refine BIBase.Entails.trans ?_ BI.fupd_intro
    unfold sPost
    iintro ⟨⟨H0, H1, H2, H3, H4, H5⟩, ⟨%W, %hW, HO⟩, -, -⟩
    isplitl [H0]; · iexact H0
    isplitl [H1]; · iexact H1
    isplitl [H2]; · iexact H2
    isplitl [H3]; · iexact H3
    isplitl [H4]; · iexact H4
    isplitl [H5]; · iexact H5
    iexists W; isplitr
    · ipureintro
      intro p hp
      rcases hW hp with h | ⟨w, s, rfl⟩
      · exact h
      · exact Nat.zero_le _
    iexact HO

/-- The region's call, written below the SparseCore calls and lifted. -/
theorem region0_prog : (Prog.lift (.customCall (SparseCore.inner (Pipeline.entry 0)) ()) : Prog (TpuEff nD τ sig (Elt F) (SparseCore.Sig (ΛP (F := F)) 2) .tc) PUnit)
    = SparseCore.liftProg (Q := 2) (.op (.customCall (Pipeline.entry 0) ()) fun _ => .ret ⟨⟩ : Prog (TpuEff nD τ sig (Elt F) (ΛP (F := F)) .tc) PUnit) := rfl

include r1 in
/-- The region's call in the program with the SparseCore calls. -/
theorem region0_wp (EP : Emb UP 𝕄) [EP.LandsIn (upEmb : UEmb _ 𝕄)] (hO : ∀ g, O g none = 0) (Q : PUnit → sProp 𝕄) :
    iprop(boundary (c.tc : Thread nD τ) ∗ sPre fx fw fb g3 g4 g5 O b c ∗ levAts (K (F := F)).L (K (F := F)).lev
        ∗ Pipeline.cellsGhost (Pipeline.pin (pcfgs (F := F)) a) EP 0 c ∗ Pipeline.toksInit (Pipeline.pin (pcfgs (F := F)) a) EP 0 c
        ∗ (iprop(boundary (c.tc : Thread nD τ) ∗ sPost fx fw fb O b c) -∗ Q ⟨⟩))
      ⊢ wp frame (wpE ((K (F := F)).defs D) 𝒱 (T c) none) Set.univ (Prog.lift (.customCall (SparseCore.inner (Pipeline.entry 0)) ())) Q := by
  rw [region0_prog]
  refine BIBase.Entails.trans ?_ ((K (F := F)).wp_liftProg D 𝒱 (T c) Set.univ none _ Q)
  have h := RDat.RegionSeg.wp (pcfgs (F := F)) a (rdatsB a fx fw fb g3 g4 g5 O b r1) none (cellOf_inj a) EP (defs₀ (F := F)) 𝒱₀
    (K (F := F)).L (K (F := F)).lev (regionSeg0 a fx fw fb g3 g4 g5 O b r1 hO) c none (fun u hu => by cases hu) (fun _ => Prog.ret ⟨⟩) Q
  rw [show (regionSeg0 a fx fw fb g3 g4 g5 O b r1 hO).pre c = sPre fx fw fb g3 g4 g5 O b c from rfl, show (regionSeg0 a fx fw fb g3 g4 g5 O b r1 hO).post c = sPost fx fw fb O b c from rfl] at h
  refine BIBase.Entails.trans ?_ h
  iintro ⟨HB, HP, Hlv, HG, HT, HQ⟩
  isplitl [HQ]
  · iintro H
    rw [wp_ret]
    imodintro
    iapply HQ; iexact H
  isplitl [HB]; · iexact HB
  isplitl [HP]; · iexact HP
  isplitl [Hlv]; · iexact Hlv
  isplitl [HG]; · iexact HG
  iexact HT

end Data0

end Cert.KernelIdeal.Run

end
-- ==== Proof.WholeData.lean ====
/-
  The contents of the whole kernel's arrays between its calls, as functions of the launch memory: the four slabs of
  the tokens' rows, the rows by slot, the table of experts, the products by slot and the result; and what the proof asks
  of the launch memory.
-/
module

public import proofs.«01_k».proof.Proof.WholeRouteRegion

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.ShloMosaic.Pipeline (Cfg Window)

variable {F : FTy → Type} [FloatOps F]

/-! ## The host's operations, as functions of the arrays -/

/-- The first quarter of every token's row, as two lines of 128. -/
def slab0 (fx : S4096x1024.Idx → Elt F .f32) : S4096x2x128.Idx → Elt F .f32 :=
  shapeCast S4096x2x128 (extractStridedSlice S4096x256 ![0, 0] fx slices_S4096x1024_S4096x256_0_0) shapeCasts_S4096x256_S4096x2x128
/-- The second quarter. -/
def slab1 (fx : S4096x1024.Idx → Elt F .f32) : S4096x2x128.Idx → Elt F .f32 :=
  shapeCast S4096x2x128 (extractStridedSlice S4096x256 ![0, 256] fx slices_S4096x1024_S4096x256_0_256) shapeCasts_S4096x256_S4096x2x128
/-- The third quarter. -/
def slab2 (fx : S4096x1024.Idx → Elt F .f32) : S4096x2x128.Idx → Elt F .f32 :=
  shapeCast S4096x2x128 (extractStridedSlice S4096x256 ![0, 512] fx slices_S4096x1024_S4096x256_0_512) shapeCasts_S4096x256_S4096x2x128
/-- The last quarter. -/
def slab3 (fx : S4096x1024.Idx → Elt F .f32) : S4096x2x128.Idx → Elt F .f32 :=
  shapeCast S4096x2x128 (extractStridedSlice S4096x256 ![0, 768] fx slices_S4096x1024_S4096x256_0_768) shapeCasts_S4096x256_S4096x2x128

/-- Four scattered slabs side by side: the rows by slot. -/
def joinRows (t0 t1 t2 t3 : S6144x2x128.Idx → Elt F .f32) : S6144x1024.Idx → Elt F .f32 :=
  concatenate S6144x1024 1 [⟨S6144x256, shapeCast S6144x256 t0 shapeCasts_S6144x2x128_S6144x256⟩, ⟨S6144x256, shapeCast S6144x256 t1 shapeCasts_S6144x2x128_S6144x256⟩,
    ⟨S6144x256, shapeCast S6144x256 t2 shapeCasts_S6144x2x128_S6144x256⟩, ⟨S6144x256, shapeCast S6144x256 t3 shapeCasts_S6144x2x128_S6144x256⟩]
    concatenates_S6144x256_S6144x256_S6144x256_S6144x256_S6144x1024_d1

/-- The groups' experts, the first 24 of the table. -/
def tblOf (fm : S32.Idx → Elt F .i32) : S24.Idx → Elt F .i32 := extractStridedSlice S24 ![0] fm slices_S32_S24_0
/-- The biases, with an axis of one. -/
def biasOf (fb : S8x256.Idx → Elt F .f32) : S8x1x256.Idx → Elt F .f32 := shapeCast S8x1x256 fb shapeCasts_S8x256_S8x1x256
/-- The products by slot, as two lines of 128. -/
def linesOf (G : S6144x256.Idx → Elt F .f32) : S6144x2x128.Idx → Elt F .f32 := shapeCast S6144x2x128 G shapeCasts_S6144x256_S6144x2x128
/-- The gathered lines, as rows of 256. -/
def rowsOf (f : S4096x2x128.Idx → Elt F .f32) : S4096x256.Idx → Elt F .f32 := shapeCast S4096x256 f shapeCasts_S4096x2x128_S4096x256

/-! ## What the launch memory holds -/

variable (m : (ℓ : Loc nD τ sig) → Buf (Elt F) ℓ) (d : Dev nD)

/-- The tokens. -/
abbrev aX : S4096x1024.Idx → Elt F .f32 := m ((d.tc : Thread nD τ).loc main_arg0)
/-- The routing's bias, with an axis of one. -/
def aC : S1x8.Idx → Elt F .f32 := shapeCast S1x8 (m ((d.tc : Thread nD τ).loc main_arg2) : S8.Idx → Elt F .f32) shapeCasts_S8_S1x8
/-- The scores. -/
def aS : S4096x8.Idx → Elt F .f32 := scoresOf (m ((d.tc : Thread nD τ).loc main_arg0)) (m ((d.tc : Thread nD τ).loc main_arg1)) (aC m d)
/-- The tokens' one-hot rows. -/
def aH : S4096x8.Idx → Elt F .f32 := ohOf (m ((d.tc : Thread nD τ).loc main_arg0)) (m ((d.tc : Thread nD τ).loc main_arg1)) (aC m d)
/-- The table of slots. -/
def aP : S32x2x64.Idx → Elt F .i32 := shapeCast S32x2x64 (posOf (aH m d) : S4096x1.Idx → Elt F .i32) shapeCasts_S4096x1_S32x2x64
/-- The table of the groups' experts. -/
def aM : S32.Idx → Elt F .i32 := shapeCast S32 (metaOf (aH m d) : S32x1.Idx → Elt F .i32) shapeCasts_S32x1_S32
/-- The experts' matrices. -/
abbrev aW : S8x1024x256.Idx → Elt F .f32 := m ((d.tc : Thread nD τ).loc main_arg3)
/-- The experts' biases. -/
abbrev aB : S8x256.Idx → Elt F .f32 := m ((d.tc : Thread nD τ).loc main_arg4)

/-- The group's place in the table of experts. -/
def gIx (g : ℕ) : S32.Idx := fun | 0 => (⟨g % 32, Nat.mod_lt _ (by decide)⟩ : Fin 32)

/-- What the proof asks of the launch memory: slots in range and pairwise distinct, experts of the groups not negative,
    the expert of the group of every named slot below eight. -/
structure PreOK : Prop where
  slot : ∀ (d : Dev nD) j, (aP m d j : BitVec 32).toNat < 6144
  dist : ∀ d : Dev nD, Function.Injective fun j => (aP m d j : BitVec 32).toNat
  nneg : ∀ (d : Dev nD) j, (aM m d j : BitVec 32).toNat < 2 ^ 31
  low : ∀ (d : Dev nD) j, (aM m d (gIx ((aP m d j : BitVec 32).toNat / 256)) : BitVec 32).toNat < 8

/-! ## The table of experts as the region reads it -/

/-- The table's word for the group at `i` is the launch table's at the group's number. -/
theorem tw_tbl (fm : S32.Idx → Elt F .i32) (i : grid2.Coords) : tw (tblOf fm) i = fm (gIx (i 0).val) := by
  have hi : (i 0).val < 24 := (i 0).isLt
  show fm _ = _
  congr 1
  funext a
  match a with
  | 0 =>
    apply Fin.ext
    have e : ∀ x : S1.Idx, (x 0).val = 0 := fun x => by
      have hx : (x 0).val < 1 := (x 0).isLt
      omega
    have e1 : (k2_off1 i) 0 = (i 0).val := congrFun (k2_off1_eq i) 0
    show 0 + ((k2_off1 i) 0 + 1 * (Shape.Idx.first (s := S1) _ 0).val) = (i 0).val % 32
    rw [e, e1]
    omega

/-- A word that is not negative is below seven as a signed word when it is. -/
theorem slt7 (v : BitVec 32) (h : v.toNat < 2 ^ 31) : v.slt 7#32 = decide (v.toNat < 7) := by
  rw [BitVec.slt_eq_decide]
  refine decide_eq_decide.mpr ?_
  simp only [BitVec.toInt_eq_toNat_cond, BitVec.toNat_ofNat, Nat.reducePow, Nat.reduceMod]
  omega
/-- The lesser of a word that is not negative and seven is at most seven. -/
theorem min7_le (v : BitVec 32) (h : v.toNat < 2 ^ 31) : (Scalar.minsi v 7#32).toNat ≤ 7 := by
  unfold Scalar.minsi IntOp.minsi
  rw [slt7 v h]
  by_cases hs : v.toNat < 7
  · rw [decide_eq_true hs]; exact hs.le
  · rw [decide_eq_false hs]; exact le_rfl
/-- And below eight it is the word itself. -/
theorem min7_eq (v : BitVec 32) (h : v.toNat < 8) : (Scalar.minsi v 7#32).toNat = v.toNat := by
  unfold Scalar.minsi IntOp.minsi
  rw [slt7 v (by omega)]
  by_cases hs : v.toNat < 7
  · rw [decide_eq_true hs]; rfl
  · rw [decide_eq_false hs]; show 7 = v.toNat; omega

/-- Below eight the body's condition holds. -/
theorem cond_of_lt (v : BitVec 32) (h : v.toNat < 8) : k2_cond1 v = 1#1 := by
  have hs : v.slt 8#32 = true := by
    simp only [BitVec.slt_eq_decide, decide_eq_true_eq, BitVec.toInt_eq_toNat_cond, BitVec.toNat_ofNat, Nat.reducePow, Nat.reduceMod]
    omega
  simp only [k2_cond1, Scalar.cmpi, IntOp.cmpi, hs]
  decide

/-- The block of the matrices at a point, from the table. -/
theorem tr1 (pf : pre2.Contents (Elt F)) (i : grid2.Coords) :
    cc2_transform_1 k2_off1_inb numel1_S1 pf i = ![(Scalar.minsi (tw (pf 0) i) 7#32).toNat, 0, 0] := rfl
/-- And of the biases. -/
theorem tr2 (pf : pre2.Contents (Elt F)) (i : grid2.Coords) :
    cc2_transform_2 k2_off1_inb numel1_S1 pf i = ![(Scalar.minsi (tw (pf 0) i) 7#32).toNat, 0, 0] := rfl

/-- The table as the pipeline's contents. -/
def pfOf (fm : S32.Idx → Elt F .i32) : pre2.Contents (Elt F) := fun | 0 => tblOf fm | ⟨_ + 1, h⟩ => absurd h (Nat.not_lt.2 (Nat.le_add_left _ _))

/-- At a table without negative words every block lies in its array. -/
theorem ok_of_nneg (fm : S32.Idx → Elt F .i32) (h : ∀ j, (fm j : BitVec 32).toNat < 2 ^ 31) : ok2 (pfOf fm) := by
  have hm : ∀ i : grid2.Coords, (Scalar.minsi (tw ((pfOf fm) 0) i) 7#32).toNat ≤ 7 := fun i =>
    min7_le _ (by rw [show (pfOf fm) 0 = tblOf fm from rfl, tw_tbl]; exact h _)
  refine ⟨fun i => ⟨fun a => ?_, Or.inl rfl⟩, fun i => ⟨fun a => ?_, Or.inl rfl⟩⟩
  · rw [tr1]
    have := hm i
    generalize (Scalar.minsi (tw ((pfOf fm) 0) i) 7#32).toNat = n at this
    match a with
    | 0 => show (n + 1) * 1 ≤ 8; omega
    | 1 => show (0 + 1) * 1024 ≤ 1024; omega
    | 2 => show (0 + 1) * 256 ≤ 256; omega
  · rw [tr2]
    have := hm i
    generalize (Scalar.minsi (tw ((pfOf fm) 0) i) 7#32).toNat = n at this
    match a with
    | 0 => show (n + 1) * 1 ≤ 8; omega
    | 1 => show (0 + 1) * 1 ≤ 1; omega
    | 2 => show (0 + 1) * 256 ≤ 256; omega

/-- The table at launch, admissible. -/
def adm (h : PreOK m) : (p : Fin 2) → (pcfgs (F := F) p).Adm := fun | 0 => cfg0.toPCfg_adm | 1 => ⟨pfOf (aM m 0), ok_of_nneg _ (h.nneg 0)⟩ | ⟨_ + 2, h⟩ => absurd h (Nat.not_lt.2 (Nat.le_add_left _ _))

/-! ## The products by slot -/

section Products
variable (a : (p : Fin 2) → (pcfgs (F := F) p).Adm)
variable (fx : S6144x1024.Idx → Elt F .f32) (fW : S8x1024x256.Idx → Elt F .f32) (fb : S8x1x256.Idx → Elt F .f32)

/-- The group of a slot, as a point of the region's grid. -/
def grpOf (r : Fin 6144) : Fin (cfgA a).N := ⟨r.val / 256, by
  show r.val / 256 < grid2.N
  rw [N_2]; omega⟩

/-- The products at every slot, each group's by its expert's matrix and bias. -/
def prods : S6144x256.Idx → Elt F .f32 := fun y =>
  k2_pay1 (bx a fx (grpOf a (y 0))) (bW a fW (grpOf a (y 0))) (bb a fb (grpOf a (y 0)))
    (fun | 0 => (⟨(y 0).val % 256, Nat.mod_lt _ (by decide)⟩ : Fin 256) | 1 => y 1)

/-- What the region leaves is the products at every slot of a group whose expert is below eight. -/
theorem prods_of (G : S6144x256.Idx → Elt F .f32) (hG : GBlocks a fx fW fb G) (y : S6144x256.Idx)
    (hc : k2_cond1 (tw (pfA a) (grid2.coords (grpOf a (y 0)))) = 1#1) : G y = prods a fx fW fb y := by
  have e := hG (grpOf a (y 0)) hc (fun | 0 => (⟨(y 0).val % 256, Nat.mod_lt _ (by decide)⟩ : Fin 256) | 1 => y 1)
  refine Eq.trans (congrArg G ?_) e
  funext b
  match b with
  | 0 =>
    apply Fin.ext
    refine Eq.trans ?_ (emb3_0 a _ _).symm
    show (y 0).val = 256 * ((y 0).val / 256) + (y 0).val % 256
    omega
  | 1 =>
    apply Fin.ext
    exact (emb3_1 a (grpOf a (y 0)) (fun | 0 => (⟨(y 0).val % 256, Nat.mod_lt _ (by decide)⟩ : Fin 256) | 1 => y 1)).symm

end Products

variable (h : PreOK m)

/-- The rows by slot, after the scatter. -/
def rowsAt : S6144x1024.Idx → Elt F .f32 :=
  joinRows (scattered (aP m d) (slab0 (aX m d)) (m ((d.tc : Thread nD τ).loc main_v12_0)))
    (scattered (aP m d) (slab1 (aX m d)) (m ((d.tc : Thread nD τ).loc main_v12_1)))
    (scattered (aP m d) (slab2 (aX m d)) (m ((d.tc : Thread nD τ).loc main_v12_2)))
    (scattered (aP m d) (slab3 (aX m d)) (m ((d.tc : Thread nD τ).loc main_v12_3)))
/-- The products by slot. -/
def prodsAt : S6144x256.Idx → Elt F .f32 := prods (adm m h) (rowsAt m d) (aW m d) (biasOf (aB m d))
/-- The gathered lines. -/
def gathAt : S4096x2x128.Idx → Elt F .f32 := gathered (aP m d) (linesOf (prodsAt m d h))
/-- The result. -/
def outAt : S4096x256.Idx → Elt F .f32 := rowsOf (gathAt m d h)

/-- The coordinates of a point of the one-axis grid. -/
theorem coords1 : ∀ t : Fin grid2.N, ((grid2.coords t) 0).val = t.val := by decide +kernel

/-- A slot's lines: line `b`, lane `l` is column `128 b + l`. -/
theorem linesOf_apply (G : S6144x256.Idx → Elt F .f32) (y : S6144x2x128.Idx) :
    linesOf G y = G (fun | 0 => y 0 | 1 => (⟨128 * (y 1).val + (y 2).val, by
      have h1 : (y 1).val < 2 := (y 1).isLt
      have h2 : (y 2).val < 128 := (y 2).isLt
      show _ < 256; omega⟩ : Fin 256)) := by
  show G _ = G _
  congr 1
  refine Shape.reshapeEquiv_eq_of_rowMajor _ ?_
  rw [Shape.rowMajor_val_three, Shape.rowMajor_val_two]
  show (y 0).val * 256 + (128 * (y 1).val + (y 2).val) = ((y 0).val * 2 + (y 1).val) * 128 + (y 2).val
  omega

/-- What the second SparseCore call gathers does not depend on what the region left at the other groups. -/
theorem gathered_of (G : S6144x256.Idx → Elt F .f32) (hG : GBlocks (adm m h) (rowsAt m d) (aW m d) (biasOf (aB m d)) G) :
    gathered (aP m d) (linesOf G) = gathAt m d h := by
  funext y
  unfold gathAt gathered
  rw [linesOf_apply, linesOf_apply]
  refine prods_of _ _ _ _ G hG _ ?_
  refine cond_of_lt _ ?_
  rw [show pfA (adm m h) = tblOf (aM m 0) from rfl, tw_tbl, coords1]
  have h1 := h.low 0 (ent (y 0))
  have h2 := h.slot 0 (ent (y 0))
  have h3 : d = 0 := Subsingleton.elim _ _
  subst h3
  have h4 : (slotOf (aP m 0) (y 0)).val = (aP m 0 (ent (y 0)) : BitVec 32).toNat := Nat.mod_eq_of_lt h2
  show (aM m 0 (gIx ((slotOf (aP m 0) (y 0)).val / 256)) : BitVec 32).toNat < 8
  rw [h4]
  exact h1

end Cert.KernelIdeal.Run

end
-- ==== Proof.WholeTile.lean ====
/-
  What the two SparseCore calls' handshakes carry, and the calls' tasks proved against it: each task's run with its own
  buffers and semaphores taken from the subcore's.
-/
module

public import proofs.«01_k».proof.Proof.WholeSplit
public import proofs.«01_k».proof.Proof.WholeData

@[expose] public section

set_option maxRecDepth 16384

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (h : PreOK m)

/-- The launch configuration is well formed. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 2) (Elt F) ℕ UU ℕ) := embL

/-! ## What the handshakes carry -/

/-- The contents of a TensorCore's buffer at launch. -/
abbrev mT (b : Ref sig .tc) : Buf (Elt F) ((T d : Thread nD τ).loc b) := m ((T d : Thread nD τ).loc b)

/-- What a task of the first call takes: its share of the slots and of the four slabs, and its rows of the four targets. -/
def go0 (c : Fin 2) (s : Fin 16) : sProp 𝕄 := iprop(
  ((T d : Thread nD τ).loc main_v2 ↦{qs c s} (aP m d : Buf (Elt F) ((T d : Thread nD τ).loc main_v2)))
  ∗ ((T d : Thread nD τ).loc main_v5 ↦{qs c s} (slab0 (aX m d) : Buf (Elt F) ((T d : Thread nD τ).loc main_v5)))
  ∗ ((T d : Thread nD τ).loc main_v7 ↦{qs c s} (slab1 (aX m d) : Buf (Elt F) ((T d : Thread nD τ).loc main_v7)))
  ∗ ((T d : Thread nD τ).loc main_v9 ↦{qs c s} (slab2 (aX m d) : Buf (Elt F) ((T d : Thread nD τ).loc main_v9)))
  ∗ ((T d : Thread nD τ).loc main_v11 ↦{qs c s} (slab3 (aX m d) : Buf (Elt F) ((T d : Thread nD τ).loc main_v11)))
  ∗ ((T d : Thread nD τ).loc main_v12_0 ↦[sRows (Memref.whole main_v12_0_scv) (aP m d) c s]{fullShare} mT m d main_v12_0)
  ∗ ((T d : Thread nD τ).loc main_v12_1 ↦[sRows (Memref.whole main_v12_1_scv) (aP m d) c s]{fullShare} mT m d main_v12_1)
  ∗ ((T d : Thread nD τ).loc main_v12_2 ↦[sRows (Memref.whole main_v12_2_scv) (aP m d) c s]{fullShare} mT m d main_v12_2)
  ∗ ((T d : Thread nD τ).loc main_v12_3 ↦[sRows (Memref.whole main_v12_3_scv) (aP m d) c s]{fullShare} mT m d main_v12_3))

/-- The four scattered arrays. -/
abbrev sc0 : Buf (Elt F) ((T d : Thread nD τ).loc main_v12_0) := scattered (aP m d) (slab0 (aX m d)) (mT m d main_v12_0)
abbrev sc1 : Buf (Elt F) ((T d : Thread nD τ).loc main_v12_1) := scattered (aP m d) (slab1 (aX m d)) (mT m d main_v12_1)
abbrev sc2 : Buf (Elt F) ((T d : Thread nD τ).loc main_v12_2) := scattered (aP m d) (slab2 (aX m d)) (mT m d main_v12_2)
abbrev sc3 : Buf (Elt F) ((T d : Thread nD τ).loc main_v12_3) := scattered (aP m d) (slab3 (aX m d)) (mT m d main_v12_3)

/-- What it brings back: its share of the slots, and its rows of the targets, scattered to. -/
def td0 (c : Fin 2) (s : Fin 16) : sProp 𝕄 := iprop(
  ((T d : Thread nD τ).loc main_v2 ↦{qs c s} (aP m d : Buf (Elt F) ((T d : Thread nD τ).loc main_v2)))
  ∗ ((T d : Thread nD τ).loc main_v12_0 ↦[sRows (Memref.whole main_v12_0_scv) (aP m d) c s]{fullShare} sc0 m d)
  ∗ ((T d : Thread nD τ).loc main_v12_1 ↦[sRows (Memref.whole main_v12_1_scv) (aP m d) c s]{fullShare} sc1 m d)
  ∗ ((T d : Thread nD τ).loc main_v12_2 ↦[sRows (Memref.whole main_v12_2_scv) (aP m d) c s]{fullShare} sc2 m d)
  ∗ ((T d : Thread nD τ).loc main_v12_3 ↦[sRows (Memref.whole main_v12_3_scv) (aP m d) c s]{fullShare} sc3 m d))

/-- What a task of the last call takes: its share of the slots and of the products by slot, and its two windows of the result. -/
def go1 (c : Fin 2) (s : Fin 16) : sProp 𝕄 := iprop(∃ fy : Buf (Elt F) ((T d : Thread nD τ).loc main_v21), ⌜gathered (aP m d) fy = gathAt m d h⌝
  ∗ ((T d : Thread nD τ).loc main_v2 ↦{qs c s} (aP m d : Buf (Elt F) ((T d : Thread nD τ).loc main_v2)))
  ∗ ((T d : Thread nD τ).loc main_v21 ↦{qs c s} fy)
  ∗ ((T d : Thread nD τ).loc main_v22 ↦[gW0 c s]{fullShare} mT m d main_v22)
  ∗ ((T d : Thread nD τ).loc main_v22 ↦[gW1 c s]{fullShare} mT m d main_v22))

/-- What it brings back: its share of the slots, and its windows gathered. -/
def td1 (c : Fin 2) (s : Fin 16) : sProp 𝕄 := iprop(
  ((T d : Thread nD τ).loc main_v2 ↦{qs c s} (aP m d : Buf (Elt F) ((T d : Thread nD τ).loc main_v2)))
  ∗ ((T d : Thread nD τ).loc main_v22 ↦[gW0 c s]{fullShare} (gathAt m d h : Buf (Elt F) ((T d : Thread nD τ).loc main_v22)))
  ∗ ((T d : Thread nD τ).loc main_v22 ↦[gW1 c s]{fullShare} (gathAt m d h : Buf (Elt F) ((T d : Thread nD τ).loc main_v22))))

instance go0_storable (c : Fin 2) (s : Fin 16) : BI.Storable (upEmb : UEmb _ 𝕄) (go0 m d c s) := by unfold go0; infer_instance
instance td0_storable (c : Fin 2) (s : Fin 16) : BI.Storable (upEmb : UEmb _ 𝕄) (td0 m d c s) := by unfold td0; infer_instance
instance go1_storable (c : Fin 2) (s : Fin 16) : BI.Storable (upEmb : UEmb _ 𝕄) (go1 m d h c s) := by unfold go1; infer_instance
instance td1_storable (c : Fin 2) (s : Fin 16) : BI.Storable (upEmb : UEmb _ 𝕄) (td1 m d h c s) := by unfold td1; infer_instance

/-- The scatter's cores. -/
theorem nCore_0 : (K (F := F)).nCore 0 = 2 := rfl
/-- The gather's cores. -/
theorem nCore_1 : (K (F := F)).nCore 1 = 2 := rfl
/-- The scatter's subcores. -/
theorem nSub_0 : (K (F := F)).nSub 0 = 16 := rfl
/-- The gather's subcores. -/
theorem nSub_1 : (K (F := F)).nSub 1 = 16 := rfl

/-- The two calls' payloads: a SparseCore takes and brings back what its sixteen tasks do. -/
def P : (K (F := F)).Pay (nD := nD) (Val := Elt F) (Name := ℕ) (U := UU) where
  st := fun q d c => match q with
    | 0 => bigSep Finset.univ fun s : Fin 16 => go0 m d (Fin.cast nCore_0 c) s
    | 1 => bigSep Finset.univ fun s : Fin 16 => go1 m d h (Fin.cast nCore_1 c) s
  dn := fun q d c => match q with
    | 0 => bigSep Finset.univ fun s : Fin 16 => td0 m d (Fin.cast nCore_0 c) s
    | 1 => bigSep Finset.univ fun s : Fin 16 => td1 m d h (Fin.cast nCore_1 c) s
  go := fun q d c i => match q with
    | 0 => go0 m d (Fin.cast nCore_0 c) (Fin.cast nSub_0 i)
    | 1 => go1 m d h (Fin.cast nCore_1 c) (Fin.cast nSub_1 i)
  td := fun q d c i => match q with
    | 0 => td0 m d (Fin.cast nCore_0 c) (Fin.cast nSub_0 i)
    | 1 => td1 m d h (Fin.cast nCore_1 c) (Fin.cast nSub_1 i)
  x := fun _ _ => iprop(emp)

instance P_storable : (P (F := F) m h).IsStorable where
  st q d c := match q with
    | 0 => (inferInstance : BI.Storable (upEmb : UEmb _ 𝕄) (bigSep Finset.univ fun s : Fin 16 => go0 m d (Fin.cast nCore_0 c) s))
    | 1 => (inferInstance : BI.Storable (upEmb : UEmb _ 𝕄) (bigSep Finset.univ fun s : Fin 16 => go1 m d h (Fin.cast nCore_1 c) s))
  dn q d c := match q with
    | 0 => (inferInstance : BI.Storable (upEmb : UEmb _ 𝕄) (bigSep Finset.univ fun s : Fin 16 => td0 m d (Fin.cast nCore_0 c) s))
    | 1 => (inferInstance : BI.Storable (upEmb : UEmb _ 𝕄) (bigSep Finset.univ fun s : Fin 16 => td1 m d h (Fin.cast nCore_1 c) s))
  go q d c i := match q with
    | 0 => go0_storable m d (Fin.cast nCore_0 c) (Fin.cast nSub_0 i)
    | 1 => go1_storable m d h (Fin.cast nCore_1 c) (Fin.cast nSub_1 i)
  td q d c i := match q with
    | 0 => td0_storable m d (Fin.cast nCore_0 c) (Fin.cast nSub_0 i)
    | 1 => td1_storable m d h (Fin.cast nCore_1 c) (Fin.cast nSub_1 i)

/-! ## A subcore's own semaphores and buffers -/

/-- Listed semaphores of a thread's own are taken out of all of them. -/
theorem sems_peel (thr : Thread nD τ) (l : List (SemLoc sig)) (hn : l.Nodup) (hs : ∀ g ∈ l, g.isScoped thr.2.kind = true) :
    (ownSems0 thr : sProp 𝕄) = iprop(bigSepL l (fun g => semVal ((thr, g) : GSem nD τ sig) 0)
      ∗ bigSep (ownCells thr \ (l.map fun g => ((thr, g) : GSem nD τ sig)).toFinset) fun g => semVal g 0) := by
  have hn' : (l.map fun g => ((thr, g) : GSem nD τ sig)).Nodup := hn.map fun _ _ e => congrArg Prod.snd e
  unfold SparseCore.Cfg.ownSems0
  rw [SparseCore.bigSep_sdiff_split' (t := (l.map fun g => ((thr, g) : GSem nD τ sig)).toFinset), bigSep_eq_bigSepL _ hn']
  · congr 1
    clear hn hs hn'
    induction l with
    | nil => rfl
    | cons a l ih => rw [List.map_cons, bigSepL_cons, bigSepL_cons, ih]
  · intro g hg
    obtain ⟨a, ha, rfl⟩ := List.mem_map.mp (List.mem_toFinset.mp hg)
    exact mem_ownCells.mpr ⟨rfl, hs a ha⟩

/-- Two buffers of a thread's own are taken out of all of them. -/
theorem bufs_peel (c : Fin τ.nSC) (s : Fin τ.nSub) (b b' : Ref sig .scVector) (hb : ((Proc.scVector c s).devRef b).owner = .proc (Proc.scVector c s))
    (hb' : ((Proc.scVector c s).devRef b').owner = .proc (Proc.scVector c s)) (hne : b' ≠ b) :
    (ownBufs (V d c s) : sProp 𝕄)
      = iprop((∃ f, (V d c s).loc b ↦{fullShare} f) ∗ (∃ f, (V d c s).loc b' ↦{fullShare} f)
          ∗ bigSep (((ownRefs (τ := τ) (.scVector c s)).erase ((Proc.scVector c s).devRef b)).erase ((Proc.scVector c s).devRef b'))
              fun b => iprop(∃ f, ((d, b) : Loc nD τ sig) ↦{fullShare} f)) := by
  unfold SparseCore.Cfg.ownBufs
  refine (SparseCore.bigSep_erase' (SparseCore.Cfg.mem_ownRefs_of_owner (p := Proc.scVector c s) (b := (Proc.scVector c s).devRef b) hb)).trans ?_
  rw [SparseCore.bigSep_erase' (Finset.mem_erase.mpr ⟨fun e => absurd (Proc.devRef_injective _ e) hne,
    SparseCore.Cfg.mem_ownRefs_of_owner (p := Proc.scVector c s) (b := (Proc.scVector c s).devRef b') hb'⟩)]

/-- The first call's semaphores. -/
def semsS : List (SemLoc sig) := [SemLoc.dma cc1_scratch2.sem, SemLoc.dma cc1_scoped0.sem, SemLoc.dma cc1_scoped1.sem, SemLoc.dma cc1_scoped2.sem,
  SemLoc.dma cc1_scoped3.sem, SemLoc.dma cc1_scoped4.sem, SemLoc.dma cc1_scoped5.sem, SemLoc.dma cc1_scoped6.sem, SemLoc.dma cc1_scoped7.sem,
  SemLoc.dma cc1_scoped8.sem, SemLoc.dma cc1_scoped9.sem]
/-- The last call's semaphores. -/
def semsG : List (SemLoc sig) := [SemLoc.dma cc3_scratch2.sem, SemLoc.dma cc3_scoped0.sem, SemLoc.dma cc3_scoped1.sem, SemLoc.dma cc3_scoped2.sem,
  SemLoc.dma cc3_scoped3.sem]

/-- The scatter's counters, one by one. -/
theorem semsS_list (Φ : SemLoc sig → sProp 𝕄) : bigSepL semsS Φ = iprop(Φ (SemLoc.dma cc1_scratch2.sem) ∗ Φ (SemLoc.dma cc1_scoped0.sem) ∗ Φ (SemLoc.dma cc1_scoped1.sem) ∗ Φ (SemLoc.dma cc1_scoped2.sem) ∗ Φ (SemLoc.dma cc1_scoped3.sem) ∗ Φ (SemLoc.dma cc1_scoped4.sem) ∗ Φ (SemLoc.dma cc1_scoped5.sem) ∗ Φ (SemLoc.dma cc1_scoped6.sem) ∗ Φ (SemLoc.dma cc1_scoped7.sem) ∗ Φ (SemLoc.dma cc1_scoped8.sem) ∗ Φ (SemLoc.dma cc1_scoped9.sem)) := rfl
/-- The gather's counters, one by one. -/
theorem semsG_list (Φ : SemLoc sig → sProp 𝕄) : bigSepL semsG Φ = iprop(Φ (SemLoc.dma cc3_scratch2.sem) ∗ Φ (SemLoc.dma cc3_scoped0.sem) ∗ Φ (SemLoc.dma cc3_scoped1.sem) ∗ Φ (SemLoc.dma cc3_scoped2.sem) ∗ Φ (SemLoc.dma cc3_scoped3.sem)) := rfl
/-- The scatter's counters are distinct. -/
theorem semsS_nodup : semsS.Nodup := by decide
/-- The gather's counters are distinct. -/
theorem semsG_nodup : semsG.Nodup := by decide
/-- The scatter's counters are scoped. -/
theorem semsS_scoped : ∀ g ∈ semsS, g.isScoped .scVector = true := by decide
/-- The gather's counters are scoped. -/
theorem semsG_scoped : ∀ g ∈ semsG, g.isScoped .scVector = true := by decide

/-! ## The tasks -/

include h in
set_option maxHeartbeats 4000000 in
/-- A task of the first call: from its part of the operands and its own buffers and semaphores to its part of the results. -/
theorem body0 (c : Fin 2) (s : Fin 16) (O : CellTallies nD τ sig (HIx 2)) (W : Waits sig (HIx 2)) (hO : ∀ g, O g none = 0) :
    iprop(levAts (K (F := F)).L (K (F := F)).lev ∗ emp ∗ go0 m d c s
        ∗ scopedBufs (ST d (cs0 c s)) ∗ scopedSems0 (ST d (cs0 c s)) ∗ owes (ST d (cs0 c s)) O W)
      ⊢ wp frame (wpE (defs₀ (F := F)) 𝒱₀ (ST d (cs0 c s)) none) Set.univ
          (cc1_scatter_x (cs0 c s) (Memref.whole main_v2_scv) (Memref.isWhole_whole _) (Memref.whole main_v5_scv) (Memref.isWhole_whole _)
            (Memref.whole main_v7_scv) (Memref.isWhole_whole _) (Memref.whole main_v9_scv) (Memref.isWhole_whole _)
            (Memref.whole main_v11_scv) (Memref.isWhole_whole _) (Memref.whole main_v12_0_scv) (Memref.isWhole_whole _)
            (Memref.whole main_v12_1_scv) (Memref.isWhole_whole _) (Memref.whole main_v12_2_scv) (Memref.isWhole_whole _)
            (Memref.whole main_v12_3_scv) (Memref.isWhole_whole _) (Memref.whole cc1_scratch0) (Memref.isWhole_whole _)
            (Memref.whole cc1_scratch1) (Memref.isWhole_whole _) cc1_scratch2 cc1_scoped0 cc1_scoped1 cc1_scoped2 cc1_scoped3 cc1_scoped4
            cc1_scoped5 cc1_scoped6 cc1_scoped7 cc1_scoped8 cc1_scoped9)
          fun _ => iprop(td0 m d c s ∗ scopedBufs (ST d (cs0 c s)) ∗ scopedSems0 (ST d (cs0 c s))
            ∗ ∃ W', ⌜∀ p ∈ W', p ∈ W ∨ p.2 = none⌝ ∗ owes (ST d (cs0 c s)) O W') := by
  rw [(K (F := F)).scopedBufs_V facts d _ _, SparseCore.Cfg.scopedSems0_V (Val := Elt F) d _ _,
    sems_peel (ST d (cs0 c s)) semsS semsS_nodup semsS_scoped, bufs_peel d _ _ cc1_scratch0 cc1_scratch1 rfl rfl (by decide)]
  unfold go0 td0
  rw [semsS_list]
  iintro ⟨#Hlv, -, ⟨HI, HX0, HX1, HX2, HX3, HT0, HT1, HT2, HT3⟩, ⟨⟨%g0, HG⟩, ⟨%g1, HB⟩, Hbufs⟩, ⟨⟨Hc, Hs0, Hs1, Hs2, Hs3, Hs4, Hs5, Hs6, Hs7, Hs8, Hs9⟩, Hsems⟩, HO⟩
  ihave Hmw := (show levAts (K (F := F)).L (K (F := F)).lev ⊢ Transfers.MayWaits (ST d (cs0 c s)) (default : HIx 2) O from
    (K (F := F)).mayWaits_none (thr := ST d (cs0 c s)) hO) $$ Hlv
  ihave H := (scatter_run d (cs0 c s) O W (qs c s) (aP m d) (slab0 (aX m d)) (slab1 (aX m d)) (slab2 (aX m d)) (slab3 (aX m d))
    (mT m d main_v12_0) (mT m d main_v12_1) (mT m d main_v12_2) (mT m d main_v12_3) g0 g1 (h.slot d) (h.dist d))
    $$ [Hmw HI HX0 HX1 HX2 HX3 HT0 HT1 HT2 HT3 HG HB Hc Hs0 Hs1 Hs2 Hs3 Hs4 Hs5 Hs6 Hs7 Hs8 Hs9 HO]
  · isplitl [Hmw]; · iexact Hmw
    isplitl [HI]; · iexact HI
    isplitl [HX0]; · iexact HX0
    isplitl [HX1]; · iexact HX1
    isplitl [HX2]; · iexact HX2
    isplitl [HX3]; · iexact HX3
    isplitl [HT0]; · iexact HT0
    isplitl [HT1]; · iexact HT1
    isplitl [HT2]; · iexact HT2
    isplitl [HT3]; · iexact HT3
    isplitl [HG]; · iexact HG
    isplitl [HB]; · iexact HB
    isplitl [Hc]; · iexact Hc
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact HO
  iapply (wp_wand frame _ _) $$ H
  iintro %_ ⟨HI, -, -, -, -, HT0, HT1, HT2, HT3, HG, HB, Hc, Hs0, Hs1, Hs2, Hs3, Hs4, Hs5, Hs6, Hs7, Hs8, Hs9, HO⟩
  isplitl [HI HT0 HT1 HT2 HT3]
  · isplitl [HI]; · iexact HI
    isplitl [HT0]; · iexact HT0
    isplitl [HT1]; · iexact HT1
    isplitl [HT2]; · iexact HT2
    iexact HT3
  isplitl [HG HB Hbufs]
  · isplitl [HG]; · iexact HG
    isplitl [HB]; · iexact HB
    iexact Hbufs
  isplitl [Hc Hs0 Hs1 Hs2 Hs3 Hs4 Hs5 Hs6 Hs7 Hs8 Hs9 Hsems]
  · isplitl [Hc Hs0 Hs1 Hs2 Hs3 Hs4 Hs5 Hs6 Hs7 Hs8 Hs9]
    · isplitl [Hc]; · iexact Hc
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hs9
    iexact Hsems
  iexact HO

set_option maxHeartbeats 4000000 in
/-- A task of the last call. -/
theorem body1 (c : Fin 2) (s : Fin 16) (O : CellTallies nD τ sig (HIx 2)) (W : Waits sig (HIx 2)) (hO : ∀ g, O g none = 0) :
    iprop(levAts (K (F := F)).L (K (F := F)).lev ∗ emp ∗ go1 m d h c s
        ∗ scopedBufs (GT d (cs2 c s)) ∗ scopedSems0 (GT d (cs2 c s)) ∗ owes (GT d (cs2 c s)) O W)
      ⊢ wp frame (wpE (defs₀ (F := F)) 𝒱₀ (GT d (cs2 c s)) none) Set.univ
          (cc3_gather_out (cs2 c s) (Memref.whole main_v2_scv) (Memref.isWhole_whole _) (Memref.whole main_v21_scv) (Memref.isWhole_whole _)
            (Memref.whole main_v22_scv) (Memref.isWhole_whole _) (Memref.whole cc3_scratch0) (Memref.isWhole_whole _)
            (Memref.whole cc3_scratch1) (Memref.isWhole_whole _) cc3_scratch2 cc3_scoped0 cc3_scoped1 cc3_scoped2 cc3_scoped3)
          fun _ => iprop(td1 m d h c s ∗ scopedBufs (GT d (cs2 c s)) ∗ scopedSems0 (GT d (cs2 c s))
            ∗ ∃ W', ⌜∀ p ∈ W', p ∈ W ∨ p.2 = none⌝ ∗ owes (GT d (cs2 c s)) O W') := by
  rw [(K (F := F)).scopedBufs_V facts d _ _, SparseCore.Cfg.scopedSems0_V (Val := Elt F) d _ _,
    sems_peel (GT d (cs2 c s)) semsG semsG_nodup semsG_scoped, bufs_peel d _ _ cc3_scratch0 cc3_scratch1 rfl rfl (by decide)]
  unfold go1 td1
  rw [semsG_list]
  iintro ⟨#Hlv, -, ⟨%fy, %hfy, HI, HY, HT0, HT1⟩, ⟨⟨%g0, HG⟩, ⟨%g1, HB⟩, Hbufs⟩, ⟨⟨Hc, Hs0, Hs1, Hs2, Hs3⟩, Hsems⟩, HO⟩
  ihave Hmw := (show levAts (K (F := F)).L (K (F := F)).lev ⊢ Transfers.MayWaits (GT d (cs2 c s)) (default : HIx 2) O from
    (K (F := F)).mayWaits_none (thr := GT d (cs2 c s)) hO) $$ Hlv
  ihave H := (gather_run d (cs2 c s) O W (qs c s) (aP m d) fy (mT m d main_v22) g0 g1 (h.slot d))
    $$ [Hmw HI HY HT0 HT1 HG HB Hc Hs0 Hs1 Hs2 Hs3 HO]
  · isplitl [Hmw]; · iexact Hmw
    isplitl [HI]; · iexact HI
    isplitl [HY]; · iexact HY
    isplitl [HT0]; · iexact HT0
    isplitl [HT1]; · iexact HT1
    isplitl [HG]; · iexact HG
    isplitl [HB]; · iexact HB
    isplitl [Hc]; · iexact Hc
    isplitl [Hs0]; · iexact Hs0
    isplitl [Hs1]; · iexact Hs1
    isplitl [Hs2]; · iexact Hs2
    isplitl [Hs3]; · iexact Hs3
    iexact HO
  rw [hfy]
  iapply (wp_wand frame _ _) $$ H
  iintro %_ ⟨HI, -, HT0, HT1, HG, HB, Hc, Hs0, Hs1, Hs2, Hs3, HO⟩
  isplitl [HI HT0 HT1]
  · isplitl [HI]; · iexact HI
    isplitl [HT0]; · iexact HT0
    iexact HT1
  isplitl [HG HB Hbufs]
  · isplitl [HG]; · iexact HG
    isplitl [HB]; · iexact HB
    iexact Hbufs
  isplitl [Hc Hs0 Hs1 Hs2 Hs3 Hsems]
  · isplitl [Hc Hs0 Hs1 Hs2 Hs3]
    · isplitl [Hc]; · iexact Hc
      isplitl [Hs0]; · iexact Hs0
      isplitl [Hs1]; · iexact Hs1
      isplitl [Hs2]; · iexact Hs2
      iexact Hs3
    iexact Hsems
  iexact HO

/-! ## The obligations -/

/-- The scatter's body on a tile. -/
theorem defs₀_scatter (c : Fin τ.nSC) (s : Fin τ.nSub) :
    defs₀ (F := F) (.scVector c s) 1 ()
      = SparseCore.onTile hcore1 hsub1 (fun c s => cc1_scatter_x (cs0 c s) (Memref.whole main_v2_scv) (Memref.isWhole_whole _) (Memref.whole main_v5_scv) (Memref.isWhole_whole _)
            (Memref.whole main_v7_scv) (Memref.isWhole_whole _) (Memref.whole main_v9_scv) (Memref.isWhole_whole _)
            (Memref.whole main_v11_scv) (Memref.isWhole_whole _) (Memref.whole main_v12_0_scv) (Memref.isWhole_whole _)
            (Memref.whole main_v12_1_scv) (Memref.isWhole_whole _) (Memref.whole main_v12_2_scv) (Memref.isWhole_whole _)
            (Memref.whole main_v12_3_scv) (Memref.isWhole_whole _) (Memref.whole cc1_scratch0) (Memref.isWhole_whole _)
            (Memref.whole cc1_scratch1) (Memref.isWhole_whole _) cc1_scratch2 cc1_scoped0 cc1_scoped1 cc1_scoped2 cc1_scoped3 cc1_scoped4
            cc1_scoped5 cc1_scoped6 cc1_scoped7 cc1_scoped8 cc1_scoped9) ⟨⟩ c s := rfl

/-- The gather's body on a tile. -/
theorem defs₀_gather (c : Fin τ.nSC) (s : Fin τ.nSub) :
    defs₀ (F := F) (.scVector c s) 3 ()
      = SparseCore.onTile hcore3 hsub3 (fun c s => cc3_gather_out (cs2 c s) (Memref.whole main_v2_scv) (Memref.isWhole_whole _) (Memref.whole main_v21_scv) (Memref.isWhole_whole _)
            (Memref.whole main_v22_scv) (Memref.isWhole_whole _) (Memref.whole cc3_scratch0) (Memref.isWhole_whole _)
            (Memref.whole cc3_scratch1) (Memref.isWhole_whole _) cc3_scratch2 cc3_scoped0 cc3_scoped1 cc3_scoped2 cc3_scoped3) ⟨⟩ c s := rfl

/-- A task that waits for nothing outside its own transfers waits for nothing outside its call. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the scatter does its task. -/
theorem obl0 : (K (F := F)).TileObl (D (F := F)) 𝒱 (P m h) v₀ 0 := by
  intro d c i O W hO _ _
  simp only [show (P m h).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_scatter]; simp only [SparseCore.onTile, hci, and_self, ↓reduceDIte]
  exact (body0 m d h (Fin.cast nCore_0 c) (Fin.cast nSub_0 i) O W hO).trans (wp_mono frame _ _ fun _ => obl_post)

/-- Every tile of the gather does its task. -/
theorem obl1 : (K (F := F)).TileObl (D (F := F)) 𝒱 (P m h) v₀ 1 := by
  intro d c i O W hO _ _
  simp only [show (P m h).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_gather]; simp only [SparseCore.onTile, hci, and_self, ↓reduceDIte]
  exact (body1 m d h (Fin.cast nCore_1 c) (Fin.cast nSub_1 i) O W hO).trans (wp_mono frame _ _ fun _ => obl_post)

/-- What the scatter is given is its tiles' shares, and their results are its own. -/
theorem split0 : (K (F := F)).VecSplit' (P m h) 0 := by
  intro d c
  show (bigSep Finset.univ fun s : Fin 16 => go0 m d (Fin.cast nCore_0 c) s) ⊢ |={Set.univ}=> iprop(
      (bigSep Finset.univ fun s : Fin 16 => go0 m d (Fin.cast nCore_0 c) s)
      ∗ ((bigSep Finset.univ fun s : Fin 16 => td0 m d (Fin.cast nCore_0 c) s) -∗ (bigSep Finset.univ fun s : Fin 16 => td0 m d (Fin.cast nCore_0 c) s)))
  iintro H; imodintro
  isplitl [H]; · iexact H
  iintro H; iexact H

/-- What the gather is given is its tiles' shares, and their results are its own. -/
theorem split1 : (K (F := F)).VecSplit' (P m h) 1 := by
  intro d c
  show (bigSep Finset.univ fun s : Fin 16 => go1 m d h (Fin.cast nCore_1 c) s) ⊢ |={Set.univ}=> iprop(
      (bigSep Finset.univ fun s : Fin 16 => go1 m d h (Fin.cast nCore_1 c) s)
      ∗ ((bigSep Finset.univ fun s : Fin 16 => td1 m d h (Fin.cast nCore_1 c) s) -∗ (bigSep Finset.univ fun s : Fin 16 => td1 m d h (Fin.cast nCore_1 c) s)))
  iintro H; imodintro
  isplitl [H]; · iexact H
  iintro H; iexact H

end Cert.KernelIdeal.Run

end
-- ==== Proof.WholeHost.lean ====
/-
  One step of the host's program at a time: a StableHLO operation on the buffers that it reads and writes.
-/
module

public import proofs.«01_k».proof.Proof.WholeTile

@[expose] public section

set_option maxRecDepth 16384

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD)

/-- Contents at launch with those of one buffer replaced. -/
theorem upd_at (V : Valuation τ sig (Elt F)) (b : DevRef τ sig) (f : b.ty.Contents (Elt F)) : (Function.update V b f) b = f := Function.update_self _ _ _

include m in
set_option maxHeartbeats 1000000 in
/-- An operation that reads one buffer and writes another. -/
theorem wp_one {op : HloOp τ sig (Elt F)} (x y : Ref sig .tc) (hxy : x ≠ y) (hb : op.bufs = {Proc.devRef .tc x, Proc.devRef .tc y})
    (hw : op.writes = {Proc.devRef .tc y}) (hfr : op.fresh = ∅) (fx : Buf (Elt F) ((T d : Thread nD τ).loc x)) (fy gy : Buf (Elt F) ((T d : Thread nD τ).loc y))
    (hr : ∀ V : Valuation τ sig (Elt F), V (Proc.devRef .tc x) = fx → op.result V (Proc.devRef .tc y) = gy) (hp : (T d : Thread nD τ).2.kind.runsHlo = true)
    (Q : PUnit → sProp 𝕄) :
    iprop(boundary (T d : Thread nD τ) ∗ ((T d : Thread nD τ).loc x ↦{fullShare} fx) ∗ ((T d : Thread nD τ).loc y ↦{fullShare} fy))
      ⊢ iprop((iprop(boundary (T d : Thread nD τ) ∗ ((T d : Thread nD τ).loc x ↦{fullShare} fx) ∗ ((T d : Thread nD τ).loc y ↦{fullShare} gy)) -∗ Q ⟨⟩)
          -∗ wp frame (wpE ((K (F := F)).defs D) 𝒱 (T d) none) Set.univ (hlo hp op fun _ => .ret ⟨⟩) Q) := by
  have hne : Proc.devRef (τ := τ) .tc x ≠ Proc.devRef .tc y := StableHlo.devRef_ne_of_ne hxy
  let V : Valuation τ sig (Elt F) := Function.update (Function.update (fun b => m (d, b)) (Proc.devRef .tc x) fx) (Proc.devRef .tc y) fy
  have hVy : V (Proc.devRef .tc y) = fy := Function.update_self _ _ _
  have hVx : V (Proc.devRef .tc x) = fx := (Function.update_of_ne hne _ _).trans (Function.update_self _ _ _)
  have hRy : op.result V (Proc.devRef .tc y) = gy := hr V hVx
  have hRx : op.result V (Proc.devRef .tc x) = fx :=
    (op.result_of_not_mem _ (by rw [hw, Finset.mem_singleton]; exact hne)).trans hVx
  have e : ∀ W : Valuation τ sig (Elt F), (bigSep op.bufs fun b => ((d, b) : Loc nD τ sig) ↦{fullShare} W b : sProp 𝕄)
      = iprop(((T d : Thread nD τ).loc x ↦{fullShare} W (Proc.devRef .tc x)) ∗ ((T d : Thread nD τ).loc y ↦{fullShare} W (Proc.devRef .tc y))) := fun W => by
    rw [hb, SparseCore.bigSep_insert' (by rw [Finset.mem_singleton]; exact hne), bigSep_singleton]
  have h := wp_hlo (Γ := []) (defs := (K (F := F)).defs D) (Q := Q) 𝒱 (T d : Thread nD τ) none Set.univ (hp := hp) (op := op) (k := fun _ => .ret ⟨⟩) (q := fun _ => fullShare) (F := V)
    (fun _ _ => rfl) hfr
  rw [show (bigSep op.bufs fun b => (((T d : Thread nD τ).1, b) : Loc nD τ sig) ↦{fullShare} V b : sProp 𝕄) = _ from e V,
    show (bigSep op.bufs fun b => (((T d : Thread nD τ).1, b) : Loc nD τ sig) ↦{fullShare} op.result V b : sProp 𝕄) = _ from e _, hVx, hVy, hRx, hRy] at h
  iintro H HQ
  iapply h $$ H
  iintro H
  rw [wp_ret]
  imodintro
  iapply HQ; iexact H

include m in
/-- A slice, or any function of one array. -/
theorem wp_un (x y : Ref sig .tc) (hxy : x ≠ y) (f : x.ty.Contents (Elt F) → y.ty.Contents (Elt F)) (hx hy)
    (fx : Buf (Elt F) ((T d : Thread nD τ).loc x)) (fy : Buf (Elt F) ((T d : Thread nD τ).loc y)) (hp : (T d : Thread nD τ).2.kind.runsHlo = true)
    (Q : PUnit → sProp 𝕄) :
    iprop(boundary (T d : Thread nD τ) ∗ ((T d : Thread nD τ).loc x ↦{fullShare} fx) ∗ ((T d : Thread nD τ).loc y ↦{fullShare} fy))
      ⊢ iprop((iprop(boundary (T d : Thread nD τ) ∗ ((T d : Thread nD τ).loc x ↦{fullShare} fx) ∗ ((T d : Thread nD τ).loc y ↦{fullShare} (f fx : Buf (Elt F) ((T d : Thread nD τ).loc y)))) -∗ Q ⟨⟩)
          -∗ wp frame (wpE ((K (F := F)).defs D) 𝒱 (T d) none) Set.univ (hlo hp (StableHlo.unary x y f hx hy) fun _ => .ret ⟨⟩) Q) :=
  wp_one m d x y hxy rfl rfl rfl fx fy (f fx) (fun V h => (StableHlo.unary_result x y f hx hy V).trans (congrArg f h)) hp Q

include m in
/-- A reshape. -/
theorem wp_rs (x y : Ref sig .tc) (hxy : x ≠ y) (he : x.ty.elt = y.ty.elt) (hn : x.ty.shape.ShapeCasts y.ty.shape) (hx hy)
    (fx : Buf (Elt F) ((T d : Thread nD τ).loc x)) (fy gy : Buf (Elt F) ((T d : Thread nD τ).loc y))
    (hg : gy = (fun i => he ▸ shapeCast y.ty.shape (fx : x.ty.Contents (Elt F)) hn i : y.ty.Contents (Elt F))) (hp : (T d : Thread nD τ).2.kind.runsHlo = true)
    (Q : PUnit → sProp 𝕄) :
    iprop(boundary (T d : Thread nD τ) ∗ ((T d : Thread nD τ).loc x ↦{fullShare} fx) ∗ ((T d : Thread nD τ).loc y ↦{fullShare} fy))
      ⊢ iprop((iprop(boundary (T d : Thread nD τ) ∗ ((T d : Thread nD τ).loc x ↦{fullShare} fx) ∗ ((T d : Thread nD τ).loc y ↦{fullShare} gy)) -∗ Q ⟨⟩)
          -∗ wp frame (wpE ((K (F := F)).defs D) 𝒱 (T d) none) Set.univ (hlo hp (StableHlo.reshape x y he hn hx hy) fun _ => .ret ⟨⟩) Q) :=
  wp_one m d x y hxy rfl rfl rfl fx fy gy (fun V h => (StableHlo.reshape_result x y he hn hx hy V).trans (by subst hg; subst h; rfl)) hp Q

set_option maxHeartbeats 1000000 in
include m in
/-- An operation that reads the four wide slabs and writes their join. -/
theorem wp_four {op : HloOp τ sig (Elt F)} (hb : op.bufs = insert (Proc.devRef (τ := τ) .tc main_v17) (Finset.univ.image fun k : Fin 4 => Proc.devRef (τ := τ) .tc ((![main_v13, main_v14, main_v15, main_v16] : Fin 4 → Ref sig .tc) k)))
    (hfr : op.fresh = ∅) (f0 f1 f2 f3 : S6144x256.Idx → Elt F .f32) (fy gy : S6144x1024.Idx → Elt F .f32)
    (hr : ∀ V : Valuation τ sig (Elt F), V (Proc.devRef .tc main_v13) = f0 → V (Proc.devRef .tc main_v14) = f1 → V (Proc.devRef .tc main_v15) = f2
      → V (Proc.devRef .tc main_v16) = f3 → op.result V (Proc.devRef .tc main_v17) = gy) (hp : (T d : Thread nD τ).2.kind.runsHlo = true)
    (Q : PUnit → sProp 𝕄) :
    iprop(boundary (T d : Thread nD τ) ∗ ((T d : Thread nD τ).loc main_v13 ↦{fullShare} (f0 : Buf (Elt F) ((T d : Thread nD τ).loc main_v13)))
        ∗ ((T d : Thread nD τ).loc main_v14 ↦{fullShare} (f1 : Buf (Elt F) ((T d : Thread nD τ).loc main_v14)))
        ∗ ((T d : Thread nD τ).loc main_v15 ↦{fullShare} (f2 : Buf (Elt F) ((T d : Thread nD τ).loc main_v15)))
        ∗ ((T d : Thread nD τ).loc main_v16 ↦{fullShare} (f3 : Buf (Elt F) ((T d : Thread nD τ).loc main_v16)))
        ∗ ((T d : Thread nD τ).loc main_v17 ↦{fullShare} (fy : Buf (Elt F) ((T d : Thread nD τ).loc main_v17))))
      ⊢ iprop((iprop(boundary (T d : Thread nD τ) ∗ ((T d : Thread nD τ).loc main_v17 ↦{fullShare} (gy : Buf (Elt F) ((T d : Thread nD τ).loc main_v17)))) -∗ Q ⟨⟩)
          -∗ wp frame (wpE ((K (F := F)).defs D) 𝒱 (T d) none) Set.univ (hlo hp op fun _ => .ret ⟨⟩) Q) := by
  let V0 : Valuation τ sig (Elt F) := fun b => m (d, b)
  let V : Valuation τ sig (Elt F) := Function.update (Function.update (Function.update (Function.update (Function.update V0 (Proc.devRef .tc main_v17) fy)
    (Proc.devRef .tc main_v16) f3) (Proc.devRef .tc main_v15) f2) (Proc.devRef .tc main_v14) f1) (Proc.devRef .tc main_v13) f0
  have n1 : Proc.devRef (τ := τ) .tc main_v14 ≠ Proc.devRef .tc main_v13 := StableHlo.devRef_ne_of_ne (by decide)
  have n2 : Proc.devRef (τ := τ) .tc main_v15 ≠ Proc.devRef .tc main_v13 := StableHlo.devRef_ne_of_ne (by decide)
  have n2' : Proc.devRef (τ := τ) .tc main_v15 ≠ Proc.devRef .tc main_v14 := StableHlo.devRef_ne_of_ne (by decide)
  have n3 : Proc.devRef (τ := τ) .tc main_v16 ≠ Proc.devRef .tc main_v13 := StableHlo.devRef_ne_of_ne (by decide)
  have n3' : Proc.devRef (τ := τ) .tc main_v16 ≠ Proc.devRef .tc main_v14 := StableHlo.devRef_ne_of_ne (by decide)
  have n3'' : Proc.devRef (τ := τ) .tc main_v16 ≠ Proc.devRef .tc main_v15 := StableHlo.devRef_ne_of_ne (by decide)
  have n4 : Proc.devRef (τ := τ) .tc main_v17 ≠ Proc.devRef .tc main_v13 := StableHlo.devRef_ne_of_ne (by decide)
  have n4' : Proc.devRef (τ := τ) .tc main_v17 ≠ Proc.devRef .tc main_v14 := StableHlo.devRef_ne_of_ne (by decide)
  have n4'' : Proc.devRef (τ := τ) .tc main_v17 ≠ Proc.devRef .tc main_v15 := StableHlo.devRef_ne_of_ne (by decide)
  have n4''' : Proc.devRef (τ := τ) .tc main_v17 ≠ Proc.devRef .tc main_v16 := StableHlo.devRef_ne_of_ne (by decide)
  have h0 : V (Proc.devRef .tc main_v13) = f0 := Function.update_self _ _ _
  have h1 : V (Proc.devRef .tc main_v14) = f1 := (Function.update_of_ne n1 _ _).trans (Function.update_self _ _ _)
  have h2 : V (Proc.devRef .tc main_v15) = f2 := (Function.update_of_ne n2 _ _).trans ((Function.update_of_ne n2' _ _).trans (Function.update_self _ _ _))
  have h3 : V (Proc.devRef .tc main_v16) = f3 := (Function.update_of_ne n3 _ _).trans ((Function.update_of_ne n3' _ _).trans ((Function.update_of_ne n3'' _ _).trans (Function.update_self _ _ _)))
  have h4 : V (Proc.devRef .tc main_v17) = fy := (Function.update_of_ne n4 _ _).trans ((Function.update_of_ne n4' _ _).trans ((Function.update_of_ne n4'' _ _).trans
    ((Function.update_of_ne n4''' _ _).trans (Function.update_self _ _ _))))
  have e : ∀ W : Valuation τ sig (Elt F), (bigSep op.bufs
        fun b => ((d, b) : Loc nD τ sig) ↦{fullShare} W b : sProp 𝕄)
      = iprop(((T d : Thread nD τ).loc main_v17 ↦{fullShare} W (Proc.devRef .tc main_v17)) ∗ ((T d : Thread nD τ).loc main_v13 ↦{fullShare} W (Proc.devRef .tc main_v13))
        ∗ ((T d : Thread nD τ).loc main_v14 ↦{fullShare} W (Proc.devRef .tc main_v14)) ∗ ((T d : Thread nD τ).loc main_v15 ↦{fullShare} W (Proc.devRef .tc main_v15))
        ∗ ((T d : Thread nD τ).loc main_v16 ↦{fullShare} W (Proc.devRef .tc main_v16))) := fun W => by
    rw [hb, show insert (Proc.devRef (τ := τ) .tc main_v17) (Finset.univ.image fun k : Fin 4 => Proc.devRef (τ := τ) .tc ((![main_v13, main_v14, main_v15, main_v16] : Fin 4 → Ref sig .tc) k))
      = {Proc.devRef .tc main_v17, Proc.devRef .tc main_v13, Proc.devRef .tc main_v14, Proc.devRef .tc main_v15, Proc.devRef .tc main_v16} from rfl,
      SparseCore.bigSep_insert' (by decide), SparseCore.bigSep_insert' (by decide), SparseCore.bigSep_insert' (by decide), SparseCore.bigSep_insert' (by decide), bigSep_singleton]
  have h := wp_hlo (Γ := []) (defs := (K (F := F)).defs D) (Q := Q) 𝒱 (T d : Thread nD τ) none Set.univ (hp := hp) (op := op) (k := fun _ => .ret ⟨⟩) (q := fun _ => fullShare) (F := V)
    (fun _ _ => rfl) hfr
  rw [show (bigSep op.bufs fun b => (((T d : Thread nD τ).1, b) : Loc nD τ sig) ↦{fullShare} V b : sProp 𝕄) = _ from e V,
    show (bigSep op.bufs fun b => (((T d : Thread nD τ).1, b) : Loc nD τ sig) ↦{fullShare} op.result V b : sProp 𝕄) = _ from e _, h0, h1, h2, h3, h4, hr V h0 h1 h2 h3] at h
  iintro ⟨HB, H0, H1, H2, H3, H4⟩ HQ
  iapply h $$ [HB H0 H1 H2 H3 H4]
  · isplitl [HB]; · iexact HB
    isplitl [H4]; · iexact H4
    isplitl [H0]; · iexact H0
    isplitl [H1]; · iexact H1
    isplitl [H2]; · iexact H2
    iexact H3
  iintro ⟨HB, H4, -⟩
  rw [wp_ret]
  imodintro
  iapply HQ
  isplitl [HB] <;> iassumption

include m in
/-- The four scattered slabs side by side. -/
theorem wp_join (f0 f1 f2 f3 : S6144x256.Idx → Elt F .f32) (fy : S6144x1024.Idx → Elt F .f32) (f) (hxs hy) (hp : (T d : Thread nD τ).2.kind.runsHlo = true)
    (gy : S6144x1024.Idx → Elt F .f32)
    (hg : ∀ u, u 0 = f0 → u 1 = f1 → u 2 = f2 → u 3 = f3 → f u = gy)
    (Q : PUnit → sProp 𝕄) :
    iprop(boundary (T d : Thread nD τ) ∗ ((T d : Thread nD τ).loc main_v13 ↦{fullShare} (f0 : Buf (Elt F) ((T d : Thread nD τ).loc main_v13)))
        ∗ ((T d : Thread nD τ).loc main_v14 ↦{fullShare} (f1 : Buf (Elt F) ((T d : Thread nD τ).loc main_v14)))
        ∗ ((T d : Thread nD τ).loc main_v15 ↦{fullShare} (f2 : Buf (Elt F) ((T d : Thread nD τ).loc main_v15)))
        ∗ ((T d : Thread nD τ).loc main_v16 ↦{fullShare} (f3 : Buf (Elt F) ((T d : Thread nD τ).loc main_v16)))
        ∗ ((T d : Thread nD τ).loc main_v17 ↦{fullShare} (fy : Buf (Elt F) ((T d : Thread nD τ).loc main_v17))))
      ⊢ iprop((iprop(boundary (T d : Thread nD τ) ∗ ((T d : Thread nD τ).loc main_v17 ↦{fullShare} (gy : Buf (Elt F) ((T d : Thread nD τ).loc main_v17)))) -∗ Q ⟨⟩)
          -∗ wp frame (wpE ((K (F := F)).defs D) 𝒱 (T d) none) Set.univ (hlo hp (StableHlo.nary ![main_v13, main_v14, main_v15, main_v16] main_v17
              f hxs hy) fun _ => .ret ⟨⟩) Q) :=
  wp_four m d rfl rfl f0 f1 f2 f3 fy gy (fun V h0 h1 h2 h3 => (StableHlo.nary_result _ _ f hxs hy V).trans (hg _ h0 h1 h2 h3)) hp Q

end Cert.KernelIdeal.Run

end
-- ==== Proof.WholeDeal.lean ====
/-
  The two SparseCore calls' operands dealt to the workers and their results joined again.
-/
module

public import proofs.«01_k».proof.Proof.WholeHost

@[expose] public section

set_option maxRecDepth 16384

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD) (h : PreOK m)

/-- Rows of the first array that no tile names stay as they were. -/
theorem off0 (i : S6144x2x128.Idx) (hi : i ∉ allOf (ℓ := (T d : Thread nD τ).loc main_v12_0) fun c s => sRows (Memref.whole main_v12_0_scv) (aP m d) c s) : mT m d main_v12_0 i = sc0 m d i := by
  refine scattered_off (Memref.whole main_v12_0_scv) (aP m d) (slab0 (aX m d)) (mT m d main_v12_0) i fun c s hc => hi ?_
  have e : (sTgt (Memref.whole main_v12_0_scv)).view.emb i = i := full_emb i
  rw [e] at hc
  exact Finset.mem_biUnion.mpr ⟨c, Finset.mem_univ c, Finset.mem_biUnion.mpr ⟨s, Finset.mem_univ s, hc⟩⟩

/-- Rows of the second array that no tile names stay as they were. -/
theorem off1 (i : S6144x2x128.Idx) (hi : i ∉ allOf (ℓ := (T d : Thread nD τ).loc main_v12_1) fun c s => sRows (Memref.whole main_v12_1_scv) (aP m d) c s) : mT m d main_v12_1 i = sc1 m d i := by
  refine scattered_off (Memref.whole main_v12_1_scv) (aP m d) (slab1 (aX m d)) (mT m d main_v12_1) i fun c s hc => hi ?_
  have e : (sTgt (Memref.whole main_v12_1_scv)).view.emb i = i := full_emb i
  rw [e] at hc
  exact Finset.mem_biUnion.mpr ⟨c, Finset.mem_univ c, Finset.mem_biUnion.mpr ⟨s, Finset.mem_univ s, hc⟩⟩

/-- Rows of the third array that no tile names stay as they were. -/
theorem off2 (i : S6144x2x128.Idx) (hi : i ∉ allOf (ℓ := (T d : Thread nD τ).loc main_v12_2) fun c s => sRows (Memref.whole main_v12_2_scv) (aP m d) c s) : mT m d main_v12_2 i = sc2 m d i := by
  refine scattered_off (Memref.whole main_v12_2_scv) (aP m d) (slab2 (aX m d)) (mT m d main_v12_2) i fun c s hc => hi ?_
  have e : (sTgt (Memref.whole main_v12_2_scv)).view.emb i = i := full_emb i
  rw [e] at hc
  exact Finset.mem_biUnion.mpr ⟨c, Finset.mem_univ c, Finset.mem_biUnion.mpr ⟨s, Finset.mem_univ s, hc⟩⟩

/-- Rows of the fourth array that no tile names stay as they were. -/
theorem off3 (i : S6144x2x128.Idx) (hi : i ∉ allOf (ℓ := (T d : Thread nD τ).loc main_v12_3) fun c s => sRows (Memref.whole main_v12_3_scv) (aP m d) c s) : mT m d main_v12_3 i = sc3 m d i := by
  refine scattered_off (Memref.whole main_v12_3_scv) (aP m d) (slab3 (aX m d)) (mT m d main_v12_3) i fun c s hc => hi ?_
  have e : (sTgt (Memref.whole main_v12_3_scv)).view.emb i = i := full_emb i
  rw [e] at hc
  exact Finset.mem_biUnion.mpr ⟨c, Finset.mem_univ c, Finset.mem_biUnion.mpr ⟨s, Finset.mem_univ s, hc⟩⟩

/-- What the first call takes, array by array. -/
theorem st0_eq : (bigSep Finset.univ fun c : Fin ((K (F := F)).nCore 0) => (P m h).st 0 d c) = iprop((each fun c s => ((T d : Thread nD τ).loc main_v2 ↦{qs c s} (aP m d : Buf (Elt F) ((T d : Thread nD τ).loc main_v2)))) ∗ (each fun c s => ((T d : Thread nD τ).loc main_v5 ↦{qs c s} (slab0 (aX m d) : Buf (Elt F) ((T d : Thread nD τ).loc main_v5)))) ∗ (each fun c s => ((T d : Thread nD τ).loc main_v7 ↦{qs c s} (slab1 (aX m d) : Buf (Elt F) ((T d : Thread nD τ).loc main_v7)))) ∗ (each fun c s => ((T d : Thread nD τ).loc main_v9 ↦{qs c s} (slab2 (aX m d) : Buf (Elt F) ((T d : Thread nD τ).loc main_v9)))) ∗ (each fun c s => ((T d : Thread nD τ).loc main_v11 ↦{qs c s} (slab3 (aX m d) : Buf (Elt F) ((T d : Thread nD τ).loc main_v11)))) ∗ (each fun c s => ((T d : Thread nD τ).loc main_v12_0 ↦[sRows (Memref.whole main_v12_0_scv) (aP m d) c s]{fullShare} mT m d main_v12_0)) ∗ (each fun c s => ((T d : Thread nD τ).loc main_v12_1 ↦[sRows (Memref.whole main_v12_1_scv) (aP m d) c s]{fullShare} mT m d main_v12_1)) ∗ (each fun c s => ((T d : Thread nD τ).loc main_v12_2 ↦[sRows (Memref.whole main_v12_2_scv) (aP m d) c s]{fullShare} mT m d main_v12_2)) ∗ (each fun c s => ((T d : Thread nD τ).loc main_v12_3 ↦[sRows (Memref.whole main_v12_3_scv) (aP m d) c s]{fullShare} mT m d main_v12_3))) := by
  refine Eq.trans (b := each fun c s => go0 m d c s) rfl ?_
  unfold go0
  iterate 8 refine (each_sep _ _).trans (congrArg (BIBase.sep _) ?_)
  rfl

/-- And what it brings back. -/
theorem dn0_eq : (bigSep Finset.univ fun c : Fin ((K (F := F)).nCore 0) => (P m h).dn 0 d c) = iprop((each fun c s => ((T d : Thread nD τ).loc main_v2 ↦{qs c s} (aP m d : Buf (Elt F) ((T d : Thread nD τ).loc main_v2)))) ∗ (each fun c s => ((T d : Thread nD τ).loc main_v12_0 ↦[sRows (Memref.whole main_v12_0_scv) (aP m d) c s]{fullShare} sc0 m d)) ∗ (each fun c s => ((T d : Thread nD τ).loc main_v12_1 ↦[sRows (Memref.whole main_v12_1_scv) (aP m d) c s]{fullShare} sc1 m d)) ∗ (each fun c s => ((T d : Thread nD τ).loc main_v12_2 ↦[sRows (Memref.whole main_v12_2_scv) (aP m d) c s]{fullShare} sc2 m d)) ∗ (each fun c s => ((T d : Thread nD τ).loc main_v12_3 ↦[sRows (Memref.whole main_v12_3_scv) (aP m d) c s]{fullShare} sc3 m d))) := by
  refine Eq.trans (b := each fun c s => td0 m d c s) rfl ?_
  unfold td0
  iterate 4 refine (each_sep _ _).trans (congrArg (BIBase.sep _) ?_)
  rfl

include h in
set_option maxHeartbeats 1000000 in
/-- The first call's operands, dealt to the workers; its results, joined: the slots and the four scattered arrays. -/
theorem deal0 : iprop(((T d : Thread nD τ).loc main_v2 ↦{fullShare} (aP m d : Buf (Elt F) ((T d : Thread nD τ).loc main_v2))) ∗ ((T d : Thread nD τ).loc main_v5 ↦{fullShare} (slab0 (aX m d) : Buf (Elt F) ((T d : Thread nD τ).loc main_v5))) ∗ ((T d : Thread nD τ).loc main_v7 ↦{fullShare} (slab1 (aX m d) : Buf (Elt F) ((T d : Thread nD τ).loc main_v7))) ∗ ((T d : Thread nD τ).loc main_v9 ↦{fullShare} (slab2 (aX m d) : Buf (Elt F) ((T d : Thread nD τ).loc main_v9))) ∗ ((T d : Thread nD τ).loc main_v11 ↦{fullShare} (slab3 (aX m d) : Buf (Elt F) ((T d : Thread nD τ).loc main_v11))) ∗ ((T d : Thread nD τ).loc main_v12_0 ↦{fullShare} (mT m d main_v12_0 : Buf (Elt F) ((T d : Thread nD τ).loc main_v12_0))) ∗ ((T d : Thread nD τ).loc main_v12_1 ↦{fullShare} (mT m d main_v12_1 : Buf (Elt F) ((T d : Thread nD τ).loc main_v12_1))) ∗ ((T d : Thread nD τ).loc main_v12_2 ↦{fullShare} (mT m d main_v12_2 : Buf (Elt F) ((T d : Thread nD τ).loc main_v12_2))) ∗ ((T d : Thread nD τ).loc main_v12_3 ↦{fullShare} (mT m d main_v12_3 : Buf (Elt F) ((T d : Thread nD τ).loc main_v12_3))))
    ⊢ iprop((bigSep Finset.univ fun c : Fin ((K (F := F)).nCore 0) => (P m h).st 0 d c)
      ∗ ((bigSep Finset.univ fun c : Fin ((K (F := F)).nCore 0) => (P m h).dn 0 d c) -∗ iprop(((T d : Thread nD τ).loc main_v2 ↦{fullShare} (aP m d : Buf (Elt F) ((T d : Thread nD τ).loc main_v2))) ∗ ((T d : Thread nD τ).loc main_v12_0 ↦{fullShare} (sc0 m d : Buf (Elt F) ((T d : Thread nD τ).loc main_v12_0))) ∗ ((T d : Thread nD τ).loc main_v12_1 ↦{fullShare} (sc1 m d : Buf (Elt F) ((T d : Thread nD τ).loc main_v12_1))) ∗ ((T d : Thread nD τ).loc main_v12_2 ↦{fullShare} (sc2 m d : Buf (Elt F) ((T d : Thread nD τ).loc main_v12_2))) ∗ ((T d : Thread nD τ).loc main_v12_3 ↦{fullShare} (sc3 m d : Buf (Elt F) ((T d : Thread nD τ).loc main_v12_3)))))) := by
  rw [st0_eq, dn0_eq]
  rw [shares_eq (ℓ := (T d : Thread nD τ).loc main_v2), shares_eq (ℓ := (T d : Thread nD τ).loc main_v5), shares_eq (ℓ := (T d : Thread nD τ).loc main_v7), shares_eq (ℓ := (T d : Thread nD τ).loc main_v9), shares_eq (ℓ := (T d : Thread nD τ).loc main_v11)]
  iintro ⟨HP, H1, H3, H5, H7, HT0, HT1, HT2, HT3⟩
  ihave HT0 := (spread (ℓ := (T d : Thread nD τ).loc main_v12_0) (fun c s => sRows (Memref.whole main_v12_0_scv) (aP m d) c s) (sRows_disj (Memref.whole main_v12_0_scv) (aP m d) (h.dist d)) _ (sc0 m d) (off0 m d)) $$ HT0
  icases HT0 with ⟨HT0, HR0⟩
  ihave HT1 := (spread (ℓ := (T d : Thread nD τ).loc main_v12_1) (fun c s => sRows (Memref.whole main_v12_1_scv) (aP m d) c s) (sRows_disj (Memref.whole main_v12_1_scv) (aP m d) (h.dist d)) _ (sc1 m d) (off1 m d)) $$ HT1
  icases HT1 with ⟨HT1, HR1⟩
  ihave HT2 := (spread (ℓ := (T d : Thread nD τ).loc main_v12_2) (fun c s => sRows (Memref.whole main_v12_2_scv) (aP m d) c s) (sRows_disj (Memref.whole main_v12_2_scv) (aP m d) (h.dist d)) _ (sc2 m d) (off2 m d)) $$ HT2
  icases HT2 with ⟨HT2, HR2⟩
  ihave HT3 := (spread (ℓ := (T d : Thread nD τ).loc main_v12_3) (fun c s => sRows (Memref.whole main_v12_3_scv) (aP m d) c s) (sRows_disj (Memref.whole main_v12_3_scv) (aP m d) (h.dist d)) _ (sc3 m d) (off3 m d)) $$ HT3
  icases HT3 with ⟨HT3, HR3⟩
  isplitl [HP H1 H3 H5 H7 HT0 HT1 HT2 HT3]
  · isplitl [HP]; · iexact HP
    isplitl [H1]; · iexact H1
    isplitl [H3]; · iexact H3
    isplitl [H5]; · iexact H5
    isplitl [H7]; · iexact H7
    isplitl [HT0]; · iexact HT0
    isplitl [HT1]; · iexact HT1
    isplitl [HT2]; · iexact HT2
    iexact HT3
  iintro ⟨HP, HT0, HT1, HT2, HT3⟩
  isplitl [HP]; · iexact HP
  isplitl [HR0 HT0]; · iapply HR0; iexact HT0
  isplitl [HR1 HT1]; · iapply HR1; iexact HT1
  isplitl [HR2 HT2]; · iapply HR2; iexact HT2
  iapply HR3; iexact HT3

/-- Worker by worker, its two windows as one. -/
theorem windows_eq (f : Buf (Elt F) ((T d : Thread nD τ).loc main_v22)) (c : Fin 2) (s : Fin 16) :
    (iprop(((T d : Thread nD τ).loc main_v22 ↦[gW0 c s]{fullShare} f) ∗ ((T d : Thread nD τ).loc main_v22 ↦[gW1 c s]{fullShare} f)) : sProp 𝕄) = ((T d : Thread nD τ).loc main_v22 ↦[gW0 c s ∪ gW1 c s]{fullShare} f) :=
  (BI.equiv_iff.mp ⟨(pointsTo_union (gW01_disj c s)).1, (pointsTo_union (gW01_disj c s)).2⟩).symm

/-- What a task of the last call takes, from products `fy` whose gathered rows are the result's. -/
theorem go1_of (fy : Buf (Elt F) ((T d : Thread nD τ).loc main_v21)) (hy : gathered (aP m d) fy = gathAt m d h) (c : Fin 2) (s : Fin 16) :
    iprop(((T d : Thread nD τ).loc main_v2 ↦{qs c s} (aP m d : Buf (Elt F) ((T d : Thread nD τ).loc main_v2))) ∗ ((T d : Thread nD τ).loc main_v21 ↦{qs c s} (fy : Buf (Elt F) ((T d : Thread nD τ).loc main_v21))) ∗ ((T d : Thread nD τ).loc main_v22 ↦[gW0 c s ∪ gW1 c s]{fullShare} mT m d main_v22)) ⊢ go1 m d h c s := by
  rw [← windows_eq]
  unfold go1
  iintro ⟨HP, HY, H0, H1⟩
  iexists fy
  isplitr; · ipureintro; exact hy
  isplitl [HP]; · iexact HP
  isplitl [HY]; · iexact HY
  isplitl [H0]; · iexact H0
  iexact H1

/-- What the last call takes, all of it. -/
theorem st1_of (fy : Buf (Elt F) ((T d : Thread nD τ).loc main_v21)) (hy : gathered (aP m d) fy = gathAt m d h) :
    iprop((each fun c s => ((T d : Thread nD τ).loc main_v2 ↦{qs c s} (aP m d : Buf (Elt F) ((T d : Thread nD τ).loc main_v2)))) ∗ (each fun c s => ((T d : Thread nD τ).loc main_v21 ↦{qs c s} (fy : Buf (Elt F) ((T d : Thread nD τ).loc main_v21)))) ∗ (each fun c s => ((T d : Thread nD τ).loc main_v22 ↦[gW0 c s ∪ gW1 c s]{fullShare} mT m d main_v22)))
      ⊢ (bigSep Finset.univ fun c : Fin ((K (F := F)).nCore 1) => (P m h).st 1 d c) := by
  rw [← each_sep, ← each_sep]
  show each _ ⊢ each fun c s => go1 m d h c s
  exact bigSep_mono fun c _ => bigSep_mono fun s _ => go1_of m d h fy hy c s

/-- And what it brings back. -/
theorem dn1_eq : (bigSep Finset.univ fun c : Fin ((K (F := F)).nCore 1) => (P m h).dn 1 d c)
    = iprop((each fun c s => ((T d : Thread nD τ).loc main_v2 ↦{qs c s} (aP m d : Buf (Elt F) ((T d : Thread nD τ).loc main_v2)))) ∗ (each fun c s => ((T d : Thread nD τ).loc main_v22 ↦[gW0 c s ∪ gW1 c s]{fullShare} (gathAt m d h : Buf (Elt F) ((T d : Thread nD τ).loc main_v22))))) := by
  refine Eq.trans (b := each fun c s => td1 m d h c s) rfl ?_
  unfold td1
  refine (each_sep _ _).trans (congrArg (BIBase.sep _) ?_)
  exact each_congr fun c s => windows_eq d _ c s

/-- The last call's operands, dealt to the workers; its results, joined: the slots and the gathered lines. -/
theorem deal1 (fy : Buf (Elt F) ((T d : Thread nD τ).loc main_v21)) (hy : gathered (aP m d) fy = gathAt m d h) :
    iprop(((T d : Thread nD τ).loc main_v2 ↦{fullShare} (aP m d : Buf (Elt F) ((T d : Thread nD τ).loc main_v2))) ∗ ((T d : Thread nD τ).loc main_v21 ↦{fullShare} (fy : Buf (Elt F) ((T d : Thread nD τ).loc main_v21))) ∗ ((T d : Thread nD τ).loc main_v22 ↦{fullShare} (mT m d main_v22 : Buf (Elt F) ((T d : Thread nD τ).loc main_v22))))
    ⊢ iprop((bigSep Finset.univ fun c : Fin ((K (F := F)).nCore 1) => (P m h).st 1 d c)
      ∗ ((bigSep Finset.univ fun c : Fin ((K (F := F)).nCore 1) => (P m h).dn 1 d c) -∗ iprop(((T d : Thread nD τ).loc main_v2 ↦{fullShare} (aP m d : Buf (Elt F) ((T d : Thread nD τ).loc main_v2))) ∗ ((T d : Thread nD τ).loc main_v22 ↦{fullShare} (gathAt m d h : Buf (Elt F) ((T d : Thread nD τ).loc main_v22)))))) := by
  rw [dn1_eq, shares_eq (ℓ := (T d : Thread nD τ).loc main_v2), shares_eq (ℓ := (T d : Thread nD τ).loc main_v21)]
  iintro ⟨HP, HY, HT⟩
  ihave HT := (spread (ℓ := (T d : Thread nD τ).loc main_v22) (fun c s => gW0 c s ∪ gW1 c s) gW_disj _ (gathAt m d h) (fun i hi => absurd (by
    obtain ⟨c, s, hc⟩ := gW_cover i
    exact Finset.mem_biUnion.mpr ⟨c, Finset.mem_univ c, Finset.mem_biUnion.mpr ⟨s, Finset.mem_univ s, hc⟩⟩) hi)) $$ HT
  icases HT with ⟨HT, HR⟩
  isplitl [HP HY HT]
  · iapply (st1_of m d h fy hy)
    isplitl [HP]; · iexact HP
    isplitl [HY]; · iexact HY
    iexact HT
  iintro ⟨HP, HT⟩
  isplitl [HP]; · iexact HP
  iapply HR; iexact HT

end Cert.KernelIdeal.Run

end
-- ==== Proof.WholeMain.lean ====
/-
  The whole kernel's run from its launch: the host's operations, the two SparseCore calls and the region between
  them, and what the program leaves in its arguments and its result.
-/
module

public import proofs.«01_k».proof.Proof.WholeDeal

@[expose] public section

set_option maxRecDepth 16384

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg) (h : PreOK m)

/-! ## The ghost state at launch -/

/-- Where the staging cells' ghost state lies. -/
abbrev EP : Emb UP 𝕄 := (Emb.inl : Emb UP (UP × Counters)).trans embR

/-- The ghost state at launch: the handshakes', the staging cells' and the transfers'. -/
def u₀ : UU := (initOf (K (F := F)).hsCells (K (F := F)).hsToks,
  (initOf (Pipeline.cells (Pipeline.pin (pcfgs (F := F)) (adm m h)) (cellOf_inj (adm m h))) (Pipeline.launchToks (Pipeline.pin (pcfgs (F := F)) (adm m h)) (cellOf_inj (adm m h))), 1))

/-- What the two regions take of it. -/
def GG (d : Dev nD) : sProp 𝕄 := iprop((Pipeline.cellsGhost (Pipeline.pin (pcfgs (F := F)) (adm m h)) EP 0 d
  ∗ Pipeline.cellsGhost (Pipeline.pin (pcfgs (F := F)) (adm m h)) EP 1 d)
  ∗ (Pipeline.toksInit (Pipeline.pin (pcfgs (F := F)) (adm m h)) EP 0 d ∗ Pipeline.toksInit (Pipeline.pin (pcfgs (F := F)) (adm m h)) EP 1 d))

/-- Many empty resources are one. -/
theorem emps {I : Type} (s : Finset I) : (bigSep s fun _ => iprop(emp)) = (iprop(emp) : sProp 𝕄) := bigSep_emp_const s

/-- The two regions' on every device. -/
theorem two_each (Φ : Fin 2 → Dev nD → sProp 𝕄) : (bigSep Finset.univ fun c : Dev nD => bigSep Finset.univ fun p : Fin 2 => Φ p c)
    = bigSep Finset.univ fun c : Dev nD => iprop(Φ 0 c ∗ Φ 1 c) :=
  bigSep_congr fun c _ => by
    rw [show (Finset.univ : Finset (Fin 2)) = {0, 1} by decide, SparseCore.bigSep_insert' (by decide), bigSep_singleton]

/-- The regions' ghost state on every device. -/
theorem GG_all : (bigSep Finset.univ fun d : Dev nD => GG m h d)
    = iprop((bigSep Finset.univ fun d : Dev nD => iprop(Pipeline.cellsGhost (Pipeline.pin (pcfgs (F := F)) (adm m h)) EP 0 d ∗ Pipeline.cellsGhost (Pipeline.pin (pcfgs (F := F)) (adm m h)) EP 1 d))
        ∗ bigSep Finset.univ fun d : Dev nD => iprop(Pipeline.toksInit (Pipeline.pin (pcfgs (F := F)) (adm m h)) EP 0 d ∗ Pipeline.toksInit (Pipeline.pin (pcfgs (F := F)) (adm m h)) EP 1 d)) := bigSep_sep' _ _ _

/-- What the launch puts aside for the calls. -/
theorem hu₀ : (ownU (u₀ m h) : sProp 𝕄)
    ⊢ |={Set.univ}=> iprop(BI.own (EH (initOf (K (F := F)).hsCells (K (F := F)).hsToks)) ∗ (bigSep Finset.univ fun d : Dev nD => GG m h d)
        ∗ bigSep Finset.univ fun thr : Thread nD τ => bigSep Finset.univ fun q : Fin 2 => (P m h).x q thr) := by
  unfold u₀
  iintro Hu
  ihave H := (ownU_pair (initOf (K (F := F)).hsCells (K (F := F)).hsToks) _) $$ Hu
  icases H with ⟨HH, HR⟩
  ihave HR := (own_pair_emb embR _ (1 : Counters)) $$ HR
  icases HR with ⟨HR, -⟩
  imod (Pipeline.fund_ghost (Pipeline.pin (pcfgs (F := F)) (adm m h)) (EP (F := F)) (cellOf_inj (adm m h))) $$ HR with ⟨HC, HT⟩
  imodintro
  isplitl [HH]; · iexact HH
  isplitl [HC HT]
  · iapply (Entails.of_eq (GG_all m h).symm)
    isplitl [HC]
    · iapply (Entails.of_eq (two_each (Pipeline.cellsGhost (Pipeline.pin (pcfgs (F := F)) (adm m h)) EP))); iexact HC
    iapply (Entails.of_eq (two_each (Pipeline.toksInit (Pipeline.pin (pcfgs (F := F)) (adm m h)) EP))); iexact HT
  rw [show (bigSep Finset.univ fun thr : Thread nD τ => bigSep Finset.univ fun q : Fin 2 => (P m h).x q thr) = bigSep Finset.univ fun _ => iprop(emp) from
    bigSep_congr fun _ _ => emps _, emps]
  iempintro

/-! ## The host's program -/

variable (d : Dev nD)

set_option maxHeartbeats 4000000 in
/-- The TensorCore's arrays, one by one. -/
theorem unscopedBufs_eq (W : (b : Ref sig .tc) → Buf (Elt F) ((T d : Thread nD τ).loc b)) :
    (unscopedBufs d W : sProp 𝕄) = iprop(((T d : Thread nD τ).loc main_arg0 ↦{fullShare} W main_arg0) ∗ ((T d : Thread nD τ).loc main_arg1 ↦{fullShare} W main_arg1) ∗ ((T d : Thread nD τ).loc main_arg2 ↦{fullShare} W main_arg2) ∗ ((T d : Thread nD τ).loc main_arg3 ↦{fullShare} W main_arg3) ∗ ((T d : Thread nD τ).loc main_arg4 ↦{fullShare} W main_arg4) ∗ ((T d : Thread nD τ).loc main_v0 ↦{fullShare} W main_v0) ∗ ((T d : Thread nD τ).loc main_v1_0 ↦{fullShare} W main_v1_0) ∗ ((T d : Thread nD τ).loc main_v1_1 ↦{fullShare} W main_v1_1) ∗ ((T d : Thread nD τ).loc main_v1_2 ↦{fullShare} W main_v1_2) ∗ ((T d : Thread nD τ).loc main_v2 ↦{fullShare} W main_v2) ∗ ((T d : Thread nD τ).loc main_v3 ↦{fullShare} W main_v3) ∗ ((T d : Thread nD τ).loc main_v4 ↦{fullShare} W main_v4) ∗ ((T d : Thread nD τ).loc main_v5 ↦{fullShare} W main_v5) ∗ ((T d : Thread nD τ).loc main_v6 ↦{fullShare} W main_v6) ∗ ((T d : Thread nD τ).loc main_v7 ↦{fullShare} W main_v7) ∗ ((T d : Thread nD τ).loc main_v8 ↦{fullShare} W main_v8) ∗ ((T d : Thread nD τ).loc main_v9 ↦{fullShare} W main_v9) ∗ ((T d : Thread nD τ).loc main_v10 ↦{fullShare} W main_v10) ∗ ((T d : Thread nD τ).loc main_v11 ↦{fullShare} W main_v11) ∗ ((T d : Thread nD τ).loc main_v12_0 ↦{fullShare} W main_v12_0) ∗ ((T d : Thread nD τ).loc main_v12_1 ↦{fullShare} W main_v12_1) ∗ ((T d : Thread nD τ).loc main_v12_2 ↦{fullShare} W main_v12_2) ∗ ((T d : Thread nD τ).loc main_v12_3 ↦{fullShare} W main_v12_3) ∗ ((T d : Thread nD τ).loc main_v13 ↦{fullShare} W main_v13) ∗ ((T d : Thread nD τ).loc main_v14 ↦{fullShare} W main_v14) ∗ ((T d : Thread nD τ).loc main_v15 ↦{fullShare} W main_v15) ∗ ((T d : Thread nD τ).loc main_v16 ↦{fullShare} W main_v16) ∗ ((T d : Thread nD τ).loc main_v17 ↦{fullShare} W main_v17) ∗ ((T d : Thread nD τ).loc main_v18 ↦{fullShare} W main_v18) ∗ ((T d : Thread nD τ).loc main_v19 ↦{fullShare} W main_v19) ∗ ((T d : Thread nD τ).loc main_v20 ↦{fullShare} W main_v20) ∗ ((T d : Thread nD τ).loc main_v21 ↦{fullShare} W main_v21) ∗ ((T d : Thread nD τ).loc main_v22 ↦{fullShare} W main_v22) ∗ ((T d : Thread nD τ).loc main_v23 ↦{fullShare} W main_v23)) := by
  unfold unscopedBufs
  rw [show (Finset.univ.filter fun b : Ref sig .tc => ¬ b.isScoped) = {main_arg0, main_arg1, main_arg2, main_arg3, main_arg4, main_v0, main_v1_0, main_v1_1, main_v1_2, main_v2, main_v3, main_v4, main_v5, main_v6, main_v7, main_v8, main_v9, main_v10, main_v11, main_v12_0, main_v12_1, main_v12_2, main_v12_3, main_v13, main_v14, main_v15, main_v16, main_v17, main_v18, main_v19, main_v20, main_v21, main_v22, main_v23} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The core owes nothing of its own protocol. -/
theorem Otc_none (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun c _ => by rw [tallyAt_apply, if_neg]; rintro ⟨-, e⟩; cases e
  · rfl

/-- What the program leaves: its arguments as they were, and its result. -/
abbrev FIN : sProp 𝕄 := iprop(((T d : Thread nD τ).loc main_arg0 ↦{fullShare} (mT m d main_arg0 : Buf (Elt F) ((T d : Thread nD τ).loc main_arg0))) ∗ ((T d : Thread nD τ).loc main_arg1 ↦{fullShare} (mT m d main_arg1 : Buf (Elt F) ((T d : Thread nD τ).loc main_arg1))) ∗ ((T d : Thread nD τ).loc main_arg2 ↦{fullShare} (mT m d main_arg2 : Buf (Elt F) ((T d : Thread nD τ).loc main_arg2))) ∗ ((T d : Thread nD τ).loc main_arg3 ↦{fullShare} (mT m d main_arg3 : Buf (Elt F) ((T d : Thread nD τ).loc main_arg3))) ∗ ((T d : Thread nD τ).loc main_arg4 ↦{fullShare} (mT m d main_arg4 : Buf (Elt F) ((T d : Thread nD τ).loc main_arg4))) ∗ ((T d : Thread nD τ).loc main_v1_0 ↦{fullShare} (scoresOf (mT m d main_arg0) (mT m d main_arg1) (aC m d) : Buf (Elt F) ((T d : Thread nD τ).loc main_v1_0))) ∗ ((T d : Thread nD τ).loc main_v23 ↦{fullShare} (outAt m d h : Buf (Elt F) ((T d : Thread nD τ).loc main_v23))))

set_option maxHeartbeats 8000000 in
/-- The host's program from its arrays. -/
theorem hmain (κ : GSem nD τ sig → ℕ) :
    iprop((K (F := F)).ctx EH (P m h) κ ∗ (K (F := F)).tcSt EH d 0 ∗ (K (F := F)).tcRes m ρ d ∗ GG m h d)
      ⊢ wp frame (wpE ((K (F := F)).defs (D (F := F))) 𝒱 (T d) none) Set.univ (main d)
          fun _ => iprop((K (F := F)).tcSt EH d 2 ∗ FIN m h d ∗ (K (F := F)).tcEnd d) := by
  obtain rfl : d = 0 := Subsingleton.elim _ _
  unfold SparseCore.Cfg.tcRes SparseCore.Cfg.tcEnd
  rw [unscopedBufs_eq]
  simp only [main, wp_bind, wp_pure]
  iintro ⟨#Hctx, Hst, ⟨Hb, ⟨Harg0, Harg1, Harg2, Harg3, Harg4, Ka, Kb, Kc, Kd, Hp2, Hp3, Hv0, Hv1, Hv2, Hv3, Hv4, Hv5, Hv6, Hv7, Hv8_0, Hv8_1, Hv8_2, Hv8_3, Hv9, Hv10, Hv11, Hv12, Hv13, Hv14, Hv15, Hv16, Hv17, Hv18, Hv19⟩, Hts, -⟩, HG⟩
  iapply (wp_rs m 0 main_arg2 main_v0 (by decide) _ _ _ _ (mT m 0 main_arg2) (mT m 0 main_v0) (aC m 0) rfl _ _) $$ [Hb Harg2 Ka]
  · isplitl [Hb]; · iexact Hb
    isplitl [Harg2]; · iexact Harg2
    iexact Ka
  iintro ⟨Hb, Harg2, Ka⟩
  unfold SparseCore.Cfg.tcSt GG
  icases Hst with ⟨HO, Hst⟩
  icases HG with ⟨⟨HC0, HC⟩, ⟨HT0, HT⟩⟩
  iapply (region0_wp (adm m h) (mT m 0 main_arg0) (mT m 0 main_arg1) (aC m 0) (mT m 0 main_v1_0) (mT m 0 main_v1_1) (mT m 0 main_v1_2) ((K (F := F)).Otc 0 0) _ 0 (rdat (adm m h) (rowsAt m 0) (aW m 0) (biasOf (aB m 0)) (mT m 0 main_v20) ((K (F := F)).Otc 0 0) 0) EP (Otc_none 0 0) _) $$ [- ]
  isplitl [Hb]; · iexact Hb
  isplitl [Harg0 Harg1 Ka Kb Kc Kd HO]
  · unfold sPre
    isplitl [Harg0]; · iexact Harg0
    isplitl [Harg1]; · iexact Harg1
    isplitl [Ka]; · iexact Ka
    isplitl [Kb]; · iexact Kb
    isplitl [Kc]; · iexact Kc
    isplitl [Kd]; · iexact Kd
    iexact HO
  isplitr; · iapply (SparseCore.Cfg.ctx_levAts κ); iexact Hctx
  isplitl [HC0]; · iexact HC0
  isplitl [HT0]; · iexact HT0
  unfold sPost
  iintro ⟨Hb, Harg0, Harg1, Ka, Kb, Kc, Kd, HO⟩
  iapply (wp_rs m 0 main_v1_1 main_v2 (by decide) _ _ _ _ (posOf (ohOf (mT m 0 main_arg0) (mT m 0 main_arg1) (aC m 0))) (mT m 0 main_v2) (aP m 0) rfl _ _) $$ [Hb Kc Hp2]
  · isplitl [Hb]; · iexact Hb
    isplitl [Kc]; · iexact Kc
    iexact Hp2
  iintro ⟨Hb, Kc, Hp2⟩
  iapply (wp_rs m 0 main_v1_2 main_v3 (by decide) _ _ _ _ (metaOf (ohOf (mT m 0 main_arg0) (mT m 0 main_arg1) (aC m 0))) (mT m 0 main_v3) (aM m 0) rfl _ _) $$ [Hb Kd Hp3]
  · isplitl [Hb]; · iexact Hb
    isplitl [Kd]; · iexact Kd
    iexact Hp3
  iintro ⟨Hb, Kd, Hp3⟩
  iapply (wp_un m 0 main_arg0 main_v4 (by decide) _ _ _ (aX m 0) (mT m 0 main_v4) _ _) $$ [Hb Harg0 Hv0]
  · isplitl [Hb]; · iexact Hb
    isplitl [Harg0]; · iexact Harg0
    iexact Hv0
  iintro ⟨Hb, Harg0, Hv0⟩
  iapply (wp_rs m 0 main_v4 main_v5 (by decide) _ _ _ _ (_) (mT m 0 main_v5) (slab0 (aX m 0)) rfl _ _) $$ [Hb Hv0 Hv1]
  · isplitl [Hb]; · iexact Hb
    isplitl [Hv0]; · iexact Hv0
    iexact Hv1
  iintro ⟨Hb, Hv0, Hv1⟩
  iapply (wp_un m 0 main_arg0 main_v6 (by decide) _ _ _ (aX m 0) (mT m 0 main_v6) _ _) $$ [Hb Harg0 Hv2]
  · isplitl [Hb]; · iexact Hb
    isplitl [Harg0]; · iexact Harg0
    iexact Hv2
  iintro ⟨Hb, Harg0, Hv2⟩
  iapply (wp_rs m 0 main_v6 main_v7 (by decide) _ _ _ _ (_) (mT m 0 main_v7) (slab1 (aX m 0)) rfl _ _) $$ [Hb Hv2 Hv3]
  · isplitl [Hb]; · iexact Hb
    isplitl [Hv2]; · iexact Hv2
    iexact Hv3
  iintro ⟨Hb, Hv2, Hv3⟩
  iapply (wp_un m 0 main_arg0 main_v8 (by decide) _ _ _ (aX m 0) (mT m 0 main_v8) _ _) $$ [Hb Harg0 Hv4]
  · isplitl [Hb]; · iexact Hb
    isplitl [Harg0]; · iexact Harg0
    iexact Hv4
  iintro ⟨Hb, Harg0, Hv4⟩
  iapply (wp_rs m 0 main_v8 main_v9 (by decide) _ _ _ _ (_) (mT m 0 main_v9) (slab2 (aX m 0)) rfl _ _) $$ [Hb Hv4 Hv5]
  · isplitl [Hb]; · iexact Hb
    isplitl [Hv4]; · iexact Hv4
    iexact Hv5
  iintro ⟨Hb, Hv4, Hv5⟩
  iapply (wp_un m 0 main_arg0 main_v10 (by decide) _ _ _ (aX m 0) (mT m 0 main_v10) _ _) $$ [Hb Harg0 Hv6]
  · isplitl [Hb]; · iexact Hb
    isplitl [Harg0]; · iexact Harg0
    iexact Hv6
  iintro ⟨Hb, Harg0, Hv6⟩
  iapply (wp_rs m 0 main_v10 main_v11 (by decide) _ _ _ _ (_) (mT m 0 main_v11) (slab3 (aX m 0)) rfl _ _) $$ [Hb Hv6 Hv7]
  · isplitl [Hb]; · iexact Hb
    isplitl [Hv6]; · iexact Hv6
    iexact Hv7
  iintro ⟨Hb, Hv6, Hv7⟩
  ihave H := (deal0 m 0 h) $$ [Hp2 Hv1 Hv3 Hv5 Hv7 Hv8_0 Hv8_1 Hv8_2 Hv8_3]
  · skip
    isplitl [Hp2]; · iexact Hp2
    isplitl [Hv1]; · iexact Hv1
    isplitl [Hv3]; · iexact Hv3
    isplitl [Hv5]; · iexact Hv5
    isplitl [Hv7]; · iexact Hv7
    isplitl [Hv8_0]; · iexact Hv8_0
    isplitl [Hv8_1]; · iexact Hv8_1
    isplitl [Hv8_2]; · iexact Hv8_2
    iexact Hv8_3
  icases H with ⟨Hop, Hback⟩
  iapply ((K (F := F)).wp_run (D (F := F)) 𝒱 (EH := EH) (P := P m h) κ 0 0) $$ [- ]
  isplitr; · iexact Hctx
  isplitl [HO Hst]
  · unfold SparseCore.Cfg.tcSt
    isplitl [HO]; · iexact HO
    iexact Hst
  isplitl [Hop]; · iexact Hop
  iintro ⟨Hst, Hdn⟩
  ispecialize Hback $$ Hdn
  icases Hback with ⟨Hp2, Hv8_0, Hv8_1, Hv8_2, Hv8_3⟩
  iapply (wp_rs m 0 main_v12_0 main_v13 (by decide) _ _ _ _ (sc0 m 0) (mT m 0 main_v13) (shapeCast S6144x256 (sc0 m 0 : S6144x2x128.Idx → Elt F .f32) shapeCasts_S6144x2x128_S6144x256) rfl _ _) $$ [Hb Hv8_0 Hv9]
  · isplitl [Hb]; · iexact Hb
    isplitl [Hv8_0]; · iexact Hv8_0
    iexact Hv9
  iintro ⟨Hb, Hv8_0, Hv9⟩
  iapply (wp_rs m 0 main_v12_1 main_v14 (by decide) _ _ _ _ (sc1 m 0) (mT m 0 main_v14) (shapeCast S6144x256 (sc1 m 0 : S6144x2x128.Idx → Elt F .f32) shapeCasts_S6144x2x128_S6144x256) rfl _ _) $$ [Hb Hv8_1 Hv10]
  · isplitl [Hb]; · iexact Hb
    isplitl [Hv8_1]; · iexact Hv8_1
    iexact Hv10
  iintro ⟨Hb, Hv8_1, Hv10⟩
  iapply (wp_rs m 0 main_v12_2 main_v15 (by decide) _ _ _ _ (sc2 m 0) (mT m 0 main_v15) (shapeCast S6144x256 (sc2 m 0 : S6144x2x128.Idx → Elt F .f32) shapeCasts_S6144x2x128_S6144x256) rfl _ _) $$ [Hb Hv8_2 Hv11]
  · isplitl [Hb]; · iexact Hb
    isplitl [Hv8_2]; · iexact Hv8_2
    iexact Hv11
  iintro ⟨Hb, Hv8_2, Hv11⟩
  iapply (wp_rs m 0 main_v12_3 main_v16 (by decide) _ _ _ _ (sc3 m 0) (mT m 0 main_v16) (shapeCast S6144x256 (sc3 m 0 : S6144x2x128.Idx → Elt F .f32) shapeCasts_S6144x2x128_S6144x256) rfl _ _) $$ [Hb Hv8_3 Hv12]
  · isplitl [Hb]; · iexact Hb
    isplitl [Hv8_3]; · iexact Hv8_3
    iexact Hv12
  iintro ⟨Hb, Hv8_3, Hv12⟩
  iapply (wp_join m 0 _ _ _ _ (mT m 0 main_v17) _ _ _ _ (rowsAt m 0) (fun u h0 h1 h2 h3 => by rw [h0, h1, h2, h3]; rfl) _) $$ [Hb Hv9 Hv10 Hv11 Hv12 Hv13]
  · skip
    isplitl [Hb]; · iexact Hb
    isplitl [Hv9]; · iexact Hv9
    isplitl [Hv10]; · iexact Hv10
    isplitl [Hv11]; · iexact Hv11
    isplitl [Hv12]; · iexact Hv12
    iexact Hv13
  iintro ⟨Hb, Hv13⟩
  iapply (wp_un m 0 main_v3 main_v18 (by decide) _ _ _ (aM m 0) (mT m 0 main_v18) _ _) $$ [Hb Hp3 Hv14]
  · isplitl [Hb]; · iexact Hb
    isplitl [Hp3]; · iexact Hp3
    iexact Hv14
  iintro ⟨Hb, Hp3, Hv14⟩
  iapply (wp_rs m 0 main_arg4 main_v19 (by decide) _ _ _ _ (aB m 0) (mT m 0 main_v19) (biasOf (aB m 0)) rfl _ _) $$ [Hb Harg4 Hv15]
  · isplitl [Hb]; · iexact Hb
    isplitl [Harg4]; · iexact Harg4
    iexact Hv15
  iintro ⟨Hb, Harg4, Hv15⟩
  unfold SparseCore.Cfg.tcSt
  icases Hst with ⟨HO, Hst⟩
  iapply (region_wp (adm m h) (rowsAt m 0) (aW m 0) (biasOf (aB m 0)) (mT m 0 main_v20) ((K (F := F)).Otc 0 1) _ 0 (rdat0 (adm m h) (mT m 0 main_arg0) (mT m 0 main_arg1) (aC m 0) (mT m 0 main_v1_0) (mT m 0 main_v1_1) (mT m 0 main_v1_2) ((K (F := F)).Otc 0 0) 0) EP (Otc_none 0 1) _) $$ [- ]
  isplitl [Hb]; · iexact Hb
  isplitl [Hv13 Harg3 Hv15 Hv16 Hv14 HO]
  · unfold rPre
    isplitl [Hv13]; · iexact Hv13
    isplitl [Harg3]; · iexact Harg3
    isplitl [Hv15]; · iexact Hv15
    isplitl [Hv16]; · iexact Hv16
    isplitl [Hv14]; · iexact Hv14
    iexact HO
  isplitr; · iapply (SparseCore.Cfg.ctx_levAts κ); iexact Hctx
  isplitl [HC]; · iexact HC
  isplitl [HT]; · iexact HT
  unfold rPost
  iintro ⟨Hb, Hv13, Harg3, Hv15, ⟨%G, %hG, Hv16⟩, Hv14, HO⟩
  iapply (wp_rs m 0 main_v20 main_v21 (by decide) _ _ _ _ (G) (mT m 0 main_v21) (linesOf G) rfl _ _) $$ [Hb Hv16 Hv17]
  · isplitl [Hb]; · iexact Hb
    isplitl [Hv16]; · iexact Hv16
    iexact Hv17
  iintro ⟨Hb, Hv16, Hv17⟩
  ihave H := (deal1 m 0 h (linesOf G) (gathered_of m 0 h G hG)) $$ [Hp2 Hv17 Hv18]
  · skip
    isplitl [Hp2]; · iexact Hp2
    isplitl [Hv17]; · iexact Hv17
    iexact Hv18
  icases H with ⟨Hop, Hback⟩
  iapply ((K (F := F)).wp_run (D (F := F)) 𝒱 (EH := EH) (P := P m h) κ 0 1) $$ [- ]
  isplitr; · iexact Hctx
  isplitl [HO Hst]
  · unfold SparseCore.Cfg.tcSt
    isplitl [HO]; · iexact HO
    iexact Hst
  isplitl [Hop]; · iexact Hop
  iintro ⟨Hst, Hdn⟩
  ispecialize Hback $$ Hdn
  icases Hback with ⟨Hp2, Hv18⟩
  iapply (wp_rs m 0 main_v22 main_v23 (by decide) _ _ _ _ (gathAt m 0 h) (mT m 0 main_v23) (outAt m 0 h) rfl _ _) $$ [Hb Hv18 Hv19]
  · isplitl [Hb]; · iexact Hb
    isplitl [Hv18]; · iexact Hv18
    iexact Hv19
  iintro ⟨Hb, Hv18, Hv19⟩
  imodintro
  isplitl [Hst]
  · unfold SparseCore.Cfg.tcSt
    iexact Hst
  isplitr [Hb Hts]
  · skip
    isplitl [Harg0]; · iexact Harg0
    isplitl [Harg1]; · iexact Harg1
    isplitl [Harg2]; · iexact Harg2
    isplitl [Harg3]; · iexact Harg3
    isplitl [Harg4]; · iexact Harg4
    isplitl [Kb]; · iexact Kb
    iexact Hv19
  isplitl [Hb] <;> iassumption

/-! ## The run -/

/-- What a final memory holds. -/
def fq (s' : Phys nD τ sig (Elt F)) : Prop := s'.mem.mem ((T d : Thread nD τ).loc main_arg0) = (mT m d main_arg0 : Buf (Elt F) ((T d : Thread nD τ).loc main_arg0)) ∧ s'.mem.mem ((T d : Thread nD τ).loc main_arg1) = (mT m d main_arg1 : Buf (Elt F) ((T d : Thread nD τ).loc main_arg1)) ∧ s'.mem.mem ((T d : Thread nD τ).loc main_arg2) = (mT m d main_arg2 : Buf (Elt F) ((T d : Thread nD τ).loc main_arg2)) ∧ s'.mem.mem ((T d : Thread nD τ).loc main_arg3) = (mT m d main_arg3 : Buf (Elt F) ((T d : Thread nD τ).loc main_arg3)) ∧ s'.mem.mem ((T d : Thread nD τ).loc main_arg4) = (mT m d main_arg4 : Buf (Elt F) ((T d : Thread nD τ).loc main_arg4)) ∧ s'.mem.mem ((T d : Thread nD τ).loc main_v1_0) = (scoresOf (mT m d main_arg0) (mT m d main_arg1) (aC m d) : Buf (Elt F) ((T d : Thread nD τ).loc main_v1_0)) ∧ s'.mem.mem ((T d : Thread nD τ).loc main_v23) = (outAt m d h : Buf (Elt F) ((T d : Thread nD τ).loc main_v23))

/-- A buffer held whole is the memory's, and is kept. -/
theorem agree (b : Ref sig .tc) (f : Buf (Elt F) ((T d : Thread nD τ).loc b)) (s' : Phys nD τ sig (Elt F)) :
    iprop(SI s' ∗ ((T d : Thread nD τ).loc b ↦{fullShare} f)) ⊢ (iprop(⌜s'.mem.mem ((T d : Thread nD τ).loc b) = f⌝ ∗ SI s') : sProp 𝕄) := by
  iintro H
  ihave H := (persistent_entails_right (SI_pointsTo_agree (st := s') (ℓ := (T d : Thread nD τ).loc b) (I := Finset.univ) (q := fullShare) (f := f))) $$ H
  icases H with ⟨%h1, HSI, -⟩
  isplitr
  · ipureintro; exact funext fun i => h1 i (Finset.mem_univ i)
  iexact HSI

/-- What the final state says, from the final resources. -/
theorem hfin (s' : Phys nD τ sig (Elt F)) : iprop(FIN m h d ∗ SI s') ⊢ (⌜fq m h d s'⌝ : sProp 𝕄) := by
  iintro ⟨⟨H0, H1, H2, H3, H4, H5, H6⟩, HS⟩
  ihave H := (agree d main_arg0 (mT m d main_arg0) s') $$ [HS H0]
  · isplitl [HS] <;> iassumption
  icases H with ⟨%h0, HS⟩
  ihave H := (agree d main_arg1 (mT m d main_arg1) s') $$ [HS H1]
  · isplitl [HS] <;> iassumption
  icases H with ⟨%h1, HS⟩
  ihave H := (agree d main_arg2 (mT m d main_arg2) s') $$ [HS H2]
  · isplitl [HS] <;> iassumption
  icases H with ⟨%h2, HS⟩
  ihave H := (agree d main_arg3 (mT m d main_arg3) s') $$ [HS H3]
  · isplitl [HS] <;> iassumption
  icases H with ⟨%h3, HS⟩
  ihave H := (agree d main_arg4 (mT m d main_arg4) s') $$ [HS H4]
  · isplitl [HS] <;> iassumption
  icases H with ⟨%h4, HS⟩
  ihave H := (agree d main_v1_0 (scoresOf (mT m d main_arg0) (mT m d main_arg1) (aC m d)) s') $$ [HS H5]
  · isplitl [HS] <;> iassumption
  icases H with ⟨%h5, HS⟩
  ihave H := (agree d main_v23 (outAt m d h) s') $$ [HS H6]
  · isplitl [HS] <;> iassumption
  icases H with ⟨%h6, HS⟩
  ipureintro
  exact ⟨h0, h1, h2, h3, h4, h5, h6⟩

/-- What a run ends with, on every device, all semaphores at zero. -/
def QC : PUnit × MemSt nD τ sig (Elt F) → Prop := fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_v1_0) = scoresOf (m ((c.tc : Thread nD τ).loc main_arg0)) (m ((c.tc : Thread nD τ).loc main_arg1)) (aC m c) ∧ r.2.mem ((c.tc : Thread nD τ).loc main_v23) = outAt m c h)
  ∧ r.2.sem = fun _ => 0

/-- The program runs from every memory whose tables meet what the calls ask, and ends with the results. -/
theorem run_main [∀ e, Nonempty (Elt F e)] :
    θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := P m h) (A := ∅) facts v₀
    (fun q hq => match q with | 0 => nomatch hq | 1 => nomatch hq)
    (fun q _ => match q with | 0 => obl0 m h | 1 => obl1 m h)
    (fun q _ => match q with | 0 => SparseCore.Cfg.VecSplit.of_plain (split0 m h) | 1 => SparseCore.Cfg.VecSplit.of_plain (split1 m h))
    m ρ main (fun d => GG m h d) (fun d => FIN m h d) (u₀ m h) (sep_elim_left.trans (hu₀ m h)) (fun κ d => hmain m ρ h d κ) (fun d => fq m h d) (fun d => hfin m h d) (QC m h) (fun _ hs hz => ⟨hs, hz⟩)

end Cert.KernelIdeal.Run

end
-- ==== Proof.WholeCount.lean ====
/-
  Counting for the routing of the whole kernel, in natural numbers only: tokens of an expert before a token, by the
  kernel's windows and block sums; the slots that the counts give; and that these are distinct, in range and in their
  expert's groups.
-/
module

public import Idealize.ShloMosaic.Lib.Pointwise

@[expose] public section

noncomputable section

namespace Cert.Count

variable (p : Fin 4096 → Fin 8)

/-- One where token `s` is of expert `e`. -/
def mark (e s : ℕ) : ℕ := if h : s < 4096 then (if (p ⟨s, h⟩).val = e then 1 else 0) else 0
/-- The tokens of expert `e` among the first `n`. -/
def cnt (e n : ℕ) : ℕ := ∑ s ∈ Finset.range n, mark p e s
/-- Those among the last `d` up to and with `t`, within `t`'s block of 128. -/
def win (e d t : ℕ) : ℕ := ∑ i ∈ Finset.range d, if i ≤ t % 128 then mark p e (t - i) else 0
/-- Those in block `b` of 128. -/
def blk (e b : ℕ) : ℕ := ∑ i ∈ Finset.range 128, mark p e (128 * b + i)

variable (e : ℕ)

/-- A window of one token is its mark. -/
theorem win_one (t : ℕ) : win p e 1 t = mark p e t := by
  unfold win
  rw [Finset.sum_range_one, if_pos (Nat.zero_le _), Nat.sub_zero]

/-- A window twice as long is two windows. -/
theorem win_double (d t : ℕ) : win p e (d + d) t = win p e d t + if d ≤ t % 128 then win p e d (t - d) else 0 := by
  unfold win
  rw [Finset.sum_range_add]
  congr 1
  by_cases h : d ≤ t % 128
  · rw [if_pos h]
    refine Finset.sum_congr rfl fun i _ => ?_
    have h1 : (t - d) % 128 = t % 128 - d := by omega
    have h2 : t - (d + i) = t - d - i := by omega
    rw [h1, h2]
    by_cases h3 : d + i ≤ t % 128
    · rw [if_pos h3, if_pos (by omega)]
    · rw [if_neg h3, if_neg (by omega)]
  · rw [if_neg h]
    exact Finset.sum_eq_zero fun i _ => if_neg (by omega)

/-- The window of a whole block, with what lies before the block. -/
theorem win_full (t : ℕ) : win p e 128 t + cnt p e (128 * (t / 128)) = cnt p e (t + 1) := by
  have key : ∀ N : ℕ, N = (t % 128 + 1) + (127 - t % 128) → win p e N t = ∑ i ∈ Finset.range (t % 128 + 1), mark p e (t - i) := fun N hN => by
    unfold win
    rw [hN, Finset.sum_range_add]
    refine (congrArg₂ (· + ·) (Finset.sum_congr rfl fun i hi => if_pos (by have := Finset.mem_range.1 hi; omega))
      (Finset.sum_eq_zero fun i _ => if_neg (by omega))).trans (add_zero _)
  have h1 : cnt p e (t + 1) = cnt p e (128 * (t / 128)) + ∑ i ∈ Finset.range (t % 128 + 1), mark p e (128 * (t / 128) + i) := by
    unfold cnt
    rw [← Finset.sum_range_add]
    congr 2
    omega
  rw [key 128 (by omega), h1, add_comm, ← Finset.sum_range_reflect (fun j => mark p e (128 * (t / 128) + j)) (t % 128 + 1)]
  refine congrArg (_ + ·) (Finset.sum_congr rfl fun i hi => congrArg (mark p e) ?_)
  have := Finset.mem_range.1 hi
  omega

/-- A block's sum from all tokens. -/
theorem blk_eq (b : ℕ) (hb : b < 32) : (∑ s : Fin 4096, if s.val / 128 = b then mark p e s.val else 0) = blk p e b := by
  rw [Fin.sum_univ_eq_sum_range (fun s => if s / 128 = b then mark p e s else 0) 4096,
    show (4096 : ℕ) = 128 * b + (128 + (4096 - 128 * b - 128)) by omega, Finset.sum_range_add, Finset.sum_range_add]
  rw [Finset.sum_eq_zero (s := Finset.range (128 * b)) fun i hi => if_neg (by have := Finset.mem_range.1 hi; omega), zero_add]
  rw [Finset.sum_eq_zero (s := Finset.range (4096 - 128 * b - 128)) fun i hi => if_neg (by omega), add_zero]
  unfold blk
  refine Finset.sum_congr rfl fun i hi => ?_
  have := Finset.mem_range.1 hi
  rw [if_pos (by omega)]

/-- The count before a block is the sum over the blocks before it. -/
theorem cnt_blocks (b : ℕ) : cnt p e (128 * b) = ∑ c ∈ Finset.range b, blk p e c := by
  induction b with
  | zero => simp [cnt]
  | succ b ih =>
    rw [Finset.sum_range_succ, ← ih, Nat.mul_succ]
    unfold cnt blk
    rw [Finset.sum_range_add]

/-- The sums of the blocks before block `b`. -/
theorem before_eq (b : ℕ) (hb : b < 32) : (∑ c : Fin 32, if c.val < b then blk p e c.val else 0) = cnt p e (128 * b) := by
  rw [Fin.sum_univ_eq_sum_range (fun c => if c < b then blk p e c else 0) 32, show (32 : ℕ) = b + (32 - b) by omega, Finset.sum_range_add,
    Finset.sum_eq_zero (s := Finset.range (32 - b)) fun i _ => if_neg (by omega), add_zero, cnt_blocks]
  exact Finset.sum_congr rfl fun i hi => if_pos (Finset.mem_range.1 hi)

/-- The count grows by a token's mark. -/
theorem cnt_succ (n : ℕ) : cnt p e (n + 1) = cnt p e n + mark p e n := Finset.sum_range_succ _ _
/-- The count grows. -/
theorem cnt_mono {a b : ℕ} (h : a ≤ b) : cnt p e a ≤ cnt p e b :=
  Finset.sum_le_sum_of_subset (Finset.range_mono h)
/-- A token marks its own expert. -/
theorem mark_self (t : Fin 4096) : mark p (p t).val t.val = 1 := by
  unfold mark
  rw [dif_pos t.isLt, if_pos rfl]
/-- A token's own expert's count grows by one at it. -/
theorem cnt_self (t : Fin 4096) : cnt p (p t).val (t.val + 1) = cnt p (p t).val t.val + 1 := by
  rw [cnt_succ, mark_self]
/-- A count of tokens is at most their number. -/
theorem cnt_le (n : ℕ) : cnt p e n ≤ n := by
  unfold cnt
  refine (Finset.sum_le_card_nsmul _ _ 1 fun s _ => ?_).trans (by simp)
  unfold mark; split_ifs <;> omega
/-- Every token is of one expert. -/
theorem cnt_total : (∑ k ∈ Finset.range 8, cnt p k 4096) = 4096 := by
  unfold cnt
  rw [Finset.sum_comm]
  have h : ∀ s ∈ Finset.range 4096, (∑ k ∈ Finset.range 8, mark p k s) = 1 := fun s hs => by
    have hs' := Finset.mem_range.1 hs
    rw [Finset.sum_eq_single (p ⟨s, hs'⟩).val]
    · exact mark_self p ⟨s, hs'⟩
    · intro k _ hk
      unfold mark
      rw [dif_pos hs', if_neg (Ne.symm hk)]
    · intro h; exact absurd (Finset.mem_range.2 (p ⟨s, hs'⟩).isLt) h
  rw [Finset.sum_congr rfl h]; simp

/-- An expert's count, up to whole groups of 256. -/
def pad (k : ℕ) : ℕ := (cnt p k 4096 + 255) / 256 * 256
/-- Where an expert's groups begin. -/
def base (k : ℕ) : ℕ := ∑ j ∈ Finset.range k, pad p j
/-- A token's slot. -/
def slot (t : Fin 4096) : ℕ := base p (p t).val + cnt p (p t).val (t.val + 1) - 1

/-- An expert's groups come after those before it. -/
theorem base_succ (k : ℕ) : base p (k + 1) = base p k + pad p k := Finset.sum_range_succ _ _
/-- The bases grow. -/
theorem base_mono {a b : ℕ} (h : a ≤ b) : base p a ≤ base p b := Finset.sum_le_sum_of_subset (Finset.range_mono h)
/-- Bases are whole groups. -/
theorem base_dvd (k : ℕ) : 256 ∣ base p k := Finset.dvd_sum fun j _ => Dvd.intro_left _ rfl
/-- The groups of all experts end early enough. -/
theorem base_le : base p 8 ≤ 6136 := by
  have h : base p 8 ≤ ∑ k ∈ Finset.range 8, (cnt p k 4096 + 255) := Finset.sum_le_sum fun k _ => Nat.div_mul_le_self _ _
  rw [Finset.sum_add_distrib, cnt_total] at h
  simpa using h
/-- A token's slot is not before its expert's base. -/
theorem slot_ge (t : Fin 4096) : base p (p t).val ≤ slot p t := by
  have := cnt_self p t
  unfold slot; omega
/-- A token's slot is before the next expert's base. -/
theorem slot_lt_end (t : Fin 4096) : slot p t < base p ((p t).val + 1) := by
  have h1 := cnt_self p t
  have h2 : cnt p (p t).val (t.val + 1) ≤ cnt p (p t).val 4096 := cnt_mono p _ (by omega)
  rw [base_succ]
  unfold slot pad
  omega
/-- Slots are in range. -/
theorem slot_lt (t : Fin 4096) : slot p t < 6144 :=
  ((slot_lt_end p t).trans_le (base_mono p (show (p t).val + 1 ≤ 8 by omega))).trans_le ((base_le p).trans (by omega))
/-- Slots are distinct. -/
theorem slot_inj : Function.Injective (slot p) := by
  have key : ∀ t u : Fin 4096, t < u → slot p t ≠ slot p u := fun t u h he => by
    rcases lt_trichotomy (p t).val (p u).val with hp | hp | hp
    · have := slot_lt_end p t
      have := slot_ge p u
      have := base_mono p (show (p t).val + 1 ≤ (p u).val by omega)
      omega
    · have h1 := cnt_self p t
      have h2 := cnt_self p u
      have h3 : cnt p (p t).val (t.val + 1) ≤ cnt p (p t).val u.val := cnt_mono p _ h
      unfold slot at he
      rw [← hp] at he h2
      omega
    · have := slot_lt_end p u
      have := slot_ge p t
      have := base_mono p (show (p u).val + 1 ≤ (p t).val by omega)
      omega
  intro t u he
  rcases lt_trichotomy t u with h | h | h
  · exact absurd he (key t u h)
  · exact h
  · exact absurd he.symm (key u t h)

/-- The experts whose groups end at or before the group of a token's slot are those before the token's. -/
theorem end_le_iff (t : Fin 4096) (k : ℕ) : base p (k + 1) ≤ 256 * (slot p t / 256) ↔ k < (p t).val := by
  have h1 := slot_ge p t
  have h2 := slot_lt_end p t
  obtain ⟨c, hc⟩ := base_dvd p (p t).val
  constructor
  · intro h
    by_contra hk
    have := base_mono p (show (p t).val + 1 ≤ k + 1 by omega)
    omega
  · intro h
    have := base_mono p (show k + 1 ≤ (p t).val by omega)
    omega

/-- So they are as many as the token's expert's number. -/
theorem ends (t : Fin 4096) : (∑ k : Fin 8, if base p (k.val + 1) ≤ 256 * (slot p t / 256) then 1 else 0) = (p t).val := by
  have h : ∀ n : Fin 8, (∑ k : Fin 8, if k.val < n.val then 1 else 0) = n.val := by decide
  rw [← h (p t)]
  refine Finset.sum_congr rfl fun k _ => ?_
  exact if_congr (end_le_iff p t k.val) rfl rfl

end Cert.Count

end
-- ==== Proof.WholeSlots.lean ====
/-
  The routing of the whole kernel in exact arithmetic: of one-hot rows the counts, the bases, the slots and the groups'
  experts are the numbers that `Cert.Count` names.
-/
module

public import proofs.«01_k».proof.Proof.WholeRoute
public import proofs.«01_k».proof.Proof.WholeCount
public import Idealize.ShloMosaic.Lib.Pointwise.Contract
public import Idealize.ShloMosaic.Lib.Pointwise

@[expose] public section

set_option maxRecDepth 16384

noncomputable section

namespace Cert.Slots

open Cert.KernelIdeal hiding ix2
open Cert.KernelIdeal.Run Cert.Count
open Cert.KernelIdeal.Gen
open Idealize.ShloMosaic Idealize.ShloMosaic.TcCoe Idealize.SL.Sem

/-! ## Numbers as elements -/

/-- A natural number as an exact float. -/
def N (n : ℕ) : EReal := ((n : ℝ) : EReal)
/-- The number zero. -/
theorem N_zero : N 0 = 0 := by simp [N]
/-- The number one. -/
theorem N_one : N 1 = 1 := by simp [N]
/-- Sums of whole numbers. -/
theorem N_add (a b : ℕ) : N a + N b = N (a + b) := by unfold N; rw [← EReal.coe_add, Nat.cast_add]
/-- Products of whole numbers. -/
theorem N_mul (a b : ℕ) : N a * N b = N (a * b) := by unfold N; rw [← EReal.coe_mul, Nat.cast_mul]
/-- Finite sums of whole numbers. -/
theorem N_sum {ι : Type} (s : Finset ι) (f : ι → ℕ) : (∑ i ∈ s, N (f i)) = N (∑ i ∈ s, f i) := by
  classical
  induction s using Finset.induction_on with
  | empty => rw [Finset.sum_empty, Finset.sum_empty, N_zero]
  | insert a s h ih => rw [Finset.sum_insert h, Finset.sum_insert h, ih, N_add]

/-- A small number's word. -/
theorem toInt_small (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]
/-- A small number's word. -/
theorem toNat_small (n : ℕ) (h : n < 2 ^ 31) : (BitVec.ofNat 32 n).toNat = n := by
  rw [BitVec.toNat_ofNat]; exact Nat.mod_eq_of_lt (by omega)
/-- A small whole number becomes its word. -/
theorem fptosi_N (n : ℕ) (h : n < 2 ^ 31) : (FloatOps.fptosi 32 (show Ideal .f32 from N n) : BitVec 32) = BitVec.ofNat 32 n := by
  show BitVec.ofInt 32 (Ideal.toIntClamped (-(2 ^ (32 - 1) : Nat)) ((2 ^ (32 - 1) : Nat) - 1) ((n : ℝ) : EReal)) = _
  have : Ideal.toIntClamped (-(2 ^ (32 - 1) : Nat)) ((2 ^ (32 - 1) : Nat) - 1) ((n : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    omega
  rw [this]
  exact BitVec.ofInt_natCast 32 n
/-- A bit becomes zero or one. -/
theorem sitofp_bit (b : Bool) : (FloatOps.sitofp .f32 (BitVec.setWidth 32 (BitVec.ofBool b)) : Ideal .f32) = N (if b = true then 1 else 0) := by
  show (((BitVec.setWidth 32 (BitVec.ofBool b)).toInt : ℝ) : EReal) = _
  cases b
  · have : (BitVec.setWidth 32 (BitVec.ofBool false)).toInt = 0 := by decide
    rw [this]; simp [N]
  · have : (BitVec.setWidth 32 (BitVec.ofBool true)).toInt = 1 := by decide
    rw [this]; simp [N]
/-- Words of small numbers are equal when the numbers are. -/
theorem eq_small (a b : ℕ) (ha : a < 2 ^ 31) (hb : b < 2 ^ 31) : (BitVec.ofNat 32 a == BitVec.ofNat 32 b) = decide (a = b) := by
  by_cases h : a = b
  · subst h; simp
  · rw [decide_eq_false h]
    refine beq_false_of_ne fun he => h ?_
    have := congrArg BitVec.toNat he
    rwa [toNat_small a ha, toNat_small b hb] at this
/-- Words of small numbers compare as the numbers. -/
theorem slt_small (a b : ℕ) (ha : a < 2 ^ 31) (hb : b < 2 ^ 31) : (BitVec.ofNat 32 a).slt (BitVec.ofNat 32 b) = decide (a < b) := by
  unfold BitVec.slt
  rw [toInt_small a ha, toInt_small b hb]
  exact decide_eq_decide.2 Nat.cast_lt
/-- Words of small numbers compare as the numbers. -/
theorem sle_small (a b : ℕ) (ha : a < 2 ^ 31) (hb : b < 2 ^ 31) : (BitVec.ofNat 32 a).sle (BitVec.ofNat 32 b) = decide (a ≤ b) := by
  unfold BitVec.sle
  rw [toInt_small a ha, toInt_small b hb]
  exact decide_eq_decide.2 Nat.cast_le
/-- A sum of words is the word of the sum. -/
theorem fold_addi {ι : Type} (s : Finset ι) (f : ι → ℕ) : s.fold IntOp.addi (0#32) (fun i => BitVec.ofNat 32 (f i)) = BitVec.ofNat 32 (∑ i ∈ s, f i) := by
  classical
  induction s using Finset.induction_on with
  | empty => rfl
  | insert a s h ih => rw [Finset.fold_insert h, ih, Finset.sum_insert h, BitVec.ofNat_add]; rfl

/-- The word of zero. -/
theorem zero_word : (Scalar.ofBits .f32 0x00000000#32 : Ideal .f32) = 0 := Ideal.ofBits_zero_f32

/-! ## The shifts and adds -/

/-- A token's place in its block of 128. -/
theorem rem_apply (i : Fin 4096) : k0_pay7 (ix2 i (0 : Fin 1)) = BitVec.ofNat 32 (i.val % 128) := by
  unfold k0_pay7
  pointwise
  revert i
  decide +kernel

/-- One step: what stands 1 rows above is added, within a block. -/
def st1 (v : FVec Ideal S4096x8 .f32) : FVec Ideal S4096x8 .f32 :=
  addf v (select (broadcastTo S4096x8 (shapeCast S4096x1 (cmpi .sge k0_pay7 (broadcast S4096x1 1#32)) shapeCasts_S4096x1_S4096x1) broadcasts_S4096x1_S4096x8)
    (concatenate S4096x8 0 [⟨S1x8, broadcast S1x8 (Scalar.ofBits .f32 0x00000000#32)⟩, ⟨S4095x8, extractStridedSlice S4095x8 ![0, 0] v slices_S4096x8_o0_0_S4095x8⟩] concatenates_S1x8_S4095x8_S4096x8_d0)
    (broadcast S4096x8 (Scalar.ofBits .f32 0x00000000#32)))
/-- The step that shifts by one doubles the window. -/
theorem st1_win (p : Fin 4096 → Fin 8) (v : FVec Ideal S4096x8 .f32) (h : ∀ t e, v (ix2 t e) = N (win p e.val 1 t.val)) (t : Fin 4096) (e : Fin 8) :
    st1 v (ix2 t e) = N (win p e.val 2 t.val) := by
  unfold st1
  pointwise
  rw [rem_apply, h]
  refine Eq.trans ?_ (congrArg N (show win p e.val 2 t.val = _ from win_double p e.val 1 t.val)).symm
  have hm : t.val % 128 < 128 := Nat.mod_lt _ (by decide)
  show N _ + (if IntOp.cmpi .sge (BitVec.ofNat 32 (t.val % 128)) (BitVec.ofNat 32 1) = 1 then _ else _) = _
  have hc : IntOp.cmpi .sge (BitVec.ofNat 32 (t.val % 128)) (BitVec.ofNat 32 1) = BitVec.ofBool (decide (1 ≤ t.val % 128)) :=
    congrArg BitVec.ofBool (sle_small 1 _ (by omega) (by omega))
  rw [hc]
  by_cases hd : 1 ≤ t.val % 128
  · rw [decide_eq_true hd, if_pos hd, if_pos (by rfl)]
    exact (congrArg (N _ + ·) ((dif_neg (show ¬ t.val < 1 by omega)).trans (h _ _))).trans (N_add _ _)
  · rw [decide_eq_false hd, if_neg hd, if_neg (by decide)]
    exact (congrArg (N _ + ·) N_zero.symm).trans (N_add _ 0)

/-- One step: what stands 2 rows above is added, within a block. -/
def st2 (v : FVec Ideal S4096x8 .f32) : FVec Ideal S4096x8 .f32 :=
  addf v (select (broadcastTo S4096x8 (shapeCast S4096x1 (cmpi .sge k0_pay7 (broadcast S4096x1 2#32)) shapeCasts_S4096x1_S4096x1) broadcasts_S4096x1_S4096x8)
    (concatenate S4096x8 0 [⟨S2x8, broadcast S2x8 (Scalar.ofBits .f32 0x00000000#32)⟩, ⟨S4094x8, extractStridedSlice S4094x8 ![0, 0] v slices_S4096x8_o0_0_S4094x8⟩] concatenates_S2x8_S4094x8_S4096x8_d0)
    (broadcast S4096x8 (Scalar.ofBits .f32 0x00000000#32)))
/-- The step that shifts by two doubles the window. -/
theorem st2_win (p : Fin 4096 → Fin 8) (v : FVec Ideal S4096x8 .f32) (h : ∀ t e, v (ix2 t e) = N (win p e.val 2 t.val)) (t : Fin 4096) (e : Fin 8) :
    st2 v (ix2 t e) = N (win p e.val 4 t.val) := by
  unfold st2
  pointwise
  rw [rem_apply, h]
  refine Eq.trans ?_ (congrArg N (show win p e.val 4 t.val = _ from win_double p e.val 2 t.val)).symm
  have hm : t.val % 128 < 128 := Nat.mod_lt _ (by decide)
  show N _ + (if IntOp.cmpi .sge (BitVec.ofNat 32 (t.val % 128)) (BitVec.ofNat 32 2) = 1 then _ else _) = _
  have hc : IntOp.cmpi .sge (BitVec.ofNat 32 (t.val % 128)) (BitVec.ofNat 32 2) = BitVec.ofBool (decide (2 ≤ t.val % 128)) :=
    congrArg BitVec.ofBool (sle_small 2 _ (by omega) (by omega))
  rw [hc]
  by_cases hd : 2 ≤ t.val % 128
  · rw [decide_eq_true hd, if_pos hd, if_pos (by rfl)]
    exact (congrArg (N _ + ·) ((dif_neg (show ¬ t.val < 2 by omega)).trans (h _ _))).trans (N_add _ _)
  · rw [decide_eq_false hd, if_neg hd, if_neg (by decide)]
    exact (congrArg (N _ + ·) N_zero.symm).trans (N_add _ 0)

/-- One step: what stands 4 rows above is added, within a block. -/
def st4 (v : FVec Ideal S4096x8 .f32) : FVec Ideal S4096x8 .f32 :=
  addf v (select (broadcastTo S4096x8 (shapeCast S4096x1 (cmpi .sge k0_pay7 (broadcast S4096x1 4#32)) shapeCasts_S4096x1_S4096x1) broadcasts_S4096x1_S4096x8)
    (concatenate S4096x8 0 [⟨S4x8, broadcast S4x8 (Scalar.ofBits .f32 0x00000000#32)⟩, ⟨S4092x8, extractStridedSlice S4092x8 ![0, 0] v slices_S4096x8_o0_0_S4092x8⟩] concatenates_S4x8_S4092x8_S4096x8_d0)
    (broadcast S4096x8 (Scalar.ofBits .f32 0x00000000#32)))
/-- The step that shifts by four doubles the window. -/
theorem st4_win (p : Fin 4096 → Fin 8) (v : FVec Ideal S4096x8 .f32) (h : ∀ t e, v (ix2 t e) = N (win p e.val 4 t.val)) (t : Fin 4096) (e : Fin 8) :
    st4 v (ix2 t e) = N (win p e.val 8 t.val) := by
  unfold st4
  pointwise
  rw [rem_apply, h]
  refine Eq.trans ?_ (congrArg N (show win p e.val 8 t.val = _ from win_double p e.val 4 t.val)).symm
  have hm : t.val % 128 < 128 := Nat.mod_lt _ (by decide)
  show N _ + (if IntOp.cmpi .sge (BitVec.ofNat 32 (t.val % 128)) (BitVec.ofNat 32 4) = 1 then _ else _) = _
  have hc : IntOp.cmpi .sge (BitVec.ofNat 32 (t.val % 128)) (BitVec.ofNat 32 4) = BitVec.ofBool (decide (4 ≤ t.val % 128)) :=
    congrArg BitVec.ofBool (sle_small 4 _ (by omega) (by omega))
  rw [hc]
  by_cases hd : 4 ≤ t.val % 128
  · rw [decide_eq_true hd, if_pos hd, if_pos (by rfl)]
    exact (congrArg (N _ + ·) ((dif_neg (show ¬ t.val < 4 by omega)).trans (h _ _))).trans (N_add _ _)
  · rw [decide_eq_false hd, if_neg hd, if_neg (by decide)]
    exact (congrArg (N _ + ·) N_zero.symm).trans (N_add _ 0)

/-- One step: what stands 8 rows above is added, within a block. -/
def st8 (v : FVec Ideal S4096x8 .f32) : FVec Ideal S4096x8 .f32 :=
  addf v (select (broadcastTo S4096x8 (shapeCast S4096x1 (cmpi .sge k0_pay7 (broadcast S4096x1 8#32)) shapeCasts_S4096x1_S4096x1) broadcasts_S4096x1_S4096x8)
    (concatenate S4096x8 0 [⟨S8x8, broadcast S8x8 (Scalar.ofBits .f32 0x00000000#32)⟩, ⟨S4088x8, extractStridedSlice S4088x8 ![0, 0] v slices_S4096x8_o0_0_S4088x8⟩] concatenates_S8x8_S4088x8_S4096x8_d0)
    (broadcast S4096x8 (Scalar.ofBits .f32 0x00000000#32)))
/-- The step that shifts by eight doubles the window. -/
theorem st8_win (p : Fin 4096 → Fin 8) (v : FVec Ideal S4096x8 .f32) (h : ∀ t e, v (ix2 t e) = N (win p e.val 8 t.val)) (t : Fin 4096) (e : Fin 8) :
    st8 v (ix2 t e) = N (win p e.val 16 t.val) := by
  unfold st8
  pointwise
  rw [rem_apply, h]
  refine Eq.trans ?_ (congrArg N (show win p e.val 16 t.val = _ from win_double p e.val 8 t.val)).symm
  have hm : t.val % 128 < 128 := Nat.mod_lt _ (by decide)
  show N _ + (if IntOp.cmpi .sge (BitVec.ofNat 32 (t.val % 128)) (BitVec.ofNat 32 8) = 1 then _ else _) = _
  have hc : IntOp.cmpi .sge (BitVec.ofNat 32 (t.val % 128)) (BitVec.ofNat 32 8) = BitVec.ofBool (decide (8 ≤ t.val % 128)) :=
    congrArg BitVec.ofBool (sle_small 8 _ (by omega) (by omega))
  rw [hc]
  by_cases hd : 8 ≤ t.val % 128
  · rw [decide_eq_true hd, if_pos hd, if_pos (by rfl)]
    exact (congrArg (N _ + ·) ((dif_neg (show ¬ t.val < 8 by omega)).trans (h _ _))).trans (N_add _ _)
  · rw [decide_eq_false hd, if_neg hd, if_neg (by decide)]
    exact (congrArg (N _ + ·) N_zero.symm).trans (N_add _ 0)

/-- One step: what stands 16 rows above is added, within a block. -/
def st16 (v : FVec Ideal S4096x8 .f32) : FVec Ideal S4096x8 .f32 :=
  addf v (select (broadcastTo S4096x8 (shapeCast S4096x1 (cmpi .sge k0_pay7 (broadcast S4096x1 16#32)) shapeCasts_S4096x1_S4096x1) broadcasts_S4096x1_S4096x8)
    (concatenate S4096x8 0 [⟨S16x8, broadcast S16x8 (Scalar.ofBits .f32 0x00000000#32)⟩, ⟨S4080x8, extractStridedSlice S4080x8 ![0, 0] v slices_S4096x8_o0_0_S4080x8⟩] concatenates_S16x8_S4080x8_S4096x8_d0)
    (broadcast S4096x8 (Scalar.ofBits .f32 0x00000000#32)))
/-- The step that shifts by sixteen doubles the window. -/
theorem st16_win (p : Fin 4096 → Fin 8) (v : FVec Ideal S4096x8 .f32) (h : ∀ t e, v (ix2 t e) = N (win p e.val 16 t.val)) (t : Fin 4096) (e : Fin 8) :
    st16 v (ix2 t e) = N (win p e.val 32 t.val) := by
  unfold st16
  pointwise
  rw [rem_apply, h]
  refine Eq.trans ?_ (congrArg N (show win p e.val 32 t.val = _ from win_double p e.val 16 t.val)).symm
  have hm : t.val % 128 < 128 := Nat.mod_lt _ (by decide)
  show N _ + (if IntOp.cmpi .sge (BitVec.ofNat 32 (t.val % 128)) (BitVec.ofNat 32 16) = 1 then _ else _) = _
  have hc : IntOp.cmpi .sge (BitVec.ofNat 32 (t.val % 128)) (BitVec.ofNat 32 16) = BitVec.ofBool (decide (16 ≤ t.val % 128)) :=
    congrArg BitVec.ofBool (sle_small 16 _ (by omega) (by omega))
  rw [hc]
  by_cases hd : 16 ≤ t.val % 128
  · rw [decide_eq_true hd, if_pos hd, if_pos (by rfl)]
    exact (congrArg (N _ + ·) ((dif_neg (show ¬ t.val < 16 by omega)).trans (h _ _))).trans (N_add _ _)
  · rw [decide_eq_false hd, if_neg hd, if_neg (by decide)]
    exact (congrArg (N _ + ·) N_zero.symm).trans (N_add _ 0)

/-- One step: what stands 32 rows above is added, within a block. -/
def st32 (v : FVec Ideal S4096x8 .f32) : FVec Ideal S4096x8 .f32 :=
  addf v (select (broadcastTo S4096x8 (shapeCast S4096x1 (cmpi .sge k0_pay7 (broadcast S4096x1 32#32)) shapeCasts_S4096x1_S4096x1) broadcasts_S4096x1_S4096x8)
    (concatenate S4096x8 0 [⟨S32x8, broadcast S32x8 (Scalar.ofBits .f32 0x00000000#32)⟩, ⟨S4064x8, extractStridedSlice S4064x8 ![0, 0] v slices_S4096x8_o0_0_S4064x8⟩] concatenates_S32x8_S4064x8_S4096x8_d0)
    (broadcast S4096x8 (Scalar.ofBits .f32 0x00000000#32)))
/-- The step that shifts by thirty-two doubles the window. -/
theorem st32_win (p : Fin 4096 → Fin 8) (v : FVec Ideal S4096x8 .f32) (h : ∀ t e, v (ix2 t e) = N (win p e.val 32 t.val)) (t : Fin 4096) (e : Fin 8) :
    st32 v (ix2 t e) = N (win p e.val 64 t.val) := by
  unfold st32
  pointwise
  rw [rem_apply, h]
  refine Eq.trans ?_ (congrArg N (show win p e.val 64 t.val = _ from win_double p e.val 32 t.val)).symm
  have hm : t.val % 128 < 128 := Nat.mod_lt _ (by decide)
  show N _ + (if IntOp.cmpi .sge (BitVec.ofNat 32 (t.val % 128)) (BitVec.ofNat 32 32) = 1 then _ else _) = _
  have hc : IntOp.cmpi .sge (BitVec.ofNat 32 (t.val % 128)) (BitVec.ofNat 32 32) = BitVec.ofBool (decide (32 ≤ t.val % 128)) :=
    congrArg BitVec.ofBool (sle_small 32 _ (by omega) (by omega))
  rw [hc]
  by_cases hd : 32 ≤ t.val % 128
  · rw [decide_eq_true hd, if_pos hd, if_pos (by rfl)]
    exact (congrArg (N _ + ·) ((dif_neg (show ¬ t.val < 32 by omega)).trans (h _ _))).trans (N_add _ _)
  · rw [decide_eq_false hd, if_neg hd, if_neg (by decide)]
    exact (congrArg (N _ + ·) N_zero.symm).trans (N_add _ 0)

/-- One step: what stands 64 rows above is added, within a block. -/
def st64 (v : FVec Ideal S4096x8 .f32) : FVec Ideal S4096x8 .f32 :=
  addf v (select (broadcastTo S4096x8 (shapeCast S4096x1 (cmpi .sge k0_pay7 (broadcast S4096x1 64#32)) shapeCasts_S4096x1_S4096x1) broadcasts_S4096x1_S4096x8)
    (concatenate S4096x8 0 [⟨S64x8, broadcast S64x8 (Scalar.ofBits .f32 0x00000000#32)⟩, ⟨S4032x8, extractStridedSlice S4032x8 ![0, 0] v slices_S4096x8_o0_0_S4032x8⟩] concatenates_S64x8_S4032x8_S4096x8_d0)
    (broadcast S4096x8 (Scalar.ofBits .f32 0x00000000#32)))
/-- The step that shifts by sixty-four doubles the window. -/
theorem st64_win (p : Fin 4096 → Fin 8) (v : FVec Ideal S4096x8 .f32) (h : ∀ t e, v (ix2 t e) = N (win p e.val 64 t.val)) (t : Fin 4096) (e : Fin 8) :
    st64 v (ix2 t e) = N (win p e.val 128 t.val) := by
  unfold st64
  pointwise
  rw [rem_apply, h]
  refine Eq.trans ?_ (congrArg N (show win p e.val 128 t.val = _ from win_double p e.val 64 t.val)).symm
  have hm : t.val % 128 < 128 := Nat.mod_lt _ (by decide)
  show N _ + (if IntOp.cmpi .sge (BitVec.ofNat 32 (t.val % 128)) (BitVec.ofNat 32 64) = 1 then _ else _) = _
  have hc : IntOp.cmpi .sge (BitVec.ofNat 32 (t.val % 128)) (BitVec.ofNat 32 64) = BitVec.ofBool (decide (64 ≤ t.val % 128)) :=
    congrArg BitVec.ofBool (sle_small 64 _ (by omega) (by omega))
  rw [hc]
  by_cases hd : 64 ≤ t.val % 128
  · rw [decide_eq_true hd, if_pos hd, if_pos (by rfl)]
    exact (congrArg (N _ + ·) ((dif_neg (show ¬ t.val < 64 by omega)).trans (h _ _))).trans (N_add _ _)
  · rw [decide_eq_false hd, if_neg hd, if_neg (by decide)]
    exact (congrArg (N _ + ·) N_zero.symm).trans (N_add _ 0)

section Rows

variable (oh : FVec Ideal S4096x8 .f32) (p : Fin 4096 → Fin 8) (hoh : ∀ t e, oh (ix2 t e) = N (mark p e.val t.val))
include hoh

/-- Counts within a block of 128. -/
theorem within (t : Fin 4096) (e : Fin 8) :
    k0_pay11 (F := Ideal) k0_pay7 (k0_pay8 oh) (k0_pay9 oh) k0_pay10 0 (ix2 t e) = N (win p e.val 128 t.val) := by
  rw [← zero_word]
  have e1 : (k0_pay11 (F := Ideal) k0_pay7 (k0_pay8 oh) (k0_pay9 oh) k0_pay10 (Scalar.ofBits .f32 0x00000000#32) : FVec Ideal S4096x8 .f32)
      = st64 (st32 (st16 (st8 (st4 (st2 (st1 oh)))))) := rfl
  rw [e1]
  have h1 : ∀ t e, oh (ix2 t e) = N (win p e.val 1 t.val) := fun t e => by rw [hoh, win_one]
  exact st64_win p _ (st32_win p _ (st16_win p _ (st8_win p _ (st4_win p _ (st2_win p _ (st1_win p _ h1)))))) t e

/-- Counts of the blocks before a block. -/
theorem blocks (c : Fin 32) (e : Fin 8) :
    k0_pay13 (F := Ideal) oh (iota .tc S32x4096 32 [1] iota_S32x4096_d1_w32) 128#32 k0_pay12 (ix2 c e) = N (cnt p e.val (128 * c.val)) := by
  unfold k0_pay13 k0_pay12
  pointwise
  have hp : ∀ s : Fin 4096, Scalar.select
                    (IntOp.andi
                      (IntOp.cmpi CmpIPredicate.ne
                        (IntOp.subi (BitVec.setWidth 32 (IntOp.cmpi CmpIPredicate.sgt (BitVec.ofNat 32 s.val) 0#32))
                          (BitVec.setWidth 32 (IntOp.cmpi CmpIPredicate.slt (BitVec.ofNat 32 s.val) 0#32)))
                        (Scalar.subi (Scalar.extui (Scalar.cmpi CmpIPredicate.sgt 128#32 0#32))
                          (Scalar.extui (Scalar.cmpi CmpIPredicate.slt 128#32 0#32))))
                      (IntOp.cmpi CmpIPredicate.ne (IntOp.remsi ArithUnit.vector (BitVec.ofNat 32 s.val) 128#32) 0#32))
                    (IntOp.subi (IntOp.divsi ArithUnit.vector (BitVec.ofNat 32 s.val) 128#32) 1#32)
                    (IntOp.divsi ArithUnit.vector (BitVec.ofNat 32 s.val) 128#32) = BitVec.ofNat 32 (s.val / 128) := by decide +kernel
  rw [← before_eq p e.val c.val c.isLt, ← N_sum]
  refine Finset.sum_congr rfl fun b _ => ?_
  rw [← blk_eq p e.val b.val b.isLt]
  have hb : (FloatOps.sitofp FTy.f32 (BitVec.setWidth 32 (IntOp.cmpi CmpIPredicate.slt (BitVec.ofNat 32 b.val) (BitVec.ofNat 32 c.val))) : Ideal .f32)
      = N (if b.val < c.val then 1 else 0) := by
    refine (sitofp_bit _).trans ?_
    rw [slt_small _ _ (by omega) (by omega)]
    by_cases h : b.val < c.val <;> simp [h]
  rw [hb]
  refine (congrArg (N _ * ·) (?_ : _ = N (∑ s : Fin 4096, if s.val / 128 = b.val then mark p e.val s.val else 0))).trans ?_
  · rw [← N_sum]
    refine Finset.sum_congr rfl fun s _ => ?_
    rw [hp s, hoh]
    have hs : (FloatOps.sitofp FTy.f32 (BitVec.setWidth 32 (IntOp.cmpi CmpIPredicate.eq (BitVec.ofNat 32 (s.val / 128)) (BitVec.ofNat 32 b.val))) : Ideal .f32)
        = N (if s.val / 128 = b.val then 1 else 0) := by
      refine (sitofp_bit _).trans ?_
      rw [eq_small _ _ (by omega) (by omega)]
      by_cases h : s.val / 128 = b.val <;> simp [h]
    rw [hs, N_mul]
    by_cases h : s.val / 128 = b.val <;> simp [h]
  · rw [N_mul]
    by_cases h : b.val < c.val <;> simp [h]

/-- The running counts. -/
theorem cum_apply (t : Fin 4096) (e : Fin 8) : cumOf (F := Ideal) oh (ix2 t e) = BitVec.ofNat 32 (cnt p e.val (t.val + 1)) := by
  unfold cumOf k0_pay16 k0_pay14 k0_pay15
  pointwise
  have hp : ∀ s : Fin 4096, Scalar.select
                    (IntOp.andi
                      (IntOp.cmpi CmpIPredicate.ne
                        (IntOp.subi (BitVec.setWidth 32 (IntOp.cmpi CmpIPredicate.sgt (BitVec.ofNat 32 s.val) 0#32))
                          (BitVec.setWidth 32 (IntOp.cmpi CmpIPredicate.slt (BitVec.ofNat 32 s.val) 0#32)))
                        (Scalar.subi 1#32 (Scalar.extui 0#1)))
                      (IntOp.cmpi CmpIPredicate.ne (IntOp.remsi ArithUnit.vector (BitVec.ofNat 32 s.val) 128#32) 0#32))
                    (IntOp.subi (IntOp.divsi ArithUnit.vector (BitVec.ofNat 32 s.val) 128#32) 1#32)
                    (IntOp.divsi ArithUnit.vector (BitVec.ofNat 32 s.val) 128#32) = BitVec.ofNat 32 (s.val / 128) := by decide +kernel
  rw [hp t, within oh p hoh]
  have hs : ∀ x : Fin 32, (FloatOps.sitofp FTy.f32 (BitVec.setWidth 32 (IntOp.cmpi CmpIPredicate.eq (BitVec.ofNat 32 (t.val / 128)) (BitVec.ofNat 32 x.val))) : Ideal .f32)
        * k0_pay13 (F := Ideal) oh (iota .tc S32x4096 32 [1] iota_S32x4096_d1_w32) 128#32 k0_pay12 (ix2 x e)
      = N (if t.val / 128 = x.val then cnt p e.val (128 * x.val) else 0) := fun x => by
    rw [blocks oh p hoh]
    refine (congrArg (· * N _) (sitofp_bit _)).trans ?_
    rw [eq_small _ _ (by omega) (by omega)]
    refine (N_mul _ _).trans ?_
    by_cases h : t.val / 128 = x.val <;> simp [h]
  have h2 : (∑ x : Fin 32, N (if t.val / 128 = x.val then cnt p e.val (128 * x.val) else 0)) = N (cnt p e.val (128 * (t.val / 128))) := by
    rw [N_sum]
    refine congrArg N ((Finset.sum_eq_single (⟨t.val / 128, by omega⟩ : Fin 32) (fun x _ hx => if_neg fun he => hx (Fin.ext he.symm)) fun hx => absurd (Finset.mem_univ _) hx).trans (if_pos rfl))
  refine (congrArg (fun z : EReal => (FloatOps.fptosi 32 (show Ideal .f32 from N _ + z) : BitVec 32)) ((Finset.sum_congr rfl fun x _ => hs x).trans h2)).trans ?_
  rw [N_add, win_full]
  exact fptosi_N _ (by have := cnt_le p e.val (t.val + 1); omega)
end Rows

/-- Rounding up to whole groups. -/
theorem up_word : ∀ n : Fin 4097, (let x := IntOp.subi (IntOp.addi (BitVec.ofNat 32 n.val) 256#32) 1#32
    Scalar.select (IntOp.andi (IntOp.cmpi CmpIPredicate.ne (IntOp.subi (BitVec.setWidth 32 (IntOp.cmpi CmpIPredicate.sgt x 0#32)) (BitVec.setWidth 32 (IntOp.cmpi CmpIPredicate.slt x 0#32)))
      (Scalar.subi (Scalar.extui (Scalar.cmpi CmpIPredicate.sgt 256#32 0#32)) (Scalar.extui (Scalar.cmpi CmpIPredicate.slt 256#32 0#32))))
      (IntOp.cmpi CmpIPredicate.ne (IntOp.remsi ArithUnit.vector x 256#32) 0#32))
      (IntOp.subi (IntOp.divsi ArithUnit.vector x 256#32) 1#32) (IntOp.divsi ArithUnit.vector x 256#32)) = BitVec.ofNat 32 ((n.val + 255) / 256) := by decide +kernel

/-- The groups of an expert. -/
theorem grps_apply (oh : FVec Ideal S4096x8 .f32) (p : Fin 4096 → Fin 8) (hoh : ∀ t e, oh (ix2 t e) = N (mark p e.val t.val)) (e : Fin 8) : grpsOf (F := Ideal) oh (ix2 (0 : Fin 1) e) = BitVec.ofNat 32 ((cnt p e.val 4096 + 255) / 256) := by
  unfold grpsOf k0_pay17
  pointwise
  have hc : k0_pay16 (F := Ideal) (k0_pay11 k0_pay7 (k0_pay8 oh) (k0_pay9 oh) k0_pay10 0)
      (k0_pay13 oh (iota Kind.tc S32x4096 32 [1] iota_S32x4096_d1_w32) (128#32) k0_pay12)
      (iota Kind.tc S4096x32 32 [0] iota_S4096x32_d0_w32) (128#32) k0_pay14 k0_pay15 (1#32) (0#1) (ix2 (4095 : Fin 4096) e) = BitVec.ofNat 32 (cnt p e.val 4096) := by
    rw [← zero_word]
    exact cum_apply oh p hoh 4095 e
  rw [hc]
  exact up_word ⟨cnt p e.val 4096, by have := cnt_le p e.val 4096; omega⟩

/-- The experts' bases. -/
theorem base_apply (g : IVec S1x8 32) (p : Fin 4096 → Fin 8) (hg : ∀ e : Fin 8, g (ix2 (0 : Fin 1) e) = BitVec.ofNat 32 ((cnt p e.val 4096 + 255) / 256)) (e : Fin 8) :
    k0_pay4 g (ix2 (0 : Fin 1) e) = BitVec.ofNat 32 (base p e.val) := by
  unfold k0_pay4 k0_pay3
  pointwise
  have hm : ∀ e : Fin 8, IntOp.muli (g (ix2 (0 : Fin 1) e)) 256#32 = BitVec.ofNat 32 (pad p e.val) := fun e => by
    rw [hg]; exact (BitVec.ofNat_mul _ _).symm
  simp only [hm]
  unfold base
  fin_cases e <;> simp [Finset.sum_range_succ, IntOp.addi, BitVec.ofNat_add] <;> try ac_rfl

/-- The experts' counts, up to whole groups. -/
theorem pad_apply (g : IVec S1x8 32) (p : Fin 4096 → Fin 8) (hg : ∀ e : Fin 8, g (ix2 (0 : Fin 1) e) = BitVec.ofNat 32 ((cnt p e.val 4096 + 255) / 256)) (e : Fin 8) :
    k0_pay3 g (ix2 (0 : Fin 1) e) = BitVec.ofNat 32 (pad p e.val) := by
  unfold k0_pay3
  pointwise
  rw [hg]; exact (BitVec.ofNat_mul _ _).symm

/-- A token's slot. -/
theorem pos_apply (oh : FVec Ideal S4096x8 .f32) (p : Fin 4096 → Fin 8) (hoh : ∀ t e, oh (ix2 t e) = N (mark p e.val t.val)) (t : Fin 4096) : posOf (F := Ideal) oh (ix2 t (0 : Fin 1)) = BitVec.ofNat 32 (slot p t) := by
  unfold posOf k0_pay5
  pointwise
  have hx : ∀ x : Fin 8, IntOp.muli (FloatOps.fptosi 32 (oh (ix2 t x)))
          (IntOp.subi (IntOp.addi (k0_pay4 (grpsOf (F := Ideal) oh) (ix2 (0 : Fin 1) x)) (cumOf (F := Ideal) oh (ix2 t x))) 1#32)
      = BitVec.ofNat 32 (if x = p t then slot p t else 0) := fun x => by
    rw [hoh, fptosi_N _ (by unfold mark; split_ifs <;> omega), base_apply _ p (grps_apply oh p hoh), cum_apply oh p hoh]
    by_cases h : x = p t
    · subst h
      rw [if_pos rfl, mark_self]
      have h1 := cnt_self p t
      have e1 : base p (p t).val + cnt p (p t).val (t.val + 1) = slot p t + 1 := by unfold slot; omega
      show 1#32 * (BitVec.ofNat 32 _ + BitVec.ofNat 32 _ - 1#32) = _
      rw [← BitVec.ofNat_add, e1, BitVec.ofNat_add, BitVec.one_mul]
      exact BitVec.add_sub_cancel _ _
    · have h0 : mark p x.val t.val = 0 := by
        unfold mark
        rw [dif_pos t.isLt, if_neg fun he => h (Fin.ext he.symm)]
      rw [if_neg h, h0]
      exact BitVec.zero_mul
  rw [show (fun x : Fin 8 => IntOp.muli (FloatOps.fptosi 32 (oh (ix2 t x)))
          (IntOp.subi (IntOp.addi (k0_pay4 (grpsOf (F := Ideal) oh) (ix2 (0 : Fin 1) x)) (cumOf (F := Ideal) oh (ix2 t x))) 1#32)) = _ from funext hx, fold_addi]
  rw [Finset.sum_ite_eq' Finset.univ (p t), if_pos (Finset.mem_univ _)]

/-- A group's expert. -/
theorem meta_apply (oh : FVec Ideal S4096x8 .f32) (p : Fin 4096 → Fin 8) (hoh : ∀ t e, oh (ix2 t e) = N (mark p e.val t.val)) (g : Fin 32) :
    metaOf (F := Ideal) oh (ix2 g (0 : Fin 1)) = BitVec.ofNat 32 (∑ k : Fin 8, if base p (k.val + 1) ≤ 256 * g.val then 1 else 0) := by
  unfold metaOf k0_pay6
  pointwise
  have hb : ∀ k : Fin 8, base p (k.val + 1) ≤ 6136 := fun k => (base_mono p (by omega)).trans (base_le p)
  have hx : ∀ x : Fin 8, BitVec.setWidth 32 (IntOp.cmpi CmpIPredicate.sge (IntOp.muli (BitVec.ofNat 32 g.val) 256#32)
        (IntOp.addi (k0_pay4 (grpsOf (F := Ideal) oh) (ix2 (0 : Fin 1) x)) (k0_pay3 (grpsOf (F := Ideal) oh) (ix2 (0 : Fin 1) x))))
      = BitVec.ofNat 32 (if base p (x.val + 1) ≤ 256 * g.val then 1 else 0) := fun x => by
    rw [base_apply _ p (grps_apply oh p hoh), pad_apply _ p (grps_apply oh p hoh)]
    have e1 : IntOp.addi (BitVec.ofNat 32 (base p x.val)) (BitVec.ofNat 32 (pad p x.val)) = BitVec.ofNat 32 (base p (x.val + 1)) := by
      rw [base_succ, BitVec.ofNat_add]; rfl
    have e2 : IntOp.muli (BitVec.ofNat 32 g.val) 256#32 = BitVec.ofNat 32 (256 * g.val) := by
      rw [Nat.mul_comm, BitVec.ofNat_mul]; rfl
    rw [e1, e2]
    have e3 : IntOp.cmpi CmpIPredicate.sge (BitVec.ofNat 32 (256 * g.val)) (BitVec.ofNat 32 (base p (x.val + 1))) = BitVec.ofBool (decide (base p (x.val + 1) ≤ 256 * g.val)) :=
      congrArg BitVec.ofBool (sle_small _ _ (by have := hb x; omega) (by omega))
    rw [e3]
    by_cases h : base p (x.val + 1) ≤ 256 * g.val
    · rw [decide_eq_true h, if_pos h]; rfl
    · rw [decide_eq_false h, if_neg h]; rfl
  simp only [hx]
  rw [fold_addi]

end Cert.Slots
-- ==== Proof.WholePick.lean ====
/-
  The expert of a token in exact arithmetic: the first of the eight whose score is greatest, and the routing call's
  one-hot rows by it.
-/
module

public import proofs.«01_k».proof.Proof.WholeSlots

@[expose] public section

set_option maxRecDepth 16384

noncomputable section

namespace Cert.Slots

open Cert.KernelIdeal hiding ix2
open Cert.KernelIdeal.Run Cert.Count
open Cert.KernelIdeal.Gen
open Idealize.ShloMosaic Idealize.ShloMosaic.TcCoe Idealize.SL.Sem

/-- Of eight scores the place `a` is the first greatest. -/
def IsArg (s : Fin 8 → EReal) (a : Fin 8) : Prop := ∀ j, s j < s a ∨ (s j = s a ∧ a ≤ j)
/-- The first greatest is a greatest. -/
theorem IsArg.le {s : Fin 8 → EReal} {a : Fin 8} (h : IsArg s a) (j : Fin 8) : s j ≤ s a := (h j).elim le_of_lt fun h => h.1.le
/-- There is a first greatest. -/
theorem exists_arg (s : Fin 8 → EReal) : ∃ a, IsArg s a := by
  obtain ⟨m, -, hm⟩ := Finset.exists_max_image Finset.univ s ⟨0, Finset.mem_univ _⟩
  have hne : (Finset.univ.filter fun j => s j = s m).Nonempty := ⟨m, by simp⟩
  refine ⟨(Finset.univ.filter fun j => s j = s m).min' hne, fun j => ?_⟩
  have ha := (Finset.mem_filter.1 (Finset.min'_mem _ hne)).2
  rw [ha]
  rcases (hm j (Finset.mem_univ _)).lt_or_eq with h | h
  · exact Or.inl h
  · exact Or.inr ⟨h, Finset.min'_le _ _ (by simp [h])⟩
/-- There is one first greatest. -/
theorem IsArg.unique {s : Fin 8 → EReal} {a b : Fin 8} (ha : IsArg s a) (hb : IsArg s b) : a = b := by
  rcases ha b with h | h
  · exact absurd h (not_lt.2 (hb.le a))
  · rcases hb a with h' | h'
    · exact absurd h' (not_lt.2 (ha.le b))
    · exact le_antisymm h.2 h'.2
/-- That place. -/
def arg (s : Fin 8 → EReal) : Fin 8 := Classical.choose (exists_arg s)
/-- The first greatest is one. -/
theorem arg_spec (s : Fin 8 → EReal) : IsArg s (arg s) := Classical.choose_spec (exists_arg s)
/-- The first greatest is the only one. -/
theorem arg_eq {s : Fin 8 → EReal} {a : Fin 8} (h : IsArg s a) : arg s = a := (arg_spec s).unique h

/-- The word that the maximum starts from is below everything. -/
theorem neg_inf : Ideal.ofBits .f32 4286578688#32 = ⊥ := by simp [Ideal.ofBits, Ideal.ieee]

/-- The greatest score, folded. -/
theorem fold_max (s : Fin 8 → EReal) : Finset.fold max (Ideal.ofBits .f32 4286578688#32) s Finset.univ = s (arg s) := by
  rw [neg_inf]
  refine le_antisymm ((Finset.fold_max_le _).2 ⟨bot_le, fun j _ => (arg_spec s).le j⟩) ?_
  exact Finset.le_fold_max _ |>.2 (Or.inr ⟨_, Finset.mem_univ _, le_rfl⟩)

/-- The least marked place of eight, folded from the right. -/
theorem fold_min_bits : ∀ (b : Fin 8 → Bool) (a : Fin 8), b a = true → (∀ j, j < a → b j = false) →
    Finset.fold IntOp.minsi 2147483647#32 (fun x : Fin 8 => if b x = true then BitVec.ofNat 32 x.val else 8#32) Finset.univ = BitVec.ofNat 32 a.val := by
  decide +kernel
/-- The least index among the greatest is the first greatest. -/
theorem fold_min (s : Fin 8 → EReal) :
    Finset.fold IntOp.minsi 2147483647#32 (fun x : Fin 8 => if s (arg s) ≤ s x then BitVec.ofNat 32 x.val else 8#32) Finset.univ = BitVec.ofNat 32 (arg s).val := by
  classical
  have h := fold_min_bits (fun x => decide (s (arg s) ≤ s x)) (arg s) (decide_eq_true le_rfl) fun j hj => decide_eq_false (not_le.2 (by
    rcases arg_spec s j with h | h
    · exact h
    · exact absurd h.2 (not_le.2 hj)))
  simpa using h

/-- The one-hot row of a token in its block. -/
theorem pay2_apply (v0 : FVec Ideal S512x1024 .f32) (v1 : FVec Ideal S1024x8 .f32) (v3 : FVec Ideal S1x8 .f32) (r : Fin 512) (e : Fin 8) :
    k0_pay2 (F := Ideal) v0 v1 v3 (ix2 r e) = N (if (arg fun x => k0_pay1 (F := Ideal) v0 v1 v3 (ix2 r x)) = e then 1 else 0) := by
  have h1 := fold_max (fun x => k0_pay1 (F := Ideal) v0 v1 v3 (ix2 r x))
  have h2 := fold_min (fun x => k0_pay1 (F := Ideal) v0 v1 v3 (ix2 r x))
  have h3 : k0_pay2 (F := Ideal) v0 v1 v3 (ix2 r e) = FloatOps.sitofp (F := Ideal) .f32 (BitVec.setWidth 32 (IntOp.cmpi .eq
      (Finset.fold IntOp.minsi 2147483647#32 (fun x : Fin 8 => if Finset.fold max (Ideal.ofBits .f32 4286578688#32) (fun x => k0_pay1 (F := Ideal) v0 v1 v3 (ix2 r x)) Finset.univ ≤ k0_pay1 (F := Ideal) v0 v1 v3 (ix2 r x) then BitVec.ofNat 32 x.val else 8#32) Finset.univ)
      (BitVec.ofNat 32 e.val))) := by
    unfold k0_pay2
    pointwise
  rw [h3, h1, h2]
  refine (sitofp_bit _).trans (congrArg N ?_)
  rw [eq_small _ _ (by omega) (by omega)]
  simp only [decide_eq_true_eq]
  exact if_congr Fin.val_inj rfl rfl

/-- A token's place in its block. -/
theorem tokIx_ix2 (t : Fin 4096) (e : Fin 8) : tokIx (ix2 t e) = ix2 (⟨t.val % 512, Nat.mod_lt _ (by decide)⟩ : Fin 512) e := by
  funext a
  match a with
  | 0 => rfl
  | 1 => rfl

/-- The expert of a token by its scores. -/
def pick (S : S4096x8.Idx → EReal) (t : Fin 4096) : Fin 8 := arg fun e => S (ix2 t e)

/-- The routing call's one-hot rows are the tokens' experts'. -/
theorem oh_apply (fx : FVec Ideal S4096x1024 .f32) (fw : FVec Ideal S1024x8 .f32) (fb : FVec Ideal S1x8 .f32) (t : Fin 4096) (e : Fin 8) :
    ohOf (F := Ideal) fx fw fb (ix2 t e) = N (mark (pick (scoresOf (F := Ideal) fx fw fb)) e.val t.val) := by
  have h1 : ohOf (F := Ideal) fx fw fb (ix2 t e) = k0_pay2 (F := Ideal) (xblk (F := Ideal) fx (tokBlk t)) fw fb (ix2 (⟨t.val % 512, Nat.mod_lt _ (by decide)⟩ : Fin 512) e) :=
    congrArg (k0_pay2 (F := Ideal) (xblk (F := Ideal) fx (tokBlk t)) fw fb) (tokIx_ix2 t e)
  have h2 : ∀ x : Fin 8, scoresOf (F := Ideal) fx fw fb (ix2 t x) = k0_pay1 (F := Ideal) (xblk (F := Ideal) fx (tokBlk t)) fw fb (ix2 (⟨t.val % 512, Nat.mod_lt _ (by decide)⟩ : Fin 512) x) := fun x =>
    congrArg (k0_pay1 (F := Ideal) (xblk (F := Ideal) fx (tokBlk t)) fw fb) (tokIx_ix2 t x)
  rw [h1, pay2_apply]
  unfold mark pick
  rw [dif_pos t.isLt]
  simp only [h2]
  exact congrArg N (if_congr Fin.val_inj.symm rfl rfl)

end Cert.Slots

end
-- ==== Proof.WholeRef.lean ====
/-
  The reference's run: its host operations in order and what its two results hold; and in exact arithmetic each token's
  expert, the first of the greatest scores.
-/
module

public import proofs.«01_k».proof.Proof.WholePick
public import proofs.«01_k».proof.Proof.Gen.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

section Run
variable {F : FTy → Type} [FloatOps F]

/-- The scores' operations of @main. -/
def scores (x : S4096x1024.Idx → Elt F .f32) (w : S1024x8.Idx → Elt F .f32) (b : S8.Idx → Elt F .f32) : S4096x8.Idx → Elt F .f32 :=
  addf (Host.dotGeneral (φ₁ := .f32) (φ₂ := .f32) dot_S4096x1024_S1024x8_S4096x8_1_0_0_1_n_n none x w)
    (broadcastInDim S4096x8 ![0, 1] bcast_S1x8_S4096x8_0_1 (broadcastInDim S1x8 ![1] bcast_S8_S1x8_1 b))
/-- The experts' numbers from the scores. -/
def best (s : S4096x8.Idx → Elt F .f32) : S4096.Idx → Elt F .i32 :=
  fun j => (Host.argReduce reducer_argmax_f32_i32 s (iotaInDim S4096x8 32 1) (constant S_ .f32 0xFF800000#32) (constantI S_ 32 0#32) reducesTo_S4096x8_S4096_d1 h_S_ j).2
/-- The one-hot rows of the experts' numbers. -/
def marks (v : S4096.Idx → Elt F .i32) : S4096x8.Idx → Elt F .f32 :=
  uitofp .f32 (cmpi .eq (broadcastInDim S4096x8 ![0, 1] bcast_S4096x1_S4096x8_0_1 (broadcastInDim S4096x1 ![0] bcast_S4096_S4096x1_0 v))
    (broadcastInDim S4096x8 ![0, 1] bcast_S1x8_S4096x8_0_1 (iotaInDim S1x8 32 1)))
/-- Every expert's products with every token, plus the biases. -/
def all (x : S4096x1024.Idx → Elt F .f32) (W : S8x1024x256.Idx → Elt F .f32) (b : S8x256.Idx → Elt F .f32) : S8x4096x256.Idx → Elt F .f32 :=
  addf (transpose S8x4096x256 [0, 2, 1] (Host.dotGeneral (φ₁ := .f32) (φ₂ := .f32) dot_S8x1024x256_S4096x1024_S8x256x4096_1_1_02_0_n_n none W x : FVec F S8x256x4096 .f32) transposes_S8x256x4096_S8x4096x256_0_2_1)
    (broadcastInDim S8x4096x256 ![0, 1, 2] bcast_S8x1x256_S8x4096x256_0_1_2 (broadcastInDim S8x1x256 ![0, 2] bcast_S8x256_S8x1x256_0_2 b))
/-- The second result of marks and products. -/
def result (h : S4096x8.Idx → Elt F .f32) (y : S8x4096x256.Idx → Elt F .f32) : S4096x256.Idx → Elt F .f32 :=
  Host.dotGeneral (φ₁ := .f32) (φ₂ := .f32) dot_S4096x8_S8x4096x256_S4096x256_1_0_n_2_0_1 none h y

/-- @main's operations, in order. -/
abbrev ops : List (HloOp τ sig (Elt F)) :=
  [ binary main_arg0 main_arg1 main_v0 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
    unary main_arg2 main_v1 (broadcastInDim S1x8 ![1] bcast_S8_S1x8_1 : (⟨S8, .f32⟩ : BufTy).Contents (Elt F) → (⟨S1x8, .f32⟩ : BufTy).Contents (Elt F)),
    unary main_v1 main_v2 (broadcastInDim S4096x8 ![0, 1] bcast_S1x8_S4096x8_0_1 : (⟨S1x8, .f32⟩ : BufTy).Contents (Elt F) → (⟨S4096x8, .f32⟩ : BufTy).Contents (Elt F)),
    binary main_v0 main_v2 main_v3 (addf : (⟨S4096x8, .f32⟩ : BufTy).Contents (Elt F) → (⟨S4096x8, .f32⟩ : BufTy).Contents (Elt F) → (⟨S4096x8, .f32⟩ : BufTy).Contents (Elt F)),
    TRef.nullary (TRef.of (T := ⟨S4096x8, .i32⟩) main_call0_v0) (iotaInDim S4096x8 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S4096x8, .f32⟩) main_v3) (TRef.of (T := ⟨S4096x8, .i32⟩) main_call0_v0) (TRef.of (T := ⟨S_, .f32⟩) main_call0_cst) (TRef.of (T := ⟨S_, .i32⟩) main_call0_c) (TRef.of (T := ⟨S4096, .f32⟩) main_call0_v1_0) (fun x y u v j => (Host.argReduce reducer_argmax_f32_i32 x y u v reducesTo_S4096x8_S4096_d1 h_S_ j).1),
    TRef.quaternary (TRef.of (T := ⟨S4096x8, .f32⟩) main_v3) (TRef.of (T := ⟨S4096x8, .i32⟩) main_call0_v0) (TRef.of (T := ⟨S_, .f32⟩) main_call0_cst) (TRef.of (T := ⟨S_, .i32⟩) main_call0_c) (TRef.of (T := ⟨S4096, .i32⟩) main_v4) (fun x y u v j => (Host.argReduce reducer_argmax_f32_i32 x y u v reducesTo_S4096x8_S4096_d1 h_S_ j).2),
    TRef.unary (TRef.of (T := ⟨S4096, .i32⟩) main_v4) (TRef.of (T := ⟨S4096x1, .i32⟩) main_call1_v0) (broadcastInDim S4096x1 ![0] bcast_S4096_S4096x1_0),
    TRef.nullary (TRef.of (T := ⟨S1x8, .i32⟩) main_call1_v1) (iotaInDim S1x8 32 1),
    TRef.unary (TRef.of (T := ⟨S4096x1, .i32⟩) main_call1_v0) (TRef.of (T := ⟨S4096x8, .i32⟩) main_call1_v2) (broadcastInDim S4096x8 ![0, 1] bcast_S4096x1_S4096x8_0_1),
    TRef.unary (TRef.of (T := ⟨S1x8, .i32⟩) main_call1_v1) (TRef.of (T := ⟨S4096x8, .i32⟩) main_call1_v3) (broadcastInDim S4096x8 ![0, 1] bcast_S1x8_S4096x8_0_1),
    TRef.binary (TRef.of (T := ⟨S4096x8, .i32⟩) main_call1_v2) (TRef.of (T := ⟨S4096x8, .i32⟩) main_call1_v3) (TRef.of (T := ⟨S4096x8, .i1⟩) main_call1_v4) (cmpi .eq),
    TRef.unary (TRef.of (T := ⟨S4096x8, .i1⟩) main_call1_v4) (TRef.of (T := ⟨S4096x8, .f32⟩) main_v5) (uitofp .f32),
    binary main_arg3 main_arg0 main_v6 ((fun l r => Host.dotGeneral dot_S8x1024x256_S4096x1024_S8x256x4096_1_1_02_0_n_n none l r) : (⟨S8x1024x256, .f32⟩ : BufTy).Contents (Elt F) → (⟨S4096x1024, .f32⟩ : BufTy).Contents (Elt F) → (⟨S8x256x4096, .f32⟩ : BufTy).Contents (Elt F)),
    unary main_v6 main_v7 ((transpose S8x4096x256 [0, 2, 1] · transposes_S8x256x4096_S8x4096x256_0_2_1) : (⟨S8x256x4096, .f32⟩ : BufTy).Contents (Elt F) → (⟨S8x4096x256, .f32⟩ : BufTy).Contents (Elt F)),
    unary main_arg4 main_v8 (broadcastInDim S8x1x256 ![0, 2] bcast_S8x256_S8x1x256_0_2 : (⟨S8x256, .f32⟩ : BufTy).Contents (Elt F) → (⟨S8x1x256, .f32⟩ : BufTy).Contents (Elt F)),
    unary main_v8 main_v9 (broadcastInDim S8x4096x256 ![0, 1, 2] bcast_S8x1x256_S8x4096x256_0_1_2 : (⟨S8x1x256, .f32⟩ : BufTy).Contents (Elt F) → (⟨S8x4096x256, .f32⟩ : BufTy).Contents (Elt F)),
    binary main_v7 main_v9 main_v10 (addf : (⟨S8x4096x256, .f32⟩ : BufTy).Contents (Elt F) → (⟨S8x4096x256, .f32⟩ : BufTy).Contents (Elt F) → (⟨S8x4096x256, .f32⟩ : BufTy).Contents (Elt F)),
    binary main_v5 main_v10 main_v11 ((fun l r => Host.dotGeneral dot_S4096x8_S8x4096x256_S4096x256_1_0_n_2_0_1 none l r) : (⟨S4096x8, .f32⟩ : BufTy).Contents (Elt F) → (⟨S8x4096x256, .f32⟩ : BufTy).Contents (Elt F) → (⟨S4096x256, .f32⟩ : BufTy).Contents (Elt F)) ]

/-- The reference's host code is its list of operations. -/
theorem main_eq (c : Dev nD) : main (F := F) c = seq ops := rfl
/-- The reference has no scoped array. -/
theorem scopedRefs_eq : (Finset.univ.filter fun b : Ref sig .tc => b.isScoped) = ∅ := by decide
/-- The reference has no counter. -/
theorem scopedSems_eq : (Finset.univ.filter fun sm : SemLoc sig => sm.isScoped .tc) = ∅ := by decide
/-- The operations touch the program's arrays alone. -/
theorem ops_sub : (ops : List (HloOp τ sig (Elt F))).Forall fun op => op.bufs ⊆ tcRefs τ sig :=
  ⟨binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., unary_bufs_sub .., unary_bufs_sub .., unary_bufs_sub .., binary_bufs_sub .., binary_bufs_sub ..⟩

set_option maxHeartbeats 1900000 in
/-- The whole run, from any memory with zero counters: both results, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = scores (m ((c.tc : Thread nD τ).loc main_arg0)) (m ((c.tc : Thread nD τ).loc main_arg1)) (m ((c.tc : Thread nD τ).loc main_arg2))
      ∧ r.2.mem ((c.tc : Thread nD τ).loc main_v11) = result (marks (best (scores (m ((c.tc : Thread nD τ).loc main_arg0)) (m ((c.tc : Thread nD τ).loc main_arg1)) (m ((c.tc : Thread nD τ).loc main_arg2)))))
          (all (m ((c.tc : Thread nD τ).loc main_arg0)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v3).trans (by simp only [ops, TRef.quaternary, TRef.nullary, TRef.binary, TRef.unary, TRef.toBuf, TRef.ofBuf, cast_eq]; after_results <;> rfl),
      (h c main_v11).trans (by simp only [ops, TRef.quaternary, TRef.nullary, TRef.binary, TRef.unary, TRef.toBuf, TRef.ofBuf, cast_eq]; after_results <;> rfl),
      (h c main_arg0).trans (by simp only [ops, TRef.quaternary, TRef.nullary, TRef.binary, TRef.unary, TRef.toBuf, TRef.ofBuf, cast_eq]; after_results <;> rfl),
      (h c main_arg1).trans (by simp only [ops, TRef.quaternary, TRef.nullary, TRef.binary, TRef.unary, TRef.toBuf, TRef.ofBuf, cast_eq]; after_results <;> rfl),
      (h c main_arg2).trans (by simp only [ops, TRef.quaternary, TRef.nullary, TRef.binary, TRef.unary, TRef.toBuf, TRef.ofBuf, cast_eq]; after_results <;> rfl),
      (h c main_arg3).trans (by simp only [ops, TRef.quaternary, TRef.nullary, TRef.binary, TRef.unary, TRef.toBuf, TRef.ofBuf, cast_eq]; after_results <;> rfl),
      (h c main_arg4).trans (by simp only [ops, TRef.quaternary, TRef.nullary, TRef.binary, TRef.unary, TRef.toBuf, TRef.ofBuf, cast_eq]; after_results <;> rfl)⟩)
    (run_seq scopedRefs_eq scopedSems_eq defs main (fun _ => ops) main_eq (fun _ => ops_sub) m ρ)

end Run

/-! ## The first of the greatest scores -/

/-- A pair of a score and its place is no worse than another: a greater score, or as great and no later. -/
def Le (q r : Ideal .f32 × BitVec 32) : Prop := (q.1 : EReal) < r.1 ∨ ((q.1 : EReal) = r.1 ∧ r.2.toInt ≤ q.2.toInt)
/-- The order of values with their indices is reflexive. -/
theorem Le.refl (q : Ideal .f32 × BitVec 32) : Le q q := Or.inr ⟨rfl, le_rfl⟩
/-- And transitive. -/
theorem Le.trans {a b c : Ideal .f32 × BitVec 32} (h : Le a b) (h' : Le b c) : Le a c := by
  rcases h with h | ⟨h1, h2⟩ <;> rcases h' with h' | ⟨h1', h2'⟩
  · exact Or.inl (lt_trans h h')
  · exact Or.inl (h.trans_eq h1')
  · exact Or.inl (h1.trans_lt h')
  · exact Or.inr ⟨h1.trans h1', h2'.trans h2⟩

/-- The reducer takes the better of its two pairs. -/
theorem reducer_spec (a b : Ideal .f32 × BitVec 32) :
    (reducer_argmax_f32_i32 a b = a ∨ reducer_argmax_f32_i32 a b = b) ∧ Le a (reducer_argmax_f32_i32 a b) ∧ Le b (reducer_argmax_f32_i32 a b) := by
  obtain ⟨a1, a2⟩ := a
  obtain ⟨b1, b2⟩ := b
  have hx : reducer_argmax_f32_i32 (F := Ideal) (a1, a2) (b1, b2) = if (b1 : EReal) < a1 then (a1, a2) else if (a1 : EReal) = b1 ∧ a2.toInt < b2.toInt then (a1, a2) else (b1, b2) := by
    have hs : (a2.slt b2) = decide (a2.toInt < b2.toInt) := rfl
    show (Scalar.select (IntOp.ori (BitVec.ofBool (decide ((b1 : EReal) < a1))) (BitVec.ofBool (decide ((a1 : EReal) ≠ a1)))) a1 b1,
      Scalar.select (IntOp.ori (IntOp.ori (BitVec.ofBool (decide ((b1 : EReal) < a1))) (BitVec.ofBool (decide ((a1 : EReal) ≠ a1))))
        (IntOp.andi (BitVec.ofBool (decide ((a1 : EReal) = b1))) (BitVec.ofBool (a2.slt b2)))) a2 b2) = _
    rw [hs, decide_eq_false (fun h : (a1 : EReal) ≠ a1 => h rfl)]
    by_cases h1 : (b1 : EReal) < a1
    · rw [if_pos h1, decide_eq_true h1]
      cases decide ((a1 : EReal) = b1) <;> cases decide (a2.toInt < b2.toInt) <;> rfl
    · rw [if_neg h1, decide_eq_false h1]
      by_cases h2 : (a1 : EReal) = b1
      · rw [decide_eq_true h2]
        by_cases h3 : a2.toInt < b2.toInt
        · rw [if_pos ⟨h2, h3⟩, decide_eq_true h3]
          exact congrArg (fun z : EReal => (z, a2)) h2.symm
        · rw [if_neg (fun h => h3 h.2), decide_eq_false h3]; rfl
      · rw [if_neg (fun h => h2 h.1), decide_eq_false h2]
        cases decide (a2.toInt < b2.toInt) <;> rfl
  rw [hx]
  split_ifs with h1 h2
  · exact ⟨Or.inl rfl, Le.refl _, Or.inl h1⟩
  · exact ⟨Or.inl rfl, Le.refl _, Or.inr ⟨h2.1.symm, h2.2.le⟩⟩
  · refine ⟨Or.inr rfl, ?_, Le.refl _⟩
    rcases (not_lt.1 h1).lt_or_eq with h | h
    · exact Or.inl h
    · exact Or.inr ⟨h, not_lt.1 fun h' => h2 ⟨h, h'⟩⟩

/-- So a fold is one of its pairs and no worse than any. -/
theorem fold_spec (L : List (Ideal .f32 × BitVec 32)) : ∀ i, (L.foldl reducer_argmax_f32_i32 i = i ∨ L.foldl reducer_argmax_f32_i32 i ∈ L)
    ∧ Le i (L.foldl reducer_argmax_f32_i32 i) ∧ ∀ q ∈ L, Le q (L.foldl reducer_argmax_f32_i32 i) := by
  induction L with
  | nil => exact fun i => ⟨Or.inl rfl, Le.refl _, fun q h => absurd h List.not_mem_nil⟩
  | cons b L ih =>
    intro i
    obtain ⟨h1, h2, h3⟩ := ih (reducer_argmax_f32_i32 i b)
    obtain ⟨k1, k2, k3⟩ := reducer_spec i b
    rw [List.foldl_cons]
    refine ⟨?_, k2.trans h2, ?_⟩
    · rcases h1 with h | h
      · rcases k1 with k | k
        · exact Or.inl (h.trans k)
        · refine Or.inr ?_
          rw [h, k]; exact List.mem_cons_self
      · exact Or.inr (List.mem_cons_of_mem _ h)
    · intro q hq
      rcases List.mem_cons.1 hq with rfl | hq
      · exact k3.trans h2
      · exact h3 q hq

/-- The expert's number of a token is the first of its greatest scores'. -/
theorem best_apply (s : FVec Ideal S4096x8 .f32) (n : Fin 4096) : best (F := Ideal) s (ix1 n) = BitVec.ofNat 32 (Cert.Slots.pick s n).val := by
  unfold best
  rw [Ideal.argReduce_eq_reduce2, Host.reduce2_eq_foldl_fiber]
  have hmem : ∀ q, q ∈ Host.argReduceFiber s (iotaInDim S4096x8 32 1) reducesTo_S4096x8_S4096_d1 (ix1 n) ↔ ∃ e : Fin 8, q = (s (ix2 n e), BitVec.ofNat 32 e.val) := by
    intro q
    unfold Host.argReduceFiber
    rw [List.mem_map]
    constructor
    · rintro ⟨k, hk, rfl⟩
      have hd := of_decide_eq_true (List.mem_filter.1 hk).2
      generalize S4096x8.rowMajor.symm k = i at hd ⊢
      have h0 : (i 0).val = n.val := by
        have h := congrArg (fun j : S4096.Idx => (j 0).val) hd
        exact (Shape.ReducesTo.drop_apply_val_of_eq reducesTo_S4096x8_S4096_d1 i 0 0).symm.trans h
      have hi : i = ix2 n (i 1) := by
        funext a
        match a with
        | 0 => exact Fin.ext h0
        | 1 => rfl
      refine ⟨i 1, ?_⟩
      rw [hi]
      rfl
    · rintro ⟨e, rfl⟩
      refine ⟨S4096x8.rowMajor (ix2 n e), List.mem_filter.2 ⟨List.mem_finRange _, decide_eq_true ?_⟩, ?_⟩
      · rw [Equiv.symm_apply_apply]
        funext a
        match a with
        | 0 => exact Fin.ext (Shape.ReducesTo.drop_apply_val_of_eq reducesTo_S4096x8_S4096_d1 (ix2 n e) 0 0)
      · rw [Equiv.symm_apply_apply]; rfl
  generalize Host.argReduceFiber s (iotaInDim S4096x8 32 1) reducesTo_S4096x8_S4096_d1 (ix1 n) = L at hmem
  obtain ⟨h1, h2, h3⟩ := fold_spec L (constant (F := Ideal) S_ .f32 0xFF800000#32 (Shape.Idx.first h_S_), constantI S_ 32 0#32 (Shape.Idx.first h_S_))
  have hinit : (constant (F := Ideal) S_ .f32 0xFF800000#32 (Shape.Idx.first h_S_), constantI S_ 32 0#32 (Shape.Idx.first h_S_)) = ((⊥ : EReal), (0#32 : BitVec 32)) :=
    congrArg (fun z : EReal => (z, (0#32 : BitVec 32))) Cert.Slots.neg_inf
  rw [hinit] at h1 h2 h3 ⊢
  generalize List.foldl reducer_argmax_f32_i32 ((⊥ : EReal), (0#32 : BitVec 32)) L = r at h1 h2 h3 ⊢
  have hr : ∃ e : Fin 8, r = (s (ix2 n e), BitVec.ofNat 32 e.val) := by
    rcases h1 with h | h
    · have h0 := h3 _ ((hmem _).2 ⟨0, rfl⟩)
      refine ⟨0, ?_⟩
      rw [h] at h0 ⊢
      rcases h0 with h0 | h0
      · exact absurd h0 not_lt_bot
      · exact congrArg (fun z : EReal => (z, (0#32 : BitVec 32))) h0.1.symm
    · exact (hmem r).1 h
  obtain ⟨e, rfl⟩ := hr
  have harg : Cert.Slots.IsArg (fun e => s (ix2 n e)) e := fun j => by
    rcases h3 _ ((hmem _).2 ⟨j, rfl⟩) with h | ⟨h, h'⟩
    · exact Or.inl h
    · refine Or.inr ⟨h, ?_⟩
      have h'' : (BitVec.ofNat 32 e.val).toInt ≤ (BitVec.ofNat 32 j.val).toInt := h'
      rw [Cert.Slots.toInt_small _ (by omega), Cert.Slots.toInt_small _ (by omega)] at h''
      exact Fin.le_def.2 (by exact_mod_cast h'')
  exact congrArg (fun a : Fin 8 => BitVec.ofNat 32 a.val) (Cert.Slots.arg_eq harg).symm

end Cert.ReferenceIdeal.Value

end
-- ==== Proof.WholeValue.lean ====
/-
  The whole kernel's results in exact arithmetic: the scores, and per token its row times the matrix of its expert plus
  that expert's bias, the expert the first of the token's greatest scores. The slots that the routing call makes meet
  everything that the SparseCore calls ask. The reference's results are the same.
-/
module

public import proofs.«01_k».proof.Proof.WholeData
public import proofs.«01_k».proof.Proof.WholeRef
public import Idealize.ShloMosaic.Lib.Pointwise.Contract
public import Idealize.ShloMosaic.Lib.Pointwise

@[expose] public section

set_option maxRecDepth 16384

noncomputable section

namespace Cert.Whole

open Cert.KernelIdeal hiding ix2
open Cert.KernelIdeal.Run Cert.KernelIdeal.Gen Cert.Count Cert.Slots

attribute [local irreducible] posOf metaOf ohOf

open Idealize.ShloMosaic Idealize.ShloMosaic.TcCoe

/-- The expert's product: token `n`'s row times the matrix of expert `e n`, plus its bias. -/
def hard (x : S4096x1024.Idx → Ideal .f32) (W : S8x1024x256.Idx → Ideal .f32) (b : S8x256.Idx → Ideal .f32) (e : Fin 4096 → Fin 8) :
    S4096x256.Idx → Ideal .f32 :=
  fun i => (∑ k : Fin 1024, x (ix2 (i 0) k) * W (ix3 (e (i 0)) k (i 1))) + b (ix2 (e (i 0)) (i 1))

section AnyFloat
variable {F : FTy → Type} [FloatOps F]

/-- A slab's line, from the tokens' rows. -/
theorem slab0_apply (fx : S4096x1024.Idx → Elt F .f32) (n : Fin 4096) (a : Fin 2) (l : Fin 128) :
    slab0 fx (fun | 0 => n | 1 => a | 2 => l) = fx (ix2 n (⟨128 * a.val + l.val, by omega⟩ : Fin 1024)) := by
  unfold slab0
  pointwise
  simp only [Nat.mul_comm]
/-- The second quarter of the columns at a place. -/
theorem slab1_apply (fx : S4096x1024.Idx → Elt F .f32) (n : Fin 4096) (a : Fin 2) (l : Fin 128) :
    slab1 fx (fun | 0 => n | 1 => a | 2 => l) = fx (ix2 n (⟨256 + (128 * a.val + l.val), by omega⟩ : Fin 1024)) := by
  unfold slab1
  pointwise
  simp only [Nat.mul_comm]
/-- The third quarter of the columns at a place. -/
theorem slab2_apply (fx : S4096x1024.Idx → Elt F .f32) (n : Fin 4096) (a : Fin 2) (l : Fin 128) :
    slab2 fx (fun | 0 => n | 1 => a | 2 => l) = fx (ix2 n (⟨512 + (128 * a.val + l.val), by omega⟩ : Fin 1024)) := by
  unfold slab2
  pointwise
  simp only [Nat.mul_comm]
/-- The fourth quarter of the columns at a place. -/
theorem slab3_apply (fx : S4096x1024.Idx → Elt F .f32) (n : Fin 4096) (a : Fin 2) (l : Fin 128) :
    slab3 fx (fun | 0 => n | 1 => a | 2 => l) = fx (ix2 n (⟨768 + (128 * a.val + l.val), by omega⟩ : Fin 1024)) := by
  unfold slab3
  pointwise
  simp only [Nat.mul_comm]

/-- Four scattered slabs joined, at a token's slot: the token's row. -/
theorem joined_apply (fp : S32x2x64.Idx → Elt F .i32) (hdis : Function.Injective fun j => (fp j : BitVec 32).toNat) (fx : S4096x1024.Idx → Elt F .f32)
    (g0 g1 g2 g3 : S6144x2x128.Idx → Elt F .f32) (n : Fin 4096) (r : Fin 6144) (e : (fp (ent n) : BitVec 32).toNat = r.val) (k : Fin 1024) :
    joinRows (scattered fp (slab0 fx) g0) (scattered fp (slab1 fx) g1) (scattered fp (slab2 fx) g2) (scattered fp (slab3 fx) g3) (ix2 r k)
      = fx (ix2 n k) := by
  have hk := k.isLt
  unfold joinRows
  pointwise
  by_cases c0 : k.val < 256
  · rw [dif_pos c0, scattered_of fp hdis _ _ (ix3 r _ _) n e]
    refine (slab0_apply fx n _ _).trans (congrArg fx (congrArg (ix2 n) (Fin.ext ?_)))
    show 128 * (k.val / 128) + k.val % 128 = k.val
    omega
  rw [dif_neg c0]
  by_cases c1 : k.val - 256 < 256
  · rw [dif_pos c1, scattered_of fp hdis _ _ (ix3 r _ _) n e]
    refine (slab1_apply fx n _ _).trans (congrArg fx (congrArg (ix2 n) (Fin.ext ?_)))
    show 256 + (128 * ((k.val - 256) / 128) + (k.val - 256) % 128) = k.val
    omega
  rw [dif_neg c1]
  by_cases c2 : k.val - 256 - 256 < 256
  · rw [dif_pos c2, scattered_of fp hdis _ _ (ix3 r _ _) n e]
    refine (slab2_apply fx n _ _).trans (congrArg fx (congrArg (ix2 n) (Fin.ext ?_)))
    show 512 + (128 * ((k.val - 256 - 256) / 128) + (k.val - 256 - 256) % 128) = k.val
    omega
  rw [dif_neg c2]
  rw [scattered_of fp hdis _ _ (ix3 r _ _) n e]
  refine (slab3_apply fx n _ _).trans (congrArg fx (congrArg (ix2 n) (Fin.ext ?_)))
  show 768 + (128 * ((k.val - 256 - 256 - 256) / 128) + (k.val - 256 - 256 - 256) % 128) = k.val
  omega

/-- Gathered lines as rows. -/
theorem rowsOf_apply (f : S4096x2x128.Idx → Elt F .f32) (n : Fin 4096) (o : Fin 256) :
    rowsOf f (ix2 n o) = f (ix3 n (⟨o.val / 128, by omega⟩ : Fin 2) (⟨o.val % 128, by omega⟩ : Fin 128)) := by
  unfold rowsOf
  pointwise

/-- The bias of an expert, as the call takes it. -/
theorem biasOf_apply (fb : S8x256.Idx → Elt F .f32) (e : Fin 8) (o : Fin 256) : biasOf fb (ix3 e (0 : Fin 1) o) = fb (ix2 e o) := by
  unfold biasOf
  pointwise

section Blocks
variable (a : (p : Fin 2) → (pcfgs (F := F) p).Adm)

/-- Where the rows' block lies. -/
theorem index0 : ∀ t : Fin grid2.N, cc2_transform_0 (grid2.coords t) (0 : Fin 2) = t.val ∧ cc2_transform_0 (grid2.coords t) (1 : Fin 2) = 0 := by
  decide +kernel

/-- A group's rows. -/
theorem bx_apply (fx : S6144x1024.Idx → Elt F .f32) (r : Fin 6144) (k : Fin 1024) :
    bx a fx (grpOf a r) (ix2 (⟨r.val % 256, Nat.mod_lt _ (by decide)⟩ : Fin 256) k) = fx (ix2 r k) := by
  obtain ⟨e0, e1⟩ := index0 (grpOf a r)
  show fx ((((cfgA a).win 0).blk (grpOf a r)).view.emb (ix2 (⟨r.val % 256, Nat.mod_lt _ (by decide)⟩ : Fin 256) k)) = _
  congr 1
  funext b; apply Fin.ext
  match b with
  | ⟨0, _⟩ =>
    show cc2_transform_0 (grid2.coords (grpOf a r)) (0 : Fin 2) * 256 + 1 * (r.val % 256) = r.val
    have : (grpOf a r).val = r.val / 256 := rfl
    omega
  | ⟨1, _⟩ => show cc2_transform_0 (grid2.coords (grpOf a r)) (1 : Fin 2) * 1024 + 1 * k.val = k.val; omega

/-- The matrix of the group's expert. -/
theorem bW_apply (fW : S8x1024x256.Idx → Elt F .f32) (r : Fin 6144) (e : Fin 8)
    (he : (Scalar.minsi (tw (pfA a) (grid2.coords (grpOf a r))) 7#32).toNat = e.val) (k : Fin 1024) (o : Fin 256) :
    bW a fW (grpOf a r) (ix3 (0 : Fin 1) k o) = fW (ix3 e k o) := by
  show fW ((((cfgA a).win 1).blk (grpOf a r)).view.emb (ix3 (0 : Fin 1) k o)) = _
  congr 1
  funext b; apply Fin.ext
  match b with
  | ⟨0, _⟩ =>
    show (Scalar.minsi (tw (pfA a) (grid2.coords (grpOf a r))) 7#32).toNat * 1 + 1 * 0 = e.val
    omega
  | ⟨1, _⟩ => show 0 * 1024 + 1 * k.val = k.val; omega
  | ⟨2, _⟩ => show 0 * 256 + 1 * o.val = o.val; omega

/-- The bias of the group's expert. -/
theorem bb_apply (fb : S8x1x256.Idx → Elt F .f32) (r : Fin 6144) (e : Fin 8)
    (he : (Scalar.minsi (tw (pfA a) (grid2.coords (grpOf a r))) 7#32).toNat = e.val) (o : Fin 256) :
    bb a fb (grpOf a r) (ix3 (0 : Fin 1) (0 : Fin 1) o) = fb (ix3 e (0 : Fin 1) o) := by
  show fb ((((cfgA a).win 2).blk (grpOf a r)).view.emb (ix3 (0 : Fin 1) (0 : Fin 1) o)) = _
  congr 1
  funext b; apply Fin.ext
  match b with
  | ⟨0, _⟩ =>
    show (Scalar.minsi (tw (pfA a) (grid2.coords (grpOf a r))) 7#32).toNat * 1 + 1 * 0 = e.val
    omega
  | ⟨1, _⟩ => rfl
  | ⟨2, _⟩ => show 0 * 256 + 1 * o.val = o.val; omega

end Blocks

end AnyFloat

/-- One block of the products, read at an index: the payload of the store. -/
theorem pay1_apply (v5 : Vec Ideal S256x1024 .f32) (v7 : Vec Ideal S1x1024x256 .f32) (v10 : Vec Ideal S1x1x256 .f32) (r : Fin 256) (o : Fin 256) :
    k2_pay1 v5 v7 v10 (ix2 r o) = (∑ k : Fin 1024, v5 (ix2 r k) * v7 (ix3 (0 : Fin 1) k o)) + v10 (ix3 (0 : Fin 1) (0 : Fin 1) o) := by
  unfold k2_pay1
  pointwise

/-- The products at a slot. -/
theorem prods_apply (a : (p : Fin 2) → (pcfgs (F := Ideal) p).Adm) (fx : S6144x1024.Idx → Ideal .f32) (fW : S8x1024x256.Idx → Ideal .f32)
    (fb : S8x1x256.Idx → Ideal .f32) (r : Fin 6144) (o : Fin 256) (e : Fin 8)
    (he : (Scalar.minsi (tw (pfA a) (grid2.coords (grpOf a r))) 7#32).toNat = e.val) :
    prods a fx fW fb (ix2 r o) = (∑ k : Fin 1024, fx (ix2 r k) * fW (ix3 e k o)) + fb (ix3 e (0 : Fin 1) o) := by
  have e0 : prods a fx fW fb (ix2 r o)
      = k2_pay1 (bx a fx (grpOf a r)) (bW a fW (grpOf a r)) (bb a fb (grpOf a r)) (ix2 (⟨r.val % 256, Nat.mod_lt _ (by decide)⟩ : Fin 256) o) := by
    unfold prods
    congr 1
    funext b
    match b with
    | 0 => rfl
    | 1 => rfl
  rw [e0, pay1_apply, bb_apply a fb r e he]
  refine congrArg (· + _) (Finset.sum_congr rfl fun k _ => ?_)
  rw [bx_apply, bW_apply a fW r e he]

variable (m : (ℓ : Loc nD τ sig) → Buf (Elt Ideal) ℓ) (d : Dev nD)

/-! ## The slots and the groups' experts -/

/-- A token's expert. -/
def expert (n : Fin 4096) : Fin 8 := pick (aS m d) n

/-- The one-hot rows. -/
theorem aH_apply (t : Fin 4096) (e : Fin 8) : aH (F := Ideal) m d (ix2 t e) = N (mark (expert m d) e.val t.val) :=
  oh_apply _ _ _ t e

/-- A place of the table of slots is some token's entry. -/
theorem ent_surj (j : S32x2x64.Idx) : ∃ n : Fin 4096, j = ent n := by
  have h0 : (j 0).val < 32 := (j 0).isLt
  have h1 : (j 1).val < 2 := (j 1).isLt
  have h2 : (j 2).val < 64 := (j 2).isLt
  refine ⟨⟨128 * (j 0).val + 64 * (j 1).val + (j 2).val, by omega⟩, ?_⟩
  rw [ent_of _ (j 0) (j 1) (j 2) rfl]
  funext a
  match a with
  | 0 => rfl
  | 1 => rfl
  | 2 => rfl

/-- A token's entry of the table of slots is its slot. -/
theorem aP_apply (n : Fin 4096) : (aP (F := Ideal) m d (ent n) : BitVec 32) = BitVec.ofNat 32 (slot (expert m d) n) := by
  rw [← pos_apply (aH (F := Ideal) m d) (expert m d) (aH_apply m d) n]
  show posOf (F := Ideal) (aH (F := Ideal) m d) _ = _
  congr 1
  refine Shape.reshapeEquiv_eq_of_rowMajor _ ?_
  rw [Shape.rowMajor_val_three, Shape.rowMajor_val_two]
  show n.val * 1 + 0 = ((n.val / 128) * 2 + (n.val % 128) / 64) * 64 + n.val % 64
  omega
/-- A token's slot, as a number. -/
theorem aP_toNat (n : Fin 4096) : (aP (F := Ideal) m d (ent n) : BitVec 32).toNat = slot (expert m d) n := by
  rw [aP_apply, toNat_small _ (lt_trans (slot_lt _ n) (by decide))]

/-- A group's entry of the table of experts. -/
theorem aM_apply (g : Fin 32) : (aM (F := Ideal) m d (gIx g.val) : BitVec 32) = BitVec.ofNat 32 (∑ k : Fin 8, if base (expert m d) (k.val + 1) ≤ 256 * g.val then 1 else 0) := by
  rw [← meta_apply (aH (F := Ideal) m d) (expert m d) (aH_apply m d) g]
  show metaOf (F := Ideal) (aH (F := Ideal) m d) _ = _
  congr 1
  refine Shape.reshapeEquiv_eq_of_rowMajor _ ?_
  rw [Shape.rowMajor_val_one, Shape.rowMajor_val_two]
  show g.val * 1 + 0 = g.val % 32
  omega
/-- A group's expert is at most eight. -/
theorem sum_le (g : ℕ) : (∑ k : Fin 8, if base (expert m d) (k.val + 1) ≤ 256 * g then 1 else 0) ≤ 8 :=
  (Finset.sum_le_card_nsmul _ _ 1 fun k _ => by split_ifs <;> omega).trans (by simp)
/-- A group's expert, as a number. -/
theorem aM_toNat (g : Fin 32) : (aM (F := Ideal) m d (gIx g.val) : BitVec 32).toNat = ∑ k : Fin 8, if base (expert m d) (k.val + 1) ≤ 256 * g.val then 1 else 0 := by
  rw [aM_apply, toNat_small _ (lt_of_le_of_lt (sum_le m d g.val) (by decide))]

/-- The expert of the group of a token's slot is the token's. -/
theorem expert_of (n : Fin 4096) : (aM (F := Ideal) m d (gIx ((aP (F := Ideal) m d (ent n) : BitVec 32).toNat / 256)) : BitVec 32).toNat = (expert m d n).val := by
  have hs := slot_lt (expert m d) n
  rw [aP_toNat]
  exact (aM_toNat m d ⟨slot (expert m d) n / 256, by omega⟩).trans (ends (expert m d) n)

/-- The tables meet what the calls ask. -/
theorem ok : PreOK (F := Ideal) m where
  slot := fun d j => by
    obtain ⟨n, rfl⟩ := ent_surj j
    rw [aP_toNat]; exact slot_lt _ n
  dist := fun d j j' e => by
    obtain ⟨n, rfl⟩ := ent_surj j
    obtain ⟨n', rfl⟩ := ent_surj j'
    have e' : (aP (F := Ideal) m d (ent n) : BitVec 32).toNat = (aP (F := Ideal) m d (ent n') : BitVec 32).toNat := e
    rw [aP_toNat, aP_toNat] at e'
    rw [slot_inj _ e']
  nneg := fun d j => by
    have hj : j = gIx (j 0).val := by
      funext a
      match a with
      | 0 => exact Fin.ext (Nat.mod_eq_of_lt (j 0).isLt).symm
    rw [hj]
    have h := aM_toNat m d (j 0)
    have h' := sum_le m d (j 0).val
    exact lt_of_le_of_lt (h.trans_le h') (by decide)
  low := fun d j => by
    obtain ⟨n, rfl⟩ := ent_surj j
    rw [expert_of]; exact (expert m d n).isLt

/-- The class scores: row `i` of the tokens times column `j` of the routing's matrix, plus its bias at `j`. -/
def logits (x : S4096x1024.Idx → Ideal .f32) (w : S1024x8.Idx → Ideal .f32) (b : S8.Idx → Ideal .f32) : S4096x8.Idx → Ideal .f32 :=
  fun i => (∑ k : Fin 1024, x (ix2 (i 0) k) * w (ix2 k (i 1))) + b (ix1 (i 1))

/-- A block's scores at a place. -/
theorem score_apply (v0 : Vec Ideal S512x1024 .f32) (v1 : Vec Ideal S1024x8 .f32) (v3 : Vec Ideal S1x8 .f32) (r : Fin 512) (j : Fin 8) :
    k0_pay1 (F := Ideal) v0 v1 v3 (ix2 r j) = (∑ k : Fin 1024, v0 (ix2 r k) * v1 (ix2 k j)) + v3 (ix2 (0 : Fin 1) j) := by
  unfold k0_pay1
  pointwise

/-- The kernel's scores. -/
theorem scores_eq : aS (F := Ideal) m d = logits (m ((d.tc : Thread nD τ).loc main_arg0)) (m ((d.tc : Thread nD τ).loc main_arg1)) (m ((d.tc : Thread nD τ).loc main_arg2)) := by
  funext i
  obtain ⟨n, j, rfl⟩ : ∃ (n : Fin 4096) (j : Fin 8), i = ix2 n j := ⟨i 0, i 1, by funext a; match a with | ⟨0, _⟩ => rfl | ⟨1, _⟩ => rfl⟩
  have hC : aC (F := Ideal) m d (ix2 (0 : Fin 1) j) = m ((d.tc : Thread nD τ).loc main_arg2) (ix1 j) := by
    unfold aC
    pointwise
  have h2 : aS (F := Ideal) m d (ix2 n j) = k0_pay1 (F := Ideal) (xblk (F := Ideal) (m ((d.tc : Thread nD τ).loc main_arg0)) (tokBlk n)) (m ((d.tc : Thread nD τ).loc main_arg1)) (aC (F := Ideal) m d) (ix2 (⟨n.val % 512, Nat.mod_lt _ (by decide)⟩ : Fin 512) j) :=
    congrArg (k0_pay1 (F := Ideal) (xblk (F := Ideal) (m ((d.tc : Thread nD τ).loc main_arg0)) (tokBlk n)) (m ((d.tc : Thread nD τ).loc main_arg1)) (aC (F := Ideal) m d)) (tokIx_ix2 n j)
  rw [h2, score_apply, hC]
  unfold logits
  refine congrArg (· + _) (Finset.sum_congr rfl fun k _ => congrArg (· * _) ?_)
  show m ((d.tc : Thread nD τ).loc main_arg0) _ = m ((d.tc : Thread nD τ).loc main_arg0) _
  congr 1
  funext a
  match a with
  | 0 => exact Fin.ext (show 512 * (n.val / 512) + n.val % 512 = n.val by omega)
  | 1 => rfl

section Out
variable (h : PreOK m)

/-- The kernel's result. -/
theorem out_eq (e : Fin 4096 → Fin 8) (hexp : ∀ n, (aM m d (gIx ((aP m d (ent n) : BitVec 32).toNat / 256)) : BitVec 32).toNat = (e n).val) : outAt m d h = hard (aX m d) (aW m d) (aB m d) e := by
  obtain rfl : d = 0 := Subsingleton.elim _ _
  funext i
  obtain ⟨n, o, rfl⟩ : ∃ (n : Fin 4096) (o : Fin 256), i = ix2 n o := ⟨i 0, i 1, by funext a; match a with | ⟨0, _⟩ => rfl | ⟨1, _⟩ => rfl⟩
  have hs := h.slot 0 (ent n)
  have hl := h.low 0 (ent n)
  have es : (aP m 0 (ent n) : BitVec 32).toNat = (slotOf (aP m 0) n).val := (Nat.mod_eq_of_lt hs).symm
  have e0 : outAt m 0 h (ix2 n o) = prodsAt m 0 h (ix2 (slotOf (aP m 0) n) o) := by
    unfold outAt gathAt
    rw [rowsOf_apply]
    unfold gathered
    rw [linesOf_apply]
    congr 1
    funext b
    match b with
    | 0 => rfl
    | 1 => apply Fin.ext; show 128 * (o.val / 128) + o.val % 128 = o.val; omega
  have he : (Scalar.minsi (tw (pfA (adm m h)) (grid2.coords (grpOf (adm m h) (slotOf (aP m 0) n)))) 7#32).toNat = (e n).val := by
    rw [show pfA (adm m h) = tblOf (aM m 0) from rfl, tw_tbl, coords1]
    show (Scalar.minsi (aM m 0 (gIx ((slotOf (aP m 0) n).val / 256))) 7#32).toNat = (e n).val
    rw [← es, min7_eq _ hl]
    exact hexp n
  rw [e0]
  unfold prodsAt
  rw [prods_apply _ _ _ _ _ _ _ he, biasOf_apply]
  unfold hard rowsAt
  refine congrArg (· + _) (Finset.sum_congr rfl fun k _ => ?_)
  rw [joined_apply (aP m 0) (h.dist 0) (aX m 0) _ _ _ _ n _ es k]
  rfl

end Out

/-- The kernel's second result. -/
theorem kernel_out : outAt m d (ok m) = hard (aX m d) (aW m d) (aB m d) (expert m d) := out_eq m d (ok m) (expert m d) (expert_of m d)

/-! ## The reference -/

/-- The reference's scores. -/
theorem ref_scores (x : S4096x1024.Idx → Ideal .f32) (w : S1024x8.Idx → Ideal .f32) (b : S8.Idx → Ideal .f32) :
    Cert.ReferenceIdeal.Value.scores (F := Ideal) x w b = logits x w b := by
  funext i
  unfold logits Cert.ReferenceIdeal.Value.scores
  pointwise

/-- Every expert's products, plus the biases. -/
theorem ref_all_apply (x : S4096x1024.Idx → Ideal .f32) (W : S8x1024x256.Idx → Ideal .f32) (b : S8x256.Idx → Ideal .f32) (e : Fin 8) (n : Fin 4096) (o : Fin 256) :
    Cert.ReferenceIdeal.Value.all (F := Ideal) x W b (ix3 e n o) = (∑ k : Fin 1024, W (ix3 e k o) * x (ix2 n k)) + b (ix2 e o) := by
  unfold Cert.ReferenceIdeal.Value.all
  pointwise

/-- The one-hot product. -/
theorem ref_result_apply (h : S4096x8.Idx → Ideal .f32) (y : Cert.ReferenceIdeal.S8x4096x256.Idx → Ideal .f32) (n : Fin 4096) (o : Fin 256) :
    Cert.ReferenceIdeal.Value.result (F := Ideal) h y (ix2 n o) = ∑ e : Fin 8, h (ix2 n e) * y (ix3 e n o) := by
  unfold Cert.ReferenceIdeal.Value.result
  pointwise

/-- The one-hot mark of a token at an expert. -/
theorem ref_mark_apply (v : S4096.Idx → BitVec 32) (n : Fin 4096) (e : Fin 8) :
    Cert.ReferenceIdeal.Value.marks (F := Ideal) v (ix2 n e) = if v (ix1 n) = BitVec.ofNat 32 e.val then (1 : EReal) else 0 := by
  unfold Cert.ReferenceIdeal.Value.marks
  pointwise
  by_cases he : v (ix1 n) = BitVec.ofNat 32 e.val
  · rw [if_pos he, IntOp.cmpi_eq.2 he]
    show (((1#1 : BitVec 1).toNat : ℝ) : EReal) = 1
    simp
  · rw [if_neg he, (by show BitVec.ofBool (v (ix1 n) == BitVec.ofNat 32 e.val) = 0#1; rw [beq_eq_false_iff_ne.2 he]; rfl : IntOp.cmpi .eq (v (ix1 n)) (BitVec.ofNat 32 e.val) = 0#1)]
    show (((0#1 : BitVec 1).toNat : ℝ) : EReal) = 0
    simp

/-- The reference's second result. -/
theorem ref_out (x : S4096x1024.Idx → Ideal .f32) (s : S4096x8.Idx → Ideal .f32) (W : S8x1024x256.Idx → Ideal .f32) (b : S8x256.Idx → Ideal .f32) :
    Cert.ReferenceIdeal.Value.result (F := Ideal) (Cert.ReferenceIdeal.Value.marks (F := Ideal) (Cert.ReferenceIdeal.Value.best (F := Ideal) s)) (Cert.ReferenceIdeal.Value.all (F := Ideal) x W b)
      = hard x W b (pick s) := by
  funext i
  obtain ⟨n, o, rfl⟩ : ∃ (n : Fin 4096) (o : Fin 256), i = ix2 n o := ⟨i 0, i 1, by funext a; match a with | ⟨0, _⟩ => rfl | ⟨1, _⟩ => rfl⟩
  rw [ref_result_apply]
  have hn : Cert.ReferenceIdeal.Value.best (F := Ideal) s (ix1 n) = BitVec.ofNat 32 (pick s n).val := Cert.ReferenceIdeal.Value.best_apply s n
  refine (Finset.sum_congr rfl fun e _ => congrArg₂ (· * ·)
    ((ref_mark_apply _ n e).trans (by rw [hn] : _ = if BitVec.ofNat 32 (pick s n).val = BitVec.ofNat 32 e.val then (1 : EReal) else 0))
    (ref_all_apply x W b e n o)).trans ?_
  rw [Finset.sum_eq_single (pick s n)]
  · rw [if_pos rfl, one_mul]
    unfold hard
    refine congrArg (· + _) (Finset.sum_congr rfl fun k _ => mul_comm _ _)
  · intro e _ hne
    rw [if_neg ?_, zero_mul]
    intro e'
    have e2 := congrArg BitVec.toNat e'
    rw [BitVec.toNat_ofNat, BitVec.toNat_ofNat] at e2
    refine hne (Fin.ext ?_)
    have := e.isLt
    have := (pick s n).isLt
    omega
  · intro hne
    exact absurd (Finset.mem_univ _) hne

end Cert.Whole

end
-- ==== Proof.WholeClaims.lean ====
/- The claims about the whole kernel. -/
module

public import proofs.«01_k».proof.Defs
public import proofs.«01_k».proof.Proof.Gen.KernelIdeal
public import proofs.«01_k».proof.Proof.Gen.ReferenceIdeal
public import proofs.«01_k».proof.Proof.WholeMain
public import proofs.«01_k».proof.Proof.WholeValue
public import Idealize.ShloMosaic.Lib.Claim

@[expose] public section

noncomputable section

namespace Cert.Proof.Whole

open Idealize.ShloMosaic Idealize.ShloMosaic.TcCoe Idealize.SL.Sem

/-- The whole kernel runs in exact arithmetic, its arguments unchanged and every counter at zero. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.Run.run_main (F := Ideal) m ρ (Cert.Whole.ok m))

/-- So does the reference. -/
theorem frame_ref : Cert.quiescent_ReferenceIdeal := fun m ρ _ =>
  (θ_run Cert.ReferenceIdeal.defs _ _).mono (fun r h => ⟨fun c => (h c).2.2, Idealize.ShloMosaic.sem_eq_zero_of_no_sems (by decide) r.2⟩) (Cert.ReferenceIdeal.Value.run m ρ)

/-- Both results of the whole kernel are the reference's. -/
theorem value : Cert.algebraic_KernelIdeal_ReferenceIdeal := by
  intro m ρ m' ρ' _ hagree
  have ok := Cert.Whole.ok m
  refine ⟨fun c => Cert.KernelIdeal.Run.aS (F := Ideal) m c, fun c => Cert.KernelIdeal.Run.outAt m c ok, ?_, ?_⟩
  · exact (θ_run Cert.KernelIdeal.defs _ _).mono
      (fun _ h c => ⟨(h.1 c).2.2.2.2.2.1, (h.1 c).2.2.2.2.2.2, (h.1 c).1, (h.1 c).2.1, (h.1 c).2.2.1, (h.1 c).2.2.2.1, (h.1 c).2.2.2.2.1⟩)
      (Cert.KernelIdeal.Run.run_main (F := Ideal) m ρ ok)
  refine (θ_run Cert.ReferenceIdeal.defs _ _).mono (fun _ h c => ⟨(h c).1.trans ?_, (h c).2.1.trans ?_, (h c).2.2⟩) (Cert.ReferenceIdeal.Value.run m' ρ')
  · rw [(hagree c).1, (hagree c).2.1, (hagree c).2.2.1]
    exact (Cert.Whole.ref_scores _ _ _).trans (Cert.Whole.scores_eq m c).symm
  · rw [(hagree c).1, (hagree c).2.1, (hagree c).2.2.1, (hagree c).2.2.2.1, (hagree c).2.2.2.2]
    refine (Cert.Whole.ref_out _ _ _ _).trans ?_
    rw [Cert.Whole.ref_scores]
    refine Eq.trans ?_ (Cert.Whole.kernel_out m c).symm
    unfold Cert.Whole.expert
    rw [Cert.Whole.scores_eq]

end Cert.Proof.Whole

end
-- ==== Proof.lean ====
module

public import proofs.«01_k».proof.Defs
public import proofs.«01_k».proof.Proof.Gen.Classify
public import proofs.«01_k».proof.Proof.Gen.Classify.Skeleton
public import proofs.«01_k».proof.Proof.Gen.Classify.Launch
public import proofs.«01_k».proof.Proof.Gen.Classify.Points
public import proofs.«01_k».proof.Proof.Gen.Classify.Frame
public import proofs.«01_k».proof.Proof.Gen.ClassifyIdeal
public import proofs.«01_k».proof.Proof.Gen.ClassifyIdeal.Skeleton
public import proofs.«01_k».proof.Proof.Gen.ClassifyIdeal.Launch
public import proofs.«01_k».proof.Proof.Gen.ClassifyIdeal.Points
public import proofs.«01_k».proof.Proof.Gen.ClassifyIdeal.Frame
public import proofs.«01_k».proof.Proof.Gen.ClassifyRefIdeal
public import proofs.«01_k».proof.Proof.Gen.ClassifyRefIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Pre_routed
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.ClassifyClaims
public import proofs.«01_k».proof.Proof.ExpertsClaims
public import proofs.«01_k».proof.Proof.WholeClaims
public import Idealize.ShloMosaic.Adequacy
public import Idealize.ShloMosaic.Init

@[expose] public section

noncomputable section

namespace Cert.Proof

open Idealize.ShloMosaic Idealize.SL.Sem Cert.Classify

/-- Every claim of this directory. -/
theorem claim : Cert.Claim := ⟨Cert.KernelIdeal.Gen.facts, Cert.ReferenceIdeal.Gen.facts, Cert.Classify.Gen.facts, Cert.ClassifyIdeal.Gen.facts,
  Cert.ClassifyRefIdeal.Gen.facts, Cert.Experts.Gen.facts, Cert.ExpertsIdeal.Gen.facts, Cert.ExpertsRefIdeal.Gen.facts, Cert.Pre_routed.Gen.facts,
  Whole.frame_ideal, Whole.frame_ref, Classify.frame_kernel, Classify.frame_ideal, Classify.frame_ref,
  Experts.frame_kernel, Experts.frame_ideal, Experts.frame_ref,
  Whole.value, trivial, Classify.value, trivial, Experts.value⟩

end Cert.Proof

end
